-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_latent_scores_finite [hPre_latent_scores_finite : Cert.Pre_latent_scores_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_latent_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_latent_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_latent_scores_finite [hPre_latent_scores_finite : Cert.Pre_latent_scores_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_latent_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_latent_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_latent_scores_finite [hKernel5Ideal : Cert.Kernel5Ideal.Facts] [hPre_latent_scores_finite : Cert.Pre_latent_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_latent_scores_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_latent_scores_finite [hReference5Ideal : Cert.Reference5Ideal.Facts] [hPre_latent_scores_finite : Cert.Pre_latent_scores_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_latent_scores_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_latent_scores_finite [hKernel5Ideal : Cert.Kernel5Ideal.Facts] [hReference5Ideal : Cert.Reference5Ideal.Facts] [hPre_latent_scores_finite : Cert.Pre_latent_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_latent_scores_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v81_0)) (v1 : (c : Dev Cert.Kernel6Ideal.nD) → Buf (Elt Ideal) ((c.tc : Thread Cert.Kernel6Ideal.nD Cert.Kernel6Ideal.τ).loc Cert.Kernel6Ideal.main_v81_1)) (v2 : (c : Dev Cert.Kernel6Ideal.nD) → Buf (Elt Ideal) ((c.tc : Thread Cert.Kernel6Ideal.nD Cert.Kernel6Ideal.τ).loc Cert.Kernel6Ideal.main_v81_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v81_0) = v0 c
          ∧ r.2.mem ((c.tc : Thread Cert.Kernel6Ideal.nD Cert.Kernel6Ideal.τ).loc Cert.Kernel6Ideal.main_v81_1) = v1 c
          ∧ r.2.mem ((c.tc : Thread Cert.Kernel6Ideal.nD Cert.Kernel6Ideal.τ).loc Cert.Kernel6Ideal.main_v81_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v129) = v0 c
          ∧ r.2.mem ((c.tc : Thread Cert.Reference6Ideal.nD Cert.Reference6Ideal.τ).loc Cert.Reference6Ideal.main_v193) = v1 c
          ∧ r.2.mem ((c.tc : Thread Cert.Reference6Ideal.nD Cert.Reference6Ideal.τ).loc Cert.Reference6Ideal.main_v197) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v50_0)) (v1 : (c : Dev Cert.Kernel7Ideal.nD) → Buf (Elt Ideal) ((c.tc : Thread Cert.Kernel7Ideal.nD Cert.Kernel7Ideal.τ).loc Cert.Kernel7Ideal.main_v50_1)) (v2 : (c : Dev Cert.Kernel7Ideal.nD) → Buf (Elt Ideal) ((c.tc : Thread Cert.Kernel7Ideal.nD Cert.Kernel7Ideal.τ).loc Cert.Kernel7Ideal.main_v50_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v50_0) = v0 c
          ∧ r.2.mem ((c.tc : Thread Cert.Kernel7Ideal.nD Cert.Kernel7Ideal.τ).loc Cert.Kernel7Ideal.main_v50_1) = v1 c
          ∧ r.2.mem ((c.tc : Thread Cert.Kernel7Ideal.nD Cert.Kernel7Ideal.τ).loc Cert.Kernel7Ideal.main_v50_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v98) = v0 c
          ∧ r.2.mem ((c.tc : Thread Cert.Reference7Ideal.nD Cert.Reference7Ideal.τ).loc Cert.Reference7Ideal.main_v158) = v1 c
          ∧ r.2.mem ((c.tc : Thread Cert.Reference7Ideal.nD Cert.Reference7Ideal.τ).loc Cert.Reference7Ideal.main_v160) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_scores_finite : Cert.Pre_scores_finite.Facts) (hPre_latent_scores_finite : Cert.Pre_latent_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_latent_scores_finite (hKernel5Ideal := hKernel5Ideal) (hPre_latent_scores_finite := hPre_latent_scores_finite)
    ∧ quiescent_Reference5Ideal (hReference5Ideal := hReference5Ideal)
    ∧ quiescent_Reference5Ideal_pre_latent_scores_finite (hReference5Ideal := hReference5Ideal) (hPre_latent_scores_finite := hPre_latent_scores_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_latent_scores_finite (hKernel5Ideal := hKernel5Ideal) (hReference5Ideal := hReference5Ideal) (hPre_latent_scores_finite := hPre_latent_scores_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_latent_scores_finite.lean ====
abbrev S2x4352x1536 : Shape := ⟨3, ![2, 4352, 1536]⟩
abbrev S2x4352x1024 : Shape := ⟨3, ![2, 4352, 1024]⟩
abbrev S2x4352x2560 : Shape := ⟨3, ![2, 4352, 2560]⟩
abbrev S_ : Shape := ⟨0, ![]⟩

class Facts : Prop where
  bcast_S_S2x4352x1536 : S_.BroadcastsInDim S2x4352x1536 (![] : Fin 0 → Fin S2x4352x1536.rank)

variable [Facts]

def fn {F : FTy → Type} [FloatOps F] (main_arg0 : FVec F S2x4352x1536 .f32) (main_arg1 : FVec F S2x4352x1536 .f32) (main_arg2 : FVec F S2x4352x1024 .f32) (main_arg3 : FVec F S2x4352x2560 .f32) : IVec S2x4352x1536 1 × IVec S2x4352x1536 1 :=
  let main_v0 : FVec F S2x4352x1536 .f32 := Host.absf main_arg0
  let main_cst : FVec F S_ .f32 := constant S_ .f32 0x7F800000#32
  let main_v1 : FVec F S2x4352x1536 .f32 := broadcastInDim S2x4352x1536 ![] bcast_S_S2x4352x1536 main_cst
  let main_v2 : IVec S2x4352x1536 1 := cmpf .olt main_v0 main_v1
  let main_v3 : FVec F S2x4352x1536 .f32 := Host.absf main_arg1
  let main_cst_0 : FVec F S_ .f32 := constant S_ .f32 0x7F800000#32
  let main_v4 : FVec F S2x4352x1536 .f32 := broadcastInDim S2x4352x1536 ![] bcast_S_S2x4352x1536 main_cst_0
  let main_v5 : IVec S2x4352x1536 1 := cmpf .olt main_v3 main_v4
  (main_v2, main_v5)
-- ==== Pre_scores_finite.lean ====
abbrev S2x4352x1024 : Shape := ⟨3, ![2, 4352, 1024]⟩
abbrev S2x4352x256 : Shape := ⟨3, ![2, 4352, 256]⟩
abbrev S2x4352x10752 : Shape := ⟨3, ![2, 4352, 10752]⟩
abbrev S_ : Shape := ⟨0, ![]⟩

class Facts : Prop where
  bcast_S_S2x4352x1024 : S_.BroadcastsInDim S2x4352x1024 (![] : Fin 0 → Fin S2x4352x1024.rank)
  bcast_S_S2x4352x256 : S_.BroadcastsInDim S2x4352x256 (![] : Fin 0 → Fin S2x4352x256.rank)

variable [Facts]

def fn {F : FTy → Type} [FloatOps F] (main_arg0 : FVec F S2x4352x1024 .f32) (main_arg1 : FVec F S2x4352x256 .f32) (main_arg2 : FVec F S2x4352x256 .f32) (main_arg3 : FVec F S2x4352x10752 .f32) : IVec S2x4352x1024 1 × IVec S2x4352x256 1 :=
  let main_v0 : FVec F S2x4352x1024 .f32 := Host.absf main_arg0
  let main_cst : FVec F S_ .f32 := constant S_ .f32 0x7F800000#32
  let main_v1 : FVec F S2x4352x1024 .f32 := broadcastInDim S2x4352x1024 ![] bcast_S_S2x4352x1024 main_cst
  let main_v2 : IVec S2x4352x1024 1 := cmpf .olt main_v0 main_v1
  let main_v3 : FVec F S2x4352x256 .f32 := Host.absf main_arg1
  let main_cst_0 : FVec F S_ .f32 := constant S_ .f32 0x7F800000#32
  let main_v4 : FVec F S2x4352x256 .f32 := broadcastInDim S2x4352x256 ![] bcast_S_S2x4352x256 main_cst_0
  let main_v5 : IVec S2x4352x256 1 := cmpf .olt main_v3 main_v4
  (main_v2, main_v5)
-- ==== Kernel.lean ====
abbrev S2x4352x1024 : Shape := ⟨3, ![2, 4352, 1024]⟩
abbrev S2x4352x256 : Shape := ⟨3, ![2, 4352, 256]⟩
abbrev S2x4352x10752 : Shape := ⟨3, ![2, 4352, 10752]⟩
abbrev S_ : Shape := ⟨0, ![]⟩
abbrev S2x4352x2x128 : Shape := ⟨4, ![2, 4352, 2, 128]⟩
abbrev S2x4352x2x256 : Shape := ⟨4, ![2, 4352, 2, 256]⟩
abbrev S2x4352x512 : Shape := ⟨3, ![2, 4352, 512]⟩
abbrev S1x256x1024 : Shape := ⟨3, ![1, 256, 1024]⟩
abbrev S1x4352x256 : Shape := ⟨3, ![1, 4352, 256]⟩
abbrev S1x4352x512 : Shape := ⟨3, ![1, 4352, 512]⟩
abbrev S1x256x128 : Shape := ⟨3, ![1, 256, 128]⟩
abbrev S256x128 : Shape := ⟨2, ![256, 128]⟩
abbrev S1x4352x128 : Shape := ⟨3, ![1, 4352, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S4352x256 : Shape := ⟨2, ![4352, 256]⟩
abbrev S256x256 : Shape := ⟨2, ![256, 256]⟩
abbrev S1x256x256 : Shape := ⟨3, ![1, 256, 256]⟩

abbrev nBuf : Space → Nat
  | .hbm => 17
  | .vmem => 10
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x10752, .f32⟩
  | .hbm, ⟨4, _⟩ => ⟨S_, .f32⟩
  | .hbm, ⟨5, _⟩ => ⟨S2x4352x1024, .f32⟩
  | .hbm, ⟨6, _⟩ => ⟨S2x4352x1024, .f32⟩
  | .hbm, ⟨7, _⟩ => ⟨S2x4352x1024, .bf16⟩
  | .hbm, ⟨8, _⟩ => ⟨S2x4352x256, .bf16⟩
  | .hbm, ⟨9, _⟩ => ⟨S2x4352x2x128, .bf16⟩
  | .hbm, ⟨10, _⟩ => ⟨S_, .bf16⟩
  | .hbm, ⟨11, _⟩ => ⟨S2x4352x2x128, .bf16⟩
  | .hbm, ⟨12, _⟩ => ⟨S2x4352x2x256, .bf16⟩
  | .hbm, ⟨13, _⟩ => ⟨S2x4352x512, .bf16⟩
  | .hbm, ⟨14, _⟩ => ⟨S2x4352x256, .bf16⟩
  | .hbm, ⟨15, _⟩ => ⟨S2x4352x10752, .bf16⟩
  | .hbm, ⟨16, _⟩ => ⟨S2x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .eq arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x4352x1024 : Shape := ⟨3, ![2, 4352, 1024]⟩
abbrev S2x4352x256 : Shape := ⟨3, ![2, 4352, 256]⟩
abbrev S2x4352x10752 : Shape := ⟨3, ![2, 4352, 10752]⟩
abbrev S2x4352x8x128 : Shape := ⟨4, ![2, 4352, 8, 128]⟩
abbrev S2x4352x2x128 : Shape := ⟨4, ![2, 4352, 2, 128]⟩
abbrev S2x4096x8x128 : Shape := ⟨4, ![2, 4096, 8, 128]⟩
abbrev S2x4096x2x128 : Shape := ⟨4, ![2, 4096, 2, 128]⟩
abbrev S2x4096x1024 : Shape := ⟨3, ![2, 4096, 1024]⟩
abbrev S2x256x8x128 : Shape := ⟨4, ![2, 256, 8, 128]⟩
abbrev S2x256x2x128 : Shape := ⟨4, ![2, 256, 2, 128]⟩
abbrev S2x256x1024 : Shape := ⟨3, ![2, 256, 1024]⟩
abbrev S2x4096x2x4x128 : Shape := ⟨5, ![2, 4096, 2, 4, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S2x256x2x4x128 : Shape := ⟨5, ![2, 256, 2, 4, 128]⟩
abbrev S2x2x256x256x4 : Shape := ⟨5, ![2, 2, 256, 256, 4]⟩
abbrev S2x2x4x256x256 : Shape := ⟨5, ![2, 2, 4, 256, 256]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩

abbrev nBuf : Space → Nat
  | .hbm => 86
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4352x10752, .f32⟩
  | .hbm, ⟨4, _⟩ => ⟨S2x4352x1024, .f32⟩
  | .hbm, ⟨5, _⟩ => ⟨S2x4352x8x128, .f32⟩
  | .hbm, ⟨6, _⟩ => ⟨S2x4352x2x128, .f32⟩
  | .hbm, ⟨7, _⟩ => ⟨S2x4352x2x128, .f32⟩
  | .hbm, ⟨8, _⟩ => ⟨S2x4096x8x128, .f32⟩
  | .hbm, ⟨9, _⟩ => ⟨S2x4096x2x128, .f32⟩
  | .hbm, ⟨10, _⟩ => ⟨S2x4096x2x128, .f32⟩
  | .hbm, ⟨11, _⟩ => ⟨S2x4096x1024, .f32⟩
  | .hbm, ⟨12, _⟩ => ⟨S2x256x8x128, .f32⟩
  | .hbm, ⟨13, _⟩ => ⟨S2x256x2x128, .f32⟩
  | .hbm, ⟨14, _⟩ => ⟨S2x256x2x128, .f32⟩
  | .hbm, ⟨15, _⟩ => ⟨S2x256x1024, .f32⟩
  | .hbm, ⟨16, _⟩ => ⟨S2x4352x2x128, .f32⟩
  | .hbm, ⟨17, _⟩ => ⟨S2x4352x2x128, .f32⟩
  | .hbm, ⟨18, _⟩ => ⟨S2x4096x2x4x128, .f32⟩
  | .hbm, ⟨19, _⟩ => ⟨S2x2x4352x4096x4, .f32⟩
  | .hbm, ⟨20, _⟩ => ⟨S2x2x4x4096x4352, .f32⟩
  | .hbm, ⟨21, _⟩ => ⟨S_, .f32⟩
  | .hbm, ⟨22, _⟩ => ⟨S2x2x4x4096x4352, .f32⟩
  | .hbm, ⟨23, _⟩ => ⟨S2x2x4x4096x4352, .f32⟩
  | .hbm, ⟨24, _⟩ => ⟨S_, .f32⟩
  | .hbm, ⟨25, _⟩ => ⟨S2x2x4x4096, .f32⟩
  | .hbm, ⟨26, _⟩ => ⟨S_, .f32⟩
  | .hbm, ⟨27, _⟩ => ⟨S2x2x4x4096, .f32⟩
  | .hbm, ⟨28, _⟩ => ⟨S2x2x4x4096, .f32⟩
  | .hbm, ⟨29, _⟩ => ⟨S2x2x4x4096x1, .f32⟩
  | .hbm, ⟨30, _⟩ => ⟨S2x2x4x4096x4352, .f32⟩
  | .hbm, ⟨31, _⟩ => ⟨S2x2x4x4096x4352, .f32⟩
  | .hbm, ⟨32, _⟩ => ⟨S2x2x4x4096x4352, .f32⟩
  | .hbm, ⟨33, _⟩ => ⟨S_, .f32⟩
  | .hbm, ⟨34, _⟩ => ⟨S2x2x4x4096, .f32⟩
  | .hbm, ⟨35, _⟩ => ⟨S2x2x4x4096x1, .f32⟩
  | .hbm, ⟨36, _⟩ => ⟨S2x2x4x4096x4352, .f32⟩
  | .hbm, ⟨37, _⟩ => ⟨S2x2x4x4096x4352, .f32⟩
  | .hbm, ⟨38, _⟩ => ⟨S2x2x128x4x4096, .f32⟩
  | .hbm, ⟨39, _⟩ => ⟨S2x4096x2x4x128, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x256x2x4x128, .f32⟩
  | .hbm, ⟨52, _⟩ => ⟨S2x2x256x256x4, .f32⟩
  | .hbm, ⟨53, _⟩ => ⟨S2x2x4x256x256, .f32⟩
  | .hbm, ⟨54, _⟩ => ⟨S_, .f32⟩
  | .hbm, ⟨55, _⟩ => ⟨S2x2x4x256x256, .f32⟩
  | .hbm, ⟨56, _⟩ => ⟨S2x2x4x256x256, .f32⟩
  | .hbm, ⟨57, _⟩ => ⟨S_, .f32⟩
  | .hbm, ⟨58, _⟩ => ⟨S2x2x4x256, .f32⟩
  | .hbm, ⟨59, _⟩ => ⟨S_, .f32⟩
  | .hbm, ⟨60, _⟩ => ⟨S2x2x4x256, .f32⟩
  | .hbm, ⟨61, _⟩ => ⟨S2x2x4x256, .f32⟩
  | .hbm, ⟨62, _⟩ => ⟨S2x2x4x256x1, .f32⟩
  | .hbm, ⟨63, _⟩ => ⟨S2x2x4x256x256, .f32⟩
  | .hbm, ⟨64, _⟩ => ⟨S2x2x4x256x256, .f32⟩
  | .hbm, ⟨65, _⟩ => ⟨S2x2x4x256x256, .f32⟩
  | .hbm, ⟨66, _⟩ => ⟨S_, .f32⟩
  | .hbm, ⟨67, _⟩ => ⟨S2x2x4x256, .f32⟩
  | .hbm, ⟨68, _⟩ => ⟨S2x2x4x256x1, .f32⟩
  | .hbm, ⟨69, _⟩ => ⟨S2x2x4x256x256, .f32⟩
  | .hbm, ⟨70, _⟩ => ⟨S2x2x4x256x256, .f32⟩
  | .hbm, ⟨71, _⟩ => ⟨S2x2x128x4x256, .f32⟩
  | .hbm, ⟨72, _⟩ => ⟨S2x256x2x4x128, .f32⟩
  | .hbm, ⟨73, _⟩ => ⟨S2x256x1024, .f32⟩
  | .hbm, ⟨74, _⟩ => ⟨S2x256x1024, .f32⟩
  | .hbm, ⟨75, _⟩ => ⟨S2x256x1024, .f32⟩
  | .hbm, ⟨76, _⟩ => ⟨S_, .f32⟩
  | .hbm, ⟨77, _⟩ => ⟨S2x256x1024, .f32⟩
  | .hbm, ⟨78, _⟩ => ⟨S2x256x1024, .f32⟩
  | .hbm, ⟨79, _⟩ => ⟨S_, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S2x256x1024, .f32⟩
  | .hbm, ⟨84, _⟩ => ⟨S2x4352x1024, .f32⟩
  | .hbm, ⟨85, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Kernel2.lean ====
abbrev S8704x4096 : Shape := ⟨2, ![8704, 4096]⟩
abbrev S2x4096x13120 : Shape := ⟨3, ![2, 4096, 13120]⟩
abbrev S2x13120x4096 : Shape := ⟨3, ![2, 13120, 4096]⟩
abbrev S8704x10752 : Shape := ⟨2, ![8704, 10752]⟩
abbrev S1088x4096 : Shape := ⟨2, ![1088, 4096]⟩
abbrev S1x512x4096 : Shape := ⟨3, ![1, 512, 4096]⟩
abbrev S1088x512 : Shape := ⟨2, ![1088, 512]⟩
abbrev S512x4096 : Shape := ⟨2, ![512, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S2x4096x13120, .f32⟩
  | .hbm, ⟨2, _⟩ => ⟨S2x13120x4096, .f32⟩
  | .hbm, ⟨3, _⟩ => ⟨S8704x4096, .bf16⟩
  | .hbm, ⟨4, _⟩ => ⟨S8704x10752, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1088x512, .bf16⟩
  | .local _ .vmem, ⟨5, _⟩ => ⟨S1088x512, .bf16⟩
  | .local _ .vmem, ⟨6, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c15_i32 : BitVec 32 := 15#32
  let v1 : BitVec 32 := Scalar.addi arg0 c15_i32
  let c8_i32 : BitVec 32 := 8#32
  let v2 : BitVec 1 := Scalar.cmpi .slt arg0 c8_i32
  let c6_i32_0 : BitVec 32 := 6#32
  let v3 : BitVec 32 := Scalar.subi arg0 c6_i32_0
  let c10_i32 : BitVec 32 := 10#32
  let v4 : BitVec 1 := Scalar.cmpi .slt arg0 c10_i32
  let c5_i32 : BitVec 32 := 5#32
  let v5 : BitVec 32 := Scalar.subi arg0 c5_i32
  let c11_i32 : BitVec 32 := 11#32
  let v6 : BitVec 1 := Scalar.cmpi .slt arg0 c11_i32
  let c6_i32_1 : BitVec 32 := 6#32
  let v7 : BitVec 32 := Scalar.subi arg0 c6_i32_1
  let c2_i32 : BitVec 32 := 2#32
  let v8 : BitVec 32 := Scalar.select v6 c2_i32 v7
  let v9 : BitVec 32 := Scalar.select v4 v5 v8
  let v10 : BitVec 32 := Scalar.select v2 v3 v9
  let v11 : BitVec 32 := Scalar.select v0 v1 v10
  let c0_i32 : BitVec 32 := 0#32
  let c0_i32_2 : BitVec 32 := 0#32
  let c0_i32_3 : BitVec 32 := 0#32
  ![c0_i32.toNat, v11.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8704x4096 : Shape := ⟨2, ![8704, 4096]⟩
abbrev S2x4096x13120 : Shape := ⟨3, ![2, 4096, 13120]⟩
abbrev S1x4096x13120 : Shape := ⟨3, ![1, 4096, 13120]⟩
abbrev S4096x13120 : Shape := ⟨2, ![4096, 13120]⟩
abbrev S8704x13120 : Shape := ⟨2, ![8704, 13120]⟩
abbrev S8704x1024 : Shape := ⟨2, ![8704, 1024]⟩
abbrev S8704x256 : Shape := ⟨2, ![8704, 256]⟩
abbrev S8704x768 : Shape := ⟨2, ![8704, 768]⟩
abbrev S8704x512 : Shape := ⟨2, ![8704, 512]⟩
abbrev S8704x64 : Shape := ⟨2, ![8704, 64]⟩
abbrev S8704x10752 : Shape := ⟨2, ![8704, 10752]⟩

abbrev nBuf : Space → Nat
  | .hbm => 23
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096x13120, .f32⟩
  | .hbm, ⟨2, _⟩ => ⟨S1x4096x13120, .f32⟩
  | .hbm, ⟨3, _⟩ => ⟨S4096x13120, .f32⟩
  | .hbm, ⟨4, _⟩ => ⟨S8704x13120, .f32⟩
  | .hbm, ⟨5, _⟩ => ⟨S8704x1024, .f32⟩
  | .hbm, ⟨6, _⟩ => ⟨S8704x256, .f32⟩
  | .hbm, ⟨7, _⟩ => ⟨S8704x256, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S8704x1024, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x768, .f32⟩
  | .hbm, ⟨18, _⟩ => ⟨S8704x512, .f32⟩
  | .hbm, ⟨19, _⟩ => ⟨S8704x64, .f32⟩
  | .hbm, ⟨20, _⟩ => ⟨S8704x1024, .f32⟩
  | .hbm, ⟨21, _⟩ => ⟨S8704x10752, .f32⟩
  | .hbm, ⟨22, _⟩ => ⟨S8704x10752, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x4352x1024 : Shape := ⟨3, ![2, 4352, 1024]⟩
abbrev S2x4096x4096 : Shape := ⟨3, ![2, 4096, 4096]⟩
abbrev S8x12288 : Shape := ⟨2, ![8, 12288]⟩
abbrev S1x1024x1024 : Shape := ⟨3, ![1, 1024, 1024]⟩
abbrev S1x4096x512 : Shape := ⟨3, ![1, 4096, 512]⟩
abbrev S1x1024x512 : Shape := ⟨3, ![1, 1024, 512]⟩
abbrev S8x512 : Shape := ⟨2, ![8, 512]⟩
abbrev S4096x512 : Shape := ⟨2, ![4096, 512]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 12
  | .vmem => 17
  | .smem => 0
  | _ => 0

abbrev bufTy : (tb : Table) → Fin (tcTables nBuf tb) → BufTy
  | .hbm, ⟨0, _⟩ => ⟨S2x4096x1024, .f32⟩
  | .hbm, ⟨1, _⟩ => ⟨S2x4352x1024, .f32⟩
  | .hbm, ⟨2, _⟩ => ⟨S2x4096x1024, .f32⟩
  | .hbm, ⟨3, _⟩ => ⟨S2x4096x1024, .f32⟩
  | .hbm, ⟨4, _⟩ => ⟨S2x4096x4096, .f32⟩
  | .hbm, ⟨5, _⟩ => ⟨S2x4096x4096, .f32⟩
  | .hbm, ⟨6, _⟩ => ⟨S8x12288, .f32⟩
  | .hbm, ⟨7, _⟩ => ⟨S2x4096x1024, .bf16⟩
  | .hbm, ⟨8, _⟩ => ⟨S2x4352x1024, .bf16⟩
  | .hbm, ⟨9, _⟩ => ⟨S2x4096x1024, .bf16⟩
  | .hbm, ⟨10, _⟩ => ⟨S2x4096x1024, .bf16⟩
  | .hbm, ⟨11, _⟩ => ⟨S2x4096x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x4096x512, .f32⟩
  | .local _ .vmem, ⟨9, _⟩ => ⟨S1x4096x512, .f32⟩
  | .local _ .vmem, ⟨10, _⟩ => ⟨S1x1024x512, .f32⟩
  | .local _ .vmem, ⟨11, _⟩ => ⟨S1x1024x512, .f32⟩
  | .local _ .vmem, ⟨12, _⟩ => ⟨S8x512, .f32⟩
  | .local _ .vmem, ⟨13, _⟩ => ⟨S8x512, .f32⟩
  | .local _ .vmem, ⟨14, _⟩ => ⟨S1x1024x512, .f32⟩
  | .local _ .vmem, ⟨15, _⟩ => ⟨S1x1024x512, .f32⟩
  | .local _ .vmem, ⟨16, _⟩ => ⟨S4096x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 4], ![false, false, false]⟩

def k0_off1 (i : grid0.Coords) : Fin 2 → Nat :=
  let arg1 : BitVec 32 := BitVec.ofNat 32 (i 1).val
  let v26 : Index := Scalar.indexCast arg1
  let c0_24 : Index := 0#32
  ![v26.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg1.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S2x4096x1024 : Shape := ⟨3, ![2, 4096, 1024]⟩
abbrev S2x4352x1024 : Shape := ⟨3, ![2, 4352, 1024]⟩
abbrev S2x4096x4096 : Shape := ⟨3, ![2, 4096, 4096]⟩
abbrev S8x12288 : Shape := ⟨2, ![8, 12288]⟩
abbrev S2x4096 : Shape := ⟨2, ![2, 4096]⟩
abbrev S1x4096x4096 : Shape := ⟨3, ![1, 4096, 4096]⟩
abbrev S4096x4096 : Shape := ⟨2, ![4096, 4096]⟩
abbrev S2x1x4096 : Shape := ⟨3, ![2, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4352x1024, .f32⟩
  | .hbm, ⟨2, _⟩ => ⟨S2x4096x1024, .f32⟩
  | .hbm, ⟨3, _⟩ => ⟨S2x4096x1024, .f32⟩
  | .hbm, ⟨4, _⟩ => ⟨S2x4096x4096, .f32⟩
  | .hbm, ⟨5, _⟩ => ⟨S2x4096x4096, .f32⟩
  | .hbm, ⟨6, _⟩ => ⟨S8x12288, .f32⟩
  | .hbm, ⟨7, _⟩ => ⟨S2x4096, .f32⟩
  | .hbm, ⟨8, _⟩ => ⟨S2x4096x1024, .f32⟩
  | .hbm, ⟨9, _⟩ => ⟨S2x4096x4096, .f32⟩
  | .hbm, ⟨10, _⟩ => ⟨S1x4096x4096, .f32⟩
  | .hbm, ⟨11, _⟩ => ⟨S4096x4096, .f32⟩
  | .hbm, ⟨12, _⟩ => ⟨S2x4096x4096, .f32⟩
  | .hbm, ⟨13, _⟩ => ⟨S2x1x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel4.lean ====
abbrev S8704x4096 : Shape := ⟨2, ![8704, 4096]⟩
abbrev S2560x4096 : Shape := ⟨2, ![2560, 4096]⟩
abbrev S8704x2560 : Shape := ⟨2, ![8704, 2560]⟩
abbrev S2176x4096 : Shape := ⟨2, ![2176, 4096]⟩
abbrev S512x4096 : Shape := ⟨2, ![512, 4096]⟩
abbrev S2176x512 : Shape := ⟨2, ![2176, 512]⟩

abbrev nBuf : Space → Nat
  | .hbm => 5
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S2560x4096, .f32⟩
  | .hbm, ⟨2, _⟩ => ⟨S8704x4096, .bf16⟩
  | .hbm, ⟨3, _⟩ => ⟨S2560x4096, .bf16⟩
  | .hbm, ⟨4, _⟩ => ⟨S8704x2560, .bf16⟩
  | .local _ .vmem, ⟨0, _⟩ => ⟨S2176x4096, .bf16⟩
  | .local _ .vmem, ⟨1, _⟩ => ⟨S2176x4096, .bf16⟩
  | .local _ .vmem, ⟨2, _⟩ => ⟨S512x4096, .bf16⟩
  | .local _ .vmem, ⟨3, _⟩ => ⟨S512x4096, .bf16⟩
  | .local _ .vmem, ⟨4, _⟩ => ⟨S2176x512, .bf16⟩
  | .local _ .vmem, ⟨5, _⟩ => ⟨S2176x512, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x4096 : Shape := ⟨2, ![8704, 4096]⟩
abbrev S2560x4096 : Shape := ⟨2, ![2560, 4096]⟩
abbrev S4096x2560 : Shape := ⟨2, ![4096, 2560]⟩
abbrev S8704x2560 : Shape := ⟨2, ![8704, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2560x4096, .f32⟩
  | .hbm, ⟨2, _⟩ => ⟨S4096x2560, .f32⟩
  | .hbm, ⟨3, _⟩ => ⟨S8704x2560, .f32⟩
  | .hbm, ⟨4, _⟩ => ⟨S8704x2560, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2x4352x1536 : Shape := ⟨3, ![2, 4352, 1536]⟩
abbrev S2x4352x1024 : Shape := ⟨3, ![2, 4352, 1024]⟩
abbrev S2x4352x2560 : Shape := ⟨3, ![2, 4352, 2560]⟩
abbrev S_ : Shape := ⟨0, ![]⟩
abbrev S2x4352x8x192 : Shape := ⟨4, ![2, 4352, 8, 192]⟩
abbrev S2x4352x8x64 : Shape := ⟨4, ![2, 4352, 8, 64]⟩
abbrev S2x4352x8x256 : Shape := ⟨4, ![2, 4352, 8, 256]⟩
abbrev S2x4352x2048 : Shape := ⟨3, ![2, 4352, 2048]⟩
abbrev S2x4352x8x128 : Shape := ⟨4, ![2, 4352, 8, 128]⟩
abbrev S1x256x1024 : Shape := ⟨3, ![1, 256, 1024]⟩
abbrev S1x4352x1024 : Shape := ⟨3, ![1, 4352, 1024]⟩
abbrev S1x256x512 : Shape := ⟨3, ![1, 256, 512]⟩
abbrev S1x256x256 : Shape := ⟨3, ![1, 256, 256]⟩
abbrev S256x256 : Shape := ⟨2, ![256, 256]⟩
abbrev S1x4352x256 : Shape := ⟨3, ![1, 4352, 256]⟩
abbrev S4352x256 : Shape := ⟨2, ![4352, 256]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 27
  | .vmem => 10
  | .smem => 0
  | _ => 0

abbrev bufTy : (tb : Table) → Fin (tcTables nBuf tb) → BufTy
  | .hbm, ⟨0, _⟩ => ⟨S2x4352x1536, .f32⟩
  | .hbm, ⟨1, _⟩ => ⟨S2x4352x1536, .f32⟩
  | .hbm, ⟨2, _⟩ => ⟨S2x4352x1024, .f32⟩
  | .hbm, ⟨3, _⟩ => ⟨S2x4352x2560, .f32⟩
  | .hbm, ⟨4, _⟩ => ⟨S_, .f32⟩
  | .hbm, ⟨5, _⟩ => ⟨S2x4352x1536, .f32⟩
  | .hbm, ⟨6, _⟩ => ⟨S2x4352x1536, .f32⟩
  | .hbm, ⟨7, _⟩ => ⟨S2x4352x1536, .bf16⟩
  | .hbm, ⟨8, _⟩ => ⟨S2x4352x8x192, .bf16⟩
  | .hbm, ⟨9, _⟩ => ⟨S_, .bf16⟩
  | .hbm, ⟨10, _⟩ => ⟨S2x4352x8x64, .bf16⟩
  | .hbm, ⟨11, _⟩ => ⟨S2x4352x8x256, .bf16⟩
  | .hbm, ⟨12, _⟩ => ⟨S2x4352x2048, .bf16⟩
  | .hbm, ⟨13, _⟩ => ⟨S2x4352x1536, .bf16⟩
  | .hbm, ⟨14, _⟩ => ⟨S2x4352x8x192, .bf16⟩
  | .hbm, ⟨15, _⟩ => ⟨S_, .bf16⟩
  | .hbm, ⟨16, _⟩ => ⟨S2x4352x8x64, .bf16⟩
  | .hbm, ⟨17, _⟩ => ⟨S2x4352x8x256, .bf16⟩
  | .hbm, ⟨18, _⟩ => ⟨S2x4352x2048, .bf16⟩
  | .hbm, ⟨19, _⟩ => ⟨S2x4352x1024, .bf16⟩
  | .hbm, ⟨20, _⟩ => ⟨S2x4352x8x128, .bf16⟩
  | .hbm, ⟨21, _⟩ => ⟨S_, .bf16⟩
  | .hbm, ⟨22, _⟩ => ⟨S2x4352x8x128, .bf16⟩
  | .hbm, ⟨23, _⟩ => ⟨S2x4352x8x256, .bf16⟩
  | .hbm, ⟨24, _⟩ => ⟨S2x4352x2048, .bf16⟩
  | .hbm, ⟨25, _⟩ => ⟨S2x4352x2560, .bf16⟩
  | .hbm, ⟨26, _⟩ => ⟨S2x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x1024, .bf16⟩
  | .local _ .vmem, ⟨3, _⟩ => ⟨S1x4352x1024, .bf16⟩
  | .local _ .vmem, ⟨4, _⟩ => ⟨S1x4352x1024, .bf16⟩
  | .local _ .vmem, ⟨5, _⟩ => ⟨S1x4352x1024, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | _, _ => ⟨S2x4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .eq arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S2x4352x1536 : Shape := ⟨3, ![2, 4352, 1536]⟩
abbrev S2x4352x1024 : Shape := ⟨3, ![2, 4352, 1024]⟩
abbrev S2x4352x2560 : Shape := ⟨3, ![2, 4352, 2560]⟩
abbrev S2x4352x8x192 : Shape := ⟨4, ![2, 4352, 8, 192]⟩
abbrev S2x4352x8x128 : Shape := ⟨4, ![2, 4352, 8, 128]⟩
abbrev S2x4096x8x192 : Shape := ⟨4, ![2, 4096, 8, 192]⟩
abbrev S2x4096x8x128 : Shape := ⟨4, ![2, 4096, 8, 128]⟩
abbrev S2x4096x1024 : Shape := ⟨3, ![2, 4096, 1024]⟩
abbrev S2x256x8x192 : Shape := ⟨4, ![2, 256, 8, 192]⟩
abbrev S2x256x8x128 : Shape := ⟨4, ![2, 256, 8, 128]⟩
abbrev S2x256x1024 : Shape := ⟨3, ![2, 256, 1024]⟩
abbrev S2x4096x8x1x192 : Shape := ⟨5, ![2, 4096, 8, 1, 192]⟩
abbrev S2x8x4352x4096x1 : Shape := ⟨5, ![2, 8, 4352, 4096, 1]⟩
abbrev S2x8x1x4096x4352 : Shape := ⟨5, ![2, 8, 1, 4096, 4352]⟩
abbrev S_ : Shape := ⟨0, ![]⟩
abbrev S2x8x1x4096 : Shape := ⟨4, ![2, 8, 1, 4096]⟩
abbrev S2x8x1x4096x1 : Shape := ⟨5, ![2, 8, 1, 4096, 1]⟩
abbrev S2x8x128x1x4096 : Shape := ⟨5, ![2, 8, 128, 1, 4096]⟩
abbrev S2x4096x8x1x128 : Shape := ⟨5, ![2, 4096, 8, 1, 128]⟩
abbrev S2x256x8x1x192 : Shape := ⟨5, ![2, 256, 8, 1, 192]⟩
abbrev S2x8x256x256x1 : Shape := ⟨5, ![2, 8, 256, 256, 1]⟩
abbrev S2x8x1x256x256 : Shape := ⟨5, ![2, 8, 1, 256, 256]⟩
abbrev S2x8x1x256 : Shape := ⟨4, ![2, 8, 1, 256]⟩
abbrev S2x8x1x256x1 : Shape := ⟨5, ![2, 8, 1, 256, 1]⟩
abbrev S2x8x128x1x256 : Shape := ⟨5, ![2, 8, 128, 1, 256]⟩
abbrev S2x256x8x1x128 : Shape := ⟨5, ![2, 256, 8, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2x4352x1536, .f32⟩
  | .hbm, ⟨1, _⟩ => ⟨S2x4352x1536, .f32⟩
  | .hbm, ⟨2, _⟩ => ⟨S2x4352x1024, .f32⟩
  | .hbm, ⟨3, _⟩ => ⟨S2x4352x2560, .f32⟩
  | .hbm, ⟨4, _⟩ => ⟨S2x4352x1024, .f32⟩
  | .hbm, ⟨5, _⟩ => ⟨S2x4352x8x192, .f32⟩
  | .hbm, ⟨6, _⟩ => ⟨S2x4352x8x192, .f32⟩
  | .hbm, ⟨7, _⟩ => ⟨S2x4352x8x128, .f32⟩
  | .hbm, ⟨8, _⟩ => ⟨S2x4096x8x192, .f32⟩
  | .hbm, ⟨9, _⟩ => ⟨S2x4096x8x192, .f32⟩
  | .hbm, ⟨10, _⟩ => ⟨S2x4096x8x128, .f32⟩
  | .hbm, ⟨11, _⟩ => ⟨S2x4096x1024, .f32⟩
  | .hbm, ⟨12, _⟩ => ⟨S2x256x8x192, .f32⟩
  | .hbm, ⟨13, _⟩ => ⟨S2x256x8x192, .f32⟩
  | .hbm, ⟨14, _⟩ => ⟨S2x256x8x128, .f32⟩
  | .hbm, ⟨15, _⟩ => ⟨S2x256x1024, .f32⟩
  | .hbm, ⟨16, _⟩ => ⟨S2x4352x8x192, .f32⟩
  | .hbm, ⟨17, _⟩ => ⟨S2x4352x8x128, .f32⟩
  | .hbm, ⟨18, _⟩ => ⟨S2x4096x8x1x192, .f32⟩
  | .hbm, ⟨19, _⟩ => ⟨S2x8x4352x4096x1, .f32⟩
  | .hbm, ⟨20, _⟩ => ⟨S2x8x1x4096x4352, .f32⟩
  | .hbm, ⟨21, _⟩ => ⟨S_, .f32⟩
  | .hbm, ⟨22, _⟩ => ⟨S2x8x1x4096x4352, .f32⟩
  | .hbm, ⟨23, _⟩ => ⟨S2x8x1x4096x4352, .f32⟩
  | .hbm, ⟨24, _⟩ => ⟨S_, .f32⟩
  | .hbm, ⟨25, _⟩ => ⟨S2x8x1x4096, .f32⟩
  | .hbm, ⟨26, _⟩ => ⟨S_, .f32⟩
  | .hbm, ⟨27, _⟩ => ⟨S2x8x1x4096, .f32⟩
  | .hbm, ⟨28, _⟩ => ⟨S2x8x1x4096, .f32⟩
  | .hbm, ⟨29, _⟩ => ⟨S2x8x1x4096x1, .f32⟩
  | .hbm, ⟨30, _⟩ => ⟨S2x8x1x4096x4352, .f32⟩
  | .hbm, ⟨31, _⟩ => ⟨S2x8x1x4096x4352, .f32⟩
  | .hbm, ⟨32, _⟩ => ⟨S2x8x1x4096x4352, .f32⟩
  | .hbm, ⟨33, _⟩ => ⟨S_, .f32⟩
  | .hbm, ⟨34, _⟩ => ⟨S2x8x1x4096, .f32⟩
  | .hbm, ⟨35, _⟩ => ⟨S2x8x1x4096x1, .f32⟩
  | .hbm, ⟨36, _⟩ => ⟨S2x8x1x4096x4352, .f32⟩
  | .hbm, ⟨37, _⟩ => ⟨S2x8x1x4096x4352, .f32⟩
  | .hbm, ⟨38, _⟩ => ⟨S2x8x128x1x4096, .f32⟩
  | .hbm, ⟨39, _⟩ => ⟨S2x4096x8x1x128, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x256x8x1x192, .f32⟩
  | .hbm, ⟨52, _⟩ => ⟨S2x8x256x256x1, .f32⟩
  | .hbm, ⟨53, _⟩ => ⟨S2x8x1x256x256, .f32⟩
  | .hbm, ⟨54, _⟩ => ⟨S_, .f32⟩
  | .hbm, ⟨55, _⟩ => ⟨S2x8x1x256x256, .f32⟩
  | .hbm, ⟨56, _⟩ => ⟨S2x8x1x256x256, .f32⟩
  | .hbm, ⟨57, _⟩ => ⟨S_, .f32⟩
  | .hbm, ⟨58, _⟩ => ⟨S2x8x1x256, .f32⟩
  | .hbm, ⟨59, _⟩ => ⟨S_, .f32⟩
  | .hbm, ⟨60, _⟩ => ⟨S2x8x1x256, .f32⟩
  | .hbm, ⟨61, _⟩ => ⟨S2x8x1x256, .f32⟩
  | .hbm, ⟨62, _⟩ => ⟨S2x8x1x256x1, .f32⟩
  | .hbm, ⟨63, _⟩ => ⟨S2x8x1x256x256, .f32⟩
  | .hbm, ⟨64, _⟩ => ⟨S2x8x1x256x256, .f32⟩
  | .hbm, ⟨65, _⟩ => ⟨S2x8x1x256x256, .f32⟩
  | .hbm, ⟨66, _⟩ => ⟨S_, .f32⟩
  | .hbm, ⟨67, _⟩ => ⟨S2x8x1x256, .f32⟩
  | .hbm, ⟨68, _⟩ => ⟨S2x8x1x256x1, .f32⟩
  | .hbm, ⟨69, _⟩ => ⟨S2x8x1x256x256, .f32⟩
  | .hbm, ⟨70, _⟩ => ⟨S2x8x1x256x256, .f32⟩
  | .hbm, ⟨71, _⟩ => ⟨S2x8x128x1x256, .f32⟩
  | .hbm, ⟨72, _⟩ => ⟨S2x256x8x1x128, .f32⟩
  | .hbm, ⟨73, _⟩ => ⟨S2x256x1024, .f32⟩
  | .hbm, ⟨74, _⟩ => ⟨S2x256x1024, .f32⟩
  | .hbm, ⟨75, _⟩ => ⟨S2x256x1024, .f32⟩
  | .hbm, ⟨76, _⟩ => ⟨S_, .f32⟩
  | .hbm, ⟨77, _⟩ => ⟨S2x256x1024, .f32⟩
  | .hbm, ⟨78, _⟩ => ⟨S2x256x1024, .f32⟩
  | .hbm, ⟨79, _⟩ => ⟨S_, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S2x256x1024, .f32⟩
  | .hbm, ⟨84, _⟩ => ⟨S2x4352x1024, .f32⟩
  | .hbm, ⟨85, _⟩ => ⟨S2x4352x1024, .bf16⟩
  | _, _ => ⟨S2x4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Kernel6.lean ====
abbrev S2x4352x768 : Shape := ⟨3, ![2, 4352, 768]⟩
abbrev S2x4352x512 : Shape := ⟨3, ![2, 4352, 512]⟩
abbrev S2x4352x64 : Shape := ⟨3, ![2, 4352, 64]⟩
abbrev S768 : Shape := ⟨1, ![768]⟩
abbrev S512 : Shape := ⟨1, ![512]⟩
abbrev S768x1536 : Shape := ⟨2, ![768, 1536]⟩
abbrev S512x2048 : Shape := ⟨2, ![512, 2048]⟩
abbrev S192 : Shape := ⟨1, ![192]⟩
abbrev S_ : Shape := ⟨0, ![]⟩
abbrev S2x4352x1024 : Shape := ⟨3, ![2, 4352, 1024]⟩
abbrev S2x4352x192 : Shape := ⟨3, ![2, 4352, 192]⟩
abbrev S2x4352x2560 : Shape := ⟨3, ![2, 4352, 2560]⟩
abbrev S768x8x192 : Shape := ⟨3, ![768, 8, 192]⟩
abbrev S768x8x256 : Shape := ⟨3, ![768, 8, 256]⟩
abbrev S768x2048 : Shape := ⟨2, ![768, 2048]⟩
abbrev S512x8x256 : Shape := ⟨3, ![512, 8, 256]⟩
abbrev S512x8x128 : Shape := ⟨3, ![512, 8, 128]⟩
abbrev S512x1024 : Shape := ⟨2, ![512, 1024]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S128x128 : Shape := ⟨2, ![128, 128]⟩
abbrev S4096x128 : Shape := ⟨2, ![4096, 128]⟩
abbrev S256x128 : Shape := ⟨2, ![256, 128]⟩
abbrev S4352x128 : Shape := ⟨2, ![4352, 128]⟩
abbrev S256 : Shape := ⟨1, ![256]⟩
abbrev S1x768 : Shape := ⟨2, ![1, 768]⟩
abbrev S1x512 : Shape := ⟨2, ![1, 512]⟩
abbrev S1x256 : Shape := ⟨2, ![1, 256]⟩
abbrev S2x4352x2048 : Shape := ⟨3, ![2, 4352, 2048]⟩
abbrev S1x256x768 : Shape := ⟨3, ![1, 256, 768]⟩
abbrev S1x256x512 : Shape := ⟨3, ![1, 256, 512]⟩
abbrev S1x256x128 : Shape := ⟨3, ![1, 256, 128]⟩
abbrev S1x256x2048 : Shape := ⟨3, ![1, 256, 2048]⟩
abbrev S256x768 : Shape := ⟨2, ![256, 768]⟩
abbrev S256x1 : Shape := ⟨2, ![256, 1]⟩
abbrev S256x512 : Shape := ⟨2, ![256, 512]⟩
abbrev S256x2048 : Shape := ⟨2, ![256, 2048]⟩
abbrev S256x1024 : Shape := ⟨2, ![256, 1024]⟩
abbrev S1x128 : Shape := ⟨2, ![1, 128]⟩

abbrev nBuf : Space → Nat
  | .hbm => 157
  | .vmem => 24
  | .smem => 0
  | _ => 0

abbrev hbmTy0_0 (i : Nat) : BufTy := match i % 128 with
  | 0 => ⟨S2x4352x768, .f32⟩
  | 1 => ⟨S2x4352x512, .f32⟩
  | 2 => ⟨S2x4352x64, .f32⟩
  | 3 => ⟨S768, .f32⟩
  | 4 => ⟨S512, .f32⟩
  | 5 => ⟨S768x1536, .f32⟩
  | 6 => ⟨S512x2048, .f32⟩
  | 7 => ⟨S192, .f32⟩
  | 8 => ⟨S192, .f32⟩
  | 9 => ⟨S_, .f32⟩
  | 10 => ⟨S2x4352x1024, .f32⟩
  | 11 => ⟨S_, .f32⟩
  | 12 => ⟨S2x4352x192, .f32⟩
  | 13 => ⟨S2x4352x2560, .f32⟩
  | 14 => ⟨S2x4352x2560, .bf16⟩
  | 15 => ⟨S768x8x192, .f32⟩
  | 16 => ⟨S_, .i32⟩
  | 17 => ⟨S_, .f32⟩
  | 18 => ⟨S768x8x256, .f32⟩
  | 19 => ⟨S768x2048, .f32⟩
  | 20 => ⟨S768x2048, .bf16⟩
  | 21 => ⟨S512x8x256, .f32⟩
  | 22 => ⟨S512x8x128, .f32⟩
  | 23 => ⟨S512x1024, .f32⟩
  | 24 => ⟨S512x1024, .bf16⟩
  | 25 => ⟨S512x8x128, .f32⟩
  | 26 => ⟨S512x1024, .f32⟩
  | 27 => ⟨S512x1024, .bf16⟩
  | 28 => ⟨S4096, .i32⟩
  | 29 => ⟨S_, .i32⟩
  | 30 => ⟨S_, .i32⟩
  | 31 => ⟨S4096, .i32⟩
  | 32 => ⟨S4096, .i32⟩
  | 33 => ⟨S4096, .i32⟩
  | 34 => ⟨S_, .i32⟩
  | 35 => ⟨S4096, .i32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S4096, .i32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4096, .f32⟩
  | 56 => ⟨S4096x1, .f32⟩
  | 57 => ⟨S1x16, .f32⟩
  | 58 => ⟨S4096x16, .f32⟩
  | 59 => ⟨S4096x16, .f32⟩
  | 60 => ⟨S4096x16, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i1⟩
  | 72 => ⟨S_, .i32⟩
  | 73 => ⟨S4096, .i32⟩
  | 74 => ⟨S4096, .i1⟩
  | 75 => ⟨S_, .i32⟩
  | 76 => ⟨S_, .i1⟩
  | 77 => ⟨S4096, .i1⟩
  | 78 => ⟨S4096, .i1⟩
  | 79 => ⟨S4096, .i1⟩
  | 80 => ⟨S4096, .i32⟩
  | 81 => ⟨S4096, .i32⟩
  | 82 => ⟨S4096, .i32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S4096, .f32⟩
  | 92 => ⟨S4096x1, .f32⟩
  | 93 => ⟨S1x16, .f32⟩
  | 94 => ⟨S4096x16, .f32⟩
  | 95 => ⟨S4096x16, .f32⟩
  | 96 => ⟨S4096x16, .f32⟩
  | 97 => ⟨S4096x16, .f32⟩
  | 98 => ⟨S4096x16, .f32⟩
  | 99 => ⟨S4096x16, .f32⟩
  | 100 => ⟨S4096x16, .f32⟩
  | 101 => ⟨S4096x64, .f32⟩
  | 102 => ⟨S4096x16, .f32⟩
  | 103 => ⟨S4096x16, .f32⟩
  | 104 => ⟨S4096x16, .f32⟩
  | 105 => ⟨S4096x16, .f32⟩
  | 106 => ⟨S4096x64, .f32⟩
  | 107 => ⟨S128x128, .i32⟩
  | 108 => ⟨S128x128, .i32⟩
  | 109 => ⟨S_, .i32⟩
  | 110 => ⟨S128x128, .i32⟩
  | 111 => ⟨S128x128, .i1⟩
  | 112 => ⟨S_, .i32⟩
  | 113 => ⟨S128x128, .i32⟩
  | 114 => ⟨S128x128, .i32⟩
  | 115 => ⟨S128x128, .i1⟩
  | 116 => ⟨S128x128, .i1⟩
  | 117 => ⟨S_, .i32⟩
  | 118 => ⟨S128x128, .i32⟩
  | 119 => ⟨S128x128, .i32⟩
  | 120 => ⟨S_, .i32⟩
  | 121 => ⟨S128x128, .i32⟩
  | 122 => ⟨S128x128, .i1⟩
  | 123 => ⟨S_, .f32⟩
  | 124 => ⟨S_, .f32⟩
  | 125 => ⟨S128x128, .f32⟩
  | 126 => ⟨S128x128, .f32⟩
  | 127 => ⟨S128x128, .f32⟩
  | _ => ⟨S2x4352x768, .f32⟩

abbrev hbmTy0_1 (i : Nat) : BufTy := match i % 128 with
  | 0 => ⟨S_, .f32⟩
  | 1 => ⟨S128x128, .f32⟩
  | 2 => ⟨S128x128, .f32⟩
  | 3 => ⟨S_, .f32⟩
  | 4 => ⟨S4096x64, .f32⟩
  | 5 => ⟨S4096x128, .f32⟩
  | 6 => ⟨S_, .f32⟩
  | 7 => ⟨S256x128, .f32⟩
  | 8 => ⟨S4352x128, .f32⟩
  | 9 => ⟨S_, .f32⟩
  | 10 => ⟨S4096x64, .f32⟩
  | 11 => ⟨S4096x128, .f32⟩
  | 12 => ⟨S_, .f32⟩
  | 13 => ⟨S256x128, .f32⟩
  | 14 => ⟨S4352x128, .f32⟩
  | 15 => ⟨S128x128, .bf16⟩
  | 16 => ⟨S_, .i32⟩
  | 17 => ⟨S_, .f32⟩
  | 18 => ⟨S256, .f32⟩
  | 19 => ⟨S_, .i32⟩
  | 20 => ⟨S_, .f32⟩
  | 21 => ⟨S256, .f32⟩
  | 22 => ⟨S1x768, .f32⟩
  | 23 => ⟨S1x512, .f32⟩
  | 24 => ⟨S1x256, .f32⟩
  | 25 => ⟨S1x256, .f32⟩
  | 26 => ⟨S2x4352x2048, .bf16⟩
  | 27 => ⟨S2x4352x2048, .bf16⟩
  | 28 => ⟨S2x4352x2048, .bf16⟩
  | _ => ⟨S2x4352x768, .f32⟩

abbrev hbmTy (i : Nat) : BufTy := match i / 128 with
  | 0 => hbmTy0_0 i
  | 1 => hbmTy0_1 i
  | _ => ⟨S2x4352x768, .f32⟩

abbrev bufTy : (tb : Table) → Fin (tcTables nBuf tb) → BufTy
  | .hbm, ⟨i, _⟩ => hbmTy i
  | .local _ .vmem, ⟨0, _⟩ => ⟨S1x256x768, .bf16⟩
  | .local _ .vmem, ⟨1, _⟩ => ⟨S1x256x768, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .bf16⟩
  | .local _ .vmem, ⟨5, _⟩ => ⟨S1x256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .bf16⟩
  | .local _ .vmem, ⟨11, _⟩ => ⟨S1x768, .f32⟩
  | .local _ .vmem, ⟨12, _⟩ => ⟨S1x512, .f32⟩
  | .local _ .vmem, ⟨13, _⟩ => ⟨S768x2048, .bf16⟩
  | .local _ .vmem, ⟨14, _⟩ => ⟨S512x1024, .bf16⟩
  | .local _ .vmem, ⟨15, _⟩ => ⟨S512x1024, .bf16⟩
  | .local _ .vmem, ⟨16, _⟩ => ⟨S1x256, .f32⟩
  | .local _ .vmem, ⟨17, _⟩ => ⟨S1x256, .f32⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x256x2048, .bf16⟩
  | _, _ => ⟨S2x4352x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_5 : Ref sig .tc := ⟨.hbm, 85, rfl⟩
abbrev main_v32 : Ref sig .tc := ⟨.hbm, 86, rfl⟩
abbrev main_v33 : Ref sig .tc := ⟨.hbm, 87, rfl⟩
abbrev main_cst_6 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_c_7 : Ref sig .tc := ⟨.hbm, 109, rfl⟩
abbrev main_v54 : Ref sig .tc := ⟨.hbm, 110, rfl⟩
abbrev main_v55 : Ref sig .tc := ⟨.hbm, 111, rfl⟩
abbrev main_c_8 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_c_9 : Ref sig .tc := ⟨.hbm, 117, rfl⟩
abbrev main_v60 : Ref sig .tc := ⟨.hbm, 118, rfl⟩
abbrev main_v61 : Ref sig .tc := ⟨.hbm, 119, rfl⟩
abbrev main_c_10 : Ref sig .tc := ⟨.hbm, 120, rfl⟩
abbrev main_v62 : Ref sig .tc := ⟨.hbm, 121, rfl⟩
abbrev main_v63 : Ref sig .tc := ⟨.hbm, 122, rfl⟩
abbrev main_cst_11 : Ref sig .tc := ⟨.hbm, 123, rfl⟩
abbrev main_cst_12 : Ref sig .tc := ⟨.hbm, 124, rfl⟩
abbrev main_call3_v0 : Ref sig .tc := ⟨.hbm, 125, rfl⟩
abbrev main_call3_v1 : Ref sig .tc := ⟨.hbm, 126, rfl⟩
abbrev main_v64 : Ref sig .tc := ⟨.hbm, 127, rfl⟩
abbrev main_cst_13 : Ref sig .tc := ⟨.hbm, 128, rfl⟩
abbrev main_call4_v0 : Ref sig .tc := ⟨.hbm, 129, rfl⟩
abbrev main_v65 : Ref sig .tc := ⟨.hbm, 130, rfl⟩
abbrev main_cst_14 : Ref sig .tc := ⟨.hbm, 131, rfl⟩
abbrev main_v66 : Ref sig .tc := ⟨.hbm, 132, rfl⟩
abbrev main_v67 : Ref sig .tc := ⟨.hbm, 133, rfl⟩
abbrev main_cst_15 : Ref sig .tc := ⟨.hbm, 134, rfl⟩
abbrev main_v68 : Ref sig .tc := ⟨.hbm, 135, rfl⟩
abbrev main_v69 : Ref sig .tc := ⟨.hbm, 136, rfl⟩
abbrev main_cst_16 : Ref sig .tc := ⟨.hbm, 137, rfl⟩
abbrev main_v70 : Ref sig .tc := ⟨.hbm, 138, rfl⟩
abbrev main_v71 : Ref sig .tc := ⟨.hbm, 139, rfl⟩
abbrev main_cst_17 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_18 : Ref sig .tc := ⟨.hbm, 144, rfl⟩
abbrev main_call5_v0 : Ref sig .tc := ⟨.hbm, 145, rfl⟩
abbrev main_v75 : Ref sig .tc := ⟨.hbm, 146, rfl⟩
abbrev main_c_19 : Ref sig .tc := ⟨.hbm, 147, rfl⟩
abbrev main_call6_v0 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81_0 : Ref sig .tc := ⟨.hbm, 154, rfl⟩
abbrev main_v81_1 : Ref sig .tc := ⟨.hbm, 155, rfl⟩
abbrev main_v81_2 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S2x4352x768 : Shape := ⟨3, ![2, 4352, 768]⟩
abbrev S2x4352x512 : Shape := ⟨3, ![2, 4352, 512]⟩
abbrev S2x4352x64 : Shape := ⟨3, ![2, 4352, 64]⟩
abbrev S768 : Shape := ⟨1, ![768]⟩
abbrev S512 : Shape := ⟨1, ![512]⟩
abbrev S768x1536 : Shape := ⟨2, ![768, 1536]⟩
abbrev S512x2048 : Shape := ⟨2, ![512, 2048]⟩
abbrev S192 : Shape := ⟨1, ![192]⟩
abbrev S4096 : Shape := ⟨1, ![4096]⟩
abbrev S_ : Shape := ⟨0, ![]⟩
abbrev S2x4352 : Shape := ⟨2, ![2, 4352]⟩
abbrev S2x4352x1 : Shape := ⟨3, ![2, 4352, 1]⟩
abbrev S1x1x768 : Shape := ⟨3, ![1, 1, 768]⟩
abbrev S2x4352x1536 : Shape := ⟨3, ![2, 4352, 1536]⟩
abbrev S2x4352x8x192 : Shape := ⟨4, ![2, 4352, 8, 192]⟩
abbrev S1x1x512 : Shape := ⟨3, ![1, 1, 512]⟩
abbrev S2x4352x2048 : Shape := ⟨3, ![2, 4352, 2048]⟩
abbrev S2x4352x8x256 : Shape := ⟨4, ![2, 4352, 8, 256]⟩
abbrev S2x4352x8x128 : Shape := ⟨4, ![2, 4352, 8, 128]⟩
abbrev S2x4352x1x64 : Shape := ⟨4, ![2, 4352, 1, 64]⟩
abbrev S2x4352x8x64 : Shape := ⟨4, ![2, 4352, 8, 64]⟩
abbrev S2x4352x8 : Shape := ⟨3, ![2, 4352, 8]⟩
abbrev S2x4352x8x1 : Shape := ⟨4, ![2, 4352, 8, 1]⟩
abbrev S1x1x1x192 : Shape := ⟨4, ![1, 1, 1, 192]⟩
abbrev S2x4096x8x64 : Shape := ⟨4, ![2, 4096, 8, 64]⟩
abbrev S16 : Shape := ⟨1, ![16]⟩
abbrev S2x4096x8x32 : Shape := ⟨4, ![2, 4096, 8, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x8x16 : Shape := ⟨4, ![2, 4096, 8, 16]⟩
abbrev S2x256x8x64 : Shape := ⟨4, ![2, 256, 8, 64]⟩

abbrev nBuf : Space → Nat
  | .hbm => 265
  | .vmem => 0
  | .smem => 0
  | _ => 0

abbrev hbmTy0_0 (i : Nat) : BufTy := match i % 128 with
  | 0 => ⟨S2x4352x768, .f32⟩
  | 1 => ⟨S2x4352x512, .f32⟩
  | 2 => ⟨S2x4352x64, .f32⟩
  | 3 => ⟨S768, .f32⟩
  | 4 => ⟨S512, .f32⟩
  | 5 => ⟨S768x1536, .f32⟩
  | 6 => ⟨S512x2048, .f32⟩
  | 7 => ⟨S192, .f32⟩
  | 8 => ⟨S192, .f32⟩
  | 9 => ⟨S4096, .i32⟩
  | 10 => ⟨S_, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S4096, .i32⟩
  | 19 => ⟨S4096, .i32⟩
  | 20 => ⟨S_, .i32⟩
  | 21 => ⟨S4096, .i32⟩
  | 22 => ⟨S4096, .i1⟩
  | 23 => ⟨S4096, .i1⟩
  | 24 => ⟨S_, .i32⟩
  | 25 => ⟨S4096, .i32⟩
  | 26 => ⟨S4096, .i32⟩
  | 27 => ⟨S4096, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i1⟩
  | 42 => ⟨S_, .i32⟩
  | 43 => ⟨S_, .i1⟩
  | 44 => ⟨S4096, .i1⟩
  | 45 => ⟨S4096, .i1⟩
  | 46 => ⟨S4096, .i1⟩
  | 47 => ⟨S4096, .i32⟩
  | 48 => ⟨S4096, .i32⟩
  | 49 => ⟨S4096, .i32⟩
  | 50 => ⟨S2x4352x768, .f32⟩
  | 51 => ⟨S_, .f32⟩
  | 52 => ⟨S2x4352, .f32⟩
  | 53 => ⟨S2x4352x1, .f32⟩
  | 54 => ⟨S_, .f32⟩
  | 55 => ⟨S2x4352x1, .f32⟩
  | 56 => ⟨S2x4352x1, .f32⟩
  | 57 => ⟨S_, .f32⟩
  | 58 => ⟨S2x4352x1, .f32⟩
  | 59 => ⟨S2x4352x1, .f32⟩
  | 60 => ⟨S2x4352x1, .f32⟩
  | 61 => ⟨S2x4352x768, .f32⟩
  | 62 => ⟨S2x4352x768, .f32⟩
  | 63 => ⟨S1x1x768, .f32⟩
  | 64 => ⟨S2x4352x768, .f32⟩
  | 65 => ⟨S2x4352x768, .f32⟩
  | 66 => ⟨S2x4352x1536, .f32⟩
  | 67 => ⟨S2x4352x8x192, .f32⟩
  | 68 => ⟨S2x4352x512, .f32⟩
  | 69 => ⟨S_, .f32⟩
  | 70 => ⟨S2x4352, .f32⟩
  | 71 => ⟨S2x4352x1, .f32⟩
  | 72 => ⟨S_, .f32⟩
  | 73 => ⟨S2x4352x1, .f32⟩
  | 74 => ⟨S2x4352x1, .f32⟩
  | 75 => ⟨S_, .f32⟩
  | 76 => ⟨S2x4352x1, .f32⟩
  | 77 => ⟨S2x4352x1, .f32⟩
  | 78 => ⟨S2x4352x1, .f32⟩
  | 79 => ⟨S2x4352x512, .f32⟩
  | 80 => ⟨S2x4352x512, .f32⟩
  | 81 => ⟨S1x1x512, .f32⟩
  | 82 => ⟨S2x4352x512, .f32⟩
  | 83 => ⟨S2x4352x512, .f32⟩
  | 84 => ⟨S2x4352x2048, .f32⟩
  | 85 => ⟨S2x4352x8x256, .f32⟩
  | 86 => ⟨S2x4352x8x128, .f32⟩
  | 87 => ⟨S2x4352x8x128, .f32⟩
  | 88 => ⟨S2x4352x1x64, .f32⟩
  | 89 => ⟨S2x4352x8x64, .f32⟩
  | 90 => ⟨S2x4352x8x192, .f32⟩
  | 91 => ⟨S_, .f32⟩
  | 92 => ⟨S2x4352x8, .f32⟩
  | 93 => ⟨S2x4352x8x1, .f32⟩
  | 94 => ⟨S_, .f32⟩
  | 95 => ⟨S2x4352x8x1, .f32⟩
  | 96 => ⟨S2x4352x8x1, .f32⟩
  | 97 => ⟨S_, .f32⟩
  | 98 => ⟨S2x4352x8x1, .f32⟩
  | 99 => ⟨S2x4352x8x1, .f32⟩
  | 100 => ⟨S2x4352x8x1, .f32⟩
  | 101 => ⟨S2x4352x8x192, .f32⟩
  | 102 => ⟨S2x4352x8x192, .f32⟩
  | 103 => ⟨S1x1x1x192, .f32⟩
  | 104 => ⟨S2x4352x8x192, .f32⟩
  | 105 => ⟨S2x4352x8x192, .f32⟩
  | 106 => ⟨S2x4352x8x192, .f32⟩
  | 107 => ⟨S2x4352x8x192, .f32⟩
  | 108 => ⟨S_, .f32⟩
  | 109 => ⟨S2x4352x8, .f32⟩
  | 110 => ⟨S2x4352x8x1, .f32⟩
  | 111 => ⟨S_, .f32⟩
  | 112 => ⟨S2x4352x8x1, .f32⟩
  | 113 => ⟨S2x4352x8x1, .f32⟩
  | 114 => ⟨S_, .f32⟩
  | 115 => ⟨S2x4352x8x1, .f32⟩
  | 116 => ⟨S2x4352x8x1, .f32⟩
  | 117 => ⟨S2x4352x8x1, .f32⟩
  | 118 => ⟨S2x4352x8x192, .f32⟩
  | 119 => ⟨S2x4352x8x192, .f32⟩
  | 120 => ⟨S1x1x1x192, .f32⟩
  | 121 => ⟨S2x4352x8x192, .f32⟩
  | 122 => ⟨S2x4352x8x192, .f32⟩
  | 123 => ⟨S2x4096x8x64, .f32⟩
  | 124 => ⟨S16, .f32⟩
  | 125 => ⟨S16, .f32⟩
  | 126 => ⟨S_, .f32⟩
  | 127 => ⟨S16, .f32⟩
  | _ => ⟨S2x4352x768, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S2x4096x8x32, .f32⟩
  | 5 => ⟨S4096, .f32⟩
  | 6 => ⟨S4096x1, .f32⟩
  | 7 => ⟨S1x16, .f32⟩
  | 8 => ⟨S4096x16, .f32⟩
  | 9 => ⟨S4096x16, .f32⟩
  | 10 => ⟨S4096x16, .f32⟩
  | 11 => ⟨S4096x16, .f32⟩
  | 12 => ⟨S1x4096x1x16, .f32⟩
  | 13 => ⟨S4096x16, .f32⟩
  | 14 => ⟨S1x4096x1x16, .f32⟩
  | 15 => ⟨S2x4096x8x16, .f32⟩
  | 16 => ⟨S2x4096x8x16, .f32⟩
  | 17 => ⟨S2x4096x8x16, .f32⟩
  | 18 => ⟨S2x4096x8x16, .f32⟩
  | 19 => ⟨S2x4096x8x16, .f32⟩
  | 20 => ⟨S2x4096x8x16, .f32⟩
  | 21 => ⟨S2x4096x8x16, .f32⟩
  | 22 => ⟨S2x4096x8x16, .f32⟩
  | 23 => ⟨S2x4096x8x16, .f32⟩
  | 24 => ⟨S2x4096x8x16, .f32⟩
  | 25 => ⟨S2x4096x8x16, .f32⟩
  | 26 => ⟨S2x4096x8x16, .f32⟩
  | 27 => ⟨S2x4096x8x32, .f32⟩
  | 28 => ⟨S2x4096x8x32, .f32⟩
  | 29 => ⟨S4096, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x16, .f32⟩
  | 36 => ⟨S1x4096x1x16, .f32⟩
  | 37 => ⟨S4096x16, .f32⟩
  | 38 => ⟨S1x4096x1x16, .f32⟩
  | 39 => ⟨S2x4096x8x16, .f32⟩
  | 40 => ⟨S2x4096x8x16, .f32⟩
  | 41 => ⟨S2x4096x8x16, .f32⟩
  | 42 => ⟨S2x4096x8x16, .f32⟩
  | 43 => ⟨S2x4096x8x16, .f32⟩
  | 44 => ⟨S2x4096x8x16, .f32⟩
  | 45 => ⟨S2x4096x8x16, .f32⟩
  | 46 => ⟨S2x4096x8x16, .f32⟩
  | 47 => ⟨S2x4096x8x16, .f32⟩
  | 48 => ⟨S2x4096x8x16, .f32⟩
  | 49 => ⟨S2x4096x8x16, .f32⟩
  | 50 => ⟨S2x4096x8x16, .f32⟩
  | 51 => ⟨S2x4096x8x32, .f32⟩
  | 52 => ⟨S2x4096x8x64, .f32⟩
  | 53 => ⟨S2x256x8x64, .f32⟩
  | 54 => ⟨S2x4352x8x64, .f32⟩
  | 55 => ⟨S2x4352x8x128, .f32⟩
  | 56 => ⟨S2x4352x8x192, .f32⟩
  | 57 => ⟨S_, .f32⟩
  | 58 => ⟨S2x4352x8x192, .f32⟩
  | 59 => ⟨S2x4352x8x192, .f32⟩
  | 60 => ⟨S_, .f32⟩
  | 61 => ⟨S2x4352x8x64, .f32⟩
  | 62 => ⟨S2x4352x8x256, .f32⟩
  | 63 => ⟨S2x4352x2048, .f32⟩
  | 64 => ⟨S2x4352x2048, .bf16⟩
  | 65 => ⟨S2x4096x8x64, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S2x4096x8x32, .f32⟩
  | 75 => ⟨S4096, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x16, .f32⟩
  | 82 => ⟨S1x4096x1x16, .f32⟩
  | 83 => ⟨S4096x16, .f32⟩
  | 84 => ⟨S1x4096x1x16, .f32⟩
  | 85 => ⟨S2x4096x8x16, .f32⟩
  | 86 => ⟨S2x4096x8x16, .f32⟩
  | 87 => ⟨S2x4096x8x16, .f32⟩
  | 88 => ⟨S2x4096x8x16, .f32⟩
  | 89 => ⟨S2x4096x8x16, .f32⟩
  | 90 => ⟨S2x4096x8x16, .f32⟩
  | 91 => ⟨S2x4096x8x16, .f32⟩
  | 92 => ⟨S2x4096x8x16, .f32⟩
  | 93 => ⟨S2x4096x8x16, .f32⟩
  | 94 => ⟨S2x4096x8x16, .f32⟩
  | 95 => ⟨S2x4096x8x16, .f32⟩
  | 96 => ⟨S2x4096x8x16, .f32⟩
  | 97 => ⟨S2x4096x8x32, .f32⟩
  | 98 => ⟨S2x4096x8x32, .f32⟩
  | 99 => ⟨S4096, .f32⟩
  | 100 => ⟨S4096x1, .f32⟩
  | 101 => ⟨S1x16, .f32⟩
  | 102 => ⟨S4096x16, .f32⟩
  | 103 => ⟨S4096x16, .f32⟩
  | 104 => ⟨S4096x16, .f32⟩
  | 105 => ⟨S4096x16, .f32⟩
  | 106 => ⟨S1x4096x1x16, .f32⟩
  | 107 => ⟨S4096x16, .f32⟩
  | 108 => ⟨S1x4096x1x16, .f32⟩
  | 109 => ⟨S2x4096x8x16, .f32⟩
  | 110 => ⟨S2x4096x8x16, .f32⟩
  | 111 => ⟨S2x4096x8x16, .f32⟩
  | 112 => ⟨S2x4096x8x16, .f32⟩
  | 113 => ⟨S2x4096x8x16, .f32⟩
  | 114 => ⟨S2x4096x8x16, .f32⟩
  | 115 => ⟨S2x4096x8x16, .f32⟩
  | 116 => ⟨S2x4096x8x16, .f32⟩
  | 117 => ⟨S2x4096x8x16, .f32⟩
  | 118 => ⟨S2x4096x8x16, .f32⟩
  | 119 => ⟨S2x4096x8x16, .f32⟩
  | 120 => ⟨S2x4096x8x16, .f32⟩
  | 121 => ⟨S2x4096x8x32, .f32⟩
  | 122 => ⟨S2x4096x8x64, .f32⟩
  | 123 => ⟨S2x256x8x64, .f32⟩
  | 124 => ⟨S2x4352x8x64, .f32⟩
  | 125 => ⟨S2x4352x8x128, .f32⟩
  | 126 => ⟨S2x4352x8x192, .f32⟩
  | 127 => ⟨S_, .f32⟩
  | _ => ⟨S2x4352x768, .f32⟩

abbrev hbmTy0_2 (i : Nat) : BufTy := match i % 128 with
  | 0 => ⟨S2x4352x8x64, .f32⟩
  | 1 => ⟨S2x4352x8x256, .f32⟩
  | 2 => ⟨S2x4352x2048, .f32⟩
  | 3 => ⟨S2x4352x2048, .bf16⟩
  | 4 => ⟨S_, .f32⟩
  | 5 => ⟨S2x4352x8x128, .f32⟩
  | 6 => ⟨S2x4352x8x256, .f32⟩
  | 7 => ⟨S2x4352x2048, .f32⟩
  | 8 => ⟨S2x4352x2048, .bf16⟩
  | _ => ⟨S2x4352x768, .f32⟩

abbrev hbmTy (i : Nat) : BufTy := match i / 128 with
  | 0 => hbmTy0_0 i
  | 1 => hbmTy0_1 i
  | 2 => hbmTy0_2 i
  | _ => ⟨S2x4352x768, .f32⟩

abbrev bufTy : (tb : Table) → Fin (tcTables nBuf tb) → BufTy
  | .hbm, ⟨i, _⟩ => hbmTy i
  | _, _ => ⟨S2x4352x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_cst_1 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_cst_3 : Ref sig .tc := ⟨.hbm, 69, rfl⟩
abbrev main_v19 : Ref sig .tc := ⟨.hbm, 70, rfl⟩
abbrev main_v20 : Ref sig .tc := ⟨.hbm, 71, rfl⟩
abbrev main_cst_4 : Ref sig .tc := ⟨.hbm, 72, rfl⟩
abbrev main_v21 : Ref sig .tc := ⟨.hbm, 73, rfl⟩
abbrev main_v22 : Ref sig .tc := ⟨.hbm, 74, rfl⟩
abbrev main_cst_5 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_6 : Ref sig .tc := ⟨.hbm, 91, rfl⟩
abbrev main_v38 : Ref sig .tc := ⟨.hbm, 92, rfl⟩
abbrev main_v39 : Ref sig .tc := ⟨.hbm, 93, rfl⟩
abbrev main_cst_7 : Ref sig .tc := ⟨.hbm, 94, rfl⟩
abbrev main_v40 : Ref sig .tc := ⟨.hbm, 95, rfl⟩
abbrev main_v41 : Ref sig .tc := ⟨.hbm, 96, rfl⟩
abbrev main_cst_8 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_cst_10 : Ref sig .tc := ⟨.hbm, 111, rfl⟩
abbrev main_v54 : Ref sig .tc := ⟨.hbm, 112, rfl⟩
abbrev main_v55 : Ref sig .tc := ⟨.hbm, 113, rfl⟩
abbrev main_cst_11 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_12 : Ref sig .tc := ⟨.hbm, 126, rfl⟩
abbrev main_v67 : Ref sig .tc := ⟨.hbm, 127, rfl⟩
abbrev main_v68 : Ref sig .tc := ⟨.hbm, 128, rfl⟩
abbrev main_cst_13 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_14 : Ref sig .tc := ⟨.hbm, 185, rfl⟩
abbrev main_v124 : Ref sig .tc := ⟨.hbm, 186, rfl⟩
abbrev main_v125 : Ref sig .tc := ⟨.hbm, 187, rfl⟩
abbrev main_cst_15 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_16 : Ref sig .tc := ⟨.hbm, 196, rfl⟩
abbrev main_v133 : Ref sig .tc := ⟨.hbm, 197, rfl⟩
abbrev main_v134 : Ref sig .tc := ⟨.hbm, 198, rfl⟩
abbrev main_cst_17 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_18 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_cst_19 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩

abbrev nD : Nat := 1
abbrev τ : Topo := Topo.v7x

variable {F : FTy → Type} [FloatOps F]
-- ==== Kernel7.lean ====
abbrev S2x4352x10752 : Shape := ⟨3, ![2, 4352, 10752]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128x128 : Shape := ⟨2, ![128, 128]⟩
abbrev S256x128 : Shape := ⟨2, ![256, 128]⟩
abbrev S4352x128 : Shape := ⟨2, ![4352, 128]⟩
abbrev S1x128 : Shape := ⟨2, ![1, 128]⟩
abbrev S2x4352x1024 : Shape := ⟨3, ![2, 4352, 1024]⟩
abbrev S2x4352x256 : Shape := ⟨3, ![2, 4352, 256]⟩
abbrev S2x4352x512 : Shape := ⟨3, ![2, 4352, 512]⟩
abbrev S1x256x1024 : Shape := ⟨3, ![1, 256, 1024]⟩
abbrev S1x256x256 : Shape := ⟨3, ![1, 256, 256]⟩
abbrev S1x256x512 : Shape := ⟨3, ![1, 256, 512]⟩
abbrev S1x256x128 : Shape := ⟨3, ![1, 256, 128]⟩
abbrev S256 : Shape := ⟨1, ![256]⟩
abbrev S256x1 : Shape := ⟨2, ![256, 1]⟩

abbrev nBuf : Space → Nat
  | .hbm => 107
  | .vmem => 19
  | .smem => 0
  | _ => 0

abbrev bufTy : (tb : Table) → Fin (tcTables nBuf tb) → BufTy
  | .hbm, ⟨0, _⟩ => ⟨S2x4352x10752, .f32⟩
  | .hbm, ⟨1, _⟩ => ⟨S128, .f32⟩
  | .hbm, ⟨2, _⟩ => ⟨S128, .f32⟩
  | .hbm, ⟨3, _⟩ => ⟨S2x4352x10752, .bf16⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S_, .i1⟩
  | .hbm, ⟨53, _⟩ => ⟨S4096, .i1⟩
  | .hbm, ⟨54, _⟩ => ⟨S4096, .i1⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x128, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x128, .f32⟩
  | .hbm, ⟨75, _⟩ => ⟨S128x128, .i32⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i1⟩
  | .hbm, ⟨87, _⟩ => ⟨S_, .f32⟩
  | .hbm, ⟨88, _⟩ => ⟨S_, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S_, .f32⟩
  | .hbm, ⟨93, _⟩ => ⟨S128x128, .f32⟩
  | .hbm, ⟨94, _⟩ => ⟨S128x128, .f32⟩
  | .hbm, ⟨95, _⟩ => ⟨S_, .f32⟩
  | .hbm, ⟨96, _⟩ => ⟨S256x128, .f32⟩
  | .hbm, ⟨97, _⟩ => ⟨S4352x128, .f32⟩
  | .hbm, ⟨98, _⟩ => ⟨S_, .f32⟩
  | .hbm, ⟨99, _⟩ => ⟨S256x128, .f32⟩
  | .hbm, ⟨100, _⟩ => ⟨S4352x128, .f32⟩
  | .hbm, ⟨101, _⟩ => ⟨S128x128, .bf16⟩
  | .hbm, ⟨102, _⟩ => ⟨S1x128, .f32⟩
  | .hbm, ⟨103, _⟩ => ⟨S1x128, .f32⟩
  | .hbm, ⟨104, _⟩ => ⟨S2x4352x1024, .bf16⟩
  | .hbm, ⟨105, _⟩ => ⟨S2x4352x256, .bf16⟩
  | .hbm, ⟨106, _⟩ => ⟨S2x4352x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x512, .bf16⟩
  | .local _ .vmem, ⟨18, _⟩ => ⟨S1x256x512, .bf16⟩
  | _, _ => ⟨S2x4352x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_2 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_3 : Ref sig .tc := ⟨.hbm, 81, rfl⟩
abbrev main_v37 : Ref sig .tc := ⟨.hbm, 82, rfl⟩
abbrev main_v38 : Ref sig .tc := ⟨.hbm, 83, rfl⟩
abbrev main_c_4 : Ref sig .tc := ⟨.hbm, 84, rfl⟩
abbrev main_v39 : Ref sig .tc := ⟨.hbm, 85, rfl⟩
abbrev main_v40 : Ref sig .tc := ⟨.hbm, 86, rfl⟩
abbrev main_cst_5 : Ref sig .tc := ⟨.hbm, 87, rfl⟩
abbrev main_cst_6 : Ref sig .tc := ⟨.hbm, 88, rfl⟩
abbrev main_call2_v0 : Ref sig .tc := ⟨.hbm, 89, rfl⟩
abbrev main_call2_v1 : Ref sig .tc := ⟨.hbm, 90, rfl⟩
abbrev main_v41 : Ref sig .tc := ⟨.hbm, 91, rfl⟩
abbrev main_cst_7 : Ref sig .tc := ⟨.hbm, 92, rfl⟩
abbrev main_call3_v0 : Ref sig .tc := ⟨.hbm, 93, rfl⟩
abbrev main_v42 : Ref sig .tc := ⟨.hbm, 94, rfl⟩
abbrev main_cst_8 : Ref sig .tc := ⟨.hbm, 95, rfl⟩
abbrev main_v43 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50_0 : Ref sig .tc := ⟨.hbm, 104, rfl⟩
abbrev main_v50_1 : Ref sig .tc := ⟨.hbm, 105, rfl⟩
abbrev main_v50_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_2 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S2x4352x10752 : Shape := ⟨3, ![2, 4352, 10752]⟩
abbrev S128 : Shape := ⟨1, ![128]⟩
abbrev S4096 : Shape := ⟨1, ![4096]⟩
abbrev S_ : Shape := ⟨0, ![]⟩
abbrev S2x4352x1024 : Shape := ⟨3, ![2, 4352, 1024]⟩
abbrev S2x4352x8x128 : Shape := ⟨4, ![2, 4352, 8, 128]⟩
abbrev S2x4352x8 : Shape := ⟨3, ![2, 4352, 8]⟩
abbrev S2x4352x8x1 : Shape := ⟨4, ![2, 4352, 8, 1]⟩
abbrev S1x1x1x128 : Shape := ⟨4, ![1, 1, 1, 128]⟩
abbrev S2x4352x256 : Shape := ⟨3, ![2, 4352, 256]⟩
abbrev S2x4352x2x128 : Shape := ⟨4, ![2, 4352, 2, 128]⟩
abbrev S2x4352x2 : Shape := ⟨3, ![2, 4352, 2]⟩
abbrev S2x4352x2x1 : Shape := ⟨4, ![2, 4352, 2, 1]⟩
abbrev S2x4352x2x256 : Shape := ⟨4, ![2, 4352, 2, 256]⟩
abbrev S2x4096x8x128 : Shape := ⟨4, ![2, 4096, 8, 128]⟩
abbrev S32 : Shape := ⟨1, ![32]⟩
abbrev S2x4096x8x64 : Shape := ⟨4, ![2, 4096, 8, 64]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x8x32 : Shape := ⟨4, ![2, 4096, 8, 32]⟩
abbrev S2x256x8x128 : Shape := ⟨4, ![2, 256, 8, 128]⟩
abbrev S2x4096x2x128 : Shape := ⟨4, ![2, 4096, 2, 128]⟩
abbrev S2x4096x2x64 : Shape := ⟨4, ![2, 4096, 2, 64]⟩
abbrev S2x4096x2x32 : Shape := ⟨4, ![2, 4096, 2, 32]⟩
abbrev S2x256x2x128 : Shape := ⟨4, ![2, 256, 2, 128]⟩
abbrev S2x4352x512 : Shape := ⟨3, ![2, 4352, 512]⟩

abbrev nBuf : Space → Nat
  | .hbm => 214
  | .vmem => 0
  | .smem => 0
  | _ => 0

abbrev hbmTy0_0 (i : Nat) : BufTy := match i % 128 with
  | 0 => ⟨S2x4352x10752, .f32⟩
  | 1 => ⟨S128, .f32⟩
  | 2 => ⟨S128, .f32⟩
  | 3 => ⟨S4096, .i32⟩
  | 4 => ⟨S_, .i32⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i1⟩
  | 12 => ⟨S4096, .i32⟩
  | 13 => ⟨S4096, .i32⟩
  | 14 => ⟨S_, .i32⟩
  | 15 => ⟨S4096, .i32⟩
  | 16 => ⟨S4096, .i1⟩
  | 17 => ⟨S4096, .i1⟩
  | 18 => ⟨S_, .i32⟩
  | 19 => ⟨S4096, .i32⟩
  | 20 => ⟨S4096, .i32⟩
  | 21 => ⟨S4096, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i1⟩
  | 36 => ⟨S_, .i32⟩
  | 37 => ⟨S_, .i1⟩
  | 38 => ⟨S4096, .i1⟩
  | 39 => ⟨S4096, .i1⟩
  | 40 => ⟨S4096, .i1⟩
  | 41 => ⟨S4096, .i32⟩
  | 42 => ⟨S4096, .i32⟩
  | 43 => ⟨S4096, .i32⟩
  | 44 => ⟨S2x4352x1024, .f32⟩
  | 45 => ⟨S2x4352x8x128, .f32⟩
  | 46 => ⟨S2x4352x8x128, .f32⟩
  | 47 => ⟨S_, .f32⟩
  | 48 => ⟨S2x4352x8, .f32⟩
  | 49 => ⟨S2x4352x8x1, .f32⟩
  | 50 => ⟨S_, .f32⟩
  | 51 => ⟨S2x4352x8x1, .f32⟩
  | 52 => ⟨S2x4352x8x1, .f32⟩
  | 53 => ⟨S_, .f32⟩
  | 54 => ⟨S2x4352x8x1, .f32⟩
  | 55 => ⟨S2x4352x8x1, .f32⟩
  | 56 => ⟨S2x4352x8x1, .f32⟩
  | 57 => ⟨S2x4352x8x128, .f32⟩
  | 58 => ⟨S2x4352x8x128, .f32⟩
  | 59 => ⟨S1x1x1x128, .f32⟩
  | 60 => ⟨S2x4352x8x128, .f32⟩
  | 61 => ⟨S2x4352x8x128, .f32⟩
  | 62 => ⟨S2x4352x256, .f32⟩
  | 63 => ⟨S2x4352x2x128, .f32⟩
  | 64 => ⟨S2x4352x2x128, .f32⟩
  | 65 => ⟨S_, .f32⟩
  | 66 => ⟨S2x4352x2, .f32⟩
  | 67 => ⟨S2x4352x2x1, .f32⟩
  | 68 => ⟨S_, .f32⟩
  | 69 => ⟨S2x4352x2x1, .f32⟩
  | 70 => ⟨S2x4352x2x1, .f32⟩
  | 71 => ⟨S_, .f32⟩
  | 72 => ⟨S2x4352x2x1, .f32⟩
  | 73 => ⟨S2x4352x2x1, .f32⟩
  | 74 => ⟨S2x4352x2x1, .f32⟩
  | 75 => ⟨S2x4352x2x128, .f32⟩
  | 76 => ⟨S2x4352x2x128, .f32⟩
  | 77 => ⟨S1x1x1x128, .f32⟩
  | 78 => ⟨S2x4352x2x128, .f32⟩
  | 79 => ⟨S2x4352x2x128, .f32⟩
  | 80 => ⟨S2x4352x256, .f32⟩
  | 81 => ⟨S2x4352x2x128, .f32⟩
  | 82 => ⟨S_, .f32⟩
  | 83 => ⟨S2x4352x2x128, .f32⟩
  | 84 => ⟨S2x4352x2x256, .f32⟩
  | 85 => ⟨S2x4096x8x128, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S2x4096x8x64, .f32⟩
  | 95 => ⟨S4096, .f32⟩
  | 96 => ⟨S4096x1, .f32⟩
  | 97 => ⟨S1x32, .f32⟩
  | 98 => ⟨S4096x32, .f32⟩
  | 99 => ⟨S4096x32, .f32⟩
  | 100 => ⟨S4096x32, .f32⟩
  | 101 => ⟨S4096x32, .f32⟩
  | 102 => ⟨S1x4096x1x32, .f32⟩
  | 103 => ⟨S4096x32, .f32⟩
  | 104 => ⟨S1x4096x1x32, .f32⟩
  | 105 => ⟨S2x4096x8x32, .f32⟩
  | 106 => ⟨S2x4096x8x32, .f32⟩
  | 107 => ⟨S2x4096x8x32, .f32⟩
  | 108 => ⟨S2x4096x8x32, .f32⟩
  | 109 => ⟨S2x4096x8x32, .f32⟩
  | 110 => ⟨S2x4096x8x32, .f32⟩
  | 111 => ⟨S2x4096x8x32, .f32⟩
  | 112 => ⟨S2x4096x8x32, .f32⟩
  | 113 => ⟨S2x4096x8x32, .f32⟩
  | 114 => ⟨S2x4096x8x32, .f32⟩
  | 115 => ⟨S2x4096x8x32, .f32⟩
  | 116 => ⟨S2x4096x8x32, .f32⟩
  | 117 => ⟨S2x4096x8x64, .f32⟩
  | 118 => ⟨S2x4096x8x64, .f32⟩
  | 119 => ⟨S4096, .f32⟩
  | 120 => ⟨S4096x1, .f32⟩
  | 121 => ⟨S1x32, .f32⟩
  | 122 => ⟨S4096x32, .f32⟩
  | 123 => ⟨S4096x32, .f32⟩
  | 124 => ⟨S4096x32, .f32⟩
  | 125 => ⟨S4096x32, .f32⟩
  | 126 => ⟨S1x4096x1x32, .f32⟩
  | 127 => ⟨S4096x32, .f32⟩
  | _ => ⟨S2x4352x10752, .f32⟩

abbrev hbmTy0_1 (i : Nat) : BufTy := match i % 128 with
  | 0 => ⟨S1x4096x1x32, .f32⟩
  | 1 => ⟨S2x4096x8x32, .f32⟩
  | 2 => ⟨S2x4096x8x32, .f32⟩
  | 3 => ⟨S2x4096x8x32, .f32⟩
  | 4 => ⟨S2x4096x8x32, .f32⟩
  | 5 => ⟨S2x4096x8x32, .f32⟩
  | 6 => ⟨S2x4096x8x32, .f32⟩
  | 7 => ⟨S2x4096x8x32, .f32⟩
  | 8 => ⟨S2x4096x8x32, .f32⟩
  | 9 => ⟨S2x4096x8x32, .f32⟩
  | 10 => ⟨S2x4096x8x32, .f32⟩
  | 11 => ⟨S2x4096x8x32, .f32⟩
  | 12 => ⟨S2x4096x8x32, .f32⟩
  | 13 => ⟨S2x4096x8x64, .f32⟩
  | 14 => ⟨S2x4096x8x128, .f32⟩
  | 15 => ⟨S2x256x8x128, .f32⟩
  | 16 => ⟨S2x4352x8x128, .f32⟩
  | 17 => ⟨S_, .f32⟩
  | 18 => ⟨S2x4352x8x128, .f32⟩
  | 19 => ⟨S2x4352x8x128, .f32⟩
  | 20 => ⟨S2x4352x1024, .f32⟩
  | 21 => ⟨S2x4352x1024, .bf16⟩
  | 22 => ⟨S2x4096x2x128, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S2x4096x2x64, .f32⟩
  | 32 => ⟨S4096, .f32⟩
  | 33 => ⟨S4096x1, .f32⟩
  | 34 => ⟨S1x32, .f32⟩
  | 35 => ⟨S4096x32, .f32⟩
  | 36 => ⟨S4096x32, .f32⟩
  | 37 => ⟨S4096x32, .f32⟩
  | 38 => ⟨S4096x32, .f32⟩
  | 39 => ⟨S1x4096x1x32, .f32⟩
  | 40 => ⟨S4096x32, .f32⟩
  | 41 => ⟨S1x4096x1x32, .f32⟩
  | 42 => ⟨S2x4096x2x32, .f32⟩
  | 43 => ⟨S2x4096x2x32, .f32⟩
  | 44 => ⟨S2x4096x2x32, .f32⟩
  | 45 => ⟨S2x4096x2x32, .f32⟩
  | 46 => ⟨S2x4096x2x32, .f32⟩
  | 47 => ⟨S2x4096x2x32, .f32⟩
  | 48 => ⟨S2x4096x2x32, .f32⟩
  | 49 => ⟨S2x4096x2x32, .f32⟩
  | 50 => ⟨S2x4096x2x32, .f32⟩
  | 51 => ⟨S2x4096x2x32, .f32⟩
  | 52 => ⟨S2x4096x2x32, .f32⟩
  | 53 => ⟨S2x4096x2x32, .f32⟩
  | 54 => ⟨S2x4096x2x64, .f32⟩
  | 55 => ⟨S2x4096x2x64, .f32⟩
  | 56 => ⟨S4096, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x32, .f32⟩
  | 63 => ⟨S1x4096x1x32, .f32⟩
  | 64 => ⟨S4096x32, .f32⟩
  | 65 => ⟨S1x4096x1x32, .f32⟩
  | 66 => ⟨S2x4096x2x32, .f32⟩
  | 67 => ⟨S2x4096x2x32, .f32⟩
  | 68 => ⟨S2x4096x2x32, .f32⟩
  | 69 => ⟨S2x4096x2x32, .f32⟩
  | 70 => ⟨S2x4096x2x32, .f32⟩
  | 71 => ⟨S2x4096x2x32, .f32⟩
  | 72 => ⟨S2x4096x2x32, .f32⟩
  | 73 => ⟨S2x4096x2x32, .f32⟩
  | 74 => ⟨S2x4096x2x32, .f32⟩
  | 75 => ⟨S2x4096x2x32, .f32⟩
  | 76 => ⟨S2x4096x2x32, .f32⟩
  | 77 => ⟨S2x4096x2x32, .f32⟩
  | 78 => ⟨S2x4096x2x64, .f32⟩
  | 79 => ⟨S2x4096x2x128, .f32⟩
  | 80 => ⟨S2x256x2x128, .f32⟩
  | 81 => ⟨S2x4352x2x128, .f32⟩
  | 82 => ⟨S2x4352x256, .f32⟩
  | 83 => ⟨S2x4352x256, .bf16⟩
  | 84 => ⟨S2x4352x512, .f32⟩
  | 85 => ⟨S2x4352x512, .bf16⟩
  | _ => ⟨S2x4352x10752, .f32⟩

abbrev hbmTy (i : Nat) : BufTy := match i / 128 with
  | 0 => hbmTy0_0 i
  | 1 => hbmTy0_1 i
  | _ => ⟨S2x4352x10752, .f32⟩

abbrev bufTy : (tb : Table) → Fin (tcTables nBuf tb) → BufTy
  | .hbm, ⟨i, _⟩ => hbmTy i
  | _, _ => ⟨S2x4352x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_v9 : Ref sig .tc := ⟨.hbm, 52, rfl⟩
abbrev main_cst_2 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_3 : Ref sig .tc := ⟨.hbm, 65, rfl⟩
abbrev main_v21 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩
abbrev main_v24 : Ref sig .tc := ⟨.hbm, 70, rfl⟩
abbrev main_cst_5 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_9 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_10 : Ref sig .tc := ⟨.hbm, 153, rfl⟩
abbrev main_v102 : Ref sig .tc := ⟨.hbm, 154, rfl⟩
abbrev main_v103 : Ref sig .tc := ⟨.hbm, 155, rfl⟩
abbrev main_cst_11 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]
-- ==== Proof.Softmax.lean ====
/-
  Hand-written, untrusted. The weighted average of attention over the extended reals: the row's scores `s`, their greatest value,
  the weights `exp (s j - greatest)`, and the average of the values under these weights. A kernel divides the weighted sum by the
  sum of the weights; a reference divides each weight first. Over finite scores the two agree, whatever the values are.
-/
module

public import Idealize.ShloMosaic.PureOps.Ideal
public import Mathlib.Algebra.BigOperators.Fin

@[expose] public section

noncomputable section

namespace Cert.Attention

open Idealize.ShloMosaic

variable {ι κ : Type} [Fintype ι] [Fintype κ]

/-- The extended real is a real number. -/
def IsReal (x : EReal) : Prop := ∃ r : ℝ, x = (r : EReal)

/-- The greatest score of a row, from below everything. -/
def greatest (s : ι → EReal) : EReal := Finset.univ.fold max ⊥ s

/-- The weight of key `j` before it is normalised. -/
def weight (s : ι → EReal) (j : ι) : EReal := Ideal.exp (s j - greatest s)

/-- The weighted sum of the values over the sum of the weights. -/
def average (s v : ι → EReal) : EReal := Ideal.div (∑ j, weight s j * v j) (∑ j, weight s j)

theorem greatest_equiv (e : κ ≃ ι) (s : ι → EReal) : greatest (fun j => s (e j)) = greatest s := by
  have h : (Finset.univ : Finset ι) = Finset.univ.map e.toEmbedding := by simp
  unfold greatest
  rw [h, Finset.fold_map]
  rfl

/-- The order of the keys does not matter. -/
theorem average_equiv (e : κ ≃ ι) (s v : ι → EReal) : average (fun j => s (e j)) (fun j => v (e j)) = average s v := by
  unfold average weight
  rw [greatest_equiv]
  congr 1
  · exact Equiv.sum_comp e (fun j => Ideal.exp (s j - greatest s) * v j)
  · exact Equiv.sum_comp e (fun j => Ideal.exp (s j - greatest s))

theorem greatest_isReal [Nonempty ι] (s : ι → EReal) (h : ∀ j, IsReal (s j)) : IsReal (greatest s) := by
  classical
  choose r hr using h
  obtain rfl : s = fun j => (r j : EReal) := funext hr
  have key : ∀ t : Finset ι, t.fold max ⊥ (fun j => (r j : EReal)) = ⊥ ∧ t = ∅ ∨ IsReal (t.fold max ⊥ (fun j => (r j : EReal))) := by
    intro t
    induction t using Finset.induction_on with
    | empty => exact .inl ⟨rfl, rfl⟩
    | insert a t ha ih =>
      right
      rw [Finset.fold_insert ha]
      rcases ih with ⟨ih, _⟩ | ⟨x, ih⟩
      · rw [ih]; exact ⟨r a, by simp⟩
      · rw [ih]; exact ⟨max (r a) x, (EReal.coe_strictMono.monotone.map_max).symm⟩
  rcases key Finset.univ with ⟨_, h⟩ | h
  · exact absurd h Finset.univ_nonempty.ne_empty
  · exact h

theorem sum_coe (s : Finset ι) (r : ι → ℝ) : (∑ j ∈ s, (r j : EReal)) = ((∑ j ∈ s, r j : ℝ) : EReal) := by
  classical
  induction s using Finset.induction_on with
  | empty => simp
  | insert a s ha ih => rw [Finset.sum_insert ha, Finset.sum_insert ha, ih, EReal.coe_add]

/-- A real factor passes through a sum of extended reals when it is not negative. -/
theorem sum_mul_coe (s : Finset ι) (x : ι → EReal) (c : ℝ) (hc : 0 ≤ c) : (∑ j ∈ s, x j) * (c : EReal) = ∑ j ∈ s, x j * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem weight_sum [Nonempty ι] (s : ι → EReal) (h : ∀ j, IsReal (s j)) : ∃ D : ℝ, 0 < D ∧ (∑ j, weight s j) = (D : EReal) := by
  obtain ⟨m, hm⟩ := greatest_isReal s h
  choose r hr using h
  refine ⟨∑ j, Real.exp (r j - m), Finset.sum_pos (fun j _ => Real.exp_pos _) Finset.univ_nonempty, ?_⟩
  rw [← sum_coe]
  refine Finset.sum_congr rfl fun j _ => ?_
  rw [weight, hm, hr j, ← EReal.coe_sub]
  rfl

/-- Dividing the weighted sum once is averaging under the normalised weights. -/
theorem average_eq [Nonempty ι] (s v : ι → EReal) (h : ∀ j, IsReal (s j)) :
    average s v = ∑ j, v j * Ideal.div (weight s j) (∑ i, weight s i) := by
  obtain ⟨D, hD, e⟩ := weight_sum s h
  unfold average
  rw [e, Ideal.div_coe hD.ne', sum_mul_coe _ _ _ (by positivity)]
  refine Finset.sum_congr rfl fun j _ => ?_
  rw [Ideal.div_coe hD.ne', mul_comm (weight s j) (v j), mul_assoc]

/-- Scaling the query before the product with a key scales the product. -/
theorem scaled_score (q k : κ → EReal) (c : EReal) (hq : ∀ d, IsReal (q d)) (hk : ∀ d, IsReal (k d)) (hc : IsReal c) :
    ∑ d, (q d * c) * k d = (∑ d, k d * q d) * c ∧ IsReal (∑ d, (q d * c) * k d) := by
  choose a ha using hq
  choose b hb using hk
  obtain ⟨c, rfl⟩ := hc
  have l : ∑ d, (q d * (c : EReal)) * k d = ((∑ d, (a d * c) * b d : ℝ) : EReal) := by
    rw [← sum_coe]; exact Finset.sum_congr rfl fun d _ => by rw [ha, hb]; push_cast; rfl
  have r : ∑ d, k d * q d = ((∑ d, b d * a d : ℝ) : EReal) := by
    rw [← sum_coe]; exact Finset.sum_congr rfl fun d _ => by rw [ha, hb]; push_cast; rfl
  refine ⟨?_, _, l⟩
  rw [l, r, ← EReal.coe_mul, Finset.sum_mul]
  exact congrArg _ (Finset.sum_congr rfl fun d _ => by ring)

end Cert.Attention

end
-- ==== Proof.Head.lean ====
/-
  Hand-written, untrusted. One head of an attention kernel at the ideal instance, at any extents: the row weights of a block of
  scores, and the quotient of the two halves of the product with the values, whose second half holds ones.
-/
module

public import proofs.«01_k».proof.Proof.Softmax
public import Idealize.ShloMosaic.Lib.Pipeline.Value
public import Idealize.ShloMosaic.Lib.ValueIdx
public import Idealize.ShloMosaic.Lib.MatmulPlain
public import Idealize.ShloMosaic.Lib.IdealHost

@[expose] public section

noncomputable section

namespace Cert.Attention

open Idealize.ShloMosaic Idealize.ShloMosaic.ValueIdx

variable {M N D E : ℕ}

theorem negInf_f32 : Ideal.ofBits .f32 0xFF800000#32 = ⊥ := by
  simp [Ideal.ofBits, Ideal.ieee]

theorem row_cast {α : Type} (x : (⟨1, ![M]⟩ : Shape).Idx → α) (h : (⟨1, ![M]⟩ : Shape).ShapeCasts ⟨2, ![M, 1]⟩) (r : Fin M) (z : Fin 1) :
    shapeCast ⟨2, ![M, 1]⟩ x h (ix2 r z) = x (ix1 r) := by
  refine shapeCast_apply x h _ _ ?_
  rw [Shape.rowMajor_val_one, Shape.rowMajor_val_two]
  show r.val = r.val * 1 + z.val
  omega

theorem row_spread {α : Type} (x : (⟨2, ![M, 1]⟩ : Shape).Idx → α) (h : (⟨2, ![M, 1]⟩ : Shape).Broadcasts ⟨2, ![M, N]⟩) (r : Fin M) (j : Fin N) :
    broadcastTo ⟨2, ![M, N]⟩ x h (ix2 r j) = x (ix2 r 0) := by
  refine broadcastTo_apply x h _ _ fun a => ?_
  match a with
  | ⟨0, _⟩ =>
    show r.val = if M = 1 then 0 else r.val
    split
    · have := r.isLt; omega
    · rfl
  | ⟨1, _⟩ => rfl

/-- The greatest score of each row, as the kernel's reduction finds it. -/
theorem row_greatest (s : FVec Ideal ⟨2, ![M, N]⟩ .f32) (h : (⟨2, ![M, N]⟩ : Shape).Reduces [1] ⟨1, ![M]⟩) (hφ : FKind.Formats .f32)
    (hacc : 0xFF800000#32 = FKind.maximumf.neutral .f32 hφ) (r : Fin M) :
    multiReduction .maximumf [1] ⟨1, ![M]⟩ s 0xFF800000#32 h hφ hacc (ix1 r) = greatest fun j => s (ix2 r j) := by
  rw [Ideal.multiReduction_maximumf_single]
  show Finset.univ.fold max (Ideal.ofBits .f32 0xFF800000#32) (s ∘ h.lift (ix1 r)) = _
  rw [negInf_f32]
  unfold greatest
  congr 1
  funext j
  refine congrArg s (funext fun a => Fin.ext ?_)
  rw [Shape.Reduces.lift_val]
  match a with
  | ⟨0, _⟩ => rfl
  | ⟨1, _⟩ => rfl

/-- The weights a kernel computes from a block of scores. -/
theorem weights_apply (s : FVec Ideal ⟨2, ![M, N]⟩ .f32) (h : (⟨2, ![M, N]⟩ : Shape).Reduces [1] ⟨1, ![M]⟩) (hφ : FKind.Formats .f32)
    (hacc : 0xFF800000#32 = FKind.maximumf.neutral .f32 hφ) (h1 : (⟨1, ![M]⟩ : Shape).ShapeCasts ⟨2, ![M, 1]⟩)
    (h2 : (⟨2, ![M, 1]⟩ : Shape).Broadcasts ⟨2, ![M, N]⟩) (h3 : FTy.bf16.bits < FTy.f32.bits) (r : Fin M) (j : Fin N) :
    exp (truncf .bf16 (subf s (broadcastTo ⟨2, ![M, N]⟩ (shapeCast ⟨2, ![M, 1]⟩
      (multiReduction .maximumf [1] ⟨1, ![M]⟩ s 0xFF800000#32 h hφ hacc) h1) h2)) h3) (ix2 r j) = weight (fun j => s (ix2 r j)) j := by
  show Ideal.exp (s (ix2 r j) - broadcastTo ⟨2, ![M, N]⟩ _ h2 (ix2 r j)) = _
  rw [row_spread, row_cast, row_greatest]
  rfl

/-- One head: the scores of the block's rows against the keys, the weights, the product with the extended values, the quotient of
    its two halves, and the gate. -/
def head {G : ℕ} (q : FVec Ideal ⟨3, ![1, M, D]⟩ .bf16) (k : FVec Ideal ⟨3, ![1, N, D]⟩ .bf16) (v : FVec Ideal ⟨3, ![1, N, G]⟩ .bf16)
    (g : FVec Ideal ⟨3, ![1, M, E]⟩ .bf16) (cq : (⟨3, ![1, M, D]⟩ : Shape).ShapeCasts ⟨2, ![M, D]⟩)
    (ck : (⟨3, ![1, N, D]⟩ : Shape).ShapeCasts ⟨2, ![N, D]⟩) (cv : (⟨3, ![1, N, G]⟩ : Shape).ShapeCasts ⟨2, ![N, G]⟩)
    (cg : (⟨3, ![1, M, E]⟩ : Shape).ShapeCasts ⟨2, ![M, E]⟩) (co : (⟨2, ![M, E]⟩ : Shape).ShapeCasts ⟨3, ![1, M, E]⟩)
    (h : (⟨2, ![M, N]⟩ : Shape).Reduces [1] ⟨1, ![M]⟩) (h1 : (⟨1, ![M]⟩ : Shape).ShapeCasts ⟨2, ![M, 1]⟩)
    (h2 : (⟨2, ![M, 1]⟩ : Shape).Broadcasts ⟨2, ![M, N]⟩) (s0 : (⟨2, ![M, G]⟩ : Shape).Slices ![0, 0] ⟨2, ![M, E]⟩)
    (s1 : (⟨2, ![M, G]⟩ : Shape).Slices ![0, E] ⟨2, ![M, E]⟩) (b : FTy.bf16.bits < FTy.f32.bits) : FVec Ideal ⟨3, ![1, M, E]⟩ .bf16 :=
  have s := matmul (DotDims.transposedRhs M D N) none (shapeCast ⟨2, ![M, D]⟩ q cq) (shapeCast ⟨2, ![N, D]⟩ k ck)
    (constant ⟨2, ![M, N]⟩ .f32 0x00000000#32)
  have w : FVec Ideal ⟨2, ![M, N]⟩ .bf16 := exp (truncf .bf16 (subf s (broadcastTo ⟨2, ![M, N]⟩ (shapeCast ⟨2, ![M, 1]⟩
      (multiReduction .maximumf [1] ⟨1, ![M]⟩ s 0xFF800000#32 h (.inl rfl) rfl) h1) h2)) b)
  have p := matmul (DotDims.plain M N G) none w (shapeCast ⟨2, ![N, G]⟩ v cv) (constant ⟨2, ![M, G]⟩ .f32 0x00000000#32)
  have z := extf .f32 (shapeCast ⟨2, ![M, E]⟩ g cg) b
  shapeCast ⟨3, ![1, M, E]⟩ (truncf .bf16 (mulf (divf (extractStridedSlice ⟨2, ![M, E]⟩ ![0, 0] p s0)
    (extractStridedSlice ⟨2, ![M, E]⟩ ![0, E] p s1)) (mulf z (logistic z))) b) co

/-- The gate's factor. -/
def silu (x : EReal) : EReal := x * Ideal.logistic x

theorem head_apply {G : ℕ} (q : FVec Ideal ⟨3, ![1, M, D]⟩ .bf16) (k : FVec Ideal ⟨3, ![1, N, D]⟩ .bf16) (v : FVec Ideal ⟨3, ![1, N, G]⟩ .bf16)
    (g : FVec Ideal ⟨3, ![1, M, E]⟩ .bf16) (cq) (ck) (cv) (cg) (co) (h) (h1) (h2) (s0) (s1) (b) (hG : E + E ≤ G) (x : Fin 1) (r : Fin M) (e : Fin E)
    (ones : ∀ j : Fin N, v (ix3 0 j ⟨E + e.val, by omega⟩) = 1) :
    head q k v g cq ck cv cg co h h1 h2 s0 s1 b (ix3 x r e) =
      average (fun j : Fin N => ∑ d : Fin D, q (ix3 0 r d) * k (ix3 0 j d)) (fun j => v (ix3 0 j ⟨e.val, by omega⟩)) * silu (g (ix3 0 r e)) := by
  have drop : ∀ {A B : ℕ} (y : (⟨3, ![1, A, B]⟩ : Shape).Idx → EReal) (c : (⟨3, ![1, A, B]⟩ : Shape).ShapeCasts ⟨2, ![A, B]⟩) (i : Fin A) (j : Fin B),
      shapeCast ⟨2, ![A, B]⟩ y c (ix2 i j) = y (ix3 0 i j) := by
    intro A B y c i j
    refine shapeCast_apply y c _ _ ?_
    rw [Shape.rowMajor_val_three, Shape.rowMajor_val_two]
    show (0 * A + i.val) * B + j.val = i.val * B + j.val
    simp
  have half : ∀ (o : ℕ) (so : (⟨2, ![M, G]⟩ : Shape).Slices ![0, o] ⟨2, ![M, E]⟩) (ho : o + e.val < G) (p : FVec Ideal ⟨2, ![M, G]⟩ .f32),
      extractStridedSlice ⟨2, ![M, E]⟩ ![0, o] p so (ix2 r e) = p (ix2 r ⟨o + e.val, ho⟩) := by
    intro o so ho p
    refine extractStridedSlice_apply _ p so _ _ fun a => ?_
    match a with
    | ⟨0, _⟩ => exact (Nat.zero_add _).symm
    | ⟨1, _⟩ => rfl
  unfold head
  rw [shapeCast_apply (k := ix2 r e) (hk := by
    rw [Shape.rowMajor_val_three, Shape.rowMajor_val_two]
    show r.val * E + e.val = (x.val * M + r.val) * E + e.val
    have : x.val = 0 := by omega
    rw [this]; simp)]
  show Ideal.div (extractStridedSlice _ _ _ _ (ix2 r e)) (extractStridedSlice _ _ _ _ (ix2 r e)) * silu (shapeCast ⟨2, ![M, E]⟩ g cg (ix2 r e)) = _
  rw [half 0 _ (by omega), half E _ (by omega), drop g]
  have pv : ∀ (w : FVec Ideal ⟨2, ![M, N]⟩ .bf16) (c : Fin G),
      matmul (DotDims.plain M N G) none w (shapeCast ⟨2, ![N, G]⟩ v cv) (constant ⟨2, ![M, G]⟩ .f32 0x00000000#32) (ix2 r c)
        = ∑ j : Fin N, w (ix2 r j) * v (ix3 0 j c) := by
    intro w c
    refine (Ideal.matmul_plain_apply none w _ _ r c).trans ?_
    rw [constant_apply, Ideal.ofBits_zero_f32, zero_add]
    exact Finset.sum_congr rfl fun j _ => by rw [drop v]
  have sc : ∀ j, matmul (DotDims.transposedRhs M D N) none (shapeCast ⟨2, ![M, D]⟩ q cq) (shapeCast ⟨2, ![N, D]⟩ k ck)
      (constant ⟨2, ![M, N]⟩ .f32 0x00000000#32) (ix2 r j) = ∑ d : Fin D, q (ix3 0 r d) * k (ix3 0 j d) := by
    intro j
    refine (Ideal.matmul_transposedRhs_apply none _ _ _ r j).trans ?_
    rw [constant_apply, Ideal.ofBits_zero_f32, zero_add]
    exact Finset.sum_congr rfl fun d _ => by rw [drop q, drop k]
  rw [pv, pv]
  unfold average
  refine congrArg (· * silu _) (congrArg₂ Ideal.div (Finset.sum_congr rfl fun j _ => ?_) (Finset.sum_congr rfl fun j _ => ?_))
  · simp only [Nat.zero_add]
    refine congrArg (· * v _) ((weights_apply _ h _ _ h1 h2 b r j).trans ?_)
    simp only [sc]
  · rw [ones, mul_one]
    refine (weights_apply _ h _ _ h1 h2 b r j).trans ?_
    simp only [sc]

end Cert.Attention

end
-- ==== Proof.Attend.lean ====
/-
  Hand-written, untrusted. What a grouped-query attention call writes at one place of its block, named by natural coordinates: the
  rows' scores against the keys from row `o` on, the average of the values under the weights, times the gate. `piece` says that one
  head's store holds it, at any extents.
-/
module

public import proofs.«01_k».proof.Proof.Head
public import Idealize.ShloMosaic.Lib.Pipeline.ValueKit.Tiles

@[expose] public section

noncomputable section

namespace Cert.Attention

open Idealize.ShloMosaic Idealize.ShloMosaic.ValueIdx

/-- An array of rank three read at natural coordinates, zero outside. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem at3_eq {A B C : ℕ} (x : (⟨3, ![A, B, C]⟩ : Shape).Idx → EReal) (y : (⟨3, ![A, B, C]⟩ : Shape).Idx) (a b c : ℕ)
    (ha : (y 0).val = a) (hb : (y 1).val = b) (hc : (y 2).val = c) : x y = at3 x a b c := by
  subst ha hb hc
  have h0 : (y 0).val < A := (y 0).isLt
  have h1 : (y 1).val < B := (y 1).isLt
  have h2 : (y 2).val < C := (y 2).isLt
  unfold at3
  rw [dif_pos ⟨h0, h1, h2⟩]
  exact congrArg x (eq_ix3 y)

theorem at3_of {A B C : ℕ} (x : (⟨3, ![A, B, C]⟩ : Shape).Idx → EReal) (a b c : ℕ) (ha : a < A) (hb : b < B) (hc : c < C) :
    at3 x a b c = x (ix3 ⟨a, ha⟩ ⟨b, hb⟩ ⟨c, hc⟩) := dif_pos ⟨ha, hb, hc⟩

/-- The attention's entry at row `r` and column `c`: `N` keys from row `o` on, heads of width 128 on the value side and `D` on the
    key side, `p` query heads to one key head, values interleaved with as many ones. -/
def attend (N o D p : ℕ) (q k v g : ℕ → ℕ → EReal) (r c : ℕ) : EReal :=
  average (fun j : Fin N => ∑ d : Fin D, q r (c / 128 * D + d.val) * k (o + j.val) (c / 128 / p * D + d.val))
    (fun j => v (o + j.val) (c / 128 / p * 256 + c % 128)) * silu (g r c)

theorem piece {M N T D p o t : ℕ} {W0 W1 W2 W3 : ℕ} (x0 : FVec Ideal ⟨3, ![1, M, W0]⟩ .bf16) (x1 : FVec Ideal ⟨3, ![1, T, W1]⟩ .bf16)
    (x2 : FVec Ideal ⟨3, ![1, T, W2]⟩ .bf16) (x3 : FVec Ideal ⟨3, ![1, M, W3]⟩ .bf16) {oq ok ov og : ℕ}
    (hq : oq = t * D) (hk : ok = t / p * D) (hv : ov = t / p * 256) (hg : og = t * 128) (iq : ∀ a, (![0, 0, oq] : Fin 3 → ℕ) a + (![1, M, D] : Fin 3 → ℕ) a ≤ (![1, M, W0] : Fin 3 → ℕ) a)
    (ik : ∀ a, (![0, o, ok] : Fin 3 → ℕ) a + (![1, N, D] : Fin 3 → ℕ) a ≤ (![1, T, W1] : Fin 3 → ℕ) a)
    (iv : ∀ a, (![0, o, ov] : Fin 3 → ℕ) a + (![1, N, 256] : Fin 3 → ℕ) a ≤ (![1, T, W2] : Fin 3 → ℕ) a)
    (ig : ∀ a, (![0, 0, og] : Fin 3 → ℕ) a + (![1, M, 128] : Fin 3 → ℕ) a ≤ (![1, M, W3] : Fin 3 → ℕ) a)
    (cq) (ck) (cv) (cg) (co) (h) (h1) (h2) (s0) (s1) (b)
    (ones : ∀ j l : ℕ, j < T → l < W2 → 128 ≤ l % 256 → at3 x2 0 j l = 1) (y : (⟨3, ![1, M, 128]⟩ : Shape).Idx) :
    head (M := M) (N := N) (D := D) (E := 128) (G := 256) (View.ld (Val := Elt Ideal) (e' := .bf16) x0 (Rect.unit (s := ⟨3, ![1, M, W0]⟩) ![0, 0, oq] ![1, M, D] iq))
      (View.ld (Val := Elt Ideal) (e' := .bf16) x1 (Rect.unit (s := ⟨3, ![1, T, W1]⟩) ![0, o, ok] ![1, N, D] ik))
      (View.ld (Val := Elt Ideal) (e' := .bf16) x2 (Rect.unit (s := ⟨3, ![1, T, W2]⟩) ![0, o, ov] ![1, N, 256] iv))
      (View.ld (Val := Elt Ideal) (e' := .bf16) x3 (Rect.unit (s := ⟨3, ![1, M, W3]⟩) ![0, 0, og] ![1, M, 128] ig)) cq ck cv cg co h h1 h2 s0 s1 b y
      = attend N o D p (at3 x0 0) (at3 x1 0) (at3 x2 0) (at3 x3 0) (y 1).val (og + (y 2).val) := by
  have ld : ∀ {B C B' C' : ℕ} (x : FVec Ideal ⟨3, ![1, B, C]⟩ .bf16) (u w : ℕ) (inb) (i : Fin B') (j : Fin C'),
      View.ld (Val := Elt Ideal) (e' := .bf16) x (Rect.unit (s := ⟨3, ![1, B, C]⟩) ![0, u, w] ![1, B', C'] inb) (ix3 0 i j)
        = at3 x 0 (u + i.val) (w + j.val) := by
    intro B C B' C' x u w inb i j
    refine at3_eq x _ _ _ _ ?_ ?_ ?_
    · rfl
    · show u + 1 * i.val = _; omega
    · show w + 1 * j.val = _; omega
  obtain ⟨a, r, e, rfl⟩ : ∃ (a : Fin 1) (r : Fin M) (e : Fin 128), y = ix3 a r e := ⟨y 0, y 1, y 2, eq_ix3 y⟩
  show _ = attend N o D p (at3 x0 0) (at3 x1 0) (at3 x2 0) (at3 x3 0) r.val (og + e.val)
  have e1 : (og + e.val) / 128 = t := by omega
  have e2 : (og + e.val) % 128 = e.val := by omega
  refine (head_apply _ _ _ _ cq ck cv cg co h h1 h2 s0 s1 b (by omega) a r e ?_).trans ?_
  · intro j
    have j1 : o + N ≤ T := iv 1
    have j2 : ov + 256 ≤ W2 := iv 2
    refine (ld x2 o ov iv j _).trans (ones _ _ (by have := j.isLt; omega) ?_ ?_)
    · show ov + (128 + e.val) < W2; omega
    · show 128 ≤ (ov + (128 + e.val)) % 256; omega
  · unfold attend
    rw [e1, e2, ← hq, ← hk, ← hv]
    refine congrArg₂ (· * ·) (congrArg₂ average (funext fun j => Finset.sum_congr rfl fun d _ => congrArg₂ (· * ·) ?_ ?_) (funext fun j => ?_))
      (congrArg silu ?_)
    · exact (ld x0 0 oq iq r d).trans (by rw [Nat.zero_add])
    · exact ld x1 o ok ik j d
    · exact ld x2 o ov iv j _
    · exact (ld x3 0 og ig r e).trans (by rw [Nat.zero_add])

/-- A place inside a store's rectangle is the rectangle's corner plus the local place. -/
theorem place (f : ℕ → ℕ → EReal) (r o e : ℕ) : f r (o + e) = f (0 + 1 * r) (o + 1 * e) := by
  rw [Nat.zero_add, Nat.one_mul, Nat.one_mul]

/-- The attention at a place reads one row of the queries, the heads' columns of the keys and values and one entry of the gate. -/
theorem attend_congr {N o D p T W0 W1 W2 r r' c : ℕ} {q k v g q' k' v' g' : ℕ → ℕ → EReal} (iq : c / 128 * D + D ≤ W0)
    (ik : c / 128 / p * D + D ≤ W1) (iv : c / 128 / p * 256 + 256 ≤ W2) (io : o + N ≤ T) (hq : ∀ l, l < W0 → q r l = q' r' l)
    (hk : ∀ j l, j < T → l < W1 → k j l = k' j l) (hv : ∀ j l, j < T → l < W2 → l % 256 < 128 → v j l = v' j l) (hg : g r c = g' r' c) :
    attend N o D p q k v g r c = attend N o D p q' k' v' g' r' c := by
  unfold attend
  refine congrArg₂ (· * ·) (congrArg₂ average (funext fun j => Finset.sum_congr rfl fun d _ => congrArg₂ (· * ·) ?_ ?_) (funext fun j => ?_))
    (congrArg silu hg)
  · exact hq _ (by have := d.isLt; omega)
  · exact hk _ _ (by have := j.isLt; omega) (by have := d.isLt; omega)
  · exact hv _ _ (by have := j.isLt; omega) (by have : c % 128 < 128 := Nat.mod_lt _ (by omega); omega) (by omega)

end Cert.Attention

end
-- ==== Proof.Order.lean ====
/-
  Hand-written, untrusted. The order in which a reference's latents meet their keys, the context first, as a permutation of the rows;
  and an array of real numbers read at natural coordinates.
-/
module

public import proofs.«01_k».proof.Proof.Attend

@[expose] public section

noncomputable section

namespace Cert.Attention

open Idealize.ShloMosaic

/-- The row key `j` of a latent's attention comes from: the context first, then the latents. -/
def key (j : ℕ) : ℕ := if j < 256 then 4096 + j else j - 256

/-- The reference's order of a latent's keys as a permutation: the context, rows 4096 to 4351, first. -/
def keyOrder : Fin 4352 ≃ Fin 4352 where
  toFun j := ⟨key j.val, by have := j.isLt; unfold key; split <;> omega⟩
  invFun j := ⟨if j.val < 4096 then j.val + 256 else j.val - 4096, by have := j.isLt; split <;> omega⟩
  left_inv j := by
    have := j.isLt
    refine Fin.ext ?_
    show (if key j.val < 4096 then key j.val + 256 else key j.val - 4096) = j.val
    unfold key
    split <;> split <;> omega
  right_inv j := by
    have := j.isLt
    refine Fin.ext ?_
    show key (if j.val < 4096 then j.val + 256 else j.val - 4096) = j.val
    unfold key
    split <;> split <;> omega

theorem isReal_at3 {A B C : ℕ} (x : (⟨3, ![A, B, C]⟩ : Shape).Idx → EReal) (hx : ∀ i, IsReal (x i)) (a b c : ℕ) : IsReal (at3 x a b c) := by
  unfold at3
  split
  · exact hx _
  · exact ⟨0, rfl⟩

end Cert.Attention

end
-- ==== Proof.Reads.lean ====
/-
  Hand-written, untrusted. The reference's operands of its two attentions, at natural coordinates: the queries by heads, the keys and
  values by heads with the context put before the latents, the gate.
-/
module

public import proofs.«01_k».proof.Proof.Gen.ReferenceIdeal.Read
public import proofs.«01_k».proof.Proof.Order
public import Idealize.ShloMosaic.Lib.IdealHost

@[expose] public section

set_option maxRecDepth 16384

noncomputable section

namespace Cert.Attention

open Cert.ReferenceIdeal Cert.ReferenceIdeal.Read Idealize.ShloMosaic

variable (x : FVec Ideal S2x4352x256 .f32) (q : FVec Ideal S2x4352x1024 .f32) (p : FVec Ideal S2x4352x10752 .f32)

theorem heads_k (i : S2x4352x2x128.Idx) : val_main_v2 (F := Ideal) x i = at3 (A := 2) (B := 4352) (C := 256) x (i 0).val (i 1).val ((i 2).val * 128 + (i 3).val) := by
  have h0 : (i 0).val < 2 := (i 0).isLt
  have h1 : (i 1).val < 4352 := (i 1).isLt
  have h2 : (i 2).val < 2 := (i 2).isLt
  have h3 : (i 3).val < 128 := (i 3).isLt
  rw [val_main_v2_apply]
  refine at3_eq _ _ _ _ _ ?_ ?_ ?_ <;> dsimp only [idx_main_v2] <;> omega

theorem heads_q (i : S2x4352x8x128.Idx) : val_main_v1 (F := Ideal) q i = at3 (A := 2) (B := 4352) (C := 1024) q (i 0).val (i 1).val ((i 2).val * 128 + (i 3).val) := by
  have h0 : (i 0).val < 2 := (i 0).isLt
  have h1 : (i 1).val < 4352 := (i 1).isLt
  have h2 : (i 2).val < 8 := (i 2).isLt
  have h3 : (i 3).val < 128 := (i 3).isLt
  rw [val_main_v1_apply]
  refine at3_eq _ _ _ _ _ ?_ ?_ ?_ <;> dsimp only [idx_main_v1] <;> omega

theorem keys_latents (i : S2x4352x2x128.Idx) :
    val_main_v12 (F := Ideal) x i = at3 (A := 2) (B := 4352) (C := 256) x (i 0).val (key (i 1).val) ((i 2).val * 128 + (i 3).val) := by
  have h1 : (i 1).val < 4352 := (i 1).isLt
  unfold val_main_v12 key
  by_cases h : (i 1).val < 256
  · refine (concatenate_pair_apply_left (t := S2x4352x2x128) (s₁ := S2x256x2x128) (s₂ := S2x4096x2x128) _ _ _ _ i rfl
      (ValueIdx.ix4 (i 0) (⟨(i 1).val, h⟩ : Fin 256) (i 2) (i 3)) ?_).trans ?_
    · intro a; fin_cases a <;> rfl
    · rw [val_main_v9_apply, heads_k, if_pos h]
  · refine (concatenate_pair_apply_right (t := S2x4352x2x128) (s₁ := S2x256x2x128) (s₂ := S2x4096x2x128) _ _ _ _ i rfl rfl
      (ValueIdx.ix4 (i 0) (⟨(i 1).val - 256, by omega⟩ : Fin 4096) (i 2) (i 3)) ?_ ?_).trans ?_
    · intro a ha; fin_cases a <;> first | rfl | exact absurd rfl ha
    · show (i 1).val - 256 + 256 = (i 1).val; omega
    · rw [val_main_v5_apply, heads_k, if_neg h]

/-- The values are laid out as the keys are. -/
theorem values_latents : val_main_v13 (F := Ideal) x = val_main_v12 (F := Ideal) x := rfl

theorem keys_context (i : S2x256x2x128.Idx) :
    val_main_v9 (F := Ideal) x i = at3 (A := 2) (B := 4352) (C := 256) x (i 0).val (4096 + (i 1).val) ((i 2).val * 128 + (i 3).val) := by
  rw [val_main_v9_apply, heads_k]

theorem values_context : val_main_v10 (F := Ideal) x = val_main_v9 (F := Ideal) x := rfl

theorem queries_latents (i : S2x4096x2x4x128.Idx) :
    val_main_v14 (F := Ideal) q i = at3 (A := 2) (B := 4352) (C := 1024) q (i 0).val (i 1).val (((i 2).val * 4 + (i 3).val) * 128 + (i 4).val) := by
  have h0 : (i 0).val < 2 := (i 0).isLt
  have h1 : (i 1).val < 4096 := (i 1).isLt
  have h2 : (i 2).val < 2 := (i 2).isLt
  have h3 : (i 3).val < 4 := (i 3).isLt
  have h4 : (i 4).val < 128 := (i 4).isLt
  rw [val_main_v14_apply, val_main_v4_apply, heads_q]
  congr 1 <;> dsimp only [idx_main_v4, idx_main_v14] <;> omega

theorem queries_context (i : S2x256x2x4x128.Idx) :
    val_main_v35 (F := Ideal) q i = at3 (A := 2) (B := 4352) (C := 1024) q (i 0).val (4096 + (i 1).val) (((i 2).val * 4 + (i 3).val) * 128 + (i 4).val) := by
  have h0 : (i 0).val < 2 := (i 0).isLt
  have h1 : (i 1).val < 256 := (i 1).isLt
  have h2 : (i 2).val < 2 := (i 2).isLt
  have h3 : (i 3).val < 4 := (i 3).isLt
  have h4 : (i 4).val < 128 := (i 4).isLt
  rw [val_main_v35_apply, val_main_v8_apply, heads_q]
  congr 1 <;> dsimp only [idx_main_v8, idx_main_v35] <;> omega

theorem gate_all (i : S2x4352x1024.Idx) : val_main_v0 (F := Ideal) p i = at3 (A := 2) (B := 4352) (C := 10752) p (i 0).val (i 1).val (4096 + (i 2).val) := by
  rw [val_main_v0_apply]
  exact at3_eq _ _ _ _ _ rfl rfl rfl

/-- The gate's factor, as the reference spells the logistic function. -/
theorem gate_latents (i : S2x4096x1024.Idx) :
    val_main_v33 (F := Ideal) p i = silu (at3 (A := 2) (B := 4352) (C := 10752) p (i 0).val (i 1).val (4096 + (i 2).val)) := by
  rw [val_main_v33_apply, val_main_call0_v5_apply, val_main_call0_v4_apply, val_main_call0_v3_apply, val_main_call0_v2_apply,
    val_main_call0_v1_apply, val_main_call0_v0_apply, val_main_v7_apply, gate_all]
  show _ * Ideal.div (Ideal.ofBits .f32 0x3F800000#32) (Ideal.ofBits .f32 0x3F800000#32 + Ideal.exp (-_)) = _
  rw [Ideal.ofBits_one_f32]
  rfl

theorem gate_context (i : S2x256x1024.Idx) :
    val_main_v54 (F := Ideal) p i = silu (at3 (A := 2) (B := 4352) (C := 10752) p (i 0).val (4096 + (i 1).val) (4096 + (i 2).val)) := by
  rw [val_main_v54_apply, val_main_call1_v5_apply, val_main_call1_v4_apply, val_main_call1_v3_apply, val_main_call1_v2_apply,
    val_main_call1_v1_apply, val_main_call1_v0_apply, val_main_v11_apply, gate_all]
  show _ * Ideal.div (Ideal.ofBits .f32 0x3F800000#32) (Ideal.ofBits .f32 0x3F800000#32 + Ideal.exp (-_)) = _
  rw [Ideal.ofBits_one_f32]
  rfl

end Cert.Attention

end
-- ==== Proof.Chain.lean ====
/-
  Hand-written, untrusted. The reference's two attentions as sums over the keys: the scores, their greatest, the weights, the weights
  over their sum, and the values under them, for the latents and for the context.
-/
module

public import proofs.«01_k».proof.Proof.Reads
public import proofs.«01_k».proof.Proof.Head

@[expose] public section

set_option maxRecDepth 16384

noncomputable section

namespace Cert.Attention

open Cert.ReferenceIdeal Cert.ReferenceIdeal.Gen Cert.ReferenceIdeal.Read Idealize.ShloMosaic

variable (q : FVec Ideal S2x4352x1024 .f32) (k v : FVec Ideal S2x4352x256 .f32) (p : FVec Ideal S2x4352x10752 .f32)

/-- A row's score against a key as the reference computes it: the product, then the scale. -/
def refScore (b n r j h : ℕ) : EReal :=
  (∑ d : Fin 128, at3 (A := 2) (B := 4352) (C := 256) k b j (h * 128 + d.val) * at3 (A := 2) (B := 4352) (C := 1024) q b r (n * 128 + d.val))
    * Ideal.ofBits .f32 0x3DB504F3#32

theorem scores_latents (i : S2x2x4x4096x4352.Idx) : val_main_v18 (F := Ideal) q k i
    = refScore q k (i 0).val ((i 1).val * 4 + (i 2).val) ((i 3).val) (key (i 4).val) (i 1).val := by
  rw [val_main_v18_apply, val_main_v16_apply, val_main_v15_apply, val_main_v17_apply]
  refine congrArg₂ (· * ·) (Finset.sum_congr rfl fun d _ => congrArg₂ (· * ·) ?_ ?_) rfl
  · rw [keys_latents]
  · rw [queries_latents]

theorem greatest_latents (b : Fin 2) (h : Fin 2) (g : Fin 4) (r : Fin 4096) : val_main_v19 (F := Ideal) q k (ValueIdx.ix4 b h g r)
    = greatest fun j : Fin 4352 => val_main_v18 (F := Ideal) q k (ValueIdx.ix5 b h g r j) := by
  unfold val_main_v19
  rw [Host.reduce_eq_fold_single FloatOps.maximumf _ _ reducesTo_S2x2x4x4096x4352_S2x2x4x4096_d4 (by decide) h_S_]
  show Finset.univ.fold max (Ideal.ofBits .f32 0xFF800000#32) _ = _
  rw [negInf_f32]
  generalize val_main_v18 (F := Ideal) q k = y
  refine Finset.fold_congr fun j _ => ?_
  refine congrArg y (funext fun a => Fin.ext ?_)
  rw [Shape.Reduces.lift_val]
  match a with
  | ⟨0, _⟩ => rfl
  | ⟨1, _⟩ => rfl
  | ⟨2, _⟩ => rfl
  | ⟨3, _⟩ => rfl
  | ⟨4, _⟩ => rfl

theorem row_latents (b : Fin 2) (h : Fin 2) (g : Fin 4) (r : Fin 4096) (j : Fin 4352) :
    idx_main_v22 (idx_main_v23 (ValueIdx.ix5 b h g r j)) = ValueIdx.ix4 b h g r := by
  refine funext fun a => Fin.ext ?_
  match a with
  | ⟨0, _⟩ => rfl
  | ⟨1, _⟩ => rfl
  | ⟨2, _⟩ => rfl
  | ⟨3, _⟩ => rfl

theorem total_row_latents (b : Fin 2) (h : Fin 2) (g : Fin 4) (r : Fin 4096) (j i : Fin 4352) :
    idx_main_v26 (idx_main_v27 (idx_main_v28 (ValueIdx.ix5 b h g r j))) i = ValueIdx.ix5 b h g r i := by
  refine funext fun a => Fin.ext ?_
  match a with
  | ⟨0, _⟩ => rfl
  | ⟨1, _⟩ => rfl
  | ⟨2, _⟩ => rfl
  | ⟨3, _⟩ => rfl
  | ⟨4, _⟩ => rfl

theorem weight_latents (b : Fin 2) (h : Fin 2) (g : Fin 4) (r : Fin 4096) (j : Fin 4352) : val_main_v25 (F := Ideal) q k (ValueIdx.ix5 b h g r j)
    = weight (fun j : Fin 4352 => val_main_v18 (F := Ideal) q k (ValueIdx.ix5 b h g r j)) j := by
  rw [val_main_v25_apply, val_main_v24_apply, val_main_v23_apply, val_main_v22_apply, val_main_v21_apply, val_main_v20_apply,
    row_latents, greatest_latents]
  generalize val_main_v18 (F := Ideal) q k = y
  exact congrArg Ideal.exp (congrArg (y (ValueIdx.ix5 b h g r j) - ·) ((congrArg (max · _) negInf_f32).trans (max_eq_right bot_le)))

theorem share_latents (b : Fin 2) (h : Fin 2) (g : Fin 4) (r : Fin 4096) (j : Fin 4352) : val_main_v29 (F := Ideal) q k (ValueIdx.ix5 b h g r j)
    = Ideal.div (weight (fun j : Fin 4352 => val_main_v18 (F := Ideal) q k (ValueIdx.ix5 b h g r j)) j)
        (∑ i, weight (fun j : Fin 4352 => val_main_v18 (F := Ideal) q k (ValueIdx.ix5 b h g r j)) i) := by
  rw [val_main_v29_apply, val_main_v28_apply, val_main_v27_apply, val_main_v26_apply]
  refine congrArg₂ Ideal.div (weight_latents q k b h g r j) ?_
  refine (congrArg (· + _) Ideal.ofBits_zero_f32).trans ((zero_add _).trans ?_)
  refine Finset.sum_congr rfl fun i _ => ?_
  rw [total_row_latents]
  exact weight_latents q k b h g r i

/-- The reference's result for the latents. -/
theorem result_latents (i : S2x4096x1024.Idx)
    (hs : ∀ j : Fin 4352, IsReal (refScore q k (i 0).val ((i 2).val / 128) ((i 1).val) (key j.val) ((i 2).val / 128 / 4))) :
    val_main_v34 (F := Ideal) q k v p i
      = average (fun j : Fin 4352 => refScore q k (i 0).val ((i 2).val / 128) ((i 1).val) (key j.val) ((i 2).val / 128 / 4))
          (fun j : Fin 4352 => at3 (A := 2) (B := 4352) (C := 256) v (i 0).val (key j.val) ((i 2).val / 128 / 4 * 128 + (i 2).val % 128))
        * silu (at3 (A := 2) (B := 4352) (C := 10752) p (i 0).val ((i 1).val) (4096 + (i 2).val)) := by
  have h0 : (i 0).val < 2 := (i 0).isLt
  have h1 : (i 1).val < 4096 := (i 1).isLt
  have h2 : (i 2).val < 1024 := (i 2).isLt
  rw [val_main_v34_apply, gate_latents]
  refine congrArg₂ (· * ·) ?_ rfl
  rw [average_eq _ _ hs, val_main_v32_apply, val_main_v31_apply, val_main_v30_apply]
  have e : ∀ j : Fin 4352, ridx_main_v30 (idx_main_v31 (idx_main_v32 i)) j
      = ValueIdx.ix5 (⟨(i 0).val, h0⟩ : Fin 2) (⟨(i 2).val / 128 / 4, by omega⟩ : Fin 2) (⟨(i 2).val / 128 % 4, by omega⟩ : Fin 4) (⟨(i 1).val, h1⟩ : Fin 4096) j := by
    intro j
    refine funext fun a => Fin.ext ?_
    match a with
    | ⟨0, _⟩ => dsimp only [ridx_main_v30, idx_main_v31, idx_main_v32]; show _ = (i 0).val; omega
    | ⟨1, _⟩ => dsimp only [ridx_main_v30, idx_main_v31, idx_main_v32]; show _ = (i 2).val / 128 / 4; omega
    | ⟨2, _⟩ => dsimp only [ridx_main_v30, idx_main_v31, idx_main_v32]; show _ = (i 2).val / 128 % 4; omega
    | ⟨3, _⟩ => dsimp only [ridx_main_v30, idx_main_v31, idx_main_v32]; show _ = (i 1).val; omega
    | ⟨4, _⟩ => rfl
  have es : (fun j : Fin 4352 => val_main_v18 (F := Ideal) q k (ValueIdx.ix5 (⟨(i 0).val, h0⟩ : Fin 2) (⟨(i 2).val / 128 / 4, by omega⟩ : Fin 2) (⟨(i 2).val / 128 % 4, by omega⟩ : Fin 4) (⟨(i 1).val, h1⟩ : Fin 4096) j))
      = fun j : Fin 4352 => refScore q k (i 0).val ((i 2).val / 128) ((i 1).val) (key j.val) ((i 2).val / 128 / 4) := by
    funext j
    rw [scores_latents]
    show refScore q k (i 0).val ((i 2).val / 128 / 4 * 4 + (i 2).val / 128 % 4) _ _ _ = _
    rw [Nat.div_add_mod' ((i 2).val / 128) 4]
  refine Finset.sum_congr rfl fun j _ => congrArg₂ (· * ·) ?_ ?_
  · rw [values_latents, keys_latents]
    congr 1 <;> dsimp only [lidx_main_v30, idx_main_v31, idx_main_v32] <;> first | omega | (congr 1; omega)
  · rw [e, share_latents, es]

theorem scores_context (i : S2x2x4x256x256.Idx) : val_main_v39 (F := Ideal) q k i
    = refScore q k (i 0).val ((i 1).val * 4 + (i 2).val) (4096 + (i 3).val) (4096 + (i 4).val) (i 1).val := by
  rw [val_main_v39_apply, val_main_v37_apply, val_main_v36_apply, val_main_v38_apply]
  refine congrArg₂ (· * ·) (Finset.sum_congr rfl fun d _ => congrArg₂ (· * ·) ?_ ?_) rfl
  · rw [keys_context]
  · rw [queries_context]

theorem greatest_context (b : Fin 2) (h : Fin 2) (g : Fin 4) (r : Fin 256) : val_main_v40 (F := Ideal) q k (ValueIdx.ix4 b h g r)
    = greatest fun j : Fin 256 => val_main_v39 (F := Ideal) q k (ValueIdx.ix5 b h g r j) := by
  unfold val_main_v40
  rw [Host.reduce_eq_fold_single FloatOps.maximumf _ _ reducesTo_S2x2x4x256x256_S2x2x4x256_d4 (by decide) h_S_]
  show Finset.univ.fold max (Ideal.ofBits .f32 0xFF800000#32) _ = _
  rw [negInf_f32]
  generalize val_main_v39 (F := Ideal) q k = y
  refine Finset.fold_congr fun j _ => ?_
  refine congrArg y (funext fun a => Fin.ext ?_)
  rw [Shape.Reduces.lift_val]
  match a with
  | ⟨0, _⟩ => rfl
  | ⟨1, _⟩ => rfl
  | ⟨2, _⟩ => rfl
  | ⟨3, _⟩ => rfl
  | ⟨4, _⟩ => rfl

theorem row_context (b : Fin 2) (h : Fin 2) (g : Fin 4) (r : Fin 256) (j : Fin 256) :
    idx_main_v43 (idx_main_v44 (ValueIdx.ix5 b h g r j)) = ValueIdx.ix4 b h g r := by
  refine funext fun a => Fin.ext ?_
  match a with
  | ⟨0, _⟩ => rfl
  | ⟨1, _⟩ => rfl
  | ⟨2, _⟩ => rfl
  | ⟨3, _⟩ => rfl

theorem total_row_context (b : Fin 2) (h : Fin 2) (g : Fin 4) (r : Fin 256) (j i : Fin 256) :
    idx_main_v47 (idx_main_v48 (idx_main_v49 (ValueIdx.ix5 b h g r j))) i = ValueIdx.ix5 b h g r i := by
  refine funext fun a => Fin.ext ?_
  match a with
  | ⟨0, _⟩ => rfl
  | ⟨1, _⟩ => rfl
  | ⟨2, _⟩ => rfl
  | ⟨3, _⟩ => rfl
  | ⟨4, _⟩ => rfl

theorem weight_context (b : Fin 2) (h : Fin 2) (g : Fin 4) (r : Fin 256) (j : Fin 256) : val_main_v46 (F := Ideal) q k (ValueIdx.ix5 b h g r j)
    = weight (fun j : Fin 256 => val_main_v39 (F := Ideal) q k (ValueIdx.ix5 b h g r j)) j := by
  rw [val_main_v46_apply, val_main_v45_apply, val_main_v44_apply, val_main_v43_apply, val_main_v42_apply, val_main_v41_apply,
    row_context, greatest_context]
  generalize val_main_v39 (F := Ideal) q k = y
  exact congrArg Ideal.exp (congrArg (y (ValueIdx.ix5 b h g r j) - ·) ((congrArg (max · _) negInf_f32).trans (max_eq_right bot_le)))

theorem share_context (b : Fin 2) (h : Fin 2) (g : Fin 4) (r : Fin 256) (j : Fin 256) : val_main_v50 (F := Ideal) q k (ValueIdx.ix5 b h g r j)
    = Ideal.div (weight (fun j : Fin 256 => val_main_v39 (F := Ideal) q k (ValueIdx.ix5 b h g r j)) j)
        (∑ i, weight (fun j : Fin 256 => val_main_v39 (F := Ideal) q k (ValueIdx.ix5 b h g r j)) i) := by
  rw [val_main_v50_apply, val_main_v49_apply, val_main_v48_apply, val_main_v47_apply]
  refine congrArg₂ Ideal.div (weight_context q k b h g r j) ?_
  refine (congrArg (· + _) Ideal.ofBits_zero_f32).trans ((zero_add _).trans ?_)
  refine Finset.sum_congr rfl fun i _ => ?_
  rw [total_row_context]
  exact weight_context q k b h g r i

/-- The reference's result for the context. -/
theorem result_context (i : S2x256x1024.Idx)
    (hs : ∀ j : Fin 256, IsReal (refScore q k (i 0).val ((i 2).val / 128) (4096 + (i 1).val) (4096 + j.val) ((i 2).val / 128 / 4))) :
    val_main_v55 (F := Ideal) q k v p i
      = average (fun j : Fin 256 => refScore q k (i 0).val ((i 2).val / 128) (4096 + (i 1).val) (4096 + j.val) ((i 2).val / 128 / 4))
          (fun j : Fin 256 => at3 (A := 2) (B := 4352) (C := 256) v (i 0).val (4096 + j.val) ((i 2).val / 128 / 4 * 128 + (i 2).val % 128))
        * silu (at3 (A := 2) (B := 4352) (C := 10752) p (i 0).val (4096 + (i 1).val) (4096 + (i 2).val)) := by
  have h0 : (i 0).val < 2 := (i 0).isLt
  have h1 : (i 1).val < 256 := (i 1).isLt
  have h2 : (i 2).val < 1024 := (i 2).isLt
  rw [val_main_v55_apply, gate_context]
  refine congrArg₂ (· * ·) ?_ rfl
  rw [average_eq _ _ hs, val_main_v53_apply, val_main_v52_apply, val_main_v51_apply]
  have e : ∀ j : Fin 256, ridx_main_v51 (idx_main_v52 (idx_main_v53 i)) j
      = ValueIdx.ix5 (⟨(i 0).val, h0⟩ : Fin 2) (⟨(i 2).val / 128 / 4, by omega⟩ : Fin 2) (⟨(i 2).val / 128 % 4, by omega⟩ : Fin 4) (⟨(i 1).val, h1⟩ : Fin 256) j := by
    intro j
    refine funext fun a => Fin.ext ?_
    match a with
    | ⟨0, _⟩ => dsimp only [ridx_main_v51, idx_main_v52, idx_main_v53]; show _ = (i 0).val; omega
    | ⟨1, _⟩ => dsimp only [ridx_main_v51, idx_main_v52, idx_main_v53]; show _ = (i 2).val / 128 / 4; omega
    | ⟨2, _⟩ => dsimp only [ridx_main_v51, idx_main_v52, idx_main_v53]; show _ = (i 2).val / 128 % 4; omega
    | ⟨3, _⟩ => dsimp only [ridx_main_v51, idx_main_v52, idx_main_v53]; show _ = (i 1).val; omega
    | ⟨4, _⟩ => rfl
  have es : (fun j : Fin 256 => val_main_v39 (F := Ideal) q k (ValueIdx.ix5 (⟨(i 0).val, h0⟩ : Fin 2) (⟨(i 2).val / 128 / 4, by omega⟩ : Fin 2) (⟨(i 2).val / 128 % 4, by omega⟩ : Fin 4) (⟨(i 1).val, h1⟩ : Fin 256) j))
      = fun j : Fin 256 => refScore q k (i 0).val ((i 2).val / 128) (4096 + (i 1).val) (4096 + j.val) ((i 2).val / 128 / 4) := by
    funext j
    rw [scores_context]
    show refScore q k (i 0).val ((i 2).val / 128 / 4 * 4 + (i 2).val / 128 % 4) _ _ _ = _
    rw [Nat.div_add_mod' ((i 2).val / 128) 4]
  refine Finset.sum_congr rfl fun j _ => congrArg₂ (· * ·) ?_ ?_
  · rw [values_context, keys_context]
    congr 1 <;> dsimp only [lidx_main_v51, idx_main_v52, idx_main_v53] <;> first | omega | (congr 1; omega)
  · rw [e, share_context, es]

end Cert.Attention

end
-- ==== Proof.Blocks.lean ====
/-
  Hand-written, untrusted. What the grouped-query attention's body leaves in its output block: at every place the attention over the
  input blocks, over all 4352 keys at a block of latents and over the last 256 at the block of the context.
-/
module

public import proofs.«01_k».proof.Proof.Gen.KernelIdeal.Value
public import proofs.«01_k».proof.Proof.Attend

@[expose] public section

set_option maxRecDepth 16384

noncomputable section

namespace Cert.Attention

open Cert.KernelIdeal Cert.KernelIdeal.Gen Idealize.ShloMosaic Idealize.ShloMosaic.TcCoe Idealize.SL.Sem

theorem out_A (c : Dev nD) (i : grid0.Coords) (arg3 : Memref sig .tc .vmem S1x256x1024 .bf16) (harg3 : arg3.IsWhole)
    (arg4 : Memref sig .tc .vmem S1x4352x256 .bf16) (harg4 : arg4.IsWhole) (arg5 : Memref sig .tc .vmem S1x4352x512 .bf16) (harg5 : arg5.IsWhole)
    (arg6 : Memref sig .tc .vmem S1x256x1024 .bf16) (harg6 : arg6.IsWhole) (arg7 : Memref sig .tc .vmem S1x256x1024 .bf16) (harg7 : arg7.IsWhole)
    (hc0 : cond0_0 i) (hc1 : ¬cond0_1 i)
    (x0 : Vec Ideal S1x256x1024 .bf16) (x1 : Vec Ideal S1x4352x256 .bf16) (x2 : Vec Ideal S1x4352x512 .bf16) (x3 : Vec Ideal S1x256x1024 .bf16)
    (ones : ∀ j l : ℕ, j < 4352 → l < 512 → 128 ≤ l % 256 → at3 x2 0 j l = 1) (y : S1x256x1024.Idx) :
    out0_A_4 c i arg3 harg3 arg4 harg4 arg5 harg5 arg6 harg6 arg7 harg7 hc0 hc1 x0 x1 x2 x3 y
      = attend 4352 0 128 4 (at3 x0 0) (at3 x1 0) (at3 x2 0) (at3 x3 0) (y 1).val (y 2).val := by
  unfold out0_A_4
  rw [View.read_writes_eq_canon _ _ _ (cover0_A_4 c i arg3 harg3 arg4 harg4 arg5 harg5 arg6 harg6 arg7 harg7 hc0 hc1 x0 x1 x2 x3)]
  refine View.canon_apply_of_pieces
    (fun y : S1x256x1024.Idx => attend 4352 0 128 4 (at3 x0 0) (at3 x1 0) (at3 x2 0) (at3 x3 0) (y 1).val (y 2).val) _ ?_ y
    (cover0_A_4 c i arg3 harg3 arg4 harg4 arg5 harg5 arg6 harg6 arg7 harg7 hc0 hc1 x0 x1 x2 x3 y)
  unfold kernelRun0_A
  dsimp only
  sl_unfold_words
  simp only [View.readAt_eq_ld, harg3.read_unread, harg4.read_unread, harg5.read_unread, harg6.read_unread]
  intro pc hpc x
  rcases List.mem_cons.mp hpc with rfl | hpc
  · exact (piece (p := 4) (t := 7) x0 x1 x2 x3 rfl rfl rfl rfl _ _ _ _ _ _ _ _ _ _ _ _ _ _ _ ones x).trans (place _ _ _ _)
  rcases List.mem_cons.mp hpc with rfl | hpc
  · exact (piece (p := 4) (t := 6) x0 x1 x2 x3 rfl rfl rfl rfl _ _ _ _ _ _ _ _ _ _ _ _ _ _ _ ones x).trans (place _ _ _ _)
  rcases List.mem_cons.mp hpc with rfl | hpc
  · exact (piece (p := 4) (t := 5) x0 x1 x2 x3 rfl rfl rfl rfl _ _ _ _ _ _ _ _ _ _ _ _ _ _ _ ones x).trans (place _ _ _ _)
  rcases List.mem_cons.mp hpc with rfl | hpc
  · exact (piece (p := 4) (t := 4) x0 x1 x2 x3 rfl rfl rfl rfl _ _ _ _ _ _ _ _ _ _ _ _ _ _ _ ones x).trans (place _ _ _ _)
  rcases List.mem_cons.mp hpc with rfl | hpc
  · exact (piece (p := 4) (t := 3) x0 x1 x2 x3 rfl rfl rfl rfl _ _ _ _ _ _ _ _ _ _ _ _ _ _ _ ones x).trans (place _ _ _ _)
  rcases List.mem_cons.mp hpc with rfl | hpc
  · exact (piece (p := 4) (t := 2) x0 x1 x2 x3 rfl rfl rfl rfl _ _ _ _ _ _ _ _ _ _ _ _ _ _ _ ones x).trans (place _ _ _ _)
  rcases List.mem_cons.mp hpc with rfl | hpc
  · exact (piece (p := 4) (t := 1) x0 x1 x2 x3 rfl rfl rfl rfl _ _ _ _ _ _ _ _ _ _ _ _ _ _ _ ones x).trans (place _ _ _ _)
  rcases List.mem_cons.mp hpc with rfl | hpc
  · exact (piece (p := 4) (t := 0) x0 x1 x2 x3 rfl rfl rfl rfl _ _ _ _ _ _ _ _ _ _ _ _ _ _ _ ones x).trans (place _ _ _ _)
  nomatch hpc

theorem out_B (c : Dev nD) (i : grid0.Coords) (arg3 : Memref sig .tc .vmem S1x256x1024 .bf16) (harg3 : arg3.IsWhole)
    (arg4 : Memref sig .tc .vmem S1x4352x256 .bf16) (harg4 : arg4.IsWhole) (arg5 : Memref sig .tc .vmem S1x4352x512 .bf16) (harg5 : arg5.IsWhole)
    (arg6 : Memref sig .tc .vmem S1x256x1024 .bf16) (harg6 : arg6.IsWhole) (arg7 : Memref sig .tc .vmem S1x256x1024 .bf16) (harg7 : arg7.IsWhole)
    (hc0 : ¬cond0_0 i) (hc1 : cond0_1 i)
    (x0 : Vec Ideal S1x256x1024 .bf16) (x1 : Vec Ideal S1x4352x256 .bf16) (x2 : Vec Ideal S1x4352x512 .bf16) (x3 : Vec Ideal S1x256x1024 .bf16)
    (ones : ∀ j l : ℕ, j < 4352 → l < 512 → 128 ≤ l % 256 → at3 x2 0 j l = 1) (y : S1x256x1024.Idx) :
    out0_B_4 c i arg3 harg3 arg4 harg4 arg5 harg5 arg6 harg6 arg7 harg7 hc0 hc1 x0 x1 x2 x3 y
      = attend 256 4096 128 4 (at3 x0 0) (at3 x1 0) (at3 x2 0) (at3 x3 0) (y 1).val (y 2).val := by
  unfold out0_B_4
  rw [View.read_writes_eq_canon _ _ _ (cover0_B_4 c i arg3 harg3 arg4 harg4 arg5 harg5 arg6 harg6 arg7 harg7 hc0 hc1 x0 x1 x2 x3)]
  refine View.canon_apply_of_pieces
    (fun y : S1x256x1024.Idx => attend 256 4096 128 4 (at3 x0 0) (at3 x1 0) (at3 x2 0) (at3 x3 0) (y 1).val (y 2).val) _ ?_ y
    (cover0_B_4 c i arg3 harg3 arg4 harg4 arg5 harg5 arg6 harg6 arg7 harg7 hc0 hc1 x0 x1 x2 x3 y)
  unfold kernelRun0_B
  dsimp only
  sl_unfold_words
  simp only [View.readAt_eq_ld, harg3.read_unread, harg4.read_unread, harg5.read_unread, harg6.read_unread]
  intro pc hpc x
  rcases List.mem_cons.mp hpc with rfl | hpc
  · exact (piece (p := 4) (t := 7) x0 x1 x2 x3 rfl rfl rfl rfl _ _ _ _ _ _ _ _ _ _ _ _ _ _ _ ones x).trans (place _ _ _ _)
  rcases List.mem_cons.mp hpc with rfl | hpc
  · exact (piece (p := 4) (t := 6) x0 x1 x2 x3 rfl rfl rfl rfl _ _ _ _ _ _ _ _ _ _ _ _ _ _ _ ones x).trans (place _ _ _ _)
  rcases List.mem_cons.mp hpc with rfl | hpc
  · exact (piece (p := 4) (t := 5) x0 x1 x2 x3 rfl rfl rfl rfl _ _ _ _ _ _ _ _ _ _ _ _ _ _ _ ones x).trans (place _ _ _ _)
  rcases List.mem_cons.mp hpc with rfl | hpc
  · exact (piece (p := 4) (t := 4) x0 x1 x2 x3 rfl rfl rfl rfl _ _ _ _ _ _ _ _ _ _ _ _ _ _ _ ones x).trans (place _ _ _ _)
  rcases List.mem_cons.mp hpc with rfl | hpc
  · exact (piece (p := 4) (t := 3) x0 x1 x2 x3 rfl rfl rfl rfl _ _ _ _ _ _ _ _ _ _ _ _ _ _ _ ones x).trans (place _ _ _ _)
  rcases List.mem_cons.mp hpc with rfl | hpc
  · exact (piece (p := 4) (t := 2) x0 x1 x2 x3 rfl rfl rfl rfl _ _ _ _ _ _ _ _ _ _ _ _ _ _ _ ones x).trans (place _ _ _ _)
  rcases List.mem_cons.mp hpc with rfl | hpc
  · exact (piece (p := 4) (t := 1) x0 x1 x2 x3 rfl rfl rfl rfl _ _ _ _ _ _ _ _ _ _ _ _ _ _ _ ones x).trans (place _ _ _ _)
  rcases List.mem_cons.mp hpc with rfl | hpc
  · exact (piece (p := 4) (t := 0) x0 x1 x2 x3 rfl rfl rfl rfl _ _ _ _ _ _ _ _ _ _ _ _ _ _ _ ones x).trans (place _ _ _ _)
  nomatch hpc

end Cert.Attention

end
-- ==== Proof.Fetched.lean ====
/-
  Hand-written, untrusted. The attention's input blocks as reads of the arrays the call is given, at natural coordinates: a grid point
  holds the batch `t / 17` and the block of rows `t % 17`; the gate's block lies 4096 columns into the projected tokens.
-/
module

public import proofs.«01_k».proof.Proof.Blocks
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe Idealize.SL.Sem

variable (m : (ℓ : Loc nD τ sig) → Buf (Elt Ideal) ℓ) (c : Dev nD)

/-- The windows' block indices at a grid point: batch and block of rows. -/
theorem places : ∀ t : Fin cfg0.N, win0_0.index t = ![t.val / 17, t.val % 17, 0] ∧ win0_1.index t = ![t.val / 17, 0, 0]
    ∧ win0_2.index t = ![t.val / 17, 0, 0] ∧ win0_3.index t = ![t.val / 17, t.val % 17, 4] ∧ win0_4.index t = ![t.val / 17, t.val % 17, 0] :=
  (by decide +kernel : ∀ t : Fin grid0.N, _)

theorem read0 (X : S2x4352x1024.Idx → EReal) (t : Fin cfg0.N) (y : S1x256x1024.Idx) :
    ((cfg0.win 0).blk t).view.read (Elt Ideal) X y = X ((win0_0.rect t).emb y) := rfl

theorem block0 (t : Fin cfg0.N) (r l : ℕ) (hr : r < 256) (hl : l < 1024) :
    at3 (A := 1) (B := 256) (C := 1024) (iblk m c 0 t) 0 r l
      = at3 (A := 2) (B := 4352) (C := 1024) (V m c main_v2) (t.val / 17) (256 * (t.val % 17) + r) (l) := by
  rw [at3_of _ 0 r l (by omega) hr hl]
  refine (read0 (V m c main_v2) t (ValueIdx.ix3 0 ⟨r, hr⟩ ⟨l, hl⟩)).trans (at3_eq (A := 2) (B := 4352) (C := 1024) (V m c main_v2) _ _ _ _
    ((win0_0.rect_emb_val t _ 0).trans ?_) ((win0_0.rect_emb_val t _ 1).trans ?_) ((win0_0.rect_emb_val t _ 2).trans ?_))
  · rw [show win0_0.index t 0 = t.val / 17 from congrFun (places t).1 0, show win0_0.size 0 = 1 from rfl, Nat.mul_one]
    rfl
  · rw [show win0_0.index t 1 = t.val % 17 from congrFun (places t).1 1, show win0_0.size 1 = 256 from rfl]
    exact congrArg (· + r) (Nat.mul_comm _ _)
  · rw [show win0_0.index t 2 = 0 from congrFun (places t).1 2, show win0_0.size 2 = 1024 from rfl]
    exact (congrArg (· + l) (Nat.zero_mul _)).trans (Nat.zero_add _)

theorem read1 (X : S2x4352x256.Idx → EReal) (t : Fin cfg0.N) (y : S1x4352x256.Idx) :
    ((cfg0.win 1).blk t).view.read (Elt Ideal) X y = X ((win0_1.rect t).emb y) := rfl

theorem block1 (t : Fin cfg0.N) (r l : ℕ) (hr : r < 4352) (hl : l < 256) :
    at3 (A := 1) (B := 4352) (C := 256) (iblk m c 1 t) 0 r l
      = at3 (A := 2) (B := 4352) (C := 256) (V m c main_v8) (t.val / 17) (r) (l) := by
  rw [at3_of _ 0 r l (by omega) hr hl]
  refine (read1 (V m c main_v8) t (ValueIdx.ix3 0 ⟨r, hr⟩ ⟨l, hl⟩)).trans (at3_eq (A := 2) (B := 4352) (C := 256) (V m c main_v8) _ _ _ _
    ((win0_1.rect_emb_val t _ 0).trans ?_) ((win0_1.rect_emb_val t _ 1).trans ?_) ((win0_1.rect_emb_val t _ 2).trans ?_))
  · rw [show win0_1.index t 0 = t.val / 17 from congrFun (places t).2.1 0, show win0_1.size 0 = 1 from rfl, Nat.mul_one]
    rfl
  · rw [show win0_1.index t 1 = 0 from congrFun (places t).2.1 1, show win0_1.size 1 = 4352 from rfl]
    exact congrArg (· + r) (Nat.zero_mul _) |>.trans (Nat.zero_add _)
  · rw [show win0_1.index t 2 = 0 from congrFun (places t).2.1 2, show win0_1.size 2 = 256 from rfl]
    exact (congrArg (· + l) (Nat.zero_mul _)).trans (Nat.zero_add _)

theorem read2 (X : S2x4352x512.Idx → EReal) (t : Fin cfg0.N) (y : S1x4352x512.Idx) :
    ((cfg0.win 2).blk t).view.read (Elt Ideal) X y = X ((win0_2.rect t).emb y) := rfl

theorem block2 (t : Fin cfg0.N) (r l : ℕ) (hr : r < 4352) (hl : l < 512) :
    at3 (A := 1) (B := 4352) (C := 512) (iblk m c 2 t) 0 r l
      = at3 (A := 2) (B := 4352) (C := 512) (V m c main_v7) (t.val / 17) (r) (l) := by
  rw [at3_of _ 0 r l (by omega) hr hl]
  refine (read2 (V m c main_v7) t (ValueIdx.ix3 0 ⟨r, hr⟩ ⟨l, hl⟩)).trans (at3_eq (A := 2) (B := 4352) (C := 512) (V m c main_v7) _ _ _ _
    ((win0_2.rect_emb_val t _ 0).trans ?_) ((win0_2.rect_emb_val t _ 1).trans ?_) ((win0_2.rect_emb_val t _ 2).trans ?_))
  · rw [show win0_2.index t 0 = t.val / 17 from congrFun (places t).2.2.1 0, show win0_2.size 0 = 1 from rfl, Nat.mul_one]
    rfl
  · rw [show win0_2.index t 1 = 0 from congrFun (places t).2.2.1 1, show win0_2.size 1 = 4352 from rfl]
    exact congrArg (· + r) (Nat.zero_mul _) |>.trans (Nat.zero_add _)
  · rw [show win0_2.index t 2 = 0 from congrFun (places t).2.2.1 2, show win0_2.size 2 = 512 from rfl]
    exact (congrArg (· + l) (Nat.zero_mul _)).trans (Nat.zero_add _)

theorem read3 (X : S2x4352x10752.Idx → EReal) (t : Fin cfg0.N) (y : ((cfg0.win 3).xblock (cfg0.grid.coords t)).Idx) :
    ((cfg0.win 3).blk t).view.read (Elt Ideal) X y = X ((win0_3.rect t).emb y) := rfl

theorem block3 (t : Fin cfg0.N) (r l : ℕ) (hr : r < 256) (hl : l < 1024) :
    at3 (A := 1) (B := 256) (C := 1024) (X0_3 m c t) 0 r l
      = at3 (A := 2) (B := 4352) (C := 10752) (V m c main_v9) (t.val / 17) (256 * (t.val % 17) + r) (4096 + l) := by
  rw [at3_of _ 0 r l (by omega) hr hl]
  unfold X0_3 Pipeline.Window.fill
  rw [dif_pos (moved0_3 t _)]
  refine (read3 (V m c main_v9) t _).trans (at3_eq (A := 2) (B := 4352) (C := 10752) (V m c main_v9) _ _ _ _
    ((win0_3.rect_emb_val t _ 0).trans ?_) ((win0_3.rect_emb_val t _ 1).trans ?_) ((win0_3.rect_emb_val t _ 2).trans ?_))
  · rw [show win0_3.index t 0 = t.val / 17 from congrFun (places t).2.2.2.1 0, show win0_3.size 0 = 1 from rfl, Nat.mul_one]
    rfl
  · rw [show win0_3.index t 1 = t.val % 17 from congrFun (places t).2.2.2.1 1, show win0_3.size 1 = 256 from rfl]
    exact congrArg (· + r) (Nat.mul_comm _ _)
  · rw [show win0_3.index t 2 = 4 from congrFun (places t).2.2.2.1 2, show win0_3.size 2 = 1024 from rfl]
    exact rfl

end Cert.Attention

end
-- ==== Proof.Given.lean ====
/-
  Hand-written, untrusted. The arrays the attention call is given, as the host makes them of the arguments: the queries times the
  scale, the keys, the values with as many ones beside each head, the projected tokens.
-/
module

public import proofs.«01_k».proof.Proof.Gen.KernelIdeal.Value
public import proofs.«01_k».proof.Proof.Attend
public import Idealize.ShloMosaic.Lib.Claim
public import Idealize.ShloMosaic.Lib.IdealHost

@[expose] public section

set_option maxRecDepth 16384

noncomputable section

namespace Cert.Attention

open Cert.KernelIdeal Cert.KernelIdeal.Gen Idealize.ShloMosaic Idealize.ShloMosaic.TcCoe Idealize.SL.Sem

variable (m : (ℓ : Loc nD τ sig) → Buf (Elt Ideal) ℓ) (c : Dev nD)

/-- The scale of the scores, as the host multiplies the queries by it. -/
def scale : EReal := FloatOps.ofBits (F := Ideal) .f32 0x3DB504F3#32

/-- The heads of the values, each with as many ones beside it. -/
def withOnes (x : FVec Ideal S2x4352x256 .bf16) : FVec Ideal S2x4352x512 .bf16 :=
  shapeCast S2x4352x512 (concatenate S2x4352x2x256 3
    [⟨S2x4352x2x128, shapeCast S2x4352x2x128 x shapeCasts_S2x4352x256_S2x4352x2x128⟩,
      ⟨S2x4352x2x128, broadcastInDim S2x4352x2x128 ![] bcast_S_S2x4352x2x128 (constant S_ .bf16 0x3F80#16)⟩]
    concatenates_S2x4352x2x128_S2x4352x2x128_S2x4352x2x256_d3) shapeCasts_S2x4352x2x256_S2x4352x512

theorem withOnes_value (x : FVec Ideal S2x4352x256 .bf16) (b : Fin 2) (j : Fin 4352) (h : Fin 2) (e : Fin 128) :
    withOnes x (ValueIdx.ix3 b j ⟨h.val * 256 + e.val, by omega⟩) = x (ValueIdx.ix3 b j ⟨h.val * 128 + e.val, by omega⟩) := by
  refine (shapeCast_apply _ _ _ (ValueIdx.ix4 b j h (⟨e.val, by omega⟩ : Fin 256)) ?_).trans ?_
  · rw [Shape.rowMajor_val_four, Shape.rowMajor_val_three]
    show ((b.val * 4352 + j.val) * 2 + h.val) * 256 + e.val = (b.val * 4352 + j.val) * 512 + (h.val * 256 + e.val)
    omega
  · refine (concatenate_pair_apply_left (t := S2x4352x2x256) (s₁ := S2x4352x2x128) (s₂ := S2x4352x2x128) _ _ _ _ _ rfl (ValueIdx.ix4 b j h e) ?_).trans (shapeCast_apply _ _ _ _ ?_)
    · intro a; fin_cases a <;> rfl
    · rw [Shape.rowMajor_val_four, Shape.rowMajor_val_three]
      show (b.val * 4352 + j.val) * 256 + (h.val * 128 + e.val) = ((b.val * 4352 + j.val) * 2 + h.val) * 128 + e.val
      omega

theorem withOnes_one (x : FVec Ideal S2x4352x256 .bf16) (b : Fin 2) (j : Fin 4352) (h : Fin 2) (e : Fin 128) :
    withOnes x (ValueIdx.ix3 b j ⟨h.val * 256 + (128 + e.val), by omega⟩) = 1 := by
  refine (shapeCast_apply _ _ _ (ValueIdx.ix4 b j h (⟨128 + e.val, by omega⟩ : Fin 256)) ?_).trans ?_
  · rw [Shape.rowMajor_val_four, Shape.rowMajor_val_three]
    show ((b.val * 4352 + j.val) * 2 + h.val) * 256 + (128 + e.val) = (b.val * 4352 + j.val) * 512 + (h.val * 256 + (128 + e.val))
    omega
  · refine (concatenate_pair_apply_right (t := S2x4352x2x256) (s₁ := S2x4352x2x128) (s₂ := S2x4352x2x128) _ _ _ _ _ rfl rfl (ValueIdx.ix4 b j h e) ?_ ?_).trans Ideal.ofBits_one_bf16
    · intro a ha; fin_cases a <;> first | rfl | exact absurd rfl ha
    · show e.val + 128 = 128 + e.val; omega

theorem given_q : V m c main_v2 = mulf (F := Ideal) (s := S2x4352x1024) (φ := .f32) (m ((c : Thread nD τ).loc main_arg0)) (fun _ => scale) := by
  entry_read
  rfl
theorem given_k : V m c main_v8 = m ((c : Thread nD τ).loc main_arg1) := by
  entry_read
  rfl
theorem given_g : V m c main_v9 = m ((c : Thread nD τ).loc main_arg3) := by
  entry_read
  rfl
theorem given_v : V m c main_v7 = withOnes (m ((c : Thread nD τ).loc main_arg2)) := by
  entry_read
  rfl

end Cert.Attention

end
-- ==== Proof.Whole.lean ====
/-
  Hand-written, untrusted. The attention call's result at every place, over the call's arguments: a row of latents attends to all 4352
  keys, a row of the context to the last 256; the blocks tile the result.
-/
module

public import proofs.«01_k».proof.Proof.Blocks
public import proofs.«01_k».proof.Proof.Fetched
public import proofs.«01_k».proof.Proof.Given

@[expose] public section

set_option maxRecDepth 16384

noncomputable section

namespace Cert.Attention

open Cert.KernelIdeal Cert.KernelIdeal.Gen Idealize.ShloMosaic Idealize.ShloMosaic.TcCoe Idealize.SL.Sem

/-- The grouped-query attention of batch `b` at row `r` and column `c`, its first `N` keys from row `o` on. -/
def grouped (N o : ℕ) (q : FVec Ideal S2x4352x1024 .f32) (k v : FVec Ideal S2x4352x256 .f32) (g : FVec Ideal S2x4352x10752 .f32)
    (b r c : ℕ) : EReal :=
  attend N o 128 4 (fun r l => at3 q b r l * scale) (at3 k b) (fun j l => at3 v b j (l / 256 * 128 + l % 256)) (fun r l => at3 g b r (4096 + l)) r c

/-- Latents attend to every key, the context to itself. -/
def groupedAll (q : FVec Ideal S2x4352x1024 .f32) (k v : FVec Ideal S2x4352x256 .f32) (g : FVec Ideal S2x4352x10752 .f32) (b r c : ℕ) : EReal :=
  if r < 4096 then grouped 4352 0 q k v g b r c else grouped 256 4096 q k v g b r c

variable (m : (ℓ : Loc nD τ sig) → Buf (Elt Ideal) ℓ) (c : Dev nD)

theorem at_withOnes_value (x : FVec Ideal S2x4352x256 .bf16) (b j l : ℕ) (hb : b < 2) (hj : j < 4352) (hl : l < 512) (he : l % 256 < 128) :
    at3 (A := 2) (B := 4352) (C := 512) (withOnes x) b j l = at3 (A := 2) (B := 4352) (C := 256) x b j (l / 256 * 128 + l % 256) := by
  refine Eq.trans ?_ ((withOnes_value x ⟨b, hb⟩ ⟨j, hj⟩ ⟨l / 256, by omega⟩ ⟨l % 256, he⟩).trans ?_)
  · refine (at3_eq _ (ValueIdx.ix3 ⟨b, hb⟩ ⟨j, hj⟩ ⟨l / 256 * 256 + l % 256, by omega⟩) _ _ _ rfl rfl ?_).symm
    show l / 256 * 256 + l % 256 = l; omega
  · exact at3_eq _ _ _ _ _ rfl rfl rfl

theorem at_withOnes_one (x : FVec Ideal S2x4352x256 .bf16) (b j l : ℕ) (hb : b < 2) (hj : j < 4352) (hl : l < 512) (he : 128 ≤ l % 256) :
    at3 (A := 2) (B := 4352) (C := 512) (withOnes x) b j l = 1 := by
  refine Eq.trans ?_ (withOnes_one x ⟨b, hb⟩ ⟨j, hj⟩ ⟨l / 256, by omega⟩ ⟨l % 256 - 128, by omega⟩)
  refine (at3_eq _ (ValueIdx.ix3 ⟨b, hb⟩ ⟨j, hj⟩ ⟨l / 256 * 256 + (128 + (l % 256 - 128)), by omega⟩) _ _ _ rfl rfl ?_).symm
  show l / 256 * 256 + (128 + (l % 256 - 128)) = l; omega

theorem at_scaled (x : FVec Ideal S2x4352x1024 .f32) (b r l : ℕ) (hb : b < 2) (hr : r < 4352) (hl : l < 1024) :
    at3 (A := 2) (B := 4352) (C := 1024) (mulf (F := Ideal) (s := S2x4352x1024) (φ := .f32) x (fun _ => scale)) b r l
      = at3 (A := 2) (B := 4352) (C := 1024) x b r l * scale := by
  rw [at3_of _ b r l hb hr hl, at3_of _ b r l hb hr hl]
  rfl

/-- A block's attention is the arguments' attention at the block's batch and rows. -/
theorem block_grouped (N o : ℕ) (t : Fin cfg0.N) (r l : ℕ) (hr : r < 256) (hl : l < 1024) (ho : o + N ≤ 4352) :
    attend N o 128 4 (at3 (A := 1) (B := 256) (C := 1024) (iblk m c 0 t) 0) (at3 (A := 1) (B := 4352) (C := 256) (iblk m c 1 t) 0)
        (at3 (A := 1) (B := 4352) (C := 512) (iblk m c 2 t) 0) (at3 (A := 1) (B := 256) (C := 1024) (X0_3 m c t) 0) r l
      = grouped N o (m ((c : Thread nD τ).loc main_arg0)) (m ((c : Thread nD τ).loc main_arg1)) (m ((c : Thread nD τ).loc main_arg2))
          (m ((c : Thread nD τ).loc main_arg3)) (t.val / 17) (256 * (t.val % 17) + r) l := by
  have hN : cfg0.N = 34 := N_0
  have ht := t.isLt
  refine attend_congr (T := 4352) (W0 := 1024) (W1 := 256) (W2 := 512) (by omega) (by omega) (by omega) ho ?_ ?_ ?_ ?_
  · intro l hl
    rw [block0 m c t r l hr hl, given_q]
    exact at_scaled _ _ _ _ (by omega) (by omega) hl
  · intro j l hj hl
    rw [block1 m c t j l hj hl, given_k]
  · intro j l hj hl he
    rw [block2 m c t j l hj hl, given_v]
    exact at_withOnes_value _ _ _ _ (by omega) hj hl he
  · rw [block3 m c t r l hr hl, given_g]

theorem block_ones (t : Fin cfg0.N) (j l : ℕ) (hj : j < 4352) (hl : l < 512) (he : 128 ≤ l % 256) :
    at3 (A := 1) (B := 4352) (C := 512) (iblk m c 2 t) 0 j l = 1 := by
  have hN : cfg0.N = 34 := N_0
  have ht := t.isLt
  rw [block2 m c t j l hj hl, given_v]
  exact at_withOnes_one _ _ _ _ (by omega) hj hl he

/-- The call's result, whole. -/
theorem whole : (dats m 0 c).arrAt 4 cfg0.N
    = fun y : S2x4352x1024.Idx => groupedAll (m ((c : Thread nD τ).loc main_arg0)) (m ((c : Thread nD τ).loc main_arg1))
        (m ((c : Thread nD τ).loc main_arg2)) (m ((c : Thread nD τ).loc main_arg3)) (y 0).val (y 1).val (y 2).val := by
  refine (dats m 0 c).arrAt_eq_of_covers 4 _ (by decide +kernel) fun t hf y => ?_
  have e0 : ((((cfg0.win 4).blk t).view.emb y 0 : Fin _) : ℕ) = t.val / 17 := by
    refine (win0_4.rect_emb_val t y 0).trans ?_
    have h0 : (y 0).val < 1 := (y 0).isLt
    rw [show win0_4.index t 0 = t.val / 17 from congrFun (places t).2.2.2.2 0, show win0_4.size 0 = 1 from rfl]; omega
  have e1 : ((((cfg0.win 4).blk t).view.emb y 1 : Fin _) : ℕ) = 256 * (t.val % 17) + (y 1).val := by
    refine (win0_4.rect_emb_val t y 1).trans ?_
    rw [show win0_4.index t 1 = t.val % 17 from congrFun (places t).2.2.2.2 1, show win0_4.size 1 = 256 from rfl, Nat.mul_comm]
  have e2 : ((((cfg0.win 4).blk t).view.emb y 2 : Fin _) : ℕ) = (y 2).val := by
    refine (win0_4.rect_emb_val t y 2).trans ?_
    rw [show win0_4.index t 2 = 0 from congrFun (places t).2.2.2.2 2, Nat.zero_mul, Nat.zero_add]
  show _ = groupedAll _ _ _ _ (((cfg0.win 4).blk t).view.emb y 0).val (((cfg0.win 4).blk t).view.emb y 1).val (((cfg0.win 4).blk t).view.emb y 2).val
  rw [e0, e1, e2, cast_eq, after0_4]
  have hy1 : (y 1).val < 256 := (y 1).isLt
  have hy2 : (y 2).val < 1024 := (y 2).isLt
  unfold groupedAll
  by_cases h : t.val % 17 ≤ 15
  · rw [outsAt0_A m c t h (by omega), if_pos (by omega)]
    exact (out_A _ _ _ _ _ _ _ _ _ _ _ _ _ _ _ _ _ _ (block_ones m c t) y).trans (block_grouped m c 4352 0 t _ _ hy1 hy2 (by omega))
  · rw [outsAt0_B m c t h (by omega), if_neg (by omega)]
    exact (out_B _ _ _ _ _ _ _ _ _ _ _ _ _ _ _ _ _ _ (block_ones m c t) y).trans (block_grouped m c 256 4096 t _ _ hy1 hy2 (by omega))

end Cert.Attention

end
-- ==== Proof.Equal.lean ====
/-
  Hand-written, untrusted. The reference's result is the attention call's: with finite queries and keys every score is a real number,
  the reference's order of the keys is a permutation of the call's, and the scale may go to the queries.
-/
module

public import proofs.«01_k».proof.Proof.Chain
public import proofs.«01_k».proof.Proof.Whole

@[expose] public section

set_option maxRecDepth 16384

noncomputable section

namespace Cert.Attention

open Cert.ReferenceIdeal Cert.ReferenceIdeal.Gen Cert.ReferenceIdeal.Read Idealize.ShloMosaic

theorem scale_isReal : IsReal scale := by
  show IsReal (Ideal.ofBits .f32 0x3DB504F3#32)
  simp only [Ideal.ofBits, Ideal.ieee]
  exact ⟨_, rfl⟩

variable (q : FVec Ideal S2x4352x1024 .f32) (k v : FVec Ideal S2x4352x256 .f32) (p : FVec Ideal S2x4352x10752 .f32)
  (hq : ∀ i, IsReal (q i)) (hk : ∀ i, IsReal (k i))

include hq hk

theorem score_moved (b n r j h : ℕ) :
    ∑ d : Fin 128, (at3 (A := 2) (B := 4352) (C := 1024) q b r (n * 128 + d.val) * scale) * at3 (A := 2) (B := 4352) (C := 256) k b j (h * 128 + d.val)
        = refScore q k b n r j h ∧ IsReal (refScore q k b n r j h) := by
  have h0 := scaled_score (fun d : Fin 128 => at3 (A := 2) (B := 4352) (C := 1024) q b r (n * 128 + d.val))
    (fun d : Fin 128 => at3 (A := 2) (B := 4352) (C := 256) k b j (h * 128 + d.val)) scale
    (fun d => isReal_at3 _ hq _ _ _) (fun d => isReal_at3 _ hk _ _ _) scale_isReal
  have e : refScore q k b n r j h = (∑ d : Fin 128, at3 (A := 2) (B := 4352) (C := 256) k b j (h * 128 + d.val)
      * at3 (A := 2) (B := 4352) (C := 1024) q b r (n * 128 + d.val)) * scale := rfl
  rw [e, ← h0.1]
  exact ⟨rfl, h0.2⟩

/-- The call's attention with the scale where the reference has it. -/
theorem grouped_eq (N o b r c : ℕ) : grouped N o q k v p b r c
    = average (fun j : Fin N => refScore q k b (c / 128) r (o + j.val) (c / 128 / 4))
        (fun j : Fin N => at3 (A := 2) (B := 4352) (C := 256) v b (o + j.val) (c / 128 / 4 * 128 + c % 128))
      * silu (at3 (A := 2) (B := 4352) (C := 10752) p b r (4096 + c)) := by
  unfold grouped attend
  refine congrArg₂ (· * ·) (congrArg₂ average (funext fun j => (score_moved q k hq hk b _ r _ _).1) (funext fun j => ?_)) rfl
  have e : (c / 128 / 4 * 256 + c % 128) / 256 * 128 + (c / 128 / 4 * 256 + c % 128) % 256 = c / 128 / 4 * 128 + c % 128 := by omega
  exact congrArg (at3 v b (o + j.val)) e

theorem latents_eq (i : S2x4096x1024.Idx) :
    val_main_v34 (F := Ideal) q k v p i = grouped 4352 0 q k v p (i 0).val (i 1).val (i 2).val := by
  rw [grouped_eq q k v p hq hk, result_latents q k v p i fun j => (score_moved q k hq hk _ _ _ _ _).2]
  refine congrArg (· * _) ?_
  have h := average_equiv keyOrder
    (fun j : Fin 4352 => refScore q k (i 0).val ((i 2).val / 128) (i 1).val (0 + j.val) ((i 2).val / 128 / 4))
    (fun j : Fin 4352 => at3 (A := 2) (B := 4352) (C := 256) v (i 0).val (0 + j.val) ((i 2).val / 128 / 4 * 128 + (i 2).val % 128))
  refine Eq.trans ?_ h
  refine congrArg₂ average (funext fun j => ?_) (funext fun j => ?_)
  · show refScore q k _ _ _ (key j.val) _ = refScore q k _ _ _ (0 + key j.val) _
    rw [Nat.zero_add]
  · show at3 _ _ (key j.val) _ = at3 _ _ (0 + key j.val) _
    rw [Nat.zero_add]

theorem context_eq (i : S2x256x1024.Idx) :
    val_main_v55 (F := Ideal) q k v p i = grouped 256 4096 q k v p (i 0).val (4096 + (i 1).val) (i 2).val := by
  rw [grouped_eq q k v p hq hk, result_context q k v p i fun j => (score_moved q k hq hk _ _ _ _ _).2]

/-- The reference's result, whole. -/
theorem reference_whole : val_main_v57 (F := Ideal) q k v p
    = fun y : S2x4352x1024.Idx => groupedAll q k v p (y 0).val (y 1).val (y 2).val := by
  funext y
  obtain ⟨b, r, c, rfl⟩ : ∃ (b : Fin 2) (r : Fin 4352) (c : Fin 1024), y = ValueIdx.ix3 b r c := ⟨y 0, y 1, y 2, ValueIdx.eq_ix3 y⟩
  show val_main_v56 (F := Ideal) q k v p (ValueIdx.ix3 b r c) = groupedAll q k v p b.val r.val c.val
  unfold groupedAll val_main_v56
  by_cases h : r.val < 4096
  · rw [if_pos h]
    refine (concatenate_pair_apply_left (t := S2x4352x1024) (s₁ := S2x4096x1024) (s₂ := S2x256x1024) _ _ _ _ (ValueIdx.ix3 b r c) rfl
      (ValueIdx.ix3 b (⟨r.val, h⟩ : Fin 4096) c) ?_).trans ?_
    · intro a; match a with | ⟨0, _⟩ => rfl | ⟨1, _⟩ => rfl | ⟨2, _⟩ => rfl
    · exact latents_eq q k v p hq hk (ValueIdx.ix3 b (⟨r.val, h⟩ : Fin 4096) c)
  · rw [if_neg h]
    have hr : r.val - 4096 < 256 := by omega
    refine (concatenate_pair_apply_right (t := S2x4352x1024) (s₁ := S2x4096x1024) (s₂ := S2x256x1024) _ _ _ _ (ValueIdx.ix3 b r c) rfl rfl
      (ValueIdx.ix3 b (⟨r.val - 4096, hr⟩ : Fin 256) c) ?_ ?_).trans ?_
    · intro a ha
      fin_cases a
      · rfl
      · exact absurd rfl ha
      · rfl
    · show r.val - 4096 + 4096 = r.val; omega
    · refine (context_eq q k v p hq hk (ValueIdx.ix3 b (⟨r.val - 4096, hr⟩ : Fin 256) c)).trans ?_
      show grouped 256 4096 q k v p b.val (4096 + (r.val - 4096)) c.val = _
      rw [show 4096 + (r.val - 4096) = r.val by omega]

end Cert.Attention

end
-- ==== Proof.Finite.lean ====
/-
  Hand-written, untrusted. What the attentions' conditions say: every entry of the queries and of the keys is a real number.
-/
module

public import proofs.«01_k».proof.Pre_scores_finite
public import proofs.«01_k».proof.Pre_latent_scores_finite
public import proofs.«01_k».proof.Proof.Softmax
public import Idealize.ShloMosaic.Lib.IdealHost

@[expose] public section

noncomputable section

namespace Cert.Attention

open Idealize.ShloMosaic

/-- The shape relations the condition's function states. -/
theorem finite_facts : Cert.Pre_scores_finite.Facts where
  bcast_S_S2x4352x1024 := by decide
  bcast_S_S2x4352x256 := by decide

theorem posInf_f32 : Ideal.ofBits .f32 0x7F800000#32 = ⊤ := by
  simp [Ideal.ofBits, Ideal.ieee]

theorem isReal_of_abs_lt {x : EReal} (h : FloatOps.cmpf (F := Ideal) (φ := .f32) .olt (FloatOps.absf (F := Ideal) (φ := .f32) x) (Ideal.ofBits .f32 0x7F800000#32) = 1#1) : IsReal x := by
  have h' : Ideal.cmp .olt (max x (-x)) (Ideal.ofBits .f32 0x7F800000#32) = 1#1 := h
  rw [posInf_f32] at h'
  induction x using EReal.rec with
  | bot => simp [Ideal.cmp] at h'
  | coe a => exact ⟨a, rfl⟩
  | top => simp [Ideal.cmp] at h'

variable [Cert.Pre_scores_finite.Facts] (q : FVec Ideal Cert.Pre_scores_finite.S2x4352x1024 .f32) (k v : FVec Ideal Cert.Pre_scores_finite.S2x4352x256 .f32)
  (p : FVec Ideal Cert.Pre_scores_finite.S2x4352x10752 .f32)

theorem queries_isReal (h : (Cert.Pre_scores_finite.fn (F := Ideal) q k v p).1 = fun _ => 1#1) (i) : IsReal (q i) :=
  isReal_of_abs_lt (congrFun h i)

theorem keys_isReal (h : (Cert.Pre_scores_finite.fn (F := Ideal) q k v p).2 = fun _ => 1#1) (i) : IsReal (k i) :=
  isReal_of_abs_lt (congrFun h i)

end Cert.Attention

namespace Cert.Latent

open Idealize.ShloMosaic Cert.Attention

/-- The shape relations the latent attention's condition states. -/
theorem finite_facts : Cert.Pre_latent_scores_finite.Facts where
  bcast_S_S2x4352x1536 := by decide

variable [Cert.Pre_latent_scores_finite.Facts] (q k : FVec Ideal Cert.Pre_latent_scores_finite.S2x4352x1536 .f32)
  (v : FVec Ideal Cert.Pre_latent_scores_finite.S2x4352x1024 .f32) (p : FVec Ideal Cert.Pre_latent_scores_finite.S2x4352x2560 .f32)

theorem queries_isReal (h : (Cert.Pre_latent_scores_finite.fn (F := Ideal) q k v p).1 = fun _ => 1#1) (i) : IsReal (q i) :=
  isReal_of_abs_lt (congrFun h i)

theorem keys_isReal (h : (Cert.Pre_latent_scores_finite.fn (F := Ideal) q k v p).2 = fun _ => 1#1) (i) : IsReal (k i) :=
  isReal_of_abs_lt (congrFun h i)

end Cert.Latent

end
-- ==== Proof.LatentReads.lean ====
/-
  Hand-written, untrusted. The latent attention's reference: the operands of its two attentions at natural coordinates, the queries and
  keys by heads of width 192, the values by heads of width 128, the context put before the latents, the gate.
-/
module

public import proofs.«01_k».proof.Proof.Gen.Reference5Ideal.Read
public import proofs.«01_k».proof.Proof.Order
public import Idealize.ShloMosaic.Lib.IdealHost

@[expose] public section

set_option maxRecDepth 16384

noncomputable section

namespace Cert.Latent

open Cert.Reference5Ideal Cert.Reference5Ideal.Read Cert.Attention Idealize.ShloMosaic

variable (q k : FVec Ideal S2x4352x1536 .f32) (v : FVec Ideal S2x4352x1024 .f32) (p : FVec Ideal S2x4352x2560 .f32)

theorem heads_q (i : S2x4352x8x192.Idx) : val_main_v1 (F := Ideal) q i = at3 (A := 2) (B := 4352) (C := 1536) q (i 0).val (i 1).val ((i 2).val * 192 + (i 3).val) := by
  have h0 : (i 0).val < 2 := (i 0).isLt
  have h1 : (i 1).val < 4352 := (i 1).isLt
  have h2 : (i 2).val < 8 := (i 2).isLt
  have h3 : (i 3).val < 192 := (i 3).isLt
  rw [val_main_v1_apply]
  refine at3_eq _ _ _ _ _ ?_ ?_ ?_ <;> dsimp only [idx_main_v1] <;> omega

theorem heads_k (i : S2x4352x8x192.Idx) : val_main_v2 (F := Ideal) k i = at3 (A := 2) (B := 4352) (C := 1536) k (i 0).val (i 1).val ((i 2).val * 192 + (i 3).val) := by
  have h0 : (i 0).val < 2 := (i 0).isLt
  have h1 : (i 1).val < 4352 := (i 1).isLt
  have h2 : (i 2).val < 8 := (i 2).isLt
  have h3 : (i 3).val < 192 := (i 3).isLt
  rw [val_main_v2_apply]
  refine at3_eq _ _ _ _ _ ?_ ?_ ?_ <;> dsimp only [idx_main_v2] <;> omega

theorem heads_v (i : S2x4352x8x128.Idx) : val_main_v3 (F := Ideal) v i = at3 (A := 2) (B := 4352) (C := 1024) v (i 0).val (i 1).val ((i 2).val * 128 + (i 3).val) := by
  have h0 : (i 0).val < 2 := (i 0).isLt
  have h1 : (i 1).val < 4352 := (i 1).isLt
  have h2 : (i 2).val < 8 := (i 2).isLt
  have h3 : (i 3).val < 128 := (i 3).isLt
  rw [val_main_v3_apply]
  refine at3_eq _ _ _ _ _ ?_ ?_ ?_ <;> dsimp only [idx_main_v3] <;> omega

theorem keys_latents (i : S2x4352x8x192.Idx) :
    val_main_v12 (F := Ideal) k i = at3 (A := 2) (B := 4352) (C := 1536) k (i 0).val (key (i 1).val) ((i 2).val * 192 + (i 3).val) := by
  have h1 : (i 1).val < 4352 := (i 1).isLt
  unfold val_main_v12 key
  by_cases h : (i 1).val < 256
  · refine (concatenate_pair_apply_left (t := S2x4352x8x192) (s₁ := S2x256x8x192) (s₂ := S2x4096x8x192) _ _ _ _ i rfl
      (ValueIdx.ix4 (i 0) (⟨(i 1).val, h⟩ : Fin 256) (i 2) (i 3)) ?_).trans ?_
    · intro a; fin_cases a <;> rfl
    · rw [val_main_v9_apply, heads_k, if_pos h]
  · refine (concatenate_pair_apply_right (t := S2x4352x8x192) (s₁ := S2x256x8x192) (s₂ := S2x4096x8x192) _ _ _ _ i rfl rfl
      (ValueIdx.ix4 (i 0) (⟨(i 1).val - 256, by omega⟩ : Fin 4096) (i 2) (i 3)) ?_ ?_).trans ?_
    · intro a ha; fin_cases a <;> first | rfl | exact absurd rfl ha
    · show (i 1).val - 256 + 256 = (i 1).val; omega
    · rw [val_main_v5_apply, heads_k, if_neg h]

theorem keys_context (i : S2x256x8x192.Idx) :
    val_main_v9 (F := Ideal) k i = at3 (A := 2) (B := 4352) (C := 1536) k (i 0).val (4096 + (i 1).val) ((i 2).val * 192 + (i 3).val) := by
  rw [val_main_v9_apply, heads_k]

theorem values_latents (i : S2x4352x8x128.Idx) :
    val_main_v13 (F := Ideal) v i = at3 (A := 2) (B := 4352) (C := 1024) v (i 0).val (key (i 1).val) ((i 2).val * 128 + (i 3).val) := by
  have h1 : (i 1).val < 4352 := (i 1).isLt
  unfold val_main_v13 key
  by_cases h : (i 1).val < 256
  · refine (concatenate_pair_apply_left (t := S2x4352x8x128) (s₁ := S2x256x8x128) (s₂ := S2x4096x8x128) _ _ _ _ i rfl
      (ValueIdx.ix4 (i 0) (⟨(i 1).val, h⟩ : Fin 256) (i 2) (i 3)) ?_).trans ?_
    · intro a; fin_cases a <;> rfl
    · rw [val_main_v10_apply, heads_v, if_pos h]
  · refine (concatenate_pair_apply_right (t := S2x4352x8x128) (s₁ := S2x256x8x128) (s₂ := S2x4096x8x128) _ _ _ _ i rfl rfl
      (ValueIdx.ix4 (i 0) (⟨(i 1).val - 256, by omega⟩ : Fin 4096) (i 2) (i 3)) ?_ ?_).trans ?_
    · intro a ha; fin_cases a <;> first | rfl | exact absurd rfl ha
    · show (i 1).val - 256 + 256 = (i 1).val; omega
    · rw [val_main_v6_apply, heads_v, if_neg h]

theorem values_context (i : S2x256x8x128.Idx) :
    val_main_v10 (F := Ideal) v i = at3 (A := 2) (B := 4352) (C := 1024) v (i 0).val (4096 + (i 1).val) ((i 2).val * 128 + (i 3).val) := by
  rw [val_main_v10_apply, heads_v]

theorem queries_latents (i : S2x4096x8x1x192.Idx) :
    val_main_v14 (F := Ideal) q i = at3 (A := 2) (B := 4352) (C := 1536) q (i 0).val (i 1).val ((i 2).val * 192 + (i 4).val) := by
  have h0 : (i 0).val < 2 := (i 0).isLt
  have h1 : (i 1).val < 4096 := (i 1).isLt
  have h2 : (i 2).val < 8 := (i 2).isLt
  have h3 : (i 3).val < 1 := (i 3).isLt
  have h4 : (i 4).val < 192 := (i 4).isLt
  rw [val_main_v14_apply, val_main_v4_apply, heads_q]
  congr 1 <;> dsimp only [idx_main_v4, idx_main_v14] <;> omega

theorem queries_context (i : S2x256x8x1x192.Idx) :
    val_main_v35 (F := Ideal) q i = at3 (A := 2) (B := 4352) (C := 1536) q (i 0).val (4096 + (i 1).val) ((i 2).val * 192 + (i 4).val) := by
  have h0 : (i 0).val < 2 := (i 0).isLt
  have h1 : (i 1).val < 256 := (i 1).isLt
  have h2 : (i 2).val < 8 := (i 2).isLt
  have h3 : (i 3).val < 1 := (i 3).isLt
  have h4 : (i 4).val < 192 := (i 4).isLt
  rw [val_main_v35_apply, val_main_v8_apply, heads_q]
  congr 1 <;> dsimp only [idx_main_v8, idx_main_v35] <;> omega

theorem gate_all (i : S2x4352x1024.Idx) : val_main_v0 (F := Ideal) p i = at3 (A := 2) (B := 4352) (C := 2560) p (i 0).val (i 1).val (i 2).val := by
  rw [val_main_v0_apply]
  exact at3_eq _ _ _ _ _ rfl rfl rfl

theorem gate_latents (i : S2x4096x1024.Idx) :
    val_main_v33 (F := Ideal) p i = silu (at3 (A := 2) (B := 4352) (C := 2560) p (i 0).val (i 1).val (i 2).val) := by
  rw [val_main_v33_apply, val_main_call0_v5_apply, val_main_call0_v4_apply, val_main_call0_v3_apply, val_main_call0_v2_apply,
    val_main_call0_v1_apply, val_main_call0_v0_apply, val_main_v7_apply, gate_all]
  show _ * Ideal.div (Ideal.ofBits .f32 0x3F800000#32) (Ideal.ofBits .f32 0x3F800000#32 + Ideal.exp (-_)) = _
  rw [Ideal.ofBits_one_f32]
  rfl

theorem gate_context (i : S2x256x1024.Idx) :
    val_main_v54 (F := Ideal) p i = silu (at3 (A := 2) (B := 4352) (C := 2560) p (i 0).val (4096 + (i 1).val) (i 2).val) := by
  rw [val_main_v54_apply, val_main_call1_v5_apply, val_main_call1_v4_apply, val_main_call1_v3_apply, val_main_call1_v2_apply,
    val_main_call1_v1_apply, val_main_call1_v0_apply, val_main_v11_apply, gate_all]
  show _ * Ideal.div (Ideal.ofBits .f32 0x3F800000#32) (Ideal.ofBits .f32 0x3F800000#32 + Ideal.exp (-_)) = _
  rw [Ideal.ofBits_one_f32]
  rfl

end Cert.Latent

end
-- ==== Proof.LatentChain.lean ====
/-
  Hand-written, untrusted. The latent attention's reference as sums over the keys: the scores, their greatest, the weights, the weights
  over their sum, and the values under them, for the latents and for the context.
-/
module

public import proofs.«01_k».proof.Proof.LatentReads
public import proofs.«01_k».proof.Proof.Head

@[expose] public section

set_option maxRecDepth 16384

noncomputable section

namespace Cert.Latent

open Cert.Reference5Ideal Cert.Reference5Ideal.Gen Cert.Reference5Ideal.Read Cert.Attention Idealize.ShloMosaic

variable (q k : FVec Ideal S2x4352x1536 .f32) (v : FVec Ideal S2x4352x1024 .f32) (p : FVec Ideal S2x4352x2560 .f32)

/-- A row's score against a key of head `n` as the reference computes it: the product, then the scale. -/
def refScore (b n r j : ℕ) : EReal :=
  (∑ d : Fin 192, at3 (A := 2) (B := 4352) (C := 1536) k b j (n * 192 + d.val) * at3 (A := 2) (B := 4352) (C := 1536) q b r (n * 192 + d.val))
    * Ideal.ofBits .f32 0x3D93CD3A#32

theorem scores_latents (i : S2x8x1x4096x4352.Idx) : val_main_v18 (F := Ideal) q k i = refScore q k (i 0).val (i 1).val ((i 3).val) (key (i 4).val) := by
  rw [val_main_v18_apply, val_main_v16_apply, val_main_v15_apply, val_main_v17_apply]
  refine congrArg₂ (· * ·) (Finset.sum_congr rfl fun d _ => congrArg₂ (· * ·) ?_ ?_) rfl
  · rw [keys_latents]
  · rw [queries_latents]

theorem greatest_latents (b : Fin 2) (h : Fin 8) (r : Fin 4096) : val_main_v19 (F := Ideal) q k (ValueIdx.ix4 b h (0 : Fin 1) r)
    = greatest fun j : Fin 4352 => val_main_v18 (F := Ideal) q k (ValueIdx.ix5 b h 0 r j) := by
  unfold val_main_v19
  rw [Host.reduce_eq_fold_single FloatOps.maximumf _ _ reducesTo_S2x8x1x4096x4352_S2x8x1x4096_d4 (by decide) h_S_]
  show Finset.univ.fold max (Ideal.ofBits .f32 0xFF800000#32) _ = _
  rw [negInf_f32]
  generalize val_main_v18 (F := Ideal) q k = y
  refine Finset.fold_congr fun j _ => ?_
  refine congrArg y (funext fun a => Fin.ext ?_)
  rw [Shape.Reduces.lift_val]
  match a with
  | ⟨0, _⟩ => rfl
  | ⟨1, _⟩ => rfl
  | ⟨2, _⟩ => rfl
  | ⟨3, _⟩ => rfl
  | ⟨4, _⟩ => rfl

theorem row_latents (b : Fin 2) (h : Fin 8) (r : Fin 4096) (j : Fin 4352) :
    idx_main_v22 (idx_main_v23 (ValueIdx.ix5 b h (0 : Fin 1) r j)) = ValueIdx.ix4 b h (0 : Fin 1) r := by
  refine funext fun a => Fin.ext ?_
  match a with
  | ⟨0, _⟩ => rfl
  | ⟨1, _⟩ => rfl
  | ⟨2, _⟩ => rfl
  | ⟨3, _⟩ => rfl

theorem total_row_latents (b : Fin 2) (h : Fin 8) (r : Fin 4096) (j i : Fin 4352) :
    idx_main_v26 (idx_main_v27 (idx_main_v28 (ValueIdx.ix5 b h (0 : Fin 1) r j))) i = ValueIdx.ix5 b h (0 : Fin 1) r i := by
  refine funext fun a => Fin.ext ?_
  match a with
  | ⟨0, _⟩ => rfl
  | ⟨1, _⟩ => rfl
  | ⟨2, _⟩ => rfl
  | ⟨3, _⟩ => rfl
  | ⟨4, _⟩ => rfl

theorem weight_latents (b : Fin 2) (h : Fin 8) (r : Fin 4096) (j : Fin 4352) : val_main_v25 (F := Ideal) q k (ValueIdx.ix5 b h (0 : Fin 1) r j)
    = weight (fun j : Fin 4352 => val_main_v18 (F := Ideal) q k (ValueIdx.ix5 b h 0 r j)) j := by
  rw [val_main_v25_apply, val_main_v24_apply, val_main_v23_apply, val_main_v22_apply, val_main_v21_apply, val_main_v20_apply,
    row_latents, greatest_latents]
  generalize val_main_v18 (F := Ideal) q k = y
  exact congrArg Ideal.exp (congrArg (y (ValueIdx.ix5 b h 0 r j) - ·) ((congrArg (max · _) negInf_f32).trans (max_eq_right bot_le)))

theorem share_latents (b : Fin 2) (h : Fin 8) (r : Fin 4096) (j : Fin 4352) : val_main_v29 (F := Ideal) q k (ValueIdx.ix5 b h (0 : Fin 1) r j)
    = Ideal.div (weight (fun j : Fin 4352 => val_main_v18 (F := Ideal) q k (ValueIdx.ix5 b h 0 r j)) j) (∑ i, weight (fun j : Fin 4352 => val_main_v18 (F := Ideal) q k (ValueIdx.ix5 b h 0 r j)) i) := by
  rw [val_main_v29_apply, val_main_v28_apply, val_main_v27_apply, val_main_v26_apply]
  refine congrArg₂ Ideal.div (weight_latents q k b h r j) ?_
  refine (congrArg (· + _) Ideal.ofBits_zero_f32).trans ((zero_add _).trans ?_)
  refine Finset.sum_congr rfl fun i _ => ?_
  rw [total_row_latents]
  exact weight_latents q k b h r i

/-- The reference's result for the latents. -/
theorem result_latents (i : S2x4096x1024.Idx)
    (hs : ∀ j : Fin 4352, IsReal (refScore q k (i 0).val ((i 2).val / 128) ((i 1).val) (key j.val))) :
    val_main_v34 (F := Ideal) q k v p i
      = average (fun j : Fin 4352 => refScore q k (i 0).val ((i 2).val / 128) ((i 1).val) (key j.val))
          (fun j : Fin 4352 => at3 (A := 2) (B := 4352) (C := 1024) v (i 0).val (key j.val) (i 2).val)
        * silu (at3 (A := 2) (B := 4352) (C := 2560) p (i 0).val ((i 1).val) (i 2).val) := by
  have h0 : (i 0).val < 2 := (i 0).isLt
  have h1 : (i 1).val < 4096 := (i 1).isLt
  have h2 : (i 2).val < 1024 := (i 2).isLt
  rw [val_main_v34_apply, gate_latents]
  refine congrArg₂ (· * ·) ?_ rfl
  rw [average_eq _ _ hs, val_main_v32_apply, val_main_v31_apply, val_main_v30_apply]
  have e : ∀ j : Fin 4352, ridx_main_v30 (idx_main_v31 (idx_main_v32 i)) j
      = ValueIdx.ix5 (⟨(i 0).val, h0⟩ : Fin 2) (⟨(i 2).val / 128, by omega⟩ : Fin 8) (0 : Fin 1) (⟨(i 1).val, h1⟩ : Fin 4096) j := by
    intro j
    refine funext fun a => Fin.ext ?_
    match a with
    | ⟨0, _⟩ => dsimp only [ridx_main_v30, idx_main_v31, idx_main_v32]; show _ = (i 0).val; omega
    | ⟨1, _⟩ => dsimp only [ridx_main_v30, idx_main_v31, idx_main_v32]; show _ = (i 2).val / 128; omega
    | ⟨2, _⟩ => rfl
    | ⟨3, _⟩ => dsimp only [ridx_main_v30, idx_main_v31, idx_main_v32]; show _ = (i 1).val; omega
    | ⟨4, _⟩ => rfl
  have es : (fun j : Fin 4352 => val_main_v18 (F := Ideal) q k (ValueIdx.ix5 (⟨(i 0).val, h0⟩ : Fin 2) (⟨(i 2).val / 128, by omega⟩ : Fin 8) (0 : Fin 1) (⟨(i 1).val, h1⟩ : Fin 4096) j))
      = fun j : Fin 4352 => refScore q k (i 0).val ((i 2).val / 128) ((i 1).val) (key j.val) := by
    funext j
    rw [scores_latents]
  refine Finset.sum_congr rfl fun j _ => congrArg₂ (· * ·) ?_ ?_
  · rw [values_latents]
    congr 1 <;> dsimp only [lidx_main_v30, idx_main_v31, idx_main_v32] <;> first | omega | (congr 1; omega)
  · rw [e, share_latents, es]

theorem scores_context (i : S2x8x1x256x256.Idx) : val_main_v39 (F := Ideal) q k i = refScore q k (i 0).val (i 1).val (4096 + (i 3).val) (4096 + (i 4).val) := by
  rw [val_main_v39_apply, val_main_v37_apply, val_main_v36_apply, val_main_v38_apply]
  refine congrArg₂ (· * ·) (Finset.sum_congr rfl fun d _ => congrArg₂ (· * ·) ?_ ?_) rfl
  · rw [keys_context]
  · rw [queries_context]

theorem greatest_context (b : Fin 2) (h : Fin 8) (r : Fin 256) : val_main_v40 (F := Ideal) q k (ValueIdx.ix4 b h (0 : Fin 1) r)
    = greatest fun j : Fin 256 => val_main_v39 (F := Ideal) q k (ValueIdx.ix5 b h 0 r j) := by
  unfold val_main_v40
  rw [Host.reduce_eq_fold_single FloatOps.maximumf _ _ reducesTo_S2x8x1x256x256_S2x8x1x256_d4 (by decide) h_S_]
  show Finset.univ.fold max (Ideal.ofBits .f32 0xFF800000#32) _ = _
  rw [negInf_f32]
  generalize val_main_v39 (F := Ideal) q k = y
  refine Finset.fold_congr fun j _ => ?_
  refine congrArg y (funext fun a => Fin.ext ?_)
  rw [Shape.Reduces.lift_val]
  match a with
  | ⟨0, _⟩ => rfl
  | ⟨1, _⟩ => rfl
  | ⟨2, _⟩ => rfl
  | ⟨3, _⟩ => rfl
  | ⟨4, _⟩ => rfl

theorem row_context (b : Fin 2) (h : Fin 8) (r : Fin 256) (j : Fin 256) :
    idx_main_v43 (idx_main_v44 (ValueIdx.ix5 b h (0 : Fin 1) r j)) = ValueIdx.ix4 b h (0 : Fin 1) r := by
  refine funext fun a => Fin.ext ?_
  match a with
  | ⟨0, _⟩ => rfl
  | ⟨1, _⟩ => rfl
  | ⟨2, _⟩ => rfl
  | ⟨3, _⟩ => rfl

theorem total_row_context (b : Fin 2) (h : Fin 8) (r : Fin 256) (j i : Fin 256) :
    idx_main_v47 (idx_main_v48 (idx_main_v49 (ValueIdx.ix5 b h (0 : Fin 1) r j))) i = ValueIdx.ix5 b h (0 : Fin 1) r i := by
  refine funext fun a => Fin.ext ?_
  match a with
  | ⟨0, _⟩ => rfl
  | ⟨1, _⟩ => rfl
  | ⟨2, _⟩ => rfl
  | ⟨3, _⟩ => rfl
  | ⟨4, _⟩ => rfl

theorem weight_context (b : Fin 2) (h : Fin 8) (r : Fin 256) (j : Fin 256) : val_main_v46 (F := Ideal) q k (ValueIdx.ix5 b h (0 : Fin 1) r j)
    = weight (fun j : Fin 256 => val_main_v39 (F := Ideal) q k (ValueIdx.ix5 b h 0 r j)) j := by
  rw [val_main_v46_apply, val_main_v45_apply, val_main_v44_apply, val_main_v43_apply, val_main_v42_apply, val_main_v41_apply,
    row_context, greatest_context]
  generalize val_main_v39 (F := Ideal) q k = y
  exact congrArg Ideal.exp (congrArg (y (ValueIdx.ix5 b h 0 r j) - ·) ((congrArg (max · _) negInf_f32).trans (max_eq_right bot_le)))

theorem share_context (b : Fin 2) (h : Fin 8) (r : Fin 256) (j : Fin 256) : val_main_v50 (F := Ideal) q k (ValueIdx.ix5 b h (0 : Fin 1) r j)
    = Ideal.div (weight (fun j : Fin 256 => val_main_v39 (F := Ideal) q k (ValueIdx.ix5 b h 0 r j)) j) (∑ i, weight (fun j : Fin 256 => val_main_v39 (F := Ideal) q k (ValueIdx.ix5 b h 0 r j)) i) := by
  rw [val_main_v50_apply, val_main_v49_apply, val_main_v48_apply, val_main_v47_apply]
  refine congrArg₂ Ideal.div (weight_context q k b h r j) ?_
  refine (congrArg (· + _) Ideal.ofBits_zero_f32).trans ((zero_add _).trans ?_)
  refine Finset.sum_congr rfl fun i _ => ?_
  rw [total_row_context]
  exact weight_context q k b h r i

/-- The reference's result for the context. -/
theorem result_context (i : S2x256x1024.Idx)
    (hs : ∀ j : Fin 256, IsReal (refScore q k (i 0).val ((i 2).val / 128) (4096 + (i 1).val) (4096 + j.val))) :
    val_main_v55 (F := Ideal) q k v p i
      = average (fun j : Fin 256 => refScore q k (i 0).val ((i 2).val / 128) (4096 + (i 1).val) (4096 + j.val))
          (fun j : Fin 256 => at3 (A := 2) (B := 4352) (C := 1024) v (i 0).val (4096 + j.val) (i 2).val)
        * silu (at3 (A := 2) (B := 4352) (C := 2560) p (i 0).val (4096 + (i 1).val) (i 2).val) := by
  have h0 : (i 0).val < 2 := (i 0).isLt
  have h1 : (i 1).val < 256 := (i 1).isLt
  have h2 : (i 2).val < 1024 := (i 2).isLt
  rw [val_main_v55_apply, gate_context]
  refine congrArg₂ (· * ·) ?_ rfl
  rw [average_eq _ _ hs, val_main_v53_apply, val_main_v52_apply, val_main_v51_apply]
  have e : ∀ j : Fin 256, ridx_main_v51 (idx_main_v52 (idx_main_v53 i)) j
      = ValueIdx.ix5 (⟨(i 0).val, h0⟩ : Fin 2) (⟨(i 2).val / 128, by omega⟩ : Fin 8) (0 : Fin 1) (⟨(i 1).val, h1⟩ : Fin 256) j := by
    intro j
    refine funext fun a => Fin.ext ?_
    match a with
    | ⟨0, _⟩ => dsimp only [ridx_main_v51, idx_main_v52, idx_main_v53]; show _ = (i 0).val; omega
    | ⟨1, _⟩ => dsimp only [ridx_main_v51, idx_main_v52, idx_main_v53]; show _ = (i 2).val / 128; omega
    | ⟨2, _⟩ => rfl
    | ⟨3, _⟩ => dsimp only [ridx_main_v51, idx_main_v52, idx_main_v53]; show _ = (i 1).val; omega
    | ⟨4, _⟩ => rfl
  have es : (fun j : Fin 256 => val_main_v39 (F := Ideal) q k (ValueIdx.ix5 (⟨(i 0).val, h0⟩ : Fin 2) (⟨(i 2).val / 128, by omega⟩ : Fin 8) (0 : Fin 1) (⟨(i 1).val, h1⟩ : Fin 256) j))
      = fun j : Fin 256 => refScore q k (i 0).val ((i 2).val / 128) (4096 + (i 1).val) (4096 + j.val) := by
    funext j
    rw [scores_context]
  refine Finset.sum_congr rfl fun j _ => congrArg₂ (· * ·) ?_ ?_
  · rw [values_context]
    congr 1 <;> dsimp only [lidx_main_v51, idx_main_v52, idx_main_v53] <;> first | omega | (congr 1; omega)
  · rw [e, share_context, es]

end Cert.Latent

end
-- ==== Proof.LatentBlocks.lean ====
/-
  Hand-written, untrusted. What the latent attention's body leaves in its output block: at every place the attention over the
  input blocks, over all 4352 keys at a block of latents and over the last 256 at the block of the context.
-/
module

public import proofs.«01_k».proof.Proof.Gen.Kernel5Ideal.Value
public import proofs.«01_k».proof.Proof.Attend

@[expose] public section

set_option maxRecDepth 16384

noncomputable section

namespace Cert.Latent

open Cert.Kernel5Ideal Cert.Kernel5Ideal.Gen Cert.Attention Idealize.ShloMosaic Idealize.ShloMosaic.TcCoe Idealize.SL.Sem

theorem out_A (c : Dev nD) (i : grid0.Coords) (arg3 : Memref sig .tc .vmem S1x256x1024 .bf16) (harg3 : arg3.IsWhole)
    (arg4 : Memref sig .tc .vmem S1x4352x1024 .bf16) (harg4 : arg4.IsWhole) (arg5 : Memref sig .tc .vmem S1x4352x1024 .bf16) (harg5 : arg5.IsWhole)
    (arg6 : Memref sig .tc .vmem S1x256x512 .bf16) (harg6 : arg6.IsWhole) (arg7 : Memref sig .tc .vmem S1x256x512 .bf16) (harg7 : arg7.IsWhole)
    (hc0 : cond0_0 i) (hc1 : ¬cond0_1 i)
    (x0 : Vec Ideal S1x256x1024 .bf16) (x1 : Vec Ideal S1x4352x1024 .bf16) (x2 : Vec Ideal S1x4352x1024 .bf16) (x3 : Vec Ideal S1x256x512 .bf16)
    (ones : ∀ j l : ℕ, j < 4352 → l < 1024 → 128 ≤ l % 256 → at3 x2 0 j l = 1) (y : S1x256x512.Idx) :
    out0_A_4 c i arg3 harg3 arg4 harg4 arg5 harg5 arg6 harg6 arg7 harg7 hc0 hc1 x0 x1 x2 x3 y
      = attend 4352 0 256 1 (at3 x0 0) (at3 x1 0) (at3 x2 0) (at3 x3 0) (y 1).val (y 2).val := by
  unfold out0_A_4
  rw [View.read_writes_eq_canon _ _ _ (cover0_A_4 c i arg3 harg3 arg4 harg4 arg5 harg5 arg6 harg6 arg7 harg7 hc0 hc1 x0 x1 x2 x3)]
  refine View.canon_apply_of_pieces
    (fun y : S1x256x512.Idx => attend 4352 0 256 1 (at3 x0 0) (at3 x1 0) (at3 x2 0) (at3 x3 0) (y 1).val (y 2).val) _ ?_ y
    (cover0_A_4 c i arg3 harg3 arg4 harg4 arg5 harg5 arg6 harg6 arg7 harg7 hc0 hc1 x0 x1 x2 x3 y)
  unfold kernelRun0_A
  dsimp only
  sl_unfold_words
  simp only [View.readAt_eq_ld, harg3.read_unread, harg4.read_unread, harg5.read_unread, harg6.read_unread]
  intro pc hpc x
  rcases List.mem_cons.mp hpc with rfl | hpc
  · exact (piece (p := 1) (t := 3) x0 x1 x2 x3 rfl rfl rfl rfl _ _ _ _ _ _ _ _ _ _ _ _ _ _ _ ones x).trans (place _ _ _ _)
  rcases List.mem_cons.mp hpc with rfl | hpc
  · exact (piece (p := 1) (t := 2) x0 x1 x2 x3 rfl rfl rfl rfl _ _ _ _ _ _ _ _ _ _ _ _ _ _ _ ones x).trans (place _ _ _ _)
  rcases List.mem_cons.mp hpc with rfl | hpc
  · exact (piece (p := 1) (t := 1) x0 x1 x2 x3 rfl rfl rfl rfl _ _ _ _ _ _ _ _ _ _ _ _ _ _ _ ones x).trans (place _ _ _ _)
  rcases List.mem_cons.mp hpc with rfl | hpc
  · exact (piece (p := 1) (t := 0) x0 x1 x2 x3 rfl rfl rfl rfl _ _ _ _ _ _ _ _ _ _ _ _ _ _ _ ones x).trans (place _ _ _ _)
  nomatch hpc

theorem out_B (c : Dev nD) (i : grid0.Coords) (arg3 : Memref sig .tc .vmem S1x256x1024 .bf16) (harg3 : arg3.IsWhole)
    (arg4 : Memref sig .tc .vmem S1x4352x1024 .bf16) (harg4 : arg4.IsWhole) (arg5 : Memref sig .tc .vmem S1x4352x1024 .bf16) (harg5 : arg5.IsWhole)
    (arg6 : Memref sig .tc .vmem S1x256x512 .bf16) (harg6 : arg6.IsWhole) (arg7 : Memref sig .tc .vmem S1x256x512 .bf16) (harg7 : arg7.IsWhole)
    (hc0 : ¬cond0_0 i) (hc1 : cond0_1 i)
    (x0 : Vec Ideal S1x256x1024 .bf16) (x1 : Vec Ideal S1x4352x1024 .bf16) (x2 : Vec Ideal S1x4352x1024 .bf16) (x3 : Vec Ideal S1x256x512 .bf16)
    (ones : ∀ j l : ℕ, j < 4352 → l < 1024 → 128 ≤ l % 256 → at3 x2 0 j l = 1) (y : S1x256x512.Idx) :
    out0_B_4 c i arg3 harg3 arg4 harg4 arg5 harg5 arg6 harg6 arg7 harg7 hc0 hc1 x0 x1 x2 x3 y
      = attend 256 4096 256 1 (at3 x0 0) (at3 x1 0) (at3 x2 0) (at3 x3 0) (y 1).val (y 2).val := by
  unfold out0_B_4
  rw [View.read_writes_eq_canon _ _ _ (cover0_B_4 c i arg3 harg3 arg4 harg4 arg5 harg5 arg6 harg6 arg7 harg7 hc0 hc1 x0 x1 x2 x3)]
  refine View.canon_apply_of_pieces
    (fun y : S1x256x512.Idx => attend 256 4096 256 1 (at3 x0 0) (at3 x1 0) (at3 x2 0) (at3 x3 0) (y 1).val (y 2).val) _ ?_ y
    (cover0_B_4 c i arg3 harg3 arg4 harg4 arg5 harg5 arg6 harg6 arg7 harg7 hc0 hc1 x0 x1 x2 x3 y)
  unfold kernelRun0_B
  dsimp only
  sl_unfold_words
  simp only [View.readAt_eq_ld, harg3.read_unread, harg4.read_unread, harg5.read_unread, harg6.read_unread]
  intro pc hpc x
  rcases List.mem_cons.mp hpc with rfl | hpc
  · exact (piece (p := 1) (t := 3) x0 x1 x2 x3 rfl rfl rfl rfl _ _ _ _ _ _ _ _ _ _ _ _ _ _ _ ones x).trans (place _ _ _ _)
  rcases List.mem_cons.mp hpc with rfl | hpc
  · exact (piece (p := 1) (t := 2) x0 x1 x2 x3 rfl rfl rfl rfl _ _ _ _ _ _ _ _ _ _ _ _ _ _ _ ones x).trans (place _ _ _ _)
  rcases List.mem_cons.mp hpc with rfl | hpc
  · exact (piece (p := 1) (t := 1) x0 x1 x2 x3 rfl rfl rfl rfl _ _ _ _ _ _ _ _ _ _ _ _ _ _ _ ones x).trans (place _ _ _ _)
  rcases List.mem_cons.mp hpc with rfl | hpc
  · exact (piece (p := 1) (t := 0) x0 x1 x2 x3 rfl rfl rfl rfl _ _ _ _ _ _ _ _ _ _ _ _ _ _ _ ones x).trans (place _ _ _ _)
  nomatch hpc

end Cert.Latent

end
-- ==== Proof.LatentFetched.lean ====
/-
  Hand-written, untrusted. The latent attention's input blocks as reads of the arrays the call is given, at natural coordinates: a grid
  point holds the batch `t / 34`, the four heads from `t / 17 % 2 * 4` on and the block of rows `t % 17`.
-/
module

public import proofs.«01_k».proof.Proof.LatentBlocks
public import Idealize.ShloMosaic.Lib.Pipeline.ValueKit

@[expose] public section

set_option maxRecDepth 16384

noncomputable section

namespace Cert.Latent

open Cert.Kernel5Ideal Cert.Kernel5Ideal.Gen Cert.Attention Idealize.ShloMosaic Idealize.ShloMosaic.TcCoe Idealize.SL.Sem

variable (m : (ℓ : Loc nD τ sig) → Buf (Elt Ideal) ℓ) (c : Dev nD)

/-- The windows' block indices at a grid point: batch, block of rows, group of heads. -/
theorem places : ∀ t : Fin cfg0.N, win0_0.index t = ![t.val / 34, t.val % 17, t.val / 17 % 2] ∧ win0_1.index t = ![t.val / 34, 0, t.val / 17 % 2]
    ∧ win0_2.index t = ![t.val / 34, 0, t.val / 17 % 2] ∧ win0_3.index t = ![t.val / 34, t.val % 17, t.val / 17 % 2]
    ∧ win0_4.index t = ![t.val / 34, t.val % 17, t.val / 17 % 2] :=
  (by decide +kernel : ∀ t : Fin grid0.N, _)

theorem read0 (X : S2x4352x2048.Idx → EReal) (t : Fin cfg0.N) (y : S1x256x1024.Idx) :
    ((cfg0.win 0).blk t).view.read (Elt Ideal) X y = X ((win0_0.rect t).emb y) := rfl

theorem block0 (t : Fin cfg0.N) (r l : ℕ) (hr : r < 256) (hl : l < 1024) :
    at3 (A := 1) (B := 256) (C := 1024) (iblk m c 0 t) 0 r l
      = at3 (A := 2) (B := 4352) (C := 2048) (V m c main_v6) (t.val / 34) (256 * (t.val % 17) + r) (1024 * (t.val / 17 % 2) + l) := by
  rw [at3_of _ 0 r l (by omega) hr hl]
  refine (read0 (V m c main_v6) t (ValueIdx.ix3 0 ⟨r, hr⟩ ⟨l, hl⟩)).trans (at3_eq (A := 2) (B := 4352) (C := 2048) (V m c main_v6) _ _ _ _
    ((win0_0.rect_emb_val t _ 0).trans ?_) ((win0_0.rect_emb_val t _ 1).trans ?_) ((win0_0.rect_emb_val t _ 2).trans ?_))
  · rw [show win0_0.index t 0 = t.val / 34 from congrFun (places t).1 0, show win0_0.size 0 = 1 from rfl, Nat.mul_one]
    rfl
  · rw [show win0_0.index t 1 = t.val % 17 from congrFun (places t).1 1, show win0_0.size 1 = 256 from rfl]
    exact congrArg (· + r) (Nat.mul_comm _ _)
  · rw [show win0_0.index t 2 = t.val / 17 % 2 from congrFun (places t).1 2, show win0_0.size 2 = 1024 from rfl]
    exact congrArg (· + l) (Nat.mul_comm _ _)

theorem read1 (X : S2x4352x2048.Idx → EReal) (t : Fin cfg0.N) (y : S1x4352x1024.Idx) :
    ((cfg0.win 1).blk t).view.read (Elt Ideal) X y = X ((win0_1.rect t).emb y) := rfl

theorem block1 (t : Fin cfg0.N) (r l : ℕ) (hr : r < 4352) (hl : l < 1024) :
    at3 (A := 1) (B := 4352) (C := 1024) (iblk m c 1 t) 0 r l
      = at3 (A := 2) (B := 4352) (C := 2048) (V m c main_v11) (t.val / 34) (r) (1024 * (t.val / 17 % 2) + l) := by
  rw [at3_of _ 0 r l (by omega) hr hl]
  refine (read1 (V m c main_v11) t (ValueIdx.ix3 0 ⟨r, hr⟩ ⟨l, hl⟩)).trans (at3_eq (A := 2) (B := 4352) (C := 2048) (V m c main_v11) _ _ _ _
    ((win0_1.rect_emb_val t _ 0).trans ?_) ((win0_1.rect_emb_val t _ 1).trans ?_) ((win0_1.rect_emb_val t _ 2).trans ?_))
  · rw [show win0_1.index t 0 = t.val / 34 from congrFun (places t).2.1 0, show win0_1.size 0 = 1 from rfl, Nat.mul_one]
    rfl
  · rw [show win0_1.index t 1 = 0 from congrFun (places t).2.1 1, show win0_1.size 1 = 4352 from rfl]
    exact congrArg (· + r) (Nat.zero_mul _) |>.trans (Nat.zero_add _)
  · rw [show win0_1.index t 2 = t.val / 17 % 2 from congrFun (places t).2.1 2, show win0_1.size 2 = 1024 from rfl]
    exact congrArg (· + l) (Nat.mul_comm _ _)

theorem read2 (X : S2x4352x2048.Idx → EReal) (t : Fin cfg0.N) (y : S1x4352x1024.Idx) :
    ((cfg0.win 2).blk t).view.read (Elt Ideal) X y = X ((win0_2.rect t).emb y) := rfl

theorem block2 (t : Fin cfg0.N) (r l : ℕ) (hr : r < 4352) (hl : l < 1024) :
    at3 (A := 1) (B := 4352) (C := 1024) (iblk m c 2 t) 0 r l
      = at3 (A := 2) (B := 4352) (C := 2048) (V m c main_v16) (t.val / 34) (r) (1024 * (t.val / 17 % 2) + l) := by
  rw [at3_of _ 0 r l (by omega) hr hl]
  refine (read2 (V m c main_v16) t (ValueIdx.ix3 0 ⟨r, hr⟩ ⟨l, hl⟩)).trans (at3_eq (A := 2) (B := 4352) (C := 2048) (V m c main_v16) _ _ _ _
    ((win0_2.rect_emb_val t _ 0).trans ?_) ((win0_2.rect_emb_val t _ 1).trans ?_) ((win0_2.rect_emb_val t _ 2).trans ?_))
  · rw [show win0_2.index t 0 = t.val / 34 from congrFun (places t).2.2.1 0, show win0_2.size 0 = 1 from rfl, Nat.mul_one]
    rfl
  · rw [show win0_2.index t 1 = 0 from congrFun (places t).2.2.1 1, show win0_2.size 1 = 4352 from rfl]
    exact congrArg (· + r) (Nat.zero_mul _) |>.trans (Nat.zero_add _)
  · rw [show win0_2.index t 2 = t.val / 17 % 2 from congrFun (places t).2.2.1 2, show win0_2.size 2 = 1024 from rfl]
    exact congrArg (· + l) (Nat.mul_comm _ _)

theorem read3 (X : S2x4352x2560.Idx → EReal) (t : Fin cfg0.N) (y : S1x256x512.Idx) :
    ((cfg0.win 3).blk t).view.read (Elt Ideal) X y = X ((win0_3.rect t).emb y) := rfl

theorem block3 (t : Fin cfg0.N) (r l : ℕ) (hr : r < 256) (hl : l < 512) :
    at3 (A := 1) (B := 256) (C := 512) (iblk m c 3 t) 0 r l
      = at3 (A := 2) (B := 4352) (C := 2560) (V m c main_v17) (t.val / 34) (256 * (t.val % 17) + r) (512 * (t.val / 17 % 2) + l) := by
  rw [at3_of _ 0 r l (by omega) hr hl]
  refine (read3 (V m c main_v17) t (ValueIdx.ix3 0 ⟨r, hr⟩ ⟨l, hl⟩)).trans (at3_eq (A := 2) (B := 4352) (C := 2560) (V m c main_v17) _ _ _ _
    ((win0_3.rect_emb_val t _ 0).trans ?_) ((win0_3.rect_emb_val t _ 1).trans ?_) ((win0_3.rect_emb_val t _ 2).trans ?_))
  · rw [show win0_3.index t 0 = t.val / 34 from congrFun (places t).2.2.2.1 0, show win0_3.size 0 = 1 from rfl, Nat.mul_one]
    rfl
  · rw [show win0_3.index t 1 = t.val % 17 from congrFun (places t).2.2.2.1 1, show win0_3.size 1 = 256 from rfl]
    exact congrArg (· + r) (Nat.mul_comm _ _)
  · rw [show win0_3.index t 2 = t.val / 17 % 2 from congrFun (places t).2.2.2.1 2, show win0_3.size 2 = 512 from rfl]
    exact congrArg (· + l) (Nat.mul_comm _ _)

end Cert.Latent

end
-- ==== Proof.LatentGiven.lean ====
/-
  Hand-written, untrusted. The arrays the latent attention call is given, as the host makes them of the arguments: the queries times the
  scale and the keys, each head filled with zeros to a width of 256; the values with as many ones beside each head; the projected tokens.
-/
module

public import proofs.«01_k».proof.Proof.Gen.Kernel5Ideal.Value
public import proofs.«01_k».proof.Proof.Attend
public import Idealize.ShloMosaic.Lib.Claim
public import Idealize.ShloMosaic.Lib.IdealHost

@[expose] public section

set_option maxRecDepth 16384

noncomputable section

namespace Cert.Latent

open Cert.Kernel5Ideal Cert.Kernel5Ideal.Gen Cert.Attention Idealize.ShloMosaic Idealize.ShloMosaic.TcCoe Idealize.SL.Sem

variable (m : (ℓ : Loc nD τ sig) → Buf (Elt Ideal) ℓ) (c : Dev nD)

/-- The scale of the scores, as the host multiplies the queries by it. -/
def scale : EReal := FloatOps.ofBits (F := Ideal) .f32 0x3D93CD3A#32

/-- Eight heads of width `W`, each with `E` further entries beside it, up to a width of 256. -/
def beside {A W E : ℕ} (x : FVec Ideal ⟨3, ![2, 4352, A]⟩ .bf16) (z : FVec Ideal ⟨4, ![2, 4352, 8, E]⟩ .bf16)
    (c1 : (⟨3, ![2, 4352, A]⟩ : Shape).ShapeCasts ⟨4, ![2, 4352, 8, W]⟩)
    (cc : Shape.Concatenates [⟨4, ![2, 4352, 8, W]⟩, ⟨4, ![2, 4352, 8, E]⟩] (⟨4, ![2, 4352, 8, 256]⟩ : Shape) 3)
    (c2 : (⟨4, ![2, 4352, 8, 256]⟩ : Shape).ShapeCasts ⟨3, ![2, 4352, 2048]⟩) : FVec Ideal ⟨3, ![2, 4352, 2048]⟩ .bf16 :=
  shapeCast ⟨3, ![2, 4352, 2048]⟩ (concatenate ⟨4, ![2, 4352, 8, 256]⟩ 3
    [⟨⟨4, ![2, 4352, 8, W]⟩, shapeCast ⟨4, ![2, 4352, 8, W]⟩ x c1⟩, ⟨⟨4, ![2, 4352, 8, E]⟩, z⟩] cc) c2

section
variable {A W E : ℕ} (hA : A = 8 * W) (hE : W + E = 256) (x : FVec Ideal ⟨3, ![2, 4352, A]⟩ .bf16) (z : FVec Ideal ⟨4, ![2, 4352, 8, E]⟩ .bf16)
    (c1 : (⟨3, ![2, 4352, A]⟩ : Shape).ShapeCasts ⟨4, ![2, 4352, 8, W]⟩)
    (cc : Shape.Concatenates [⟨4, ![2, 4352, 8, W]⟩, ⟨4, ![2, 4352, 8, E]⟩] (⟨4, ![2, 4352, 8, 256]⟩ : Shape) 3)
    (c2 : (⟨4, ![2, 4352, 8, 256]⟩ : Shape).ShapeCasts ⟨3, ![2, 4352, 2048]⟩) (b j n d : ℕ) (hb : b < 2) (hj : j < 4352) (hn : n < 8)
include hE hb hj hn

include hA in
/-- Inside a head the argument's entry lies. -/
theorem beside_value (hd : d < W) : at3 (beside x z c1 cc c2) b j (n * 256 + d) = at3 x b j (n * W + d) := by
  subst hA
  have hx : n * W + d < 8 * W := by nlinarith
  rw [at3_of _ b j _ hb hj (by omega), at3_of _ b j _ hb hj hx]
  refine (shapeCast_apply _ _ _ (ValueIdx.ix4 (⟨b, hb⟩ : Fin 2) (⟨j, hj⟩ : Fin 4352) (⟨n, hn⟩ : Fin 8) (⟨d, by omega⟩ : Fin 256)) ?_).trans ?_
  · rw [Shape.rowMajor_val_four, Shape.rowMajor_val_three]
    show ((b * 4352 + j) * 8 + n) * 256 + d = (b * 4352 + j) * 2048 + (n * 256 + d)
    omega
  · refine (concatenate_pair_apply_left (t := ⟨4, ![2, 4352, 8, 256]⟩) (s₁ := ⟨4, ![2, 4352, 8, W]⟩) (s₂ := ⟨4, ![2, 4352, 8, E]⟩) _ _ _ _ _ rfl
      (ValueIdx.ix4 (⟨b, hb⟩ : Fin 2) (⟨j, hj⟩ : Fin 4352) (⟨n, hn⟩ : Fin 8) (⟨d, hd⟩ : Fin W)) ?_).trans (shapeCast_apply _ _ _ _ ?_)
    · intro a; fin_cases a <;> rfl
    · rw [Shape.rowMajor_val_four, Shape.rowMajor_val_three]
      show (b * 4352 + j) * (8 * W) + (n * W + d) = ((b * 4352 + j) * 8 + n) * W + d
      ring

/-- Beside a head the further entries lie. -/
theorem beside_fill (u : EReal) (hz : ∀ i, z i = u) (hd : W ≤ d) (hd' : d < 256) : at3 (beside x z c1 cc c2) b j (n * 256 + d) = u := by
  rw [at3_of _ b j _ hb hj (by omega)]
  refine (shapeCast_apply _ _ _ (ValueIdx.ix4 (⟨b, hb⟩ : Fin 2) (⟨j, hj⟩ : Fin 4352) (⟨n, hn⟩ : Fin 8) (⟨d, hd'⟩ : Fin 256)) ?_).trans ?_
  · rw [Shape.rowMajor_val_four, Shape.rowMajor_val_three]
    show ((b * 4352 + j) * 8 + n) * 256 + d = (b * 4352 + j) * 2048 + (n * 256 + d)
    omega
  · refine (concatenate_pair_apply_right (t := ⟨4, ![2, 4352, 8, 256]⟩) (s₁ := ⟨4, ![2, 4352, 8, W]⟩) (s₂ := ⟨4, ![2, 4352, 8, E]⟩) _ _ _ _ _ rfl rfl
      (ValueIdx.ix4 (⟨b, hb⟩ : Fin 2) (⟨j, hj⟩ : Fin 4352) (⟨n, hn⟩ : Fin 8) (⟨d - W, by omega⟩ : Fin E)) ?_ ?_).trans (hz _)
    · intro a ha; fin_cases a <;> first | rfl | exact absurd rfl ha
    · show d - W + W = d; omega

end

theorem given_q : V m c main_v6 = beside (A := 1536) (W := 192) (E := 64)
    (mulf (F := Ideal) (s := S2x4352x1536) (φ := .f32) (m ((c : Thread nD τ).loc main_arg0)) (fun _ => scale))
    (broadcastInDim S2x4352x8x64 ![] bcast_S_S2x4352x8x64 (constant S_ .bf16 0x0000#16))
    shapeCasts_S2x4352x1536_S2x4352x8x192 concatenates_S2x4352x8x192_S2x4352x8x64_S2x4352x8x256_d3 shapeCasts_S2x4352x8x256_S2x4352x2048 := by
  entry_read
  rfl
theorem given_k : V m c main_v11 = beside (A := 1536) (W := 192) (E := 64) (m ((c : Thread nD τ).loc main_arg1))
    (broadcastInDim S2x4352x8x64 ![] bcast_S_S2x4352x8x64 (constant S_ .bf16 0x0000#16))
    shapeCasts_S2x4352x1536_S2x4352x8x192 concatenates_S2x4352x8x192_S2x4352x8x64_S2x4352x8x256_d3 shapeCasts_S2x4352x8x256_S2x4352x2048 := by
  entry_read
  rfl
theorem given_v : V m c main_v16 = beside (A := 1024) (W := 128) (E := 128) (m ((c : Thread nD τ).loc main_arg2))
    (broadcastInDim S2x4352x8x128 ![] bcast_S_S2x4352x8x128 (constant S_ .bf16 0x3F80#16))
    shapeCasts_S2x4352x1024_S2x4352x8x128 concatenates_S2x4352x8x128_S2x4352x8x128_S2x4352x8x256_d3 shapeCasts_S2x4352x8x256_S2x4352x2048 := by
  entry_read
  rfl
theorem given_g : V m c main_v17 = m ((c : Thread nD τ).loc main_arg3) := by
  entry_read
  rfl

end Cert.Latent

end
-- ==== Proof.LatentWhole.lean ====
/-
  Hand-written, untrusted. The latent attention call's result at every place, over the call's arguments: a row of latents attends to all
  4352 keys, a row of the context to the last 256; the zeros beside the heads add nothing to a score; the blocks tile the result.
-/
module

public import proofs.«01_k».proof.Proof.LatentFetched
public import proofs.«01_k».proof.Proof.LatentGiven

@[expose] public section

set_option maxRecDepth 16384

noncomputable section

namespace Cert.Latent

open Cert.Kernel5Ideal Cert.Kernel5Ideal.Gen Cert.Attention Idealize.ShloMosaic Idealize.ShloMosaic.TcCoe Idealize.SL.Sem

/-- The latent attention of batch `b` at row `r` and column `c`, its first `N` keys from row `o` on. -/
def separate (N o : ℕ) (q k : FVec Ideal S2x4352x1536 .f32) (v : FVec Ideal S2x4352x1024 .f32) (g : FVec Ideal S2x4352x2560 .f32)
    (b r c : ℕ) : EReal :=
  average (fun j : Fin N => ∑ d : Fin 192, (at3 q b r (c / 128 * 192 + d.val) * scale) * at3 k b (o + j.val) (c / 128 * 192 + d.val))
    (fun j => at3 v b (o + j.val) c) * silu (at3 g b r c)

/-- Latents attend to every key, the context to itself. -/
def separateAll (q k : FVec Ideal S2x4352x1536 .f32) (v : FVec Ideal S2x4352x1024 .f32) (g : FVec Ideal S2x4352x2560 .f32) (b r c : ℕ) : EReal :=
  if r < 4096 then separate 4352 0 q k v g b r c else separate 256 4096 q k v g b r c

variable (m : (ℓ : Loc nD τ sig) → Buf (Elt Ideal) ℓ) (c : Dev nD)

/-- A sum whose last 64 terms are zero. -/
theorem sum_filled (f : ℕ → EReal) (h : ∀ d, 192 ≤ d → d < 256 → f d = 0) : ∑ d : Fin 256, f d.val = ∑ d : Fin 192, f d.val := by
  refine (Fin.sum_univ_add (a := 192) (b := 64) fun d => f d.val).trans ?_
  refine (congrArg (_ + ·) (Finset.sum_eq_zero fun d _ => h (192 + d.val) (by omega) (by have := d.isLt; omega))).trans (add_zero _)

theorem at_scaled (x : FVec Ideal S2x4352x1536 .f32) (b r l : ℕ) (hb : b < 2) (hr : r < 4352) (hl : l < 1536) :
    at3 (A := 2) (B := 4352) (C := 1536) (mulf (F := Ideal) (s := S2x4352x1536) (φ := .f32) x (fun _ => scale)) b r l
      = at3 (A := 2) (B := 4352) (C := 1536) x b r l * scale := by
  rw [at3_of _ b r l hb hr hl, at3_of _ b r l hb hr hl]
  rfl

theorem zeros (i : S2x4352x8x64.Idx) : broadcastInDim S2x4352x8x64 ![] bcast_S_S2x4352x8x64 (constant (F := Ideal) S_ .bf16 0x0000#16) i = 0 :=
  Ideal.ofBits_zero_bf16

theorem ones (i : S2x4352x8x128.Idx) : broadcastInDim S2x4352x8x128 ![] bcast_S_S2x4352x8x128 (constant (F := Ideal) S_ .bf16 0x3F80#16) i = 1 :=
  Ideal.ofBits_one_bf16

/-- A block's attention is the arguments' attention at the block's batch, heads and rows. -/
theorem block_separate (N o : ℕ) (t : Fin cfg0.N) (r l : ℕ) (hr : r < 256) (hl : l < 512) (ho : o + N ≤ 4352) :
    attend N o 256 1 (at3 (A := 1) (B := 256) (C := 1024) (iblk m c 0 t) 0) (at3 (A := 1) (B := 4352) (C := 1024) (iblk m c 1 t) 0)
        (at3 (A := 1) (B := 4352) (C := 1024) (iblk m c 2 t) 0) (at3 (A := 1) (B := 256) (C := 512) (iblk m c 3 t) 0) r l
      = separate N o (m ((c : Thread nD τ).loc main_arg0)) (m ((c : Thread nD τ).loc main_arg1)) (m ((c : Thread nD τ).loc main_arg2))
          (m ((c : Thread nD τ).loc main_arg3)) (t.val / 34) (256 * (t.val % 17) + r) (512 * (t.val / 17 % 2) + l) := by
  have hN : cfg0.N = 68 := N_0
  have ht := t.isLt
  have e : ∀ d, 1024 * (t.val / 17 % 2) + (l / 128 * 256 + d) = (512 * (t.val / 17 % 2) + l) / 128 * 256 + d := by intro d; omega
  have hn : (512 * (t.val / 17 % 2) + l) / 128 < 8 := by omega
  unfold attend separate
  refine congrArg₂ (· * ·) (congrArg₂ average (funext fun j => ?_) (funext fun j => ?_)) (congrArg silu ?_)
  · have hj := j.isLt
    have q0 : ∀ d, d < 256 → at3 (A := 1) (B := 256) (C := 1024) (iblk m c 0 t) 0 r (l / 128 * 256 + d)
        = at3 (A := 2) (B := 4352) (C := 2048) (V m c main_v6) (t.val / 34) (256 * (t.val % 17) + r) ((512 * (t.val / 17 % 2) + l) / 128 * 256 + d) := by
      intro d hd; rw [block0 m c t r _ hr (by omega), e]
    have k0 : ∀ d, d < 256 → at3 (A := 1) (B := 4352) (C := 1024) (iblk m c 1 t) 0 (o + j.val) (l / 128 / 1 * 256 + d)
        = at3 (A := 2) (B := 4352) (C := 2048) (V m c main_v11) (t.val / 34) (o + j.val) ((512 * (t.val / 17 % 2) + l) / 128 * 256 + d) := by
      intro d hd; rw [Nat.div_one, block1 m c t _ _ (by omega) (by omega), e]
    refine (sum_filled (fun d => at3 (A := 1) (B := 256) (C := 1024) (iblk m c 0 t) 0 r (l / 128 * 256 + d)
      * at3 (A := 1) (B := 4352) (C := 1024) (iblk m c 1 t) 0 (o + j.val) (l / 128 / 1 * 256 + d)) ?_).trans
      (Finset.sum_congr rfl fun d _ => congrArg₂ (· * ·) ?_ ?_)
    · intro d h1 h2
      refine (congrArg (_ * ·) ((k0 d h2).trans ?_)).trans (mul_zero _)
      rw [given_k]
      exact beside_fill (by omega) _ _ _ _ _ _ _ _ _ (by omega) (by omega) hn 0 zeros h1 h2
    · have hd := d.isLt
      refine (q0 d.val (by omega)).trans ?_
      rw [given_q]
      exact (beside_value (by omega) (by omega) _ _ _ _ _ _ _ _ _ (by omega) (by omega) hn hd).trans (at_scaled _ _ _ _ (by omega) (by omega) (by omega))
    · have hd := d.isLt
      refine (k0 d.val (by omega)).trans ?_
      rw [given_k]
      exact beside_value (by omega) (by omega) _ _ _ _ _ _ _ _ _ (by omega) (by omega) hn hd
  · have hj := j.isLt
    have h128 : l % 128 < 128 := Nat.mod_lt _ (by omega)
    rw [Nat.div_one, block2 m c t _ _ (by omega) (by omega), e, given_v]
    refine (beside_value (by omega) (by omega) _ _ _ _ _ _ _ _ _ (by omega) (by omega) hn h128).trans (congrArg (at3 _ _ _) ?_)
    omega
  · exact block3 m c t r l hr hl |>.trans (by rw [given_g])

theorem block_ones (t : Fin cfg0.N) (j l : ℕ) (hj : j < 4352) (hl : l < 1024) (he : 128 ≤ l % 256) :
    at3 (A := 1) (B := 4352) (C := 1024) (iblk m c 2 t) 0 j l = 1 := by
  have hN : cfg0.N = 68 := N_0
  have ht := t.isLt
  rw [block2 m c t j l hj hl, given_v,
    show 1024 * (t.val / 17 % 2) + l = (4 * (t.val / 17 % 2) + l / 256) * 256 + l % 256 by omega]
  exact beside_fill (by omega) _ _ _ _ _ _ _ _ _ (by omega) hj (by omega) 1 ones he (Nat.mod_lt _ (by omega))

/-- The call's result, whole. -/
theorem whole : (dats m 0 c).arrAt 4 cfg0.N
    = fun y : S2x4352x1024.Idx => separateAll (m ((c : Thread nD τ).loc main_arg0)) (m ((c : Thread nD τ).loc main_arg1))
        (m ((c : Thread nD τ).loc main_arg2)) (m ((c : Thread nD τ).loc main_arg3)) (y 0).val (y 1).val (y 2).val := by
  refine (dats m 0 c).arrAt_eq_of_covers 4 _ (by decide +kernel) fun t hf y => ?_
  have e0 : ((((cfg0.win 4).blk t).view.emb y 0 : Fin _) : ℕ) = t.val / 34 := by
    refine (win0_4.rect_emb_val t y 0).trans ?_
    have h0 : (y 0).val < 1 := (y 0).isLt
    rw [show win0_4.index t 0 = t.val / 34 from congrFun (places t).2.2.2.2 0, show win0_4.size 0 = 1 from rfl]; omega
  have e1 : ((((cfg0.win 4).blk t).view.emb y 1 : Fin _) : ℕ) = 256 * (t.val % 17) + (y 1).val := by
    refine (win0_4.rect_emb_val t y 1).trans ?_
    rw [show win0_4.index t 1 = t.val % 17 from congrFun (places t).2.2.2.2 1, show win0_4.size 1 = 256 from rfl, Nat.mul_comm]
  have e2 : ((((cfg0.win 4).blk t).view.emb y 2 : Fin _) : ℕ) = 512 * (t.val / 17 % 2) + (y 2).val := by
    refine (win0_4.rect_emb_val t y 2).trans ?_
    rw [show win0_4.index t 2 = t.val / 17 % 2 from congrFun (places t).2.2.2.2 2, show win0_4.size 2 = 512 from rfl, Nat.mul_comm]
  show _ = separateAll _ _ _ _ (((cfg0.win 4).blk t).view.emb y 0).val (((cfg0.win 4).blk t).view.emb y 1).val (((cfg0.win 4).blk t).view.emb y 2).val
  rw [e0, e1, e2, cast_eq, after0_4]
  have hy1 : (y 1).val < 256 := (y 1).isLt
  have hy2 : (y 2).val < 512 := (y 2).isLt
  unfold separateAll
  by_cases h : t.val % 17 ≤ 15
  · rw [outsAt0_A m c t h (by omega), if_pos (by omega)]
    exact (out_A _ _ _ _ _ _ _ _ _ _ _ _ _ _ _ _ _ _ (block_ones m c t) y).trans (block_separate m c 4352 0 t _ _ hy1 hy2 (by omega))
  · rw [outsAt0_B m c t h (by omega), if_neg (by omega)]
    exact (out_B _ _ _ _ _ _ _ _ _ _ _ _ _ _ _ _ _ _ (block_ones m c t) y).trans (block_separate m c 256 4096 t _ _ hy1 hy2 (by omega))

end Cert.Latent

end
-- ==== Proof.LatentEqual.lean ====
/-
  Hand-written, untrusted. The latent attention's reference gives what its call gives: with finite queries and keys every score is a real
  number, the reference's order of the keys is a permutation of the call's, and the scale may go to the queries.
-/
module

public import proofs.«01_k».proof.Proof.LatentChain
public import proofs.«01_k».proof.Proof.LatentWhole

@[expose] public section

set_option maxRecDepth 16384

noncomputable section

namespace Cert.Latent

open Cert.Reference5Ideal Cert.Reference5Ideal.Gen Cert.Reference5Ideal.Read Cert.Attention Idealize.ShloMosaic

theorem scale_isReal : IsReal scale := by
  show IsReal (Ideal.ofBits .f32 0x3D93CD3A#32)
  simp only [Ideal.ofBits, Ideal.ieee]
  exact ⟨_, rfl⟩

variable (q k : FVec Ideal S2x4352x1536 .f32) (v : FVec Ideal S2x4352x1024 .f32) (p : FVec Ideal S2x4352x2560 .f32)
  (hq : ∀ i, IsReal (q i)) (hk : ∀ i, IsReal (k i))

include hq hk

theorem score_moved (b n r j : ℕ) :
    ∑ d : Fin 192, (at3 (A := 2) (B := 4352) (C := 1536) q b r (n * 192 + d.val) * scale) * at3 (A := 2) (B := 4352) (C := 1536) k b j (n * 192 + d.val)
        = refScore q k b n r j ∧ IsReal (refScore q k b n r j) := by
  have h0 := scaled_score (fun d : Fin 192 => at3 (A := 2) (B := 4352) (C := 1536) q b r (n * 192 + d.val))
    (fun d : Fin 192 => at3 (A := 2) (B := 4352) (C := 1536) k b j (n * 192 + d.val)) scale
    (fun d => isReal_at3 _ hq _ _ _) (fun d => isReal_at3 _ hk _ _ _) scale_isReal
  have e : refScore q k b n r j = (∑ d : Fin 192, at3 (A := 2) (B := 4352) (C := 1536) k b j (n * 192 + d.val)
      * at3 (A := 2) (B := 4352) (C := 1536) q b r (n * 192 + d.val)) * scale := rfl
  rw [e, ← h0.1]
  exact ⟨rfl, h0.2⟩

/-- The call's attention with the scale where the reference has it. -/
theorem separate_eq (N o b r c : ℕ) : separate N o q k v p b r c
    = average (fun j : Fin N => refScore q k b (c / 128) r (o + j.val)) (fun j : Fin N => at3 (A := 2) (B := 4352) (C := 1024) v b (o + j.val) c)
      * silu (at3 (A := 2) (B := 4352) (C := 2560) p b r c) := by
  unfold separate
  exact congrArg₂ (· * ·) (congrArg₂ average (funext fun j => (score_moved q k hq hk b _ r _).1) rfl) rfl

theorem latents_eq (i : S2x4096x1024.Idx) :
    val_main_v34 (F := Ideal) q k v p i = separate 4352 0 q k v p (i 0).val (i 1).val (i 2).val := by
  rw [separate_eq q k v p hq hk, result_latents q k v p i fun j => (score_moved q k hq hk _ _ _ _).2]
  refine congrArg (· * _) ?_
  have h := average_equiv keyOrder
    (fun j : Fin 4352 => refScore q k (i 0).val ((i 2).val / 128) (i 1).val (0 + j.val))
    (fun j : Fin 4352 => at3 (A := 2) (B := 4352) (C := 1024) v (i 0).val (0 + j.val) (i 2).val)
  refine Eq.trans ?_ h
  refine congrArg₂ average (funext fun j => ?_) (funext fun j => ?_)
  · show refScore q k _ _ _ (key j.val) = refScore q k _ _ _ (0 + key j.val)
    rw [Nat.zero_add]
  · show at3 _ _ (key j.val) _ = at3 _ _ (0 + key j.val) _
    rw [Nat.zero_add]

theorem context_eq (i : S2x256x1024.Idx) :
    val_main_v55 (F := Ideal) q k v p i = separate 256 4096 q k v p (i 0).val (4096 + (i 1).val) (i 2).val := by
  rw [separate_eq q k v p hq hk, result_context q k v p i fun j => (score_moved q k hq hk _ _ _ _).2]

/-- The reference's result, whole. -/
theorem reference_whole : val_main_v57 (F := Ideal) q k v p
    = fun y : S2x4352x1024.Idx => separateAll q k v p (y 0).val (y 1).val (y 2).val := by
  funext y
  obtain ⟨b, r, c, rfl⟩ : ∃ (b : Fin 2) (r : Fin 4352) (c : Fin 1024), y = ValueIdx.ix3 b r c := ⟨y 0, y 1, y 2, ValueIdx.eq_ix3 y⟩
  show val_main_v56 (F := Ideal) q k v p (ValueIdx.ix3 b r c) = separateAll q k v p b.val r.val c.val
  unfold separateAll val_main_v56
  by_cases h : r.val < 4096
  · rw [if_pos h]
    refine (concatenate_pair_apply_left (t := S2x4352x1024) (s₁ := S2x4096x1024) (s₂ := S2x256x1024) _ _ _ _ (ValueIdx.ix3 b r c) rfl
      (ValueIdx.ix3 b (⟨r.val, h⟩ : Fin 4096) c) ?_).trans ?_
    · intro a; match a with | ⟨0, _⟩ => rfl | ⟨1, _⟩ => rfl | ⟨2, _⟩ => rfl
    · exact latents_eq q k v p hq hk (ValueIdx.ix3 b (⟨r.val, h⟩ : Fin 4096) c)
  · rw [if_neg h]
    have hr : r.val - 4096 < 256 := by omega
    refine (concatenate_pair_apply_right (t := S2x4352x1024) (s₁ := S2x4096x1024) (s₂ := S2x256x1024) _ _ _ _ (ValueIdx.ix3 b r c) rfl rfl
      (ValueIdx.ix3 b (⟨r.val - 4096, hr⟩ : Fin 256) c) ?_ ?_).trans ?_
    · intro a ha
      fin_cases a
      · rfl
      · exact absurd rfl ha
      · rfl
    · show r.val - 4096 + 4096 = r.val; omega
    · refine (context_eq q k v p hq hk (ValueIdx.ix3 b (⟨r.val - 4096, hr⟩ : Fin 256) c)).trans ?_
      show separate 256 4096 q k v p b.val (4096 + (r.val - 4096)) c.val = _
      rw [show 4096 + (r.val - 4096) = r.val by omega]

end Cert.Latent

end
-- ==== Proof.Matrix.lean ====
/-
  Hand-written, untrusted. Matrices read at natural coordinates, and a product with a transposed factor as the sum it is.
-/
module

public import Idealize.ShloMosaic.Lib.MatmulPlain
public import Idealize.ShloMosaic.Lib.IdealHost
public import Idealize.ShloMosaic.Lib.Pipeline.ValueKit.Tiles

@[expose] public section

noncomputable section

namespace Cert.Projection

open Idealize.ShloMosaic Idealize.ShloMosaic.ValueIdx

/-- A matrix read at natural coordinates, zero outside. -/
def at2 {A B : ℕ} (x : (⟨2, ![A, B]⟩ : Shape).Idx → EReal) (a b : ℕ) : EReal :=
  if h : a < A ∧ b < B then x (ix2 ⟨a, h.1⟩ ⟨b, h.2⟩) else 0

theorem at2_eq {A B : ℕ} (x : (⟨2, ![A, B]⟩ : Shape).Idx → EReal) (y : (⟨2, ![A, B]⟩ : Shape).Idx) (a b : ℕ)
    (ha : (y 0).val = a) (hb : (y 1).val = b) : x y = at2 x a b := by
  subst ha hb
  have h0 : (y 0).val < A := (y 0).isLt
  have h1 : (y 1).val < B := (y 1).isLt
  unfold at2
  rw [dif_pos ⟨h0, h1⟩]
  exact congrArg x (eq_ix2 y)

theorem at2_of {A B : ℕ} (x : (⟨2, ![A, B]⟩ : Shape).Idx → EReal) (a b : ℕ) (ha : a < A) (hb : b < B) :
    at2 x a b = x (ix2 ⟨a, ha⟩ ⟨b, hb⟩) := dif_pos ⟨ha, hb⟩

/-- The product of `x` with the transpose of `w`, from zero, at a place. -/
theorem product_nt {M K N : ℕ} {φ₁ φ₂ : FTy} (x : FVec Ideal ⟨2, ![M, K]⟩ φ₁) (w : FVec Ideal ⟨2, ![N, K]⟩ φ₂) (y : (⟨2, ![M, N]⟩ : Shape).Idx) :
    matmul (DotDims.transposedRhs M K N) none x w (constant ⟨2, ![M, N]⟩ .f32 0x00000000#32) y
      = ∑ k : Fin K, at2 x (y 0).val k.val * at2 w (y 1).val k.val := by
  obtain ⟨r, c, rfl⟩ : ∃ (r : Fin M) (c : Fin N), y = ix2 r c := ⟨y 0, y 1, eq_ix2 y⟩
  refine (Ideal.matmul_transposedRhs_apply none _ _ _ r c).trans ?_
  refine (congrArg (· + _) Ideal.ofBits_zero_f32).trans ((zero_add _).trans ?_)
  exact Finset.sum_congr rfl fun k _ => congrArg₂ (· * ·) (at2_eq x _ _ _ rfl rfl) (at2_eq w _ _ _ rfl rfl)

/-- The product of `x` with `w`, from zero, at a place. -/
theorem product_nn {M K N : ℕ} {φ₁ φ₂ : FTy} (x : FVec Ideal ⟨2, ![M, K]⟩ φ₁) (w : FVec Ideal ⟨2, ![K, N]⟩ φ₂) (y : (⟨2, ![M, N]⟩ : Shape).Idx) :
    matmul (DotDims.plain M K N) none x w (constant ⟨2, ![M, N]⟩ .f32 0x00000000#32) y
      = ∑ k : Fin K, at2 x (y 0).val k.val * at2 w k.val (y 1).val := by
  obtain ⟨r, c, rfl⟩ : ∃ (r : Fin M) (c : Fin N), y = ix2 r c := ⟨y 0, y 1, eq_ix2 y⟩
  refine (Ideal.matmul_plain_apply none _ _ _ r c).trans ?_
  refine (congrArg (· + _) Ideal.ofBits_zero_f32).trans ((zero_add _).trans ?_)
  exact Finset.sum_congr rfl fun k _ => congrArg₂ (· * ·) (at2_eq x _ _ _ rfl rfl) (at2_eq w _ _ _ rfl rfl)

/-- A sum over four runs of `n` places is the four runs' sums. -/
theorem sum_four (n : ℕ) (f : ℕ → EReal) : ∑ k : Fin (n + n + n + n), f k.val
    = ∑ k : Fin n, f k.val + ∑ k : Fin n, f (n + k.val) + ∑ k : Fin n, f (n + n + k.val) + ∑ k : Fin n, f (n + n + n + k.val) := by
  rw [Fin.sum_univ_add, Fin.sum_univ_add, Fin.sum_univ_add]
  rfl

end Cert.Projection

end
-- ==== Proof.ProjAbc.lean ====
/-
  Hand-written, untrusted. The input projection of the columns of the recurrence, the convolution and the grouped-query attention: the
  tiled product's result at every place, over the call's arguments. A weight tile is cast once, at the first block of rows that meets
  it, and kept for the other seven.
-/
module

public import proofs.«01_k».proof.Proof.Gen.Kernel2Ideal.Value
public import proofs.«01_k».proof.Proof.Attend
public import proofs.«01_k».proof.Proof.Matrix
public import Idealize.ShloMosaic.Lib.Pipeline.ValueKit
public import Idealize.ShloMosaic.Lib.Claim

@[expose] public section

set_option maxRecDepth 16384

noncomputable section

namespace Cert.Projection.ABC

open Cert.Kernel2Ideal Cert.Kernel2Ideal.Gen Idealize.ShloMosaic Idealize.ShloMosaic.TcCoe Idealize.SL.Sem
open Cert.Attention (at3 at3_eq at3_of)

/-- The weight's tile of 512 columns that the result's tile `j` is a product with: the convolution's columns first, then the attention's
    queries, its gate, its keys and values, then the recurrence's. -/
def tile (j : ℕ) : ℕ := if j < 6 then j + 15 else if j < 8 then j - 6 else if j < 10 then j - 5 else if j < 11 then 2 else j - 6

/-- The weight's column behind the result's column `j`. -/
def column (j : ℕ) : ℕ := 512 * tile (j / 512) + j % 512

/-- The product of the tokens' row `r` with the weight's column `j`. -/
def product (h : FVec Ideal S8704x4096 .f32) (w : FVec Ideal S2x4096x13120 .f32) (r j : ℕ) : EReal :=
  ∑ k : Fin 4096, at2 h r k.val * at3 (A := 2) (B := 4096) (C := 13120) w 0 k.val j

/-- What the body leaves in the output, over the tokens' block and the cast tile. -/
theorem pay_product (x : Vec Ideal S1088x4096 .bf16) (w : Vec Ideal S512x4096 .bf16) (y : S1088x512.Idx) :
    k0_pay2 x w y = ∑ k : Fin 4096, at2 (A := 1088) (B := 4096) x (y 0).val k.val * at2 (A := 512) (B := 4096) w (y 1).val k.val := by
  unfold k0_pay2
  simp only [shapeCast_self]
  exact product_nt (M := 1088) (K := 4096) (N := 512) (φ₁ := .bf16) (φ₂ := .bf16) x w y

/-- The cast tile is the tile. -/
theorem pay_tile (x : Vec Ideal S1x512x4096 .f32) (r l : ℕ) (hr : r < 512) (hl : l < 4096) :
    at2 (A := 512) (B := 4096) (k0_pay1 x) r l = at3 (A := 1) (B := 512) (C := 4096) x 0 r l := by
  rw [at2_of _ r l hr hl, at3_of _ 0 r l (by omega) hr hl]
  unfold k0_pay1
  simp only [shapeCast_self]
  exact shapeCast_apply x shapeCasts_S1x512x4096_S512x4096 (ValueIdx.ix2 ⟨r, hr⟩ ⟨l, hl⟩) (ValueIdx.ix3 0 ⟨r, hr⟩ ⟨l, hl⟩)
    (by rewrite [Shape.rowMajor_val_three, Shape.rowMajor_val_two]; show (0 * 512 + r) * 4096 + l = r * 4096 + l; omega)

variable (m : (ℓ : Loc nD τ sig) → Buf (Elt Ideal) ℓ) (c : Dev nD)

theorem places : ∀ t : Fin cfg0.N, win0_0.index t = ![t.val % 8, 0] ∧ win0_1.index t = ![0, tile (t.val / 8), 0] ∧ win0_2.index t = ![t.val % 8, t.val / 8] :=
  (by decide +kernel : ∀ t : Fin grid0.N, _)

theorem given_h : V m c main_v1 = m ((c : Thread nD τ).loc main_arg0) := by
  entry_read
  rfl

theorem given_w (j k : ℕ) (hj : j < 13120) (hk : k < 4096) : at3 (A := 2) (B := 13120) (C := 4096) (V m c main_v0) 0 j k
    = at3 (A := 2) (B := 4096) (C := 13120) (m ((c : Thread nD τ).loc main_arg1)) 0 k j := by
  rw [at3_of _ 0 j k (by omega) hj hk]
  entry_read
  exact at3_eq (A := 2) (B := 4096) (C := 13120) (m ((c : Thread nD τ).loc main_arg1)) _ _ _ _ rfl rfl rfl

theorem read0 (X : S8704x4096.Idx → EReal) (t : Fin cfg0.N) (y : S1088x4096.Idx) :
    ((cfg0.win 0).blk t).view.read (Elt Ideal) X y = X ((win0_0.rect t).emb y) := rfl

theorem read1 (X : S2x13120x4096.Idx → EReal) (t : Fin cfg0.N) (y : ((cfg0.win 1).xblock (cfg0.grid.coords t)).Idx) :
    ((cfg0.win 1).blk t).view.read (Elt Ideal) X y = X ((win0_1.rect t).emb y) := rfl

theorem block0 (t : Fin cfg0.N) (r l : ℕ) (hr : r < 1088) (hl : l < 4096) :
    at2 (A := 1088) (B := 4096) (iblk m c 0 t) r l = at2 (A := 8704) (B := 4096) (V m c main_v1) (1088 * (t.val % 8) + r) l := by
  rw [at2_of _ r l hr hl]
  refine (read0 (V m c main_v1) t (ValueIdx.ix2 ⟨r, hr⟩ ⟨l, hl⟩)).trans (at2_eq (A := 8704) (B := 4096) (V m c main_v1) _ _ _
    ((win0_0.rect_emb_val t _ 0).trans ?_) ((win0_0.rect_emb_val t _ 1).trans ?_))
  · rw [show win0_0.index t 0 = t.val % 8 from congrFun (places t).1 0, show win0_0.size 0 = 1088 from rfl]
    exact congrArg (· + r) (Nat.mul_comm _ _)
  · rw [show win0_0.index t 1 = 0 from congrFun (places t).1 1]
    exact (congrArg (· + l) (Nat.zero_mul _)).trans (Nat.zero_add _)

theorem block1 (t : Fin cfg0.N) (r l : ℕ) (hr : r < 512) (hl : l < 4096) :
    at3 (A := 1) (B := 512) (C := 4096) (X0_1 m c t) 0 r l
      = at3 (A := 2) (B := 13120) (C := 4096) (V m c main_v0) 0 (512 * tile (t.val / 8) + r) l := by
  rw [at3_of _ 0 r l (by omega) hr hl]
  unfold X0_1 Pipeline.Window.fill
  rw [dif_pos (moved0_1 t _)]
  refine (read1 (V m c main_v0) t _).trans (at3_eq (A := 2) (B := 13120) (C := 4096) (V m c main_v0) _ _ _ _
    ((win0_1.rect_emb_val t _ 0).trans ?_) ((win0_1.rect_emb_val t _ 1).trans ?_) ((win0_1.rect_emb_val t _ 2).trans ?_))
  · rw [show win0_1.index t 0 = 0 from congrFun (places t).2.1 0]
    exact Nat.zero_mul _
  · rw [show win0_1.index t 1 = tile (t.val / 8) from congrFun (places t).2.1 1, show win0_1.size 1 = 512 from rfl]
    exact congrArg (· + r) (Nat.mul_comm _ _)
  · rw [show win0_1.index t 2 = 0 from congrFun (places t).2.1 2]
    exact (congrArg (· + l) (Nat.zero_mul _)).trans (Nat.zero_add _)

/-- After every point the scratch holds the cast tile of the point's group of eight. -/
theorem scratch (n : ℕ) (hn : n < cfg0.N) (r l : ℕ) (hr : r < 512) (hl : l < 4096) :
    at2 (A := 512) (B := 4096) (outsAt0 m c n hn).2 r l
      = at3 (A := 2) (B := 13120) (C := 4096) (V m c main_v0) 0 (512 * tile (n / 8) + r) l := by
  induction n with
  | zero =>
    rw [outsAt0_A m c ⟨0, hn⟩ (Nat.zero_mod _)]
    refine (congrArg (at2 (A := 512) (B := 4096) · r l) (?_ : _ = k0_pay1 (X0_1 m c ⟨0, hn⟩))).trans ((pay_tile _ r l hr hl).trans (block1 m c ⟨0, hn⟩ r l hr hl))
    frame_out
  | succ n ih =>
    by_cases h0 : (n + 1) % 8 = 0
    · rw [outsAt0_A m c ⟨n + 1, hn⟩ h0]
      refine (congrArg (at2 (A := 512) (B := 4096) · r l) (?_ : _ = k0_pay1 (X0_1 m c ⟨n + 1, hn⟩))).trans
        ((pay_tile _ r l hr hl).trans (block1 m c ⟨n + 1, hn⟩ r l hr hl))
      frame_out
    · rw [outsAt0_B m c ⟨n + 1, hn⟩ h0]
      show at2 (A := 512) (B := 4096) (outsAt0 m c n _).2 r l = _
      rw [ih, show (n + 1) / 8 = n / 8 by omega]

/-- What a point leaves in its output block. -/
theorem block_product (t : Fin cfg0.N) (y : S1088x512.Idx) : (outsAt0 m c t.val t.isLt).1 y
    = ∑ k : Fin 4096, at2 (A := 1088) (B := 4096) (iblk m c 0 t) (y 0).val k.val
        * at3 (A := 2) (B := 13120) (C := 4096) (V m c main_v0) 0 (512 * tile (t.val / 8) + (y 1).val) k.val := by
  have hy1 : (y 1).val < 512 := (y 1).isLt
  by_cases h0 : t.val % 8 = 0
  · rw [outsAt0_A m c t h0]
    refine (congrFun (?_ : _ = k0_pay2 (iblk m c 0 t) (k0_pay1 (X0_1 m c t))) y).trans ((pay_product _ _ y).trans ?_)
    · frame_out
    · exact Finset.sum_congr rfl fun k _ => congrArg (_ * ·) ((pay_tile _ _ _ hy1 k.isLt).trans (block1 m c t _ _ hy1 k.isLt))
  · rw [outsAt0_B m c t h0]
    have hp : t.val - 1 < cfg0.N := Nat.lt_of_le_of_lt (Nat.sub_le _ _) t.isLt
    refine (congrFun (?_ : _ = k0_pay2 (iblk m c 0 t) (outsAt0 m c (t.val - 1) hp).2) y).trans ((pay_product _ _ y).trans ?_)
    · frame_out
      exact congrArg (k0_pay2 _) (Memref.IsWhole.read_unread (Memref.isWhole_whole cc0_scratch0) _)
    · refine Finset.sum_congr rfl fun k _ => congrArg (_ * ·) ((scratch m c (t.val - 1) hp _ _ hy1 k.isLt).trans ?_)
      rw [show (t.val - 1) / 8 = t.val / 8 by omega]

theorem tile_lt (t : Fin cfg0.N) : tile (t.val / 8) < 25 := (by decide +kernel : ∀ t : Fin grid0.N, tile (t.val / 8) < 25) t

/-- The call's result, whole. -/
theorem whole : (dats m 0 c).arrAt 2 cfg0.N
    = fun y : S8704x10752.Idx => product (m ((c : Thread nD τ).loc main_arg0)) (m ((c : Thread nD τ).loc main_arg1)) (y 0).val (column (y 1).val) := by
  refine (dats m 0 c).arrAt_eq_of_covers 2 _ (by decide +kernel) fun t hf y => ?_
  have hy0 : (y 0).val < 1088 := (y 0).isLt
  have hy1 : (y 1).val < 512 := (y 1).isLt
  have e0 : ((((cfg0.win 2).blk t).view.emb y 0 : Fin _) : ℕ) = 1088 * (t.val % 8) + (y 0).val := by
    refine (win0_2.rect_emb_val t y 0).trans ?_
    rw [show win0_2.index t 0 = t.val % 8 from congrFun (places t).2.2 0, show win0_2.size 0 = 1088 from rfl, Nat.mul_comm]
  have e1 : column ((((cfg0.win 2).blk t).view.emb y 1 : Fin _) : ℕ) = 512 * tile (t.val / 8) + (y 1).val := by
    rw [show ((((cfg0.win 2).blk t).view.emb y 1 : Fin _) : ℕ) = _ from win0_2.rect_emb_val t y 1,
      show win0_2.index t 1 = t.val / 8 from congrFun (places t).2.2 1, show win0_2.size 1 = 512 from rfl]
    unfold column
    rw [show (t.val / 8 * 512 + (y 1).val) / 512 = t.val / 8 by omega, show (t.val / 8 * 512 + (y 1).val) % 512 = (y 1).val by omega]
  show _ = product _ _ (((cfg0.win 2).blk t).view.emb y 0).val (column (((cfg0.win 2).blk t).view.emb y 1).val)
  rw [e0, e1, cast_eq, after0_2]
  refine (block_product m c t y).trans ?_
  unfold product
  have ht := tile_lt t
  refine Finset.sum_congr rfl fun k _ => congrArg₂ (· * ·) ?_ ?_
  · rw [block0 m c t _ _ hy0 k.isLt, given_h]
  · exact given_w m c _ _ (by omega) k.isLt

end Cert.Projection.ABC

end
-- ==== Proof.ReadAbc.lean ====
/-
  Hand-written, untrusted. The reference's projection of the columns of the recurrence, the convolution and the grouped-query attention,
  at every place: twelve column groups of one product, side by side.
-/
module

public import proofs.«01_k».proof.Proof.Gen.Reference2Ideal.Read
public import proofs.«01_k».proof.Proof.ProjAbc

@[expose] public section

set_option maxRecDepth 16384

noncomputable section

namespace Cert.Projection.ABC

open Cert.Reference2Ideal Cert.Reference2Ideal.Read Idealize.ShloMosaic
open Cert.Attention (at3 at3_eq at3_of)

variable (h : FVec Ideal S8704x4096 .f32) (w : FVec Ideal S2x4096x13120 .f32)

/-- The whole product at a place. -/
theorem reference_product (y : S8704x13120.Idx) (r j : ℕ) (hr : (y 0).val = r) (hj : (y 1).val = j) :
    val_main_v2 (F := Ideal) h w y = product h w r j := by
  subst hr hj
  have hy : (y 1).val < 13120 := (y 1).isLt
  refine (val_main_v2_apply h w y).trans ?_
  unfold product
  refine Finset.sum_congr rfl fun k _ => congrArg₂ (· * ·) (at2_eq h _ _ _ rfl rfl) ?_
  have hk := k.isLt
  rw [val_main_v1_apply, val_main_v0_apply]
  refine at3_eq (A := 2) (B := 4096) (C := 13120) w _ _ _ _ rfl ?_ ?_
  · show (k.val * 13120 + (y 1).val) / 13120 % 4096 = k.val
    omega
  · show (k.val * 13120 + (y 1).val) % 13120 = (y 1).val
    omega

theorem reference_piece0 (y : S8704x10752.Idx) (lo : 0 ≤ (y 1).val) (hi : (y 1).val < 1024) :
    val_main_v19 (F := Ideal) h w y = product h w (y 0).val (column (y 1).val) := by
  unfold val_main_v19
  refine (concatenate_apply_piece (t := S8704x10752) 1 _ _ y 0 (by simp) S8704x1024 (val_main_v12 (F := Ideal) h w) rfl rfl 0 (by simp)
    (ValueIdx.ix2 (y 0) ⟨(y 1).val - 0, by omega⟩) ?_ ?_).trans ?_
  · intro b hb
    fin_cases b
    · rfl
    · exact absurd rfl hb
  · show 0 + ((y 1).val - 0) = (y 1).val
    omega
  · rw [val_main_v12_apply]
    refine reference_product h w _ _ _ rfl ?_
    show 7680 + ((y 1).val - 0) = column (y 1).val
    unfold column tile
    split_ifs <;> omega

theorem reference_piece1 (y : S8704x10752.Idx) (lo : 1024 ≤ (y 1).val) (hi : (y 1).val < 2048) :
    val_main_v19 (F := Ideal) h w y = product h w (y 0).val (column (y 1).val) := by
  unfold val_main_v19
  refine (concatenate_apply_piece (t := S8704x10752) 1 _ _ y 1 (by simp) S8704x1024 (val_main_v13 (F := Ideal) h w) rfl rfl 1024 (by simp)
    (ValueIdx.ix2 (y 0) ⟨(y 1).val - 1024, by omega⟩) ?_ ?_).trans ?_
  · intro b hb
    fin_cases b
    · rfl
    · exact absurd rfl hb
  · show 1024 + ((y 1).val - 1024) = (y 1).val
    omega
  · rw [val_main_v13_apply]
    refine reference_product h w _ _ _ rfl ?_
    show 8704 + ((y 1).val - 1024) = column (y 1).val
    unfold column tile
    split_ifs <;> omega

theorem reference_piece2 (y : S8704x10752.Idx) (lo : 2048 ≤ (y 1).val) (hi : (y 1).val < 3072) :
    val_main_v19 (F := Ideal) h w y = product h w (y 0).val (column (y 1).val) := by
  unfold val_main_v19
  refine (concatenate_apply_piece (t := S8704x10752) 1 _ _ y 2 (by simp) S8704x1024 (val_main_v14 (F := Ideal) h w) rfl rfl 2048 (by simp)
    (ValueIdx.ix2 (y 0) ⟨(y 1).val - 2048, by omega⟩) ?_ ?_).trans ?_
  · intro b hb
    fin_cases b
    · rfl
    · exact absurd rfl hb
  · show 2048 + ((y 1).val - 2048) = (y 1).val
    omega
  · rw [val_main_v14_apply]
    refine reference_product h w _ _ _ rfl ?_
    show 9728 + ((y 1).val - 2048) = column (y 1).val
    unfold column tile
    split_ifs <;> omega

theorem reference_piece3 (y : S8704x10752.Idx) (lo : 3072 ≤ (y 1).val) (hi : (y 1).val < 4096) :
    val_main_v19 (F := Ideal) h w y = product h w (y 0).val (column (y 1).val) := by
  unfold val_main_v19
  refine (concatenate_apply_piece (t := S8704x10752) 1 _ _ y 3 (by simp) S8704x1024 (val_main_v3 (F := Ideal) h w) rfl rfl 3072 (by simp)
    (ValueIdx.ix2 (y 0) ⟨(y 1).val - 3072, by omega⟩) ?_ ?_).trans ?_
  · intro b hb
    fin_cases b
    · rfl
    · exact absurd rfl hb
  · show 3072 + ((y 1).val - 3072) = (y 1).val
    omega
  · rw [val_main_v3_apply]
    refine reference_product h w _ _ _ rfl ?_
    show ((y 1).val - 3072) = column (y 1).val
    unfold column tile
    split_ifs <;> omega

theorem reference_piece4 (y : S8704x10752.Idx) (lo : 4096 ≤ (y 1).val) (hi : (y 1).val < 5120) :
    val_main_v19 (F := Ideal) h w y = product h w (y 0).val (column (y 1).val) := by
  unfold val_main_v19
  refine (concatenate_apply_piece (t := S8704x10752) 1 _ _ y 4 (by simp) S8704x1024 (val_main_v6 (F := Ideal) h w) rfl rfl 4096 (by simp)
    (ValueIdx.ix2 (y 0) ⟨(y 1).val - 4096, by omega⟩) ?_ ?_).trans ?_
  · intro b hb
    fin_cases b
    · rfl
    · exact absurd rfl hb
  · show 4096 + ((y 1).val - 4096) = (y 1).val
    omega
  · rw [val_main_v6_apply]
    refine reference_product h w _ _ _ rfl ?_
    show 1536 + ((y 1).val - 4096) = column (y 1).val
    unfold column tile
    split_ifs <;> omega

theorem reference_piece5 (y : S8704x10752.Idx) (lo : 5120 ≤ (y 1).val) (hi : (y 1).val < 5376) :
    val_main_v19 (F := Ideal) h w y = product h w (y 0).val (column (y 1).val) := by
  unfold val_main_v19
  refine (concatenate_apply_piece (t := S8704x10752) 1 _ _ y 5 (by simp) S8704x256 (val_main_v4 (F := Ideal) h w) rfl rfl 5120 (by simp)
    (ValueIdx.ix2 (y 0) ⟨(y 1).val - 5120, by omega⟩) ?_ ?_).trans ?_
  · intro b hb
    fin_cases b
    · rfl
    · exact absurd rfl hb
  · show 5120 + ((y 1).val - 5120) = (y 1).val
    omega
  · rw [val_main_v4_apply]
    refine reference_product h w _ _ _ rfl ?_
    show 1024 + ((y 1).val - 5120) = column (y 1).val
    unfold column tile
    split_ifs <;> omega

theorem reference_piece6 (y : S8704x10752.Idx) (lo : 5376 ≤ (y 1).val) (hi : (y 1).val < 5632) :
    val_main_v19 (F := Ideal) h w y = product h w (y 0).val (column (y 1).val) := by
  unfold val_main_v19
  refine (concatenate_apply_piece (t := S8704x10752) 1 _ _ y 6 (by simp) S8704x256 (val_main_v5 (F := Ideal) h w) rfl rfl 5376 (by simp)
    (ValueIdx.ix2 (y 0) ⟨(y 1).val - 5376, by omega⟩) ?_ ?_).trans ?_
  · intro b hb
    fin_cases b
    · rfl
    · exact absurd rfl hb
  · show 5376 + ((y 1).val - 5376) = (y 1).val
    omega
  · rw [val_main_v5_apply]
    refine reference_product h w _ _ _ rfl ?_
    show 1280 + ((y 1).val - 5376) = column (y 1).val
    unfold column tile
    split_ifs <;> omega

theorem reference_piece7 (y : S8704x10752.Idx) (lo : 5632 ≤ (y 1).val) (hi : (y 1).val < 6656) :
    val_main_v19 (F := Ideal) h w y = product h w (y 0).val (column (y 1).val) := by
  unfold val_main_v19
  refine (concatenate_apply_piece (t := S8704x10752) 1 _ _ y 7 (by simp) S8704x1024 (val_main_v7 (F := Ideal) h w) rfl rfl 5632 (by simp)
    (ValueIdx.ix2 (y 0) ⟨(y 1).val - 5632, by omega⟩) ?_ ?_).trans ?_
  · intro b hb
    fin_cases b
    · rfl
    · exact absurd rfl hb
  · show 5632 + ((y 1).val - 5632) = (y 1).val
    omega
  · rw [val_main_v7_apply]
    refine reference_product h w _ _ _ rfl ?_
    show 2560 + ((y 1).val - 5632) = column (y 1).val
    unfold column tile
    split_ifs <;> omega

theorem reference_piece8 (y : S8704x10752.Idx) (lo : 6656 ≤ (y 1).val) (hi : (y 1).val < 7680) :
    val_main_v19 (F := Ideal) h w y = product h w (y 0).val (column (y 1).val) := by
  unfold val_main_v19
  refine (concatenate_apply_piece (t := S8704x10752) 1 _ _ y 8 (by simp) S8704x1024 (val_main_v8 (F := Ideal) h w) rfl rfl 6656 (by simp)
    (ValueIdx.ix2 (y 0) ⟨(y 1).val - 6656, by omega⟩) ?_ ?_).trans ?_
  · intro b hb
    fin_cases b
    · rfl
    · exact absurd rfl hb
  · show 6656 + ((y 1).val - 6656) = (y 1).val
    omega
  · rw [val_main_v8_apply]
    refine reference_product h w _ _ _ rfl ?_
    show 3584 + ((y 1).val - 6656) = column (y 1).val
    unfold column tile
    split_ifs <;> omega

theorem reference_piece9 (y : S8704x10752.Idx) (lo : 7680 ≤ (y 1).val) (hi : (y 1).val < 8704) :
    val_main_v19 (F := Ideal) h w y = product h w (y 0).val (column (y 1).val) := by
  unfold val_main_v19
  refine (concatenate_apply_piece (t := S8704x10752) 1 _ _ y 9 (by simp) S8704x1024 (val_main_v9 (F := Ideal) h w) rfl rfl 7680 (by simp)
    (ValueIdx.ix2 (y 0) ⟨(y 1).val - 7680, by omega⟩) ?_ ?_).trans ?_
  · intro b hb
    fin_cases b
    · rfl
    · exact absurd rfl hb
  · show 7680 + ((y 1).val - 7680) = (y 1).val
    omega
  · rw [val_main_v9_apply]
    refine reference_product h w _ _ _ rfl ?_
    show 4608 + ((y 1).val - 7680) = column (y 1).val
    unfold column tile
    split_ifs <;> omega

theorem reference_piece10 (y : S8704x10752.Idx) (lo : 8704 ≤ (y 1).val) (hi : (y 1).val < 9728) :
    val_main_v19 (F := Ideal) h w y = product h w (y 0).val (column (y 1).val) := by
  unfold val_main_v19
  refine (concatenate_apply_piece (t := S8704x10752) 1 _ _ y 10 (by simp) S8704x1024 (val_main_v10 (F := Ideal) h w) rfl rfl 8704 (by simp)
    (ValueIdx.ix2 (y 0) ⟨(y 1).val - 8704, by omega⟩) ?_ ?_).trans ?_
  · intro b hb
    fin_cases b
    · rfl
    · exact absurd rfl hb
  · show 8704 + ((y 1).val - 8704) = (y 1).val
    omega
  · rw [val_main_v10_apply]
    refine reference_product h w _ _ _ rfl ?_
    show 5632 + ((y 1).val - 8704) = column (y 1).val
    unfold column tile
    split_ifs <;> omega

theorem reference_piece11 (y : S8704x10752.Idx) (lo : 9728 ≤ (y 1).val) (hi : (y 1).val < 10752) :
    val_main_v19 (F := Ideal) h w y = product h w (y 0).val (column (y 1).val) := by
  unfold val_main_v19
  refine (concatenate_apply_piece (t := S8704x10752) 1 _ _ y 11 (by simp) S8704x1024 (val_main_v11 (F := Ideal) h w) rfl rfl 9728 (by simp)
    (ValueIdx.ix2 (y 0) ⟨(y 1).val - 9728, by omega⟩) ?_ ?_).trans ?_
  · intro b hb
    fin_cases b
    · rfl
    · exact absurd rfl hb
  · show 9728 + ((y 1).val - 9728) = (y 1).val
    omega
  · rw [val_main_v11_apply]
    refine reference_product h w _ _ _ rfl ?_
    show 6656 + ((y 1).val - 9728) = column (y 1).val
    unfold column tile
    split_ifs <;> omega

/-- The reference's result, whole. -/
theorem reference_whole : val_main_v20 (F := Ideal) h w = fun y : S8704x10752.Idx => product h w (y 0).val (column (y 1).val) := by
  funext y
  refine (val_main_v20_apply (F := Ideal) h w y).trans ?_
  show val_main_v19 (F := Ideal) h w y = _
  have hy : (y 1).val < 10752 := (y 1).isLt
  by_cases h0 : (y 1).val < 1024
  · exact reference_piece0 h w y (by omega) h0
  by_cases h1 : (y 1).val < 2048
  · exact reference_piece1 h w y (by omega) h1
  by_cases h2 : (y 1).val < 3072
  · exact reference_piece2 h w y (by omega) h2
  by_cases h3 : (y 1).val < 4096
  · exact reference_piece3 h w y (by omega) h3
  by_cases h4 : (y 1).val < 5120
  · exact reference_piece4 h w y (by omega) h4
  by_cases h5 : (y 1).val < 5376
  · exact reference_piece5 h w y (by omega) h5
  by_cases h6 : (y 1).val < 5632
  · exact reference_piece6 h w y (by omega) h6
  by_cases h7 : (y 1).val < 6656
  · exact reference_piece7 h w y (by omega) h7
  by_cases h8 : (y 1).val < 7680
  · exact reference_piece8 h w y (by omega) h8
  by_cases h9 : (y 1).val < 8704
  · exact reference_piece9 h w y (by omega) h9
  by_cases h10 : (y 1).val < 9728
  · exact reference_piece10 h w y (by omega) h10
  exact reference_piece11 h w y (by omega) hy

end Cert.Projection.ABC

end
-- ==== Proof.ProjOut.lean ====
/-
  Hand-written, untrusted. The output projection with its gate and residual: the tiled call's result at every place, over the call's
  arguments. A tile of the weight's columns is cast once, at the first block of rows that meets it, and kept for the other seven.
-/
module

public import proofs.«01_k».proof.Proof.Gen.Kernel3Ideal.Value
public import proofs.«01_k».proof.Proof.Attend
public import proofs.«01_k».proof.Proof.Matrix
public import Idealize.ShloMosaic.Lib.Pipeline.ValueKit
public import Idealize.ShloMosaic.Lib.Pipeline.ReadBack
public import Idealize.ShloMosaic.Lib.Claim

@[expose] public section

set_option maxRecDepth 16384

noncomputable section

namespace Cert.Projection.Out

open Cert.Kernel3Ideal Cert.Kernel3Ideal.Gen Idealize.ShloMosaic Idealize.ShloMosaic.TcCoe Idealize.SL.Sem
open Cert.Attention (at3 at3_eq at3_of)

/-- One branch's share of the projection: its row `r` of batch `b` against the 1024 rows of the weight from `o` on, column `j`. -/
def part {A B : ℕ} (y : (⟨3, ![A, B, 1024]⟩ : Shape).Idx → EReal) (w : FVec Ideal S2x4096x4096 .f32) (o b r j : ℕ) : EReal :=
  ∑ k : Fin 1024, at3 y b r k.val * at3 (A := 2) (B := 4096) (C := 4096) w 1 (o + k.val) j

/-- The layer's result at batch `b`, row `r`, column `j`: the residual plus the gate times the four branches' shares. -/
def result (ya : FVec Ideal S2x4096x1024 .f32) (yb : FVec Ideal S2x4352x1024 .f32) (yc yd : FVec Ideal S2x4096x1024 .f32)
    (w x : FVec Ideal S2x4096x4096 .f32) (g : FVec Ideal S8x12288 .f32) (b r j : ℕ) : EReal :=
  at3 (A := 2) (B := 4096) (C := 4096) x b r j + at2 (A := 8) (B := 12288) g b (8192 + j)
    * (part (A := 2) (B := 4096) ya w 0 b r j + part (A := 2) (B := 4352) yb w 1024 b r j
      + part (A := 2) (B := 4096) yc w 2048 b r j + part (A := 2) (B := 4096) yd w 3072 b r j)

/-- A block of a branch's rows as a matrix. -/
theorem rows_at (x : Vec Ideal S1x1024x1024 .bf16) (r k : ℕ) (hr : r < 1024) (hk : k < 1024) :
    at2 (A := 1024) (B := 1024) (shapeCast S1024x1024 x shapeCasts_S1x1024x1024_S1024x1024) r k
      = at3 (A := 1) (B := 1024) (C := 1024) x 0 r k := by
  rw [at2_of _ r k hr hk, at3_of _ 0 r k (by omega) hr hk]
  exact shapeCast_apply x shapeCasts_S1x1024x1024_S1024x1024 (ValueIdx.ix2 ⟨r, hr⟩ ⟨k, hk⟩) (ValueIdx.ix3 0 ⟨r, hr⟩ ⟨k, hk⟩)
    (by rewrite [Shape.rowMajor_val_three, Shape.rowMajor_val_two]; show (0 * 1024 + r) * 1024 + k = r * 1024 + k; omega)

/-- The residual's block as a matrix. -/
theorem residual_at (x : Vec Ideal S1x1024x512 .f32) (r k : ℕ) (hr : r < 1024) (hk : k < 512) :
    at2 (A := 1024) (B := 512) (k0_pay4 x) r k = at3 (A := 1) (B := 1024) (C := 512) x 0 r k := by
  rw [at2_of _ r k hr hk, at3_of _ 0 r k (by omega) hr hk]
  exact shapeCast_apply x shapeCasts_S1x1024x512_S1024x512 (ValueIdx.ix2 ⟨r, hr⟩ ⟨k, hk⟩) (ValueIdx.ix3 0 ⟨r, hr⟩ ⟨k, hk⟩)
    (by rewrite [Shape.rowMajor_val_three, Shape.rowMajor_val_two]; show (0 * 1024 + r) * 512 + k = r * 512 + k; omega)

/-- The cast tile is the tile. -/
theorem tile_at (x : Vec Ideal S1x4096x512 .f32) (r k : ℕ) (hr : r < 4096) (hk : k < 512) :
    at2 (A := 4096) (B := 512) (k0_pay2 x) r k = at3 (A := 1) (B := 4096) (C := 512) x 0 r k := by
  rw [at2_of _ r k hr hk, at3_of _ 0 r k (by omega) hr hk]
  unfold k0_pay2
  simp only [shapeCast_self]
  exact shapeCast_apply x shapeCasts_S1x4096x512_S4096x512 (ValueIdx.ix2 ⟨r, hr⟩ ⟨k, hk⟩) (ValueIdx.ix3 0 ⟨r, hr⟩ ⟨k, hk⟩)
    (by rewrite [Shape.rowMajor_val_three, Shape.rowMajor_val_two]; show (0 * 4096 + r) * 512 + k = r * 512 + k; omega)

/-- One dot of the body. -/
theorem dot_at (x : Vec Ideal S1x1024x1024 .bf16) (w : Vec Ideal S1024x512 .bf16) (W : Vec Ideal S4096x512 .bf16) (o : ℕ) (ho : o + 1024 ≤ 4096)
    (hw : ∀ (k : Fin 1024) (l : Fin 512), w (ValueIdx.ix2 k l) = W (ValueIdx.ix2 ⟨o + k.val, by omega⟩ l)) (z : S1024x512.Idx) :
    matmul (φ₂ := .bf16) dot_S1024x1024_S1024x512_S1024x512_1_0_0_1_n_n none (shapeCast S1024x1024 x shapeCasts_S1x1024x1024_S1024x1024 : FVec Ideal S1024x1024 .bf16)
        w
        (constant S1024x512 .f32 0x00000000#32) z
      = ∑ k : Fin 1024, at3 (A := 1) (B := 1024) (C := 1024) x 0 (z 0).val k.val * at2 (A := 4096) (B := 512) W (o + k.val) (z 1).val := by
  have h0 : (z 0).val < 1024 := (z 0).isLt
  have h1 : (z 1).val < 512 := (z 1).isLt
  refine (product_nn (M := 1024) (K := 1024) (N := 512) (φ₁ := .bf16) (φ₂ := .bf16) _ w z).trans ?_
  refine Finset.sum_congr rfl fun k _ => congrArg₂ (· * ·) (rows_at x _ _ h0 k.isLt) ?_
  have hk := k.isLt
  rw [at2_of _ _ _ k.isLt h1, at2_of _ _ _ (by omega) h1]
  exact hw k ⟨(z 1).val, h1⟩

/-- Rows of the kept tile, loaded from row `o` on. -/
theorem load_rows (W : Vec Ideal S4096x512 .bf16) (o : ℕ) (ho : o + 1024 ≤ 4096) (inb : ∀ a, (![o, 0] : Fin 2 → ℕ) a + (![1024, 512] : Fin 2 → ℕ) a ≤ S4096x512.size a)
    (k : Fin 1024) (l : Fin 512) : View.ld W (Rect.unit (s := S4096x512) ![o, 0] ![1024, 512] inb) (ValueIdx.ix2 k l) = W (ValueIdx.ix2 ⟨o + k.val, by omega⟩ l) := by
  refine View.ld_unit_apply_of W _ _ inb _ _ fun a => ?_
  match a with
  | ⟨0, _⟩ => rfl
  | ⟨1, _⟩ => exact (Nat.zero_add _).symm

/-- What the body leaves in its output block, over its input blocks, the kept tile and the gate's row. -/
theorem pay_product (x0 x1 x2 x3 : Vec Ideal S1x1024x1024 .bf16) (W : Vec Ideal S4096x512 .bf16) (w0 w1 w2 w3 : Vec Ideal S1024x512 .bf16)
    (x5 : Vec Ideal S1x1024x512 .f32) (g : Vec Ideal S1x512 .f32)
    (h0 : ∀ (k : Fin 1024) (l : Fin 512), w0 (ValueIdx.ix2 k l) = W (ValueIdx.ix2 ⟨0 + k.val, by omega⟩ l))
    (h1 : ∀ (k : Fin 1024) (l : Fin 512), w1 (ValueIdx.ix2 k l) = W (ValueIdx.ix2 ⟨1024 + k.val, by omega⟩ l))
    (h2 : ∀ (k : Fin 1024) (l : Fin 512), w2 (ValueIdx.ix2 k l) = W (ValueIdx.ix2 ⟨2048 + k.val, by omega⟩ l))
    (h3 : ∀ (k : Fin 1024) (l : Fin 512), w3 (ValueIdx.ix2 k l) = W (ValueIdx.ix2 ⟨3072 + k.val, by omega⟩ l)) (y : S1x1024x512.Idx) :
    k0_pay1 (k0_pay3 x0 w0 x1 w1 x2 w2 x3 w3) (k0_pay4 x5) g y
      = at3 (A := 1) (B := 1024) (C := 512) x5 0 (y 1).val (y 2).val + at2 (A := 1) (B := 512) g 0 (y 2).val
        * (∑ k : Fin 1024, at3 (A := 1) (B := 1024) (C := 1024) x0 0 (y 1).val k.val * at2 (A := 4096) (B := 512) W (0 + k.val) (y 2).val
          + ∑ k : Fin 1024, at3 (A := 1) (B := 1024) (C := 1024) x1 0 (y 1).val k.val * at2 (A := 4096) (B := 512) W (1024 + k.val) (y 2).val
          + ∑ k : Fin 1024, at3 (A := 1) (B := 1024) (C := 1024) x2 0 (y 1).val k.val * at2 (A := 4096) (B := 512) W (2048 + k.val) (y 2).val
          + ∑ k : Fin 1024, at3 (A := 1) (B := 1024) (C := 1024) x3 0 (y 1).val k.val * at2 (A := 4096) (B := 512) W (3072 + k.val) (y 2).val) := by
  have hy0 : (y 0).val < 1 := (y 0).isLt
  have hy1 : (y 1).val < 1024 := (y 1).isLt
  have hy2 : (y 2).val < 512 := (y 2).isLt
  let z : S1024x512.Idx := ValueIdx.ix2 ⟨(y 1).val, hy1⟩ ⟨(y 2).val, hy2⟩
  unfold k0_pay1
  refine (shapeCast_apply _ shapeCasts_S1024x512_S1x1024x512 y z
    (by rewrite [Shape.rowMajor_val_three, Shape.rowMajor_val_two]; show (y 1).val * 512 + (y 2).val = ((y 0).val * 1024 + (y 1).val) * 512 + (y 2).val; omega)).trans ?_
  refine congrArg₂ (· + ·) ((at2_eq (A := 1024) (B := 512) (k0_pay4 x5) z _ _ rfl rfl).trans (residual_at x5 _ _ hy1 hy2)) (congrArg₂ (· * ·) ?_ ?_)
  · exact at2_eq (A := 1) (B := 512) g _ _ _ rfl rfl
  · unfold k0_pay3
    refine congrArg₂ (· + ·) (congrArg₂ (· + ·) (congrArg₂ (· + ·) ?_ ?_) ?_) ?_
    · exact (dot_at x0 w0 W 0 (by omega) h0 z)
    · exact (dot_at x1 w1 W 1024 (by omega) h1 z)
    · exact (dot_at x2 w2 W 2048 (by omega) h2 z)
    · exact (dot_at x3 w3 W 3072 (by omega) h3 z)

variable (m : (ℓ : Loc nD τ sig) → Buf (Elt Ideal) ℓ) (c : Dev nD)

theorem places : ∀ t : Fin cfg0.N, win0_0.index t = ![t.val / 4 % 2, t.val % 4, 0] ∧ win0_1.index t = ![t.val / 4 % 2, t.val % 4, 0]
    ∧ win0_2.index t = ![t.val / 4 % 2, t.val % 4, 0] ∧ win0_3.index t = ![t.val / 4 % 2, t.val % 4, 0]
    ∧ win0_4.index t = ![1, 0, t.val / 8] ∧ win0_5.index t = ![t.val / 4 % 2, t.val % 4, t.val / 8] ∧ win0_6.index t = ![0, 16 + t.val / 8]
    ∧ win0_7.index t = ![t.val / 4 % 2, t.val % 4, t.val / 8] :=
  (by decide +kernel : ∀ t : Fin grid0.N, _)

theorem gate_row : ∀ t : Fin cfg0.N, k0_off1 (grid0.coords t) = ![t.val / 4 % 2, 0] :=
  (by decide +kernel : ∀ t : Fin grid0.N, _)

theorem column_lt : ∀ t : Fin cfg0.N, t.val / 8 < 8 :=
  (by decide +kernel : ∀ t : Fin grid0.N, t.val / 8 < 8)

theorem given0 : V m c main_v0 = m ((c : Thread nD τ).loc main_arg0) := by
  entry_read
  rfl

theorem given1 : V m c main_v1 = m ((c : Thread nD τ).loc main_arg1) := by
  entry_read
  rfl

theorem given2 : V m c main_v2 = m ((c : Thread nD τ).loc main_arg2) := by
  entry_read
  rfl

theorem given3 : V m c main_v3 = m ((c : Thread nD τ).loc main_arg3) := by
  entry_read
  rfl

theorem given4 : V m c main_arg4 = m ((c : Thread nD τ).loc main_arg4) := by
  entry_read
  rfl

theorem given5 : V m c main_arg5 = m ((c : Thread nD τ).loc main_arg5) := by
  entry_read
  rfl

theorem given6 : V m c main_arg6 = m ((c : Thread nD τ).loc main_arg6) := by
  entry_read
  rfl

theorem read0 (X : S2x4096x1024.Idx → EReal) (t : Fin cfg0.N) (y : S1x1024x1024.Idx) :
    ((cfg0.win 0).blk t).view.read (Elt Ideal) X y = X ((win0_0.rect t).emb y) := rfl

theorem block0 (t : Fin cfg0.N) (r l : ℕ) (hr : r < 1024) (hl : l < 1024) :
    at3 (A := 1) (B := 1024) (C := 1024) (iblk m c 0 t) 0 r l
      = at3 (A := 2) (B := 4096) (C := 1024) (V m c main_v0) (t.val / 4 % 2) (1024 * (t.val % 4) + r) l := by
  rw [at3_of _ 0 r l (by omega) hr hl]
  refine (read0 (V m c main_v0) t (ValueIdx.ix3 0 ⟨r, hr⟩ ⟨l, hl⟩)).trans (at3_eq (A := 2) (B := 4096) (C := 1024) (V m c main_v0) _ _ _ _
    ((win0_0.rect_emb_val t _ 0).trans ?_) ((win0_0.rect_emb_val t _ 1).trans ?_) ((win0_0.rect_emb_val t _ 2).trans ?_))
  · rw [show win0_0.index t 0 = t.val / 4 % 2 from congrFun (places t).1 0, show win0_0.size 0 = 1 from rfl]
    exact Nat.mul_one _
  · rw [show win0_0.index t 1 = t.val % 4 from congrFun (places t).1 1, show win0_0.size 1 = 1024 from rfl]
    exact congrArg (· + r) (Nat.mul_comm _ _)
  · rw [show win0_0.index t 2 = 0 from congrFun (places t).1 2, show win0_0.size 2 = 1024 from rfl]
    exact (congrArg (· + l) (Nat.zero_mul _)).trans (Nat.zero_add _)

theorem read1 (X : S2x4352x1024.Idx → EReal) (t : Fin cfg0.N) (y : ((cfg0.win 1).xblock (cfg0.grid.coords t)).Idx) :
    ((cfg0.win 1).blk t).view.read (Elt Ideal) X y = X ((win0_1.rect t).emb y) := rfl

theorem block1 (t : Fin cfg0.N) (r l : ℕ) (hr : r < 1024) (hl : l < 1024) :
    at3 (A := 1) (B := 1024) (C := 1024) (X0_1 m c t) 0 r l
      = at3 (A := 2) (B := 4352) (C := 1024) (V m c main_v1) (t.val / 4 % 2) (1024 * (t.val % 4) + r) l := by
  rw [at3_of _ 0 r l (by omega) hr hl]
  unfold X0_1 Pipeline.Window.fill
  rw [dif_pos (moved0_1 t _)]
  refine (read1 (V m c main_v1) t _).trans (at3_eq (A := 2) (B := 4352) (C := 1024) (V m c main_v1) _ _ _ _
    ((win0_1.rect_emb_val t _ 0).trans ?_) ((win0_1.rect_emb_val t _ 1).trans ?_) ((win0_1.rect_emb_val t _ 2).trans ?_))
  · rw [show win0_1.index t 0 = t.val / 4 % 2 from congrFun (places t).2.1 0, show win0_1.size 0 = 1 from rfl]
    exact Nat.mul_one _
  · rw [show win0_1.index t 1 = t.val % 4 from congrFun (places t).2.1 1, show win0_1.size 1 = 1024 from rfl]
    exact congrArg (· + r) (Nat.mul_comm _ _)
  · rw [show win0_1.index t 2 = 0 from congrFun (places t).2.1 2, show win0_1.size 2 = 1024 from rfl]
    exact (congrArg (· + l) (Nat.zero_mul _)).trans (Nat.zero_add _)

theorem read2 (X : S2x4096x1024.Idx → EReal) (t : Fin cfg0.N) (y : S1x1024x1024.Idx) :
    ((cfg0.win 2).blk t).view.read (Elt Ideal) X y = X ((win0_2.rect t).emb y) := rfl

theorem block2 (t : Fin cfg0.N) (r l : ℕ) (hr : r < 1024) (hl : l < 1024) :
    at3 (A := 1) (B := 1024) (C := 1024) (iblk m c 2 t) 0 r l
      = at3 (A := 2) (B := 4096) (C := 1024) (V m c main_v2) (t.val / 4 % 2) (1024 * (t.val % 4) + r) l := by
  rw [at3_of _ 0 r l (by omega) hr hl]
  refine (read2 (V m c main_v2) t (ValueIdx.ix3 0 ⟨r, hr⟩ ⟨l, hl⟩)).trans (at3_eq (A := 2) (B := 4096) (C := 1024) (V m c main_v2) _ _ _ _
    ((win0_2.rect_emb_val t _ 0).trans ?_) ((win0_2.rect_emb_val t _ 1).trans ?_) ((win0_2.rect_emb_val t _ 2).trans ?_))
  · rw [show win0_2.index t 0 = t.val / 4 % 2 from congrFun (places t).2.2.1 0, show win0_2.size 0 = 1 from rfl]
    exact Nat.mul_one _
  · rw [show win0_2.index t 1 = t.val % 4 from congrFun (places t).2.2.1 1, show win0_2.size 1 = 1024 from rfl]
    exact congrArg (· + r) (Nat.mul_comm _ _)
  · rw [show win0_2.index t 2 = 0 from congrFun (places t).2.2.1 2, show win0_2.size 2 = 1024 from rfl]
    exact (congrArg (· + l) (Nat.zero_mul _)).trans (Nat.zero_add _)

theorem read3 (X : S2x4096x1024.Idx → EReal) (t : Fin cfg0.N) (y : S1x1024x1024.Idx) :
    ((cfg0.win 3).blk t).view.read (Elt Ideal) X y = X ((win0_3.rect t).emb y) := rfl

theorem block3 (t : Fin cfg0.N) (r l : ℕ) (hr : r < 1024) (hl : l < 1024) :
    at3 (A := 1) (B := 1024) (C := 1024) (iblk m c 3 t) 0 r l
      = at3 (A := 2) (B := 4096) (C := 1024) (V m c main_v3) (t.val / 4 % 2) (1024 * (t.val % 4) + r) l := by
  rw [at3_of _ 0 r l (by omega) hr hl]
  refine (read3 (V m c main_v3) t (ValueIdx.ix3 0 ⟨r, hr⟩ ⟨l, hl⟩)).trans (at3_eq (A := 2) (B := 4096) (C := 1024) (V m c main_v3) _ _ _ _
    ((win0_3.rect_emb_val t _ 0).trans ?_) ((win0_3.rect_emb_val t _ 1).trans ?_) ((win0_3.rect_emb_val t _ 2).trans ?_))
  · rw [show win0_3.index t 0 = t.val / 4 % 2 from congrFun (places t).2.2.2.1 0, show win0_3.size 0 = 1 from rfl]
    exact Nat.mul_one _
  · rw [show win0_3.index t 1 = t.val % 4 from congrFun (places t).2.2.2.1 1, show win0_3.size 1 = 1024 from rfl]
    exact congrArg (· + r) (Nat.mul_comm _ _)
  · rw [show win0_3.index t 2 = 0 from congrFun (places t).2.2.2.1 2, show win0_3.size 2 = 1024 from rfl]
    exact (congrArg (· + l) (Nat.zero_mul _)).trans (Nat.zero_add _)

theorem read4 (X : S2x4096x4096.Idx → EReal) (t : Fin cfg0.N) (y : S1x4096x512.Idx) :
    ((cfg0.win 4).blk t).view.read (Elt Ideal) X y = X ((win0_4.rect t).emb y) := rfl

theorem block4 (t : Fin cfg0.N) (r l : ℕ) (hr : r < 4096) (hl : l < 512) :
    at3 (A := 1) (B := 4096) (C := 512) (iblk m c 4 t) 0 r l
      = at3 (A := 2) (B := 4096) (C := 4096) (V m c main_arg4) 1 r (512 * (t.val / 8) + l) := by
  rw [at3_of _ 0 r l (by omega) hr hl]
  refine (read4 (V m c main_arg4) t (ValueIdx.ix3 0 ⟨r, hr⟩ ⟨l, hl⟩)).trans (at3_eq (A := 2) (B := 4096) (C := 4096) (V m c main_arg4) _ _ _ _
    ((win0_4.rect_emb_val t _ 0).trans ?_) ((win0_4.rect_emb_val t _ 1).trans ?_) ((win0_4.rect_emb_val t _ 2).trans ?_))
  · rw [show win0_4.index t 0 = 1 from congrFun (places t).2.2.2.2.1 0, show win0_4.size 0 = 1 from rfl]
    rfl
  · rw [show win0_4.index t 1 = 0 from congrFun (places t).2.2.2.2.1 1, show win0_4.size 1 = 4096 from rfl]
    exact (congrArg (· + r) (Nat.zero_mul _)).trans (Nat.zero_add _)
  · rw [show win0_4.index t 2 = t.val / 8 from congrFun (places t).2.2.2.2.1 2, show win0_4.size 2 = 512 from rfl]
    exact congrArg (· + l) (Nat.mul_comm _ _)

theorem read5 (X : S2x4096x4096.Idx → EReal) (t : Fin cfg0.N) (y : S1x1024x512.Idx) :
    ((cfg0.win 5).blk t).view.read (Elt Ideal) X y = X ((win0_5.rect t).emb y) := rfl

theorem block5 (t : Fin cfg0.N) (r l : ℕ) (hr : r < 1024) (hl : l < 512) :
    at3 (A := 1) (B := 1024) (C := 512) (iblk m c 5 t) 0 r l
      = at3 (A := 2) (B := 4096) (C := 4096) (V m c main_arg5) (t.val / 4 % 2) (1024 * (t.val % 4) + r) (512 * (t.val / 8) + l) := by
  rw [at3_of _ 0 r l (by omega) hr hl]
  refine (read5 (V m c main_arg5) t (ValueIdx.ix3 0 ⟨r, hr⟩ ⟨l, hl⟩)).trans (at3_eq (A := 2) (B := 4096) (C := 4096) (V m c main_arg5) _ _ _ _
    ((win0_5.rect_emb_val t _ 0).trans ?_) ((win0_5.rect_emb_val t _ 1).trans ?_) ((win0_5.rect_emb_val t _ 2).trans ?_))
  · rw [show win0_5.index t 0 = t.val / 4 % 2 from congrFun (places t).2.2.2.2.2.1 0, show win0_5.size 0 = 1 from rfl]
    exact Nat.mul_one _
  · rw [show win0_5.index t 1 = t.val % 4 from congrFun (places t).2.2.2.2.2.1 1, show win0_5.size 1 = 1024 from rfl]
    exact congrArg (· + r) (Nat.mul_comm _ _)
  · rw [show win0_5.index t 2 = t.val / 8 from congrFun (places t).2.2.2.2.2.1 2, show win0_5.size 2 = 512 from rfl]
    exact congrArg (· + l) (Nat.mul_comm _ _)

theorem read6 (X : S8x12288.Idx → EReal) (t : Fin cfg0.N) (y : S8x512.Idx) :
    ((cfg0.win 6).blk t).view.read (Elt Ideal) X y = X ((win0_6.rect t).emb y) := rfl

theorem block6 (t : Fin cfg0.N) (r l : ℕ) (hr : r < 8) (hl : l < 512) :
    at2 (A := 8) (B := 512) (iblk m c 6 t) r l = at2 (A := 8) (B := 12288) (V m c main_arg6) r (512 * (16 + t.val / 8) + l) := by
  rw [at2_of _ r l hr hl]
  refine (read6 (V m c main_arg6) t (ValueIdx.ix2 ⟨r, hr⟩ ⟨l, hl⟩)).trans (at2_eq (A := 8) (B := 12288) (V m c main_arg6) _ _ _
    ((win0_6.rect_emb_val t _ 0).trans ?_) ((win0_6.rect_emb_val t _ 1).trans ?_))
  · rw [show win0_6.index t 0 = 0 from congrFun (places t).2.2.2.2.2.2.1 0]
    exact (congrArg (· + r) (Nat.zero_mul _)).trans (Nat.zero_add _)
  · rw [show win0_6.index t 1 = 16 + t.val / 8 from congrFun (places t).2.2.2.2.2.2.1 1, show win0_6.size 1 = 512 from rfl]
    exact congrArg (· + l) (Nat.mul_comm _ _)

/-- The gate's row, loaded. -/
theorem gate_at (t : Fin cfg0.N) (inb) (l : ℕ) (hl : l < 512) :
    at2 (A := 1) (B := 512) (View.ld (iblk m c 6 t) (Rect.unit (s := S8x512) (k0_off1 (grid0.coords t)) ![1, 512] inb)) 0 l
      = at2 (A := 8) (B := 512) (iblk m c 6 t) (t.val / 4 % 2) l := by
  rw [at2_of _ 0 l (by omega) hl, at2_of _ _ l (by omega) hl]
  refine View.ld_unit_apply_of (iblk m c 6 t) _ _ inb _ _ fun a => ?_
  match a with
  | ⟨0, _⟩ => exact (congrFun (gate_row t) 0).symm
  | ⟨1, _⟩ => exact ((congrArg (· + l) (congrFun (gate_row t) 1)).trans (Nat.zero_add l)).symm

theorem scratch_first (t : Fin cfg0.N) (h0 : t.val % 8 = 0) : (outsAt0 m c t.val t.isLt).2 = k0_pay2 (iblk m c 4 t) := by
  rw [outsAt0_A m c t h0]
  frame_out

theorem scratch_next (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

/-- After every point the scratch holds the cast tile of the point's group of eight. -/
theorem scratch (n : ℕ) (hn : n < cfg0.N) (r l : ℕ) (hr : r < 4096) (hl : l < 512) :
    at2 (A := 4096) (B := 512) (outsAt0 m c n hn).2 r l
      = at3 (A := 2) (B := 4096) (C := 4096) (V m c main_arg4) 1 r (512 * (n / 8) + l) := by
  induction n with
  | zero =>
    exact (congrArg (at2 (A := 4096) (B := 512) · r l) (scratch_first m c ⟨0, hn⟩ (Nat.zero_mod _))).trans
      ((tile_at _ r l hr hl).trans (block4 m c ⟨0, hn⟩ r l hr hl))
  | succ n ih =>
    by_cases h0 : (n + 1) % 8 = 0
    · exact (congrArg (at2 (A := 4096) (B := 512) · r l) (scratch_first m c ⟨n + 1, hn⟩ h0)).trans
        ((tile_at _ r l hr hl).trans (block4 m c ⟨n + 1, hn⟩ r l hr hl))
    · refine (congrArg (at2 (A := 4096) (B := 512) · r l) (scratch_next m c ⟨n + 1, hn⟩ h0)).trans ((ih (Nat.lt_of_succ_lt hn)).trans ?_)
      rw [show (n + 1) / 8 = n / 8 by omega]

/-- The tile a point works with: the cast one at the first point of its group, else what the point before kept. -/
def kept (t : Fin cfg0.N) : Vec Ideal S4096x512 .bf16 :=
  if t.val % 8 = 0 then k0_pay2 (iblk m c 4 t) else (outsAt0 m c (t.val - 1) (Nat.lt_of_le_of_lt (Nat.sub_le _ _) t.isLt)).2

theorem kept_at (t : Fin cfg0.N) (r l : ℕ) (hr : r < 4096) (hl : l < 512) : at2 (A := 4096) (B := 512) (kept m c t) r l
    = at3 (A := 2) (B := 4096) (C := 4096) (V m c main_arg4) 1 r (512 * (t.val / 8) + l) := by
  unfold kept
  split_ifs with h
  · exact (tile_at _ r l hr hl).trans (block4 m c t r l hr hl)
  · rw [scratch m c _ _ r l hr hl, show (t.val - 1) / 8 = t.val / 8 by omega]

/-- What a point leaves in its output block. -/
theorem block_product (t : Fin cfg0.N) (y : S1x1024x512.Idx) : (outsAt0 m c t.val t.isLt).1 y
    = at3 (A := 1) (B := 1024) (C := 512) (iblk m c 5 t) 0 (y 1).val (y 2).val + at2 (A := 8) (B := 512) (iblk m c 6 t) (t.val / 4 % 2) (y 2).val
        * (∑ k : Fin 1024, at3 (A := 1) (B := 1024) (C := 1024) (iblk m c 0 t) 0 (y 1).val k.val * at2 (A := 4096) (B := 512) (kept m c t) (0 + k.val) (y 2).val
          + ∑ k : Fin 1024, at3 (A := 1) (B := 1024) (C := 1024) (X0_1 m c t) 0 (y 1).val k.val * at2 (A := 4096) (B := 512) (kept m c t) (1024 + k.val) (y 2).val
          + ∑ k : Fin 1024, at3 (A := 1) (B := 1024) (C := 1024) (iblk m c 2 t) 0 (y 1).val k.val * at2 (A := 4096) (B := 512) (kept m c t) (2048 + k.val) (y 2).val
          + ∑ k : Fin 1024, at3 (A := 1) (B := 1024) (C := 1024) (iblk m c 3 t) 0 (y 1).val k.val * at2 (A := 4096) (B := 512) (kept m c t) (3072 + k.val) (y 2).val) := by
  have hy2 : (y 2).val < 512 := (y 2).isLt
  rw [← gate_at m c t (k0_off1_inb (grid0.coords t)) (y 2).val hy2]
  refine Eq.trans ?_ (pay_product (iblk m c 0 t) (X0_1 m c t) (iblk m c 2 t) (iblk m c 3 t) (kept m c t)
    (View.ld (kept m c t) (Rect.unit (s := S4096x512) ![0, 0] ![1024, 512] inb_S4096x512_S1024x512_0_0))
    (View.ld (kept m c t) (Rect.unit (s := S4096x512) ![1024, 0] ![1024, 512] inb_S4096x512_S1024x512_1024_0))
    (View.ld (kept m c t) (Rect.unit (s := S4096x512) ![2048, 0] ![1024, 512] inb_S4096x512_S1024x512_2048_0))
    (View.ld (kept m c t) (Rect.unit (s := S4096x512) ![3072, 0] ![1024, 512] inb_S4096x512_S1024x512_3072_0))
    (iblk m c 5 t) _ (load_rows _ 0 (by omega) _) (load_rows _ 1024 (by omega) _) (load_rows _ 2048 (by omega) _) (load_rows _ 3072 (by omega) _) y)
  refine congrFun ?_ y
  by_cases h0 : t.val % 8 = 0
  · rw [outsAt0_A m c t h0, show kept m c t = k0_pay2 (iblk m c 4 t) from if_pos h0]
    frame_out
    have hz : ∀ a, (![0, 0] : Fin 2 → ℕ) a = 0 := by decide
    have hw := fun r => View.readCov_fill (View.whole cc0_scratch0) (s := S4096x512) (Val := Elt Ideal) (off := ![0, 0]) inb_S4096x512_S4096x512_0_0
      (k0_pay2 (iblk m c 4 t)) [] r hz
    have all : ∀ (p0 p1 p2 p3 q0 q1 q2 q3 : Vec Ideal S1024x512 .bf16), p0 = q0 → p1 = q1 → p2 = q2 → p3 = q3 →
        k0_pay3 (iblk m c 0 t) p0 (X0_1 m c t) p1 (iblk m c 2 t) p2 (iblk m c 3 t) p3
          = k0_pay3 (iblk m c 0 t) q0 (X0_1 m c t) q1 (iblk m c 2 t) q2 (iblk m c 3 t) q3 := by
      rintro _ _ _ _ _ _ _ _ rfl rfl rfl rfl
      rfl
    exact congrArg (k0_pay1 · _ _) (all _ _ _ _ _ _ _ _ (hw _) (hw _) (hw _) (hw _))
  · rw [outsAt0_B m c t h0, show kept m c t = (outsAt0 m c (t.val - 1) (Nat.lt_of_le_of_lt (Nat.sub_le _ _) t.isLt)).2 from if_neg h0]
    frame_out
    have hw := Memref.IsWhole.read_unread (Memref.isWhole_whole cc0_scratch0) (outsAt0 m c (t.val - 1) (Nat.lt_of_le_of_lt (Nat.sub_le _ _) t.isLt)).2
    exact congrArg (fun W : Vec Ideal S4096x512 .bf16 => k0_pay1 (k0_pay3 (iblk m c 0 t)
      (View.ld W (Rect.unit (s := S4096x512) ![0, 0] ![1024, 512] inb_S4096x512_S1024x512_0_0)) (X0_1 m c t)
      (View.ld W (Rect.unit (s := S4096x512) ![1024, 0] ![1024, 512] inb_S4096x512_S1024x512_1024_0)) (iblk m c 2 t)
      (View.ld W (Rect.unit (s := S4096x512) ![2048, 0] ![1024, 512] inb_S4096x512_S1024x512_2048_0)) (iblk m c 3 t)
      (View.ld W (Rect.unit (s := S4096x512) ![3072, 0] ![1024, 512] inb_S4096x512_S1024x512_3072_0))) (k0_pay4 (iblk m c 5 t))
      (View.ld (iblk m c 6 t) (Rect.unit (s := S8x512) (k0_off1 (grid0.coords t)) ![1, 512] (k0_off1_inb (grid0.coords t))))) hw

/-- The call's result, whole. -/
theorem whole : (dats m 0 c).arrAt 7 cfg0.N = fun y : S2x4096x4096.Idx => result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (y 0).val (y 1).val (y 2).val := by
  refine (dats m 0 c).arrAt_eq_of_covers 7 _ (by decide +kernel) fun t hf y => ?_
  have hy0 : (y 0).val < 1 := (y 0).isLt
  have hy1 : (y 1).val < 1024 := (y 1).isLt
  have hy2 : (y 2).val < 512 := (y 2).isLt
  have hj := column_lt t
  have e0 : ((((cfg0.win 7).blk t).view.emb y 0 : Fin _) : ℕ) = t.val / 4 % 2 := by
    refine (win0_7.rect_emb_val t y 0).trans ?_
    rw [show win0_7.index t 0 = t.val / 4 % 2 from congrFun (places t).2.2.2.2.2.2.2 0, show win0_7.size 0 = 1 from rfl]
    omega
  have e1 : ((((cfg0.win 7).blk t).view.emb y 1 : Fin _) : ℕ) = 1024 * (t.val % 4) + (y 1).val := by
    refine (win0_7.rect_emb_val t y 1).trans ?_
    rw [show win0_7.index t 1 = t.val % 4 from congrFun (places t).2.2.2.2.2.2.2 1, show win0_7.size 1 = 1024 from rfl, Nat.mul_comm]
  have e2 : ((((cfg0.win 7).blk t).view.emb y 2 : Fin _) : ℕ) = 512 * (t.val / 8) + (y 2).val := by
    refine (win0_7.rect_emb_val t y 2).trans ?_
    rw [show win0_7.index t 2 = t.val / 8 from congrFun (places t).2.2.2.2.2.2.2 2, show win0_7.size 2 = 512 from rfl, Nat.mul_comm]
  show _ = result _ _ _ _ _ _ _ (((cfg0.win 7).blk t).view.emb y 0).val (((cfg0.win 7).blk t).view.emb y 1).val (((cfg0.win 7).blk t).view.emb y 2).val
  rw [e0, e1, e2, cast_eq, after0_7]
  refine (block_product m c t y).trans ?_
  unfold result part
  refine congrArg₂ (· + ·) ?_ (congrArg₂ (· * ·) ?_ (congrArg₂ (· + ·) (congrArg₂ (· + ·) (congrArg₂ (· + ·) ?_ ?_) ?_) ?_))
  · rw [block5 m c t _ _ hy1 hy2, given5]
  · rw [block6 m c t _ _ (by omega) hy2, given6, show 512 * (16 + t.val / 8) + (y 2).val = 8192 + (512 * (t.val / 8) + (y 2).val) by omega]
  · refine Finset.sum_congr rfl fun k _ => congrArg₂ (· * ·) ?_ ?_
    · rw [block0 m c t _ _ hy1 k.isLt, given0]
    · rw [kept_at m c t _ _ (by have := k.isLt; omega) hy2, given4]
  · refine Finset.sum_congr rfl fun k _ => congrArg₂ (· * ·) ?_ ?_
    · rw [block1 m c t _ _ hy1 k.isLt, given1]
    · rw [kept_at m c t _ _ (by have := k.isLt; omega) hy2, given4]
  · refine Finset.sum_congr rfl fun k _ => congrArg₂ (· * ·) ?_ ?_
    · rw [block2 m c t _ _ hy1 k.isLt, given2]
    · rw [kept_at m c t _ _ (by have := k.isLt; omega) hy2, given4]
  · refine Finset.sum_congr rfl fun k _ => congrArg₂ (· * ·) ?_ ?_
    · rw [block3 m c t _ _ hy1 k.isLt, given3]
    · rw [kept_at m c t _ _ (by have := k.isLt; omega) hy2, given4]

end Cert.Projection.Out

end
-- ==== Proof.ReadOut.lean ====
/-
  Hand-written, untrusted. The reference's output projection with its gate and residual, at every place: the four branches side by side
  against the whole weight, one sum over 4096 columns, which is the four branches' sums.
-/
module

public import proofs.«01_k».proof.Proof.Gen.Reference3Ideal.Read
public import proofs.«01_k».proof.Proof.ProjOut

@[expose] public section

set_option maxRecDepth 16384

noncomputable section

namespace Cert.Projection.Out

open Cert.Reference3Ideal Cert.Reference3Ideal.Read Idealize.ShloMosaic
open Cert.Attention (at3 at3_eq at3_of)

variable (ya : FVec Ideal S2x4096x1024 .f32) (yb : FVec Ideal S2x4352x1024 .f32) (yc yd : FVec Ideal S2x4096x1024 .f32)
  (w x : FVec Ideal S2x4096x4096 .f32) (g : FVec Ideal S8x12288 .f32)

theorem branch0 (z : S2x4096x4096.Idx) (b r k : ℕ) (hb : (z 0).val = b) (hr : (z 1).val = r) (hk : k < 1024) (hz : (z 2).val = 0 + k) :
    val_main_v2 (F := Ideal) ya yb yc yd z = at3 (A := 2) (B := 4096) (C := 1024) ya b r k := by
  unfold val_main_v2
  refine (concatenate_apply_piece (t := S2x4096x4096) 2 _ _ z 0 (by simp) S2x4096x1024 ya rfl rfl 0 (by simp)
    (ValueIdx.ix3 (z 0) (z 1) ⟨k, hk⟩) ?_ hz.symm).trans ?_
  · intro a ha
    fin_cases a
    · rfl
    · rfl
    · exact absurd rfl ha
  · exact at3_eq (A := 2) (B := 4096) (C := 1024) ya _ _ _ _ hb hr rfl

theorem branch1 (z : S2x4096x4096.Idx) (b r k : ℕ) (hb : (z 0).val = b) (hr : (z 1).val = r) (hk : k < 1024) (hz : (z 2).val = 1024 + k) :
    val_main_v2 (F := Ideal) ya yb yc yd z = at3 (A := 2) (B := 4352) (C := 1024) yb b r k := by
  unfold val_main_v2
  refine (concatenate_apply_piece (t := S2x4096x4096) 2 _ _ z 1 (by simp) S2x4096x1024 (val_main_v1 (F := Ideal) yb) rfl rfl 1024 (by simp)
    (ValueIdx.ix3 (z 0) (z 1) ⟨k, hk⟩) ?_ hz.symm).trans ?_
  · intro a ha
    fin_cases a
    · rfl
    · rfl
    · exact absurd rfl ha
  · rw [val_main_v1_apply]
    exact at3_eq (A := 2) (B := 4352) (C := 1024) yb _ _ _ _ hb hr rfl

theorem branch2 (z : S2x4096x4096.Idx) (b r k : ℕ) (hb : (z 0).val = b) (hr : (z 1).val = r) (hk : k < 1024) (hz : (z 2).val = 2048 + k) :
    val_main_v2 (F := Ideal) ya yb yc yd z = at3 (A := 2) (B := 4096) (C := 1024) yc b r k := by
  unfold val_main_v2
  refine (concatenate_apply_piece (t := S2x4096x4096) 2 _ _ z 2 (by simp) S2x4096x1024 yc rfl rfl 2048 (by simp)
    (ValueIdx.ix3 (z 0) (z 1) ⟨k, hk⟩) ?_ hz.symm).trans ?_
  · intro a ha
    fin_cases a
    · rfl
    · rfl
    · exact absurd rfl ha
  · exact at3_eq (A := 2) (B := 4096) (C := 1024) yc _ _ _ _ hb hr rfl

theorem branch3 (z : S2x4096x4096.Idx) (b r k : ℕ) (hb : (z 0).val = b) (hr : (z 1).val = r) (hk : k < 1024) (hz : (z 2).val = 3072 + k) :
    val_main_v2 (F := Ideal) ya yb yc yd z = at3 (A := 2) (B := 4096) (C := 1024) yd b r k := by
  unfold val_main_v2
  refine (concatenate_apply_piece (t := S2x4096x4096) 2 _ _ z 3 (by simp) S2x4096x1024 yd rfl rfl 3072 (by simp)
    (ValueIdx.ix3 (z 0) (z 1) ⟨k, hk⟩) ?_ hz.symm).trans ?_
  · intro a ha
    fin_cases a
    · rfl
    · rfl
    · exact absurd rfl ha
  · exact at3_eq (A := 2) (B := 4096) (C := 1024) yd _ _ _ _ hb hr rfl

/-- The weight of the layer taken, at a place. -/
theorem weight_at (z : S4096x4096.Idx) (k j : ℕ) (hk : (z 0).val = k) (hj : (z 1).val = j) :
    val_main_v4 (F := Ideal) w z = at3 (A := 2) (B := 4096) (C := 4096) w 1 k j := by
  have h0 : (z 0).val < 4096 := (z 0).isLt
  have h1 : (z 1).val < 4096 := (z 1).isLt
  rw [val_main_v4_apply, val_main_v3_apply]
  refine at3_eq (A := 2) (B := 4096) (C := 4096) w _ _ _ _ rfl ?_ ?_
  · show ((z 0).val * 4096 + (z 1).val) / 4096 % 4096 = k
    omega
  · show ((z 0).val * 4096 + (z 1).val) % 4096 = j
    omega

/-- The reference's result, whole. -/
theorem reference_whole : val_main_v9 (F := Ideal) ya yb yc yd w x g = fun y : S2x4096x4096.Idx => result ya yb yc yd w x g (y 0).val (y 1).val (y 2).val := by
  funext y
  refine (val_main_v9_apply (F := Ideal) ya yb yc yd w x g y).trans ?_
  unfold result part
  refine congrArg₂ (· + ·) (at3_eq (A := 2) (B := 4096) (C := 4096) x _ _ _ _ rfl rfl rfl) ?_
  refine (val_main_v8_apply (F := Ideal) ya yb yc yd w g y).trans (congrArg₂ (· * ·) ?_ ?_)
  · rw [val_main_v7_apply, val_main_v6_apply, val_main_v0_apply]
    exact at2_eq (A := 8) (B := 12288) g _ _ _ rfl rfl
  · refine (val_main_v5_apply ya yb yc yd w y).trans ?_
    let f : ℕ → EReal := fun k => if h : k < 4096 then val_main_v2 (F := Ideal) ya yb yc yd (lidx_main_v5 y ⟨k, h⟩) * val_main_v4 (F := Ideal) w (ridx_main_v5 y ⟨k, h⟩) else 0
    have hf : ∀ (k : ℕ) (h : k < 4096), f k = val_main_v2 (F := Ideal) ya yb yc yd (lidx_main_v5 y ⟨k, h⟩) * val_main_v4 (F := Ideal) w (ridx_main_v5 y ⟨k, h⟩) :=
      fun k h => dif_pos h
    refine (Finset.sum_congr rfl fun k _ => (hf k.val k.isLt).symm).trans ((sum_four 1024 f).trans ?_)
    refine congrArg₂ (· + ·) (congrArg₂ (· + ·) (congrArg₂ (· + ·) ?_ ?_) ?_) ?_
    · refine Finset.sum_congr rfl fun k _ => ?_
      have hk := k.isLt
      refine (hf k.val (by omega)).trans (congrArg₂ (· * ·) ?_ ?_)
      · exact branch0 ya yb yc yd _ _ _ _ rfl rfl hk (Nat.zero_add _).symm
      · exact weight_at w _ _ _ (Nat.zero_add _).symm rfl
    · refine Finset.sum_congr rfl fun k _ => ?_
      have hk := k.isLt
      refine (hf (1024 + k.val) (by omega)).trans (congrArg₂ (· * ·) ?_ ?_)
      · exact branch1 ya yb yc yd _ _ _ _ rfl rfl hk rfl
      · exact weight_at w _ _ _ rfl rfl
    · refine Finset.sum_congr rfl fun k _ => ?_
      have hk := k.isLt
      refine (hf (2048 + k.val) (by omega)).trans (congrArg₂ (· * ·) ?_ ?_)
      · exact branch2 ya yb yc yd _ _ _ _ rfl rfl hk rfl
      · exact weight_at w _ _ _ rfl rfl
    · refine Finset.sum_congr rfl fun k _ => ?_
      have hk := k.isLt
      refine (hf (3072 + k.val) (by omega)).trans (congrArg₂ (· * ·) ?_ ?_)
      · exact branch3 ya yb yc yd _ _ _ _ rfl rfl hk rfl
      · exact weight_at w _ _ _ rfl rfl

end Cert.Projection.Out

end
-- ==== Proof.ProjD.lean ====
/-
  Hand-written, untrusted. The input projection of the latent attention's columns: the tiled product's result at every place, over the
  call's arguments, and the reference's.
-/
module

public import proofs.«01_k».proof.Proof.Gen.Kernel4Ideal.Value
public import proofs.«01_k».proof.Proof.Gen.Reference4Ideal.Read
public import proofs.«01_k».proof.Proof.Matrix
public import Idealize.ShloMosaic.Lib.Pipeline.ValueKit
public import Idealize.ShloMosaic.Lib.Claim

@[expose] public section

set_option maxRecDepth 16384

noncomputable section

namespace Cert.Projection.D

open Cert.Kernel4Ideal Cert.Kernel4Ideal.Gen Idealize.ShloMosaic Idealize.ShloMosaic.TcCoe Idealize.SL.Sem

/-- The product of the tokens' row `r` with the weight's row `j`. -/
def product (h : FVec Ideal S8704x4096 .f32) (w : FVec Ideal S2560x4096 .f32) (r j : ℕ) : EReal :=
  ∑ k : Fin 4096, at2 h r k.val * at2 w j k.val

theorem block_product (x : Vec Ideal S2176x4096 .bf16) (w : Vec Ideal S512x4096 .bf16) (y : S2176x512.Idx) :
    out0_2 x w y = ∑ k : Fin 4096, at2 (A := 2176) (B := 4096) x (y 0).val k.val * at2 (A := 512) (B := 4096) w (y 1).val k.val := by
  frame_out
  unfold k0_pay1
  simp only [shapeCast_self]
  exact product_nt (M := 2176) (K := 4096) (N := 512) (φ₁ := .bf16) (φ₂ := .bf16) x w y

variable (m : (ℓ : Loc nD τ sig) → Buf (Elt Ideal) ℓ) (c : Dev nD)

theorem places : ∀ t : Fin cfg0.N, win0_0.index t = ![t.val / 5, 0] ∧ win0_1.index t = ![t.val % 5, 0] ∧ win0_2.index t = ![t.val / 5, t.val % 5] :=
  (by decide +kernel : ∀ t : Fin grid0.N, _)

theorem given_h : V m c main_v0 = m ((c : Thread nD τ).loc main_arg0) := by
  entry_read
  rfl

theorem given_w : V m c main_v1 = m ((c : Thread nD τ).loc main_arg1) := by
  entry_read
  rfl

theorem read0 (X : S8704x4096.Idx → EReal) (t : Fin cfg0.N) (y : S2176x4096.Idx) :
    ((cfg0.win 0).blk t).view.read (Elt Ideal) X y = X ((win0_0.rect t).emb y) := rfl

theorem read1 (X : S2560x4096.Idx → EReal) (t : Fin cfg0.N) (y : S512x4096.Idx) :
    ((cfg0.win 1).blk t).view.read (Elt Ideal) X y = X ((win0_1.rect t).emb y) := rfl

theorem block0 (t : Fin cfg0.N) (r l : ℕ) (hr : r < 2176) (hl : l < 4096) :
    at2 (A := 2176) (B := 4096) (iblk m c 0 t) r l = at2 (A := 8704) (B := 4096) (V m c main_v0) (2176 * (t.val / 5) + r) l := by
  rw [at2_of _ r l hr hl]
  refine (read0 (V m c main_v0) t (ValueIdx.ix2 ⟨r, hr⟩ ⟨l, hl⟩)).trans (at2_eq (A := 8704) (B := 4096) (V m c main_v0) _ _ _
    ((win0_0.rect_emb_val t _ 0).trans ?_) ((win0_0.rect_emb_val t _ 1).trans ?_))
  · rw [show win0_0.index t 0 = t.val / 5 from congrFun (places t).1 0, show win0_0.size 0 = 2176 from rfl]
    exact congrArg (· + r) (Nat.mul_comm _ _)
  · rw [show win0_0.index t 1 = 0 from congrFun (places t).1 1]
    exact (congrArg (· + l) (Nat.zero_mul _)).trans (Nat.zero_add _)

theorem block1 (t : Fin cfg0.N) (r l : ℕ) (hr : r < 512) (hl : l < 4096) :
    at2 (A := 512) (B := 4096) (iblk m c 1 t) r l = at2 (A := 2560) (B := 4096) (V m c main_v1) (512 * (t.val % 5) + r) l := by
  rw [at2_of _ r l hr hl]
  refine (read1 (V m c main_v1) t (ValueIdx.ix2 ⟨r, hr⟩ ⟨l, hl⟩)).trans (at2_eq (A := 2560) (B := 4096) (V m c main_v1) _ _ _
    ((win0_1.rect_emb_val t _ 0).trans ?_) ((win0_1.rect_emb_val t _ 1).trans ?_))
  · rw [show win0_1.index t 0 = t.val % 5 from congrFun (places t).2.1 0, show win0_1.size 0 = 512 from rfl]
    exact congrArg (· + r) (Nat.mul_comm _ _)
  · rw [show win0_1.index t 1 = 0 from congrFun (places t).2.1 1]
    exact (congrArg (· + l) (Nat.zero_mul _)).trans (Nat.zero_add _)

/-- The call's result, whole. -/
theorem whole : (dats m 0 c).arrAt 2 cfg0.N
    = fun y : S8704x2560.Idx => product (m ((c : Thread nD τ).loc main_arg0)) (m ((c : Thread nD τ).loc main_arg1)) (y 0).val (y 1).val := by
  refine (dats m 0 c).arrAt_eq_of_covers 2 _ (by decide +kernel) fun t hf y => ?_
  have e0 : ((((cfg0.win 2).blk t).view.emb y 0 : Fin _) : ℕ) = 2176 * (t.val / 5) + (y 0).val := by
    refine (win0_2.rect_emb_val t y 0).trans ?_
    rw [show win0_2.index t 0 = t.val / 5 from congrFun (places t).2.2 0, show win0_2.size 0 = 2176 from rfl, Nat.mul_comm]
  have e1 : ((((cfg0.win 2).blk t).view.emb y 1 : Fin _) : ℕ) = 512 * (t.val % 5) + (y 1).val := by
    refine (win0_2.rect_emb_val t y 1).trans ?_
    rw [show win0_2.index t 1 = t.val % 5 from congrFun (places t).2.2 1, show win0_2.size 1 = 512 from rfl, Nat.mul_comm]
  show _ = product _ _ (((cfg0.win 2).blk t).view.emb y 0).val (((cfg0.win 2).blk t).view.emb y 1).val
  rw [e0, e1, cast_eq, after0_2]
  have hy0 : (y 0).val < 2176 := (y 0).isLt
  have hy1 : (y 1).val < 512 := (y 1).isLt
  refine (block_product _ _ y).trans ?_
  unfold product
  refine Finset.sum_congr rfl fun k _ => congrArg₂ (· * ·) ?_ ?_
  · rw [block0 m c t _ _ hy0 k.isLt, given_h]
  · rw [block1 m c t _ _ hy1 k.isLt, given_w]

/-- The reference's result, whole. -/
theorem reference_whole (h : FVec Ideal S8704x4096 .f32) (w : FVec Ideal S2560x4096 .f32) : Cert.Reference4Ideal.Read.val_main_v2 (F := Ideal) h w
    = fun y : S8704x2560.Idx => product h w (y 0).val (y 1).val := by
  funext y
  refine (Cert.Reference4Ideal.Read.val_main_v1_apply h w y).trans ?_
  unfold product
  refine Finset.sum_congr rfl fun k _ => congrArg₂ (· * ·) (at2_eq h _ _ _ rfl rfl) ?_
  rw [Cert.Reference4Ideal.Read.val_main_v0_apply]
  exact at2_eq w _ _ _ rfl rfl

end Cert.Projection.D

end
-- ==== Proof.UpParts.lean ====
/-
  Hand-written, untrusted. What the latent attention's up-projections compute, named by natural coordinates: normed rows, their
  products with a weight, and a head's queries, keys and values with their norms and their rotation; and that the kernel's arithmetic
  of one head computes them.
-/
module

public import proofs.«01_k».proof.Proof.Head
public import proofs.«01_k».proof.Proof.Matrix
public import proofs.«01_k».proof.Proof.Attend

@[expose] public section

noncomputable section

namespace Cert.Up

open Idealize.ShloMosaic Idealize.ShloMosaic.ValueIdx Cert.Projection Cert.Attention

variable {M N W : ℕ}

/-- One over the root of a mean square: the sum of squares over the count, plus the small constant. -/
def root (n : BitVec 32) (s : EReal) : EReal := Ideal.rsqrt (Ideal.div s (Ideal.ofBits .f32 n) + Ideal.ofBits .f32 0x358637BD#32)

/-- A row of length `K` normed by its root mean square and weighted. -/
def normed (n : BitVec 32) (K : ℕ) (x w : ℕ → EReal) (k : ℕ) : EReal := x k * root n (∑ l : Fin K, x l.val * x l.val) * w k

/-- A normed row against a column of a weight. -/
def proj (n : BitVec 32) (K : ℕ) (x w : ℕ → EReal) (u : ℕ → ℕ → EReal) (j : ℕ) : EReal := ∑ k : Fin K, normed n K x w k.val * u k.val j

/-- A row times the cosines, plus the row's product with the swap matrix times the sines. -/
def spin (x c s : ℕ → EReal) (u : ℕ → ℕ → EReal) (e : ℕ) : EReal := x e * c e + (∑ k : Fin 128, x k.val * u k.val e) * s e

/-- The root of a query head, times the scale. -/
def queryRoot (f : ℕ → EReal) (h : ℕ) : EReal :=
  root 0x43400000#32 (∑ k : Fin 128, (f (h + k.val) * f (h + k.val) + f (h + 128 + k.val) * f (h + 128 + k.val))) * Ideal.ofBits .f32 0x3D93CD3A#32

/-- The kernel's query at column `c` of its layout. -/
def queryAt (f w cs sn : ℕ → EReal) (u : ℕ → ℕ → EReal) (c : ℕ) : EReal :=
  if c % 256 < 128 then f c * queryRoot f (c / 256 * 256) * w (c % 256)
  else spin (fun k => f (c / 256 * 256 + 128 + k) * queryRoot f (c / 256 * 256) * w (128 + k)) cs sn u (c % 256 - 128)

/-- The root of a key head. -/
def keyRoot (g r : ℕ → EReal) (h : ℕ) : EReal :=
  root 0x43400000#32 (∑ k : Fin 128, g (h + k.val) * g (h + k.val) + ∑ k : Fin 128, r k.val * r k.val)

/-- The kernel's key at column `c` of its layout. -/
def keyAt (g r w cs sn : ℕ → EReal) (u : ℕ → ℕ → EReal) (c : ℕ) : EReal :=
  if c % 256 < 128 then g (c / 256 * 128 + c % 256) * keyRoot g r (c / 256 * 128) * w (c % 256)
  else spin (fun k => r k * w (128 + k)) cs sn u (c % 256 - 128) * keyRoot g r (c / 256 * 128)

/-- The kernel's value at column `c` of its layout. -/
def valueAt (g : ℕ → EReal) (c : ℕ) : EReal := if c % 256 < 128 then g (c / 256 * 128 + c % 256) else Ideal.ofBits .bf16 0x3F80#16

/-- The roots of a column of sums. -/
def rootCol (n : BitVec 32) (s : FVec Ideal ⟨2, ![M, 1]⟩ .f32) : FVec Ideal ⟨2, ![M, 1]⟩ .f32 :=
  rsqrt (addf (divf s (broadcast ⟨2, ![M, 1]⟩ (Scalar.ofBits .f32 n))) (broadcast ⟨2, ![M, 1]⟩ (Scalar.ofBits .f32 0x358637BD#32)))

/-- The column of a matrix's row sums. -/
def sumCol (x : FVec Ideal ⟨2, ![M, N]⟩ .f32) (h : (⟨2, ![M, N]⟩ : Shape).Reduces [1] ⟨1, ![M]⟩) (h1 : (⟨1, ![M]⟩ : Shape).ShapeCasts ⟨2, ![M, 1]⟩) :
    FVec Ideal ⟨2, ![M, 1]⟩ .f32 :=
  shapeCast ⟨2, ![M, 1]⟩ (multiReduction .add [1] ⟨1, ![M]⟩ x 0x00000000#32 h (.inl rfl) rfl) h1

theorem sumCol_apply (x : FVec Ideal ⟨2, ![M, N]⟩ .f32) (h) (h1) (r : Fin M) (z : Fin 1) : sumCol x h h1 (ix2 r z) = ∑ k : Fin N, x (ix2 r k) := by
  unfold sumCol
  refine (row_cast _ h1 r z).trans ((Ideal.multiReduction_add_single x _ h _ _ _).trans ?_)
  refine Finset.sum_congr rfl fun k _ => congrArg x (funext fun a => Fin.ext ?_)
  rw [Shape.Reduces.lift_val]
  match a with
  | ⟨0, _⟩ => rfl
  | ⟨1, _⟩ => rfl

theorem line_spread {α : Type} (x : (⟨2, ![1, N]⟩ : Shape).Idx → α) (h : (⟨2, ![1, N]⟩ : Shape).Broadcasts ⟨2, ![M, N]⟩) (r : Fin M) (j : Fin N) :
    broadcastTo ⟨2, ![M, N]⟩ x h (ix2 r j) = x (ix2 0 j) := by
  refine broadcastTo_apply x h _ _ fun a => ?_
  match a with
  | ⟨0, _⟩ => rfl
  | ⟨1, _⟩ =>
    show j.val = if N = 1 then 0 else j.val
    split
    · have := j.isLt; omega
    · rfl

theorem lift_block {α : Type} (x : (⟨2, ![M, N]⟩ : Shape).Idx → α) (h : (⟨2, ![M, N]⟩ : Shape).ShapeCasts ⟨3, ![1, M, N]⟩) (a : Fin 1) (r : Fin M) (e : Fin N) :
    shapeCast ⟨3, ![1, M, N]⟩ x h (ix3 a r e) = x (ix2 r e) := by
  refine shapeCast_apply x h _ _ ?_
  rw [Shape.rowMajor_val_three, Shape.rowMajor_val_two]
  show r.val * N + e.val = (a.val * M + r.val) * N + e.val
  have : a.val = 0 := by omega
  rw [this]; simp

theorem drop_block {α : Type} (x : (⟨3, ![1, M, N]⟩ : Shape).Idx → α) (h : (⟨3, ![1, M, N]⟩ : Shape).ShapeCasts ⟨2, ![M, N]⟩) (r : Fin M) (e : Fin N) :
    shapeCast ⟨2, ![M, N]⟩ x h (ix2 r e) = x (ix3 0 r e) := by
  refine shapeCast_apply x h _ _ ?_
  rw [Shape.rowMajor_val_three, Shape.rowMajor_val_two]
  show (0 * M + r.val) * N + e.val = r.val * N + e.val
  simp

theorem run_of {α : Type} (o : ℕ) (p : (⟨2, ![M, W]⟩ : Shape).Idx → α) (so : (⟨2, ![M, W]⟩ : Shape).Slices ![0, o] ⟨2, ![M, N]⟩) (r : Fin M) (e : Fin N)
    (ho : o + e.val < W) : extractStridedSlice ⟨2, ![M, N]⟩ ![0, o] p so (ix2 r e) = p (ix2 r ⟨o + e.val, ho⟩) := by
  refine extractStridedSlice_apply _ p so _ _ fun a => ?_
  match a with
  | ⟨0, _⟩ => exact (Nat.zero_add _).symm
  | ⟨1, _⟩ => rfl

/-- A normed block of rows, as the kernel computes it. -/
def normedMat {K : ℕ} (n : BitVec 32) (x : FVec Ideal ⟨2, ![M, K]⟩ .f32) (w : FVec Ideal ⟨2, ![1, K]⟩ .f32) (h : (⟨2, ![M, K]⟩ : Shape).Reduces [1] ⟨1, ![M]⟩) (h1 : (⟨1, ![M]⟩ : Shape).ShapeCasts ⟨2, ![M, 1]⟩)
    (h2 : (⟨2, ![M, 1]⟩ : Shape).Broadcasts ⟨2, ![M, K]⟩) (h3 : (⟨2, ![1, K]⟩ : Shape).Broadcasts ⟨2, ![M, K]⟩) (b : FTy.bf16.bits < FTy.f32.bits) :
    FVec Ideal ⟨2, ![M, K]⟩ .bf16 :=
  truncf .bf16 (mulf (mulf x (broadcastTo ⟨2, ![M, K]⟩ (rootCol n (sumCol (mulf x x) h h1)) h2)) (broadcastTo ⟨2, ![M, K]⟩ w h3)) b

theorem normedMat_apply {K : ℕ} (n : BitVec 32) (x : FVec Ideal ⟨2, ![M, K]⟩ .f32) (w : FVec Ideal ⟨2, ![1, K]⟩ .f32) (h) (h1) (h2) (h3) (b)
    (f g : ℕ → EReal) (r : Fin M) (hf : ∀ k : Fin K, x (ix2 r k) = f k.val) (hg : ∀ k : Fin K, w (ix2 0 k) = g k.val) (k : Fin K) :
    normedMat n x w h h1 h2 h3 b (ix2 r k) = normed n K f g k.val := by
  show x (ix2 r k) * broadcastTo _ _ h2 (ix2 r k) * broadcastTo _ w h3 (ix2 r k) = _
  rw [row_spread, line_spread, hf, hg]
  show _ * root n (sumCol (mulf x x) h h1 (ix2 r 0)) * _ = _
  rw [sumCol_apply]
  unfold normed
  refine congrArg (f k.val * root n · * g k.val) (Finset.sum_congr rfl fun l _ => ?_)
  show x (ix2 r l) * x (ix2 r l) = _
  rw [hf]

/-- A product of a normed block with a weight. -/
theorem proj_apply {K : ℕ} (n : BitVec 32) (a : FVec Ideal ⟨2, ![M, K]⟩ .bf16) (u : FVec Ideal ⟨2, ![K, N]⟩ .bf16) (f g : ℕ → EReal) (v : ℕ → ℕ → EReal)
    (r : Fin M) (ha : ∀ k : Fin K, a (ix2 r k) = normed n K f g k.val) (hu : ∀ (k : Fin K) (j : Fin N), u (ix2 k j) = v k.val j.val) (j : Fin N) :
    matmul (DotDims.plain M K N) none a u (constant ⟨2, ![M, N]⟩ .f32 0x00000000#32) (ix2 r j) = proj n K f g v j.val := by
  refine (Ideal.matmul_plain_apply none _ _ _ r j).trans ?_
  refine (congrArg (· + _) Ideal.ofBits_zero_f32).trans ((zero_add _).trans ?_)
  exact Finset.sum_congr rfl fun k _ => by rw [ha, hu]

/-- A block of rows rotated, as the kernel computes it. -/
def spinMat (x cs sn : FVec Ideal ⟨2, ![M, 128]⟩ .f32) (u : FVec Ideal ⟨2, ![128, 128]⟩ .bf16) (b : FTy.bf16.bits < FTy.f32.bits) : FVec Ideal ⟨2, ![M, 128]⟩ .f32 :=
  addf (mulf x cs) (mulf (matmul (DotDims.plain M 128 128) none (truncf .bf16 x b) u (constant ⟨2, ![M, 128]⟩ .f32 0x00000000#32)) sn)

theorem spinMat_apply (x cs sn : FVec Ideal ⟨2, ![M, 128]⟩ .f32) (u : FVec Ideal ⟨2, ![128, 128]⟩ .bf16) (b) (r : Fin M) (f c s : ℕ → EReal) (v : ℕ → ℕ → EReal)
    (hf : ∀ k : Fin 128, x (ix2 r k) = f k.val) (hc : ∀ k : Fin 128, cs (ix2 r k) = c k.val) (hs : ∀ k : Fin 128, sn (ix2 r k) = s k.val)
    (hv : ∀ k l : Fin 128, u (ix2 k l) = v k.val l.val) (e : Fin 128) : spinMat x cs sn u b (ix2 r e) = spin f c s v e.val := by
  show x (ix2 r e) * cs (ix2 r e) + matmul _ _ _ _ _ (ix2 r e) * sn (ix2 r e) = _
  rw [hf, hc, hs]
  refine congrArg (_ + · * _) ((Ideal.matmul_plain_apply none _ _ _ r e).trans ?_)
  refine (congrArg (· + _) Ideal.ofBits_zero_f32).trans ((zero_add _).trans ?_)
  exact Finset.sum_congr rfl fun k _ => congrArg₂ (· * ·) (hf k) (hv k e)

/-- The column of a query head's roots, times the scale. -/
def queryRoots (q1 q2 : FVec Ideal ⟨2, ![M, 128]⟩ .f32) (h : (⟨2, ![M, 128]⟩ : Shape).Reduces [1] ⟨1, ![M]⟩) (h1 : (⟨1, ![M]⟩ : Shape).ShapeCasts ⟨2, ![M, 1]⟩) : FVec Ideal ⟨2, ![M, 1]⟩ .f32 :=
  mulf (rootCol 0x43400000#32 (sumCol (addf (mulf q1 q1) (mulf q2 q2)) h h1)) (broadcast ⟨2, ![M, 1]⟩ (Scalar.ofBits .f32 0x3D93CD3A#32))

/-- The column of a key head's roots. -/
def keyRoots (k1 : FVec Ideal ⟨2, ![M, 128]⟩ .f32) (s : FVec Ideal ⟨2, ![M, 1]⟩ .f32) (h : (⟨2, ![M, 128]⟩ : Shape).Reduces [1] ⟨1, ![M]⟩) (h1 : (⟨1, ![M]⟩ : Shape).ShapeCasts ⟨2, ![M, 1]⟩) : FVec Ideal ⟨2, ![M, 1]⟩ .f32 :=
  rootCol 0x43400000#32 (addf (sumCol (mulf k1 k1) h h1) s)

/-- A half of a head times its column of factors and its line of weights. -/
def scaled (x : FVec Ideal ⟨2, ![M, 128]⟩ .f32) (s : FVec Ideal ⟨2, ![M, 1]⟩ .f32) (w : FVec Ideal ⟨2, ![1, 128]⟩ .f32)
    (h2 : (⟨2, ![M, 1]⟩ : Shape).Broadcasts ⟨2, ![M, 128]⟩) (h3 : (⟨2, ![1, 128]⟩ : Shape).Broadcasts ⟨2, ![M, 128]⟩) : FVec Ideal ⟨2, ![M, 128]⟩ .f32 :=
  mulf (mulf x (broadcastTo ⟨2, ![M, 128]⟩ s h2)) (broadcastTo ⟨2, ![M, 128]⟩ w h3)

theorem scaled_apply (x : FVec Ideal ⟨2, ![M, 128]⟩ .f32) (s : FVec Ideal ⟨2, ![M, 1]⟩ .f32) (w : FVec Ideal ⟨2, ![1, 128]⟩ .f32) (h2) (h3) (r : Fin M) (e : Fin 128) :
    scaled x s w h2 h3 (ix2 r e) = x (ix2 r e) * s (ix2 r 0) * w (ix2 0 e) := by
  show x (ix2 r e) * broadcastTo _ _ h2 (ix2 r e) * broadcastTo _ w h3 (ix2 r e) = _
  rw [row_spread, line_spread]

section pieces

variable (Q : FVec Ideal ⟨2, ![M, W]⟩ .f32) (w : FVec Ideal ⟨2, ![1, 128]⟩ .f32)
variable (h : (⟨2, ![M, 128]⟩ : Shape).Reduces [1] ⟨1, ![M]⟩) (h1 : (⟨1, ![M]⟩ : Shape).ShapeCasts ⟨2, ![M, 1]⟩)
variable (h2 : (⟨2, ![M, 1]⟩ : Shape).Broadcasts ⟨2, ![M, 128]⟩) (h3 : (⟨2, ![1, 128]⟩ : Shape).Broadcasts ⟨2, ![M, 128]⟩)
variable (b : FTy.bf16.bits < FTy.f32.bits) (co : (⟨2, ![M, 128]⟩ : Shape).ShapeCasts ⟨3, ![1, M, 128]⟩)

theorem queryRoots_apply (o : ℕ) (s0 : (⟨2, ![M, W]⟩ : Shape).Slices ![0, o] ⟨2, ![M, 128]⟩) (o' : ℕ) (ho : o' = o + 128)
    (s1 : (⟨2, ![M, W]⟩ : Shape).Slices ![0, o'] ⟨2, ![M, 128]⟩) (hw : o + 256 ≤ W) (f : ℕ → EReal) (r : Fin M) (hf : ∀ j : Fin W, Q (ix2 r j) = f j.val) :
    queryRoots (extractStridedSlice ⟨2, ![M, 128]⟩ ![0, o] Q s0) (extractStridedSlice ⟨2, ![M, 128]⟩ ![0, o'] Q s1) h h1 (ix2 r 0) = queryRoot f o := by
  subst ho
  show root 0x43400000#32 (sumCol (addf (mulf _ _) (mulf _ _)) h h1 (ix2 r 0)) * Ideal.ofBits .f32 0x3D93CD3A#32 = _
  rw [sumCol_apply]
  unfold queryRoot
  refine congrArg (root _ · * _) (Finset.sum_congr rfl fun k _ => ?_)
  have hk := k.isLt
  show extractStridedSlice _ _ Q s0 (ix2 r k) * extractStridedSlice _ _ Q s0 (ix2 r k) + extractStridedSlice _ _ Q s1 (ix2 r k) * extractStridedSlice _ _ Q s1 (ix2 r k) = _
  rw [run_of o Q s0 r k (by omega), run_of (o + 128) Q s1 r k (by omega), hf, hf]

theorem keyRoots_apply (s : FVec Ideal ⟨2, ![M, 1]⟩ .f32) (o : ℕ) (s0 : (⟨2, ![M, W]⟩ : Shape).Slices ![0, o] ⟨2, ![M, 128]⟩)
    (hw : o + 128 ≤ W) (f g : ℕ → EReal) (r : Fin M) (hf : ∀ j : Fin W, Q (ix2 r j) = f j.val) (hs : s (ix2 r 0) = ∑ k : Fin 128, g k.val * g k.val) :
    keyRoots (extractStridedSlice ⟨2, ![M, 128]⟩ ![0, o] Q s0) s h h1 (ix2 r 0) = keyRoot f g o := by
  show root 0x43400000#32 (sumCol (mulf _ _) h h1 (ix2 r 0) + s (ix2 r 0)) = _
  rw [sumCol_apply, hs]
  unfold keyRoot
  refine congrArg (fun z => root _ (z + _)) (Finset.sum_congr rfl fun k _ => ?_)
  have hk := k.isLt
  show extractStridedSlice _ _ Q s0 (ix2 r k) * extractStridedSlice _ _ Q s0 (ix2 r k) = _
  rw [run_of o Q s0 r k (by omega), hf]

variable (u : ℕ → ℕ → EReal) (g cs sn : ℕ → ℕ → EReal) (wf : ℕ → EReal)

/-- The store of a query head's first half. -/
theorem queryLow {o : ℕ} (t : ℕ) (ot : o = t * 256) (s0 : (⟨2, ![M, W]⟩ : Shape).Slices ![0, o] ⟨2, ![M, 128]⟩) {o' : ℕ} (ho : o' = o + 128)
    (s1 : (⟨2, ![M, W]⟩ : Shape).Slices ![0, o'] ⟨2, ![M, 128]⟩) (hw : o + 256 ≤ W) (f : ℕ → ℕ → EReal) (hf : ∀ (r : Fin M) (j : Fin W), Q (ix2 r j) = f r.val j.val)
    (hwf : ∀ e : Fin 128, w (ix2 0 e) = wf e.val) (y : (⟨3, ![1, M, 128]⟩ : Shape).Idx) :
    shapeCast ⟨3, ![1, M, 128]⟩ (truncf .bf16 (scaled (extractStridedSlice ⟨2, ![M, 128]⟩ ![0, o] Q s0)
      (queryRoots (extractStridedSlice ⟨2, ![M, 128]⟩ ![0, o] Q s0) (extractStridedSlice ⟨2, ![M, 128]⟩ ![0, o'] Q s1) h h1) w h2 h3) b) co y
      = queryAt (f (y 1).val) wf (cs (y 1).val) (sn (y 1).val) u (o + (y 2).val) := by
  obtain ⟨a, r, e, rfl⟩ : ∃ (a : Fin 1) (r : Fin M) (e : Fin 128), y = ix3 a r e := ⟨y 0, y 1, y 2, eq_ix3 y⟩
  rw [lift_block]
  show scaled _ _ w h2 h3 (ix2 r e) = queryAt (f r.val) wf (cs r.val) (sn r.val) u (o + e.val)
  have he := e.isLt
  rw [scaled_apply, queryRoots_apply Q h h1 o s0 o' ho s1 hw (f r.val) r (hf r), run_of o Q s0 r e (by omega), hf, hwf]
  unfold queryAt
  rw [if_pos (by omega), show (o + e.val) / 256 * 256 = o by omega, show (o + e.val) % 256 = e.val by omega]

/-- The store of a query head's second half. -/
theorem queryHigh {o : ℕ} (t : ℕ) (ot : o = t * 256) (s0 : (⟨2, ![M, W]⟩ : Shape).Slices ![0, o] ⟨2, ![M, 128]⟩) {o' : ℕ} (ho : o' = o + 128)
    (s1 : (⟨2, ![M, W]⟩ : Shape).Slices ![0, o'] ⟨2, ![M, 128]⟩) (hw : o + 256 ≤ W) (C S : FVec Ideal ⟨2, ![M, 128]⟩ .f32) (U : FVec Ideal ⟨2, ![128, 128]⟩ .bf16)
    (f : ℕ → ℕ → EReal) (hf : ∀ (r : Fin M) (j : Fin W), Q (ix2 r j) = f r.val j.val)
    (hwf : ∀ e : Fin 128, w (ix2 0 e) = wf (128 + e.val)) (hc : ∀ (r : Fin M) (e : Fin 128), C (ix2 r e) = cs r.val e.val)
    (hs : ∀ (r : Fin M) (e : Fin 128), S (ix2 r e) = sn r.val e.val) (hu : ∀ k l : Fin 128, U (ix2 k l) = u k.val l.val) (y : (⟨3, ![1, M, 128]⟩ : Shape).Idx) :
    shapeCast ⟨3, ![1, M, 128]⟩ (truncf .bf16 (spinMat (scaled (extractStridedSlice ⟨2, ![M, 128]⟩ ![0, o'] Q s1)
      (queryRoots (extractStridedSlice ⟨2, ![M, 128]⟩ ![0, o] Q s0) (extractStridedSlice ⟨2, ![M, 128]⟩ ![0, o'] Q s1) h h1) w h2 h3) C S U b) b) co y
      = queryAt (f (y 1).val) wf (cs (y 1).val) (sn (y 1).val) u (o' + (y 2).val) := by
  obtain ⟨a, r, e, rfl⟩ : ∃ (a : Fin 1) (r : Fin M) (e : Fin 128), y = ix3 a r e := ⟨y 0, y 1, y 2, eq_ix3 y⟩
  rw [lift_block]
  show spinMat _ _ _ _ _ (ix2 r e) = queryAt (f r.val) wf (cs r.val) (sn r.val) u (o' + e.val)
  have he := e.isLt
  rw [spinMat_apply _ C S U b r (fun k => f r.val (o + 128 + k) * queryRoot (f r.val) o * wf (128 + k)) (cs r.val) (sn r.val) u _ (hc r) (hs r) hu e]
  · unfold queryAt
    rw [if_neg (by omega), show (o' + e.val) / 256 * 256 = o by omega, show (o' + e.val) % 256 - 128 = e.val by omega]
  · intro k
    have hk := k.isLt
    rw [scaled_apply, queryRoots_apply Q h h1 o s0 o' ho s1 hw (f r.val) r (hf r), run_of o' Q s1 r k (by omega), hf, hwf]
    subst ho
    rfl

/-- The store of a key head's first half. -/
theorem keyLow {o o' : ℕ} (t : ℕ) (ot : o = t * 128) (ot' : o' = t * 256) (s0 : (⟨2, ![M, W]⟩ : Shape).Slices ![0, o] ⟨2, ![M, 128]⟩) (hw : o + 128 ≤ W)
    (s : FVec Ideal ⟨2, ![M, 1]⟩ .f32) (f : ℕ → ℕ → EReal) (hf : ∀ (r : Fin M) (j : Fin W), Q (ix2 r j) = f r.val j.val)
    (hs : ∀ r : Fin M, s (ix2 r 0) = ∑ k : Fin 128, g r.val k.val * g r.val k.val)
    (hwf : ∀ e : Fin 128, w (ix2 0 e) = wf e.val) (y : (⟨3, ![1, M, 128]⟩ : Shape).Idx) :
    shapeCast ⟨3, ![1, M, 128]⟩ (truncf .bf16 (scaled (extractStridedSlice ⟨2, ![M, 128]⟩ ![0, o] Q s0)
      (keyRoots (extractStridedSlice ⟨2, ![M, 128]⟩ ![0, o] Q s0) s h h1) w h2 h3) b) co y
      = keyAt (f (y 1).val) (g (y 1).val) wf (cs (y 1).val) (sn (y 1).val) u (o' + (y 2).val) := by
  obtain ⟨a, r, e, rfl⟩ : ∃ (a : Fin 1) (r : Fin M) (e : Fin 128), y = ix3 a r e := ⟨y 0, y 1, y 2, eq_ix3 y⟩
  rw [lift_block]
  show scaled _ _ w h2 h3 (ix2 r e) = keyAt (f r.val) (g r.val) wf (cs r.val) (sn r.val) u (o' + e.val)
  have he := e.isLt
  rw [scaled_apply, keyRoots_apply Q h h1 s o s0 hw (f r.val) (g r.val) r (hf r) (hs r), run_of o Q s0 r e (by omega), hf, hwf]
  unfold keyAt
  rw [if_pos (by omega), show (o' + e.val) / 256 * 128 = o by omega, show (o' + e.val) % 256 = e.val by omega]

/-- The store of a key head's second half. -/
theorem keyHigh {o o' : ℕ} (t : ℕ) (ot : o = t * 128) (ot' : o' = t * 256 + 128) (s0 : (⟨2, ![M, W]⟩ : Shape).Slices ![0, o] ⟨2, ![M, 128]⟩) (hw : o + 128 ≤ W)
    (s : FVec Ideal ⟨2, ![M, 1]⟩ .f32) (z : FVec Ideal ⟨2, ![M, 128]⟩ .f32) (f : ℕ → ℕ → EReal) (hf : ∀ (r : Fin M) (j : Fin W), Q (ix2 r j) = f r.val j.val)
    (hs : ∀ r : Fin M, s (ix2 r 0) = ∑ k : Fin 128, g r.val k.val * g r.val k.val)
    (hz : ∀ (r : Fin M) (e : Fin 128), z (ix2 r e) = spin (fun k => g r.val k * wf (128 + k)) (cs r.val) (sn r.val) u e.val) (y : (⟨3, ![1, M, 128]⟩ : Shape).Idx) :
    shapeCast ⟨3, ![1, M, 128]⟩ (truncf .bf16 (mulf z (broadcastTo ⟨2, ![M, 128]⟩
      (keyRoots (extractStridedSlice ⟨2, ![M, 128]⟩ ![0, o] Q s0) s h h1) h2)) b) co y
      = keyAt (f (y 1).val) (g (y 1).val) wf (cs (y 1).val) (sn (y 1).val) u (o' + (y 2).val) := by
  obtain ⟨a, r, e, rfl⟩ : ∃ (a : Fin 1) (r : Fin M) (e : Fin 128), y = ix3 a r e := ⟨y 0, y 1, y 2, eq_ix3 y⟩
  rw [lift_block]
  show z (ix2 r e) * broadcastTo _ _ h2 (ix2 r e) = keyAt (f r.val) (g r.val) wf (cs r.val) (sn r.val) u (o' + e.val)
  have he := e.isLt
  rw [row_spread, hz, keyRoots_apply Q h h1 s o s0 hw (f r.val) (g r.val) r (hf r) (hs r)]
  unfold keyAt
  rw [if_neg (by omega), show (o' + e.val) / 256 * 128 = o by omega, show (o' + e.val) % 256 - 128 = e.val by omega]

/-- The store of a value head. -/
theorem valueLow (V : FVec Ideal ⟨2, ![M, W]⟩ .bf16) {o o' : ℕ} (t : ℕ) (ot : o = t * 128) (ot' : o' = t * 256) (s0 : (⟨2, ![M, W]⟩ : Shape).Slices ![0, o] ⟨2, ![M, 128]⟩)
    (hw : o + 128 ≤ W) (f : ℕ → ℕ → EReal) (hf : ∀ (r : Fin M) (j : Fin W), V (ix2 r j) = f r.val j.val) (y : (⟨3, ![1, M, 128]⟩ : Shape).Idx) :
    shapeCast ⟨3, ![1, M, 128]⟩ (extractStridedSlice ⟨2, ![M, 128]⟩ ![0, o] V s0) co y = valueAt (f (y 1).val) (o' + (y 2).val) := by
  obtain ⟨a, r, e, rfl⟩ : ∃ (a : Fin 1) (r : Fin M) (e : Fin 128), y = ix3 a r e := ⟨y 0, y 1, y 2, eq_ix3 y⟩
  rw [lift_block]
  show _ = valueAt (f r.val) (o' + e.val)
  have he := e.isLt
  rw [run_of o V s0 r e (by omega), hf]
  unfold valueAt
  rw [if_pos (by omega)]
  exact congrArg (f r.val) (show o + e.val = (o' + e.val) / 256 * 128 + (o' + e.val) % 256 by omega)

/-- The store of ones beside a value head. -/
theorem valueHigh {o' : ℕ} (t : ℕ) (ot' : o' = t * 256 + 128) (f : ℕ → ℕ → EReal) (y : (⟨3, ![1, M, 128]⟩ : Shape).Idx) :
    shapeCast ⟨3, ![1, M, 128]⟩ (broadcast ⟨2, ![M, 128]⟩ (Scalar.ofBits (F := Ideal) .bf16 0x3F80#16)) co y = valueAt (f (y 1).val) (o' + (y 2).val) := by
  obtain ⟨a, r, e, rfl⟩ : ∃ (a : Fin 1) (r : Fin M) (e : Fin 128), y = ix3 a r e := ⟨y 0, y 1, y 2, eq_ix3 y⟩
  rw [lift_block]
  show _ = valueAt (f r.val) (o' + e.val)
  have he := e.isLt
  unfold valueAt
  rw [if_neg (by omega)]
  rfl

end pieces

end Cert.Up

end
-- ==== Proof.UpBlocks.lean ====
/-
  Hand-written, untrusted. What the up-projections' body leaves in its three output blocks: at every place the query, the key or the
  value over the input blocks.
-/
module

public import proofs.«01_k».proof.Proof.Gen.Kernel6Ideal.Value
public import proofs.«01_k».proof.Proof.UpParts

@[expose] public section

set_option maxRecDepth 16384

noncomputable section

namespace Cert.Up

open Cert.Kernel6Ideal Cert.Kernel6Ideal.Gen Cert.Attention Cert.Projection Idealize.ShloMosaic Idealize.ShloMosaic.TcCoe Idealize.SL.Sem
open Idealize.ShloMosaic.ValueIdx (ix2 eq_ix2 eq_ix3)

/-- A whole block loaded, at a place. -/
theorem whole3 {B C : ℕ} (x : FVec Ideal ⟨3, ![1, B, C]⟩ .bf16) (inb) (i : Fin B) (j : Fin C) :
    View.ld (Val := Elt Ideal) (e' := .bf16) x (Rect.unit (s := ⟨3, ![1, B, C]⟩) ![0, 0, 0] ![1, B, C] inb) (ValueIdx.ix3 0 i j) = at3 x 0 i.val j.val := by
  refine at3_eq x _ _ _ _ ?_ ?_ ?_
  · rfl
  · show 0 + 1 * i.val = _; omega
  · show 0 + 1 * j.val = _; omega

/-- A whole matrix loaded, at a place. -/
theorem whole2 {B C : ℕ} (x : FVec Ideal ⟨2, ![B, C]⟩ .bf16) (inb) (i : Fin B) (j : Fin C) :
    View.ld (Val := Elt Ideal) (e' := .bf16) x (Rect.unit (s := ⟨2, ![B, C]⟩) ![0, 0] ![B, C] inb) (ix2 i j) = at2 x i.val j.val := by
  refine at2_eq x _ _ _ ?_ ?_
  · show 0 + 1 * i.val = _; omega
  · show 0 + 1 * j.val = _; omega

/-- A run of columns of a matrix loaded, at a place. -/
theorem columns {B C C' : ℕ} (x : FVec Ideal ⟨2, ![B, C]⟩ .f32) (w : ℕ) (inb) (i : Fin B) (j : Fin C') :
    View.ld (Val := Elt Ideal) (e' := .f32) x (Rect.unit (s := ⟨2, ![B, C]⟩) ![0, w] ![B, C'] inb) (ix2 i j) = at2 x i.val (w + j.val) := by
  refine at2_eq x _ _ _ ?_ ?_
  · show 0 + 1 * i.val = _; omega
  · show w + 1 * j.val = _; omega

theorem columns_whole {B C C' : ℕ} (x : FVec Ideal ⟨2, ![B, C]⟩ .f32) (inb) (i : Fin B) (j : Fin C') :
    View.ld (Val := Elt Ideal) (e' := .f32) x (Rect.unit (s := ⟨2, ![B, C]⟩) ![0, 0] ![B, C'] inb) (ix2 i j) = at2 x i.val j.val :=
  (columns x 0 inb i j).trans (congrArg (at2 x i.val) (Nat.zero_add _))

/-- The projected values of a block. -/
theorem pay_value (a : Vec Ideal S1x256x512 .bf16) (w : Vec Ideal S1x512 .f32) (u : Vec Ideal S512x1024 .bf16) (f : ℕ → ℕ → EReal) (g : ℕ → EReal)
    (v : ℕ → ℕ → EReal) (ha : ∀ (r : Fin 256) (k : Fin 512), a (ValueIdx.ix3 0 r k) = f r.val k.val) (hw : ∀ k : Fin 512, w (ix2 0 k) = g k.val)
    (hu : ∀ (k : Fin 512) (j : Fin 1024), u (ix2 k j) = v k.val j.val) (r : Fin 256) (j : Fin 1024) :
    k0_pay14 (k0_pay8 a) (k0_pay9 w) (k0_pay10 a) u (ix2 r j) = proj 0x44000000#32 512 (f r.val) g v j.val := by
  unfold k0_pay14
  simp only [shapeCast_self]
  refine proj_apply (M := 256) (N := 1024) (K := 512) _ _ u (f r.val) g v r (fun k => ?_) hu j
  exact normedMat_apply (M := 256) (K := 512) 0x44000000#32 (k0_pay8 a) (k0_pay9 w) _ _ _ _ bitsLt_bf16_f32 (f r.val) g r
    (fun k => (drop_block (M := 256) (N := 512) a _ r k).trans (ha r k)) (fun k => (congrFun (shapeCast_self w _) (ix2 0 k)).trans (hw k)) k

/-- The projected keys of a block. -/
theorem pay_key (a : Vec Ideal S1x256x512 .bf16) (w : Vec Ideal S1x512 .f32) (u : Vec Ideal S512x1024 .bf16) (f : ℕ → ℕ → EReal) (g : ℕ → EReal)
    (v : ℕ → ℕ → EReal) (ha : ∀ (r : Fin 256) (k : Fin 512), a (ValueIdx.ix3 0 r k) = f r.val k.val) (hw : ∀ k : Fin 512, w (ix2 0 k) = g k.val)
    (hu : ∀ (k : Fin 512) (j : Fin 1024), u (ix2 k j) = v k.val j.val) (r : Fin 256) (j : Fin 1024) :
    k0_pay13 (k0_pay8 a) (k0_pay9 w) (k0_pay10 a) u (ix2 r j) = proj 0x44000000#32 512 (f r.val) g v j.val :=
  pay_value a w u f g v ha hw hu r j

/-- The projected queries of a block. -/
theorem pay_query (a : Vec Ideal S1x256x768 .bf16) (w : Vec Ideal S1x768 .f32) (u : Vec Ideal S768x2048 .bf16) (f : ℕ → ℕ → EReal) (g : ℕ → EReal)
    (v : ℕ → ℕ → EReal) (ha : ∀ (r : Fin 256) (k : Fin 768), a (ValueIdx.ix3 0 r k) = f r.val k.val) (hw : ∀ k : Fin 768, w (ix2 0 k) = g k.val)
    (hu : ∀ (k : Fin 768) (j : Fin 2048), u (ix2 k j) = v k.val j.val) (r : Fin 256) (j : Fin 2048) :
    k0_pay12 (k0_pay7 a w) u (ix2 r j) = proj 0x44400000#32 768 (f r.val) g v j.val := by
  unfold k0_pay12
  simp only [shapeCast_self]
  refine proj_apply (M := 256) (N := 2048) (K := 768) _ _ u (f r.val) g v r (fun k => ?_) hu j
  exact normedMat_apply (M := 256) (K := 768) 0x44400000#32 (shapeCast S256x768 a shapeCasts_S1x256x768_S256x768) (shapeCast S1x768 w shapeCasts_S1x768_S1x768)
    _ _ _ _ bitsLt_bf16_f32 (f r.val) g r
    (fun k => (drop_block (M := 256) (N := 768) a _ r k).trans (ha r k)) (fun k => (congrFun (shapeCast_self w _) (ix2 0 k)).trans (hw k)) k

/-- The sums of squares of the shared half of the keys. -/
theorem pay_shared (a : Vec Ideal S1x256x128 .bf16) (g : ℕ → ℕ → EReal) (ha : ∀ (r : Fin 256) (k : Fin 128), a (ValueIdx.ix3 0 r k) = g r.val k.val)
    (r : Fin 256) : k0_pay16 a (ix2 r 0) = ∑ k : Fin 128, g r.val k.val * g r.val k.val := by
  refine (sumCol_apply (M := 256) (N := 128) (mulf (k0_pay15 a) (k0_pay15 a)) _ _ r 0).trans (Finset.sum_congr rfl fun k _ => ?_)
  have e : k0_pay15 a (ix2 r k) = g r.val k.val := (drop_block (M := 256) (N := 128) a _ r k).trans (ha r k)
  exact congrArg₂ (· * ·) e e

/-- The rotated shared half of the keys. -/
theorem pay_rotated (C S : Vec Ideal S256x128 .f32) (U : Vec Ideal S128x128 .bf16) (a : Vec Ideal S1x256x128 .bf16) (w : Vec Ideal S1x128 .f32)
    (g cs sn u : ℕ → ℕ → EReal) (wf : ℕ → EReal) (ha : ∀ (r : Fin 256) (k : Fin 128), a (ValueIdx.ix3 0 r k) = g r.val k.val)
    (hw : ∀ k : Fin 128, w (ix2 0 k) = wf (128 + k.val)) (hc : ∀ (r : Fin 256) (e : Fin 128), C (ix2 r e) = cs r.val e.val)
    (hs : ∀ (r : Fin 256) (e : Fin 128), S (ix2 r e) = sn r.val e.val) (hu : ∀ k l : Fin 128, U (ix2 k l) = u k.val l.val) (r : Fin 256) (e : Fin 128) :
    k0_pay20 (k0_pay4 C) (k0_pay5 S) (k0_pay6 U) a w (ix2 r e) = spin (fun k => g r.val k * wf (128 + k)) (cs r.val) (sn r.val) u e.val := by
  unfold k0_pay20 k0_pay4 k0_pay5 k0_pay6
  simp only [shapeCast_self]
  refine spinMat_apply (M := 256) (mulf (k0_pay15 a) (broadcastTo S256x128 w broadcasts_S1x128_S256x128)) C S U bitsLt_bf16_f32 r
    (fun k => g r.val k * wf (128 + k)) (cs r.val) (sn r.val) u (fun k => ?_) (hc r) (hs r) hu e
  exact congrArg₂ (· * ·) ((drop_block (M := 256) (N := 128) a _ r k).trans (ha r k)) ((line_spread (M := 256) (N := 128) w _ r k).trans (hw k))

/-- A block's queries, keys and values before their norms, at natural coordinates. -/
def queryRow (x0 : Vec Ideal S1x256x768 .bf16) (x6 : Vec Ideal S1x768 .f32) (x8 : Vec Ideal S768x2048 .bf16) (r j : ℕ) : EReal :=
  proj 0x44400000#32 768 (at3 (A := 1) (B := 256) (C := 768) x0 0 r) (at2 (A := 1) (B := 768) x6 0) (at2 (A := 768) (B := 2048) x8) j

def latentRow (x1 : Vec Ideal S1x256x512 .bf16) (x7 : Vec Ideal S1x512 .f32) (x9 : Vec Ideal S512x1024 .bf16) (r j : ℕ) : EReal :=
  proj 0x44000000#32 512 (at3 (A := 1) (B := 256) (C := 512) x1 0 r) (at2 (A := 1) (B := 512) x7 0) (at2 (A := 512) (B := 1024) x9) j

theorem out_15 (c : Dev nD) (i : grid0.Coords)
    (arg2 : Memref sig .tc .vmem S1x256x768 .bf16) (harg2 : arg2.IsWhole) (arg3 : Memref sig .tc .vmem S1x256x512 .bf16) (harg3 : arg3.IsWhole) (arg4 :
    Memref sig .tc .vmem S1x256x128 .bf16) (harg4 : arg4.IsWhole) (arg5 : Memref sig .tc .vmem S256x128 .f32) (harg5 : arg5.IsWhole) (arg6 : Memref sig
    .tc .vmem S256x128 .f32) (harg6 : arg6.IsWhole) (arg7 : Memref sig .tc .vmem S128x128 .bf16) (harg7 : arg7.IsWhole) (arg8 : Memref sig .tc .vmem
    S1x768 .f32) (harg8 : arg8.IsWhole) (arg9 : Memref sig .tc .vmem S1x512 .f32) (harg9 : arg9.IsWhole) (arg10 : Memref sig .tc .vmem S768x2048 .bf16)
    (harg10 : arg10.IsWhole) (arg11 : Memref sig .tc .vmem S512x1024 .bf16) (harg11 : arg11.IsWhole) (arg12 : Memref sig .tc .vmem S512x1024 .bf16)
    (harg12 : arg12.IsWhole) (arg13 : Memref sig .tc .vmem S1x256 .f32) (harg13 : arg13.IsWhole) (arg14 : Memref sig .tc .vmem S1x256 .f32) (harg14 :
    arg14.IsWhole) (arg15 : Memref sig .tc .vmem S1x256x2048 .bf16) (harg15 : arg15.IsWhole) (arg16 : Memref sig .tc .vmem S1x256x2048 .bf16) (harg16 :
    arg16.IsWhole) (arg17 : Memref sig .tc .vmem S1x256x2048 .bf16) (harg17 : arg17.IsWhole)
    (x0 : Vec Ideal S1x256x768 .bf16) (x1 : Vec Ideal S1x256x512 .bf16) (x2 : Vec Ideal S1x256x128 .bf16) (x3 : Vec Ideal S256x128 .f32) (x4 : Vec Ideal
    S256x128 .f32) (x5 : Vec Ideal S128x128 .bf16) (x6 : Vec Ideal S1x768 .f32) (x7 : Vec Ideal S1x512 .f32) (x8 : Vec Ideal S768x2048 .bf16) (x9 : Vec
    Ideal S512x1024 .bf16) (x10 : Vec Ideal S512x1024 .bf16) (x11 : Vec Ideal S1x256 .f32) (x12 : Vec Ideal S1x256 .f32)
    (y : S1x256x2048.Idx) :
    out0_A_15 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y
      = valueAt (latentRow x1 x7 x10 (y 1).val) (y 2).val := by
  have hv := pay_value (View.ld x1 (Rect.unit ![0, 0, 0] ![1, 256, 512] inb_S1x256x512_S1x256x512_0_0_0)) (View.ld x7 (Rect.unit ![0, 0] ![1, 512] inb_S1x512_S1x512_0_0))
    (View.ld x10 (Rect.unit ![0, 0] ![512, 1024] inb_S512x1024_S512x1024_0_0)) (at3 (A := 1) (B := 256) (C := 512) x1 0) (at2 (A := 1) (B := 512) x7 0)
    (at2 (A := 512) (B := 1024) x10) (fun r k => whole3 x1 _ r k) (fun k => columns_whole x7 _ 0 k)
    (fun r k => whole2 x10 _ r k)
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
    x0 x1 x2 x3 x4 x5 x6 x7 x8 x9 x10 x11 x12)]
  refine View.canon_apply_of_pieces (fun y : S1x256x2048.Idx => valueAt (latentRow x1 x7 x10 (y 1).val) (y 2).val) _ ?_ y
    (cover0_A_15 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  intro pc hpc x
  rcases List.mem_cons.mp hpc with rfl | hpc
  · clear hpc; exact (valueHigh (M := 256) shapeCasts_S256x128_S1x256x128 7 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 7 rfl rfl slices_S256x1024_o0_896_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 6 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 6 rfl rfl slices_S256x1024_o0_768_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 5 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 5 rfl rfl slices_S256x1024_o0_640_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 4 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 4 rfl rfl slices_S256x1024_o0_512_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 3 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 3 rfl rfl slices_S256x1024_o0_384_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 2 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 2 rfl rfl slices_S256x1024_o0_256_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 1 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 1 rfl rfl slices_S256x1024_o0_128_S256x128 (by decide) (latentRow x1 x7 x10) hv x).trans (place (fun r c => valueAt (latentRow x1 x7 x10 r) c) _ _ _)
  rcases List.mem_cons.mp hpc with rfl | hpc
  · clear hpc; exact (valueHigh (M := 256) shapeCasts_S256x128_S1x256x128 0 rfl (latentRow x1 x7 x10) x).trans (place (fun r c => valueAt (latentRow x1 x7 x10 r) c) _ _ _)
  rcases List.mem_cons.mp hpc with rfl | hpc
  · clear hpc; exact (valueLow (M := 256) (W := 1024) shapeCasts_S256x128_S1x256x128 _ 0 rfl rfl slices_S256x1024_o0_0_S256x128 (by decide) (latentRow x1 x7 x10) hv x).trans (place (fun r c => valueAt (latentRow x1 x7 x10 r) c) _ _ _)
  nomatch hpc

theorem out_14 (c : Dev nD) (i : grid0.Coords)
    (arg2 : Memref sig .tc .vmem S1x256x768 .bf16) (harg2 : arg2.IsWhole) (arg3 : Memref sig .tc .vmem S1x256x512 .bf16) (harg3 : arg3.IsWhole) (arg4 :
    Memref sig .tc .vmem S1x256x128 .bf16) (harg4 : arg4.IsWhole) (arg5 : Memref sig .tc .vmem S256x128 .f32) (harg5 : arg5.IsWhole) (arg6 : Memref sig
    .tc .vmem S256x128 .f32) (harg6 : arg6.IsWhole) (arg7 : Memref sig .tc .vmem S128x128 .bf16) (harg7 : arg7.IsWhole) (arg8 : Memref sig .tc .vmem
    S1x768 .f32) (harg8 : arg8.IsWhole) (arg9 : Memref sig .tc .vmem S1x512 .f32) (harg9 : arg9.IsWhole) (arg10 : Memref sig .tc .vmem S768x2048 .bf16)
    (harg10 : arg10.IsWhole) (arg11 : Memref sig .tc .vmem S512x1024 .bf16) (harg11 : arg11.IsWhole) (arg12 : Memref sig .tc .vmem S512x1024 .bf16)
    (harg12 : arg12.IsWhole) (arg13 : Memref sig .tc .vmem S1x256 .f32) (harg13 : arg13.IsWhole) (arg14 : Memref sig .tc .vmem S1x256 .f32) (harg14 :
    arg14.IsWhole) (arg15 : Memref sig .tc .vmem S1x256x2048 .bf16) (harg15 : arg15.IsWhole) (arg16 : Memref sig .tc .vmem S1x256x2048 .bf16) (harg16 :
    arg16.IsWhole) (arg17 : Memref sig .tc .vmem S1x256x2048 .bf16) (harg17 : arg17.IsWhole)
    (x0 : Vec Ideal S1x256x768 .bf16) (x1 : Vec Ideal S1x256x512 .bf16) (x2 : Vec Ideal S1x256x128 .bf16) (x3 : Vec Ideal S256x128 .f32) (x4 : Vec Ideal
    S256x128 .f32) (x5 : Vec Ideal S128x128 .bf16) (x6 : Vec Ideal S1x768 .f32) (x7 : Vec Ideal S1x512 .f32) (x8 : Vec Ideal S768x2048 .bf16) (x9 : Vec
    Ideal S512x1024 .bf16) (x10 : Vec Ideal S512x1024 .bf16) (x11 : Vec Ideal S1x256 .f32) (x12 : Vec Ideal S1x256 .f32)
    (y : S1x256x2048.Idx) :
    out0_A_14 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y
      = keyAt (latentRow x1 x7 x9 (y 1).val) (at3 (A := 1) (B := 256) (C := 128) x2 0 (y 1).val) (at2 (A := 1) (B := 256) x12 0) (at2 (A := 256) (B := 128) x3 (y 1).val) (at2 (A := 256) (B := 128) x4 (y 1).val) (at2 (A := 128) (B := 128) x5) (y 2).val := by
  have hv := pay_key (View.ld x1 (Rect.unit ![0, 0, 0] ![1, 256, 512] inb_S1x256x512_S1x256x512_0_0_0)) (View.ld x7 (Rect.unit ![0, 0] ![1, 512] inb_S1x512_S1x512_0_0))
    (View.ld x9 (Rect.unit ![0, 0] ![512, 1024] inb_S512x1024_S512x1024_0_0)) (at3 (A := 1) (B := 256) (C := 512) x1 0) (at2 (A := 1) (B := 512) x7 0)
    (at2 (A := 512) (B := 1024) x9) (fun r k => whole3 x1 _ r k) (fun k => columns_whole x7 _ 0 k)
    (fun r k => whole2 x9 _ r k)
  have hs := pay_shared (View.ld x2 (Rect.unit ![0, 0, 0] ![1, 256, 128] inb_S1x256x128_S1x256x128_0_0_0)) (at3 (A := 1) (B := 256) (C := 128) x2 0) (fun r k => whole3 x2 _ r k)
  have hw : ∀ e : Fin 128, k0_pay19 (View.ld x12 (Rect.unit ![0, 0] ![1, 128] inb_S1x256_S1x128_0_0)) (ix2 0 e) = at2 (A := 1) (B := 256) x12 0 e.val := fun k =>
    (congrFun (shapeCast_self _ _) (ix2 0 k)).trans (columns_whole x12 _ 0 k)
  have hz := pay_rotated (View.ld x3 (Rect.unit ![0, 0] ![256, 128] inb_S256x128_S256x128_0_0)) (View.ld x4 (Rect.unit ![0, 0] ![256, 128] inb_S256x128_S256x128_0_0))
    (View.ld x5 (Rect.unit ![0, 0] ![128, 128] inb_S128x128_S128x128_0_0)) (View.ld x2 (Rect.unit ![0, 0, 0] ![1, 256, 128] inb_S1x256x128_S1x256x128_0_0_0))
     (View.ld x12 (Rect.unit ![0, 128] ![1, 128] inb_S1x256_S1x128_0_128)) (at3 (A := 1) (B := 256) (C := 128) x2 0)
    (at2 (A := 256) (B := 128) x3) (at2 (A := 256) (B := 128) x4) (at2 (A := 128) (B := 128) x5) (at2 (A := 1) (B := 256) x12 0) (fun r k => whole3 x2 _ r k)
    (fun k => columns x12 128 _ 0 k) (fun r k => columns_whole x3 _ r k)
    (fun r k => columns_whole x4 _ r k) (fun r k => whole2 x5 _ r k)
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
    x0 x1 x2 x3 x4 x5 x6 x7 x8 x9 x10 x11 x12)]
  refine View.canon_apply_of_pieces (fun y : S1x256x2048.Idx => keyAt (latentRow x1 x7 x9 (y 1).val) (at3 (A := 1) (B := 256) (C := 128) x2 0 (y 1).val) (at2 (A := 1) (B := 256) x12 0) (at2 (A := 256) (B := 128) x3 (y 1).val) (at2 (A := 256) (B := 128) x4 (y 1).val) (at2 (A := 128) (B := 128) x5) (y 2).val) _ ?_ y
    (cover0_A_14 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  intro pc hpc x
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 7 rfl rfl slices_S256x1024_o0_896_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 7 rfl rfl slices_S256x1024_o0_896_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 6 rfl rfl slices_S256x1024_o0_768_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 6 rfl rfl slices_S256x1024_o0_768_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 5 rfl rfl slices_S256x1024_o0_640_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 5 rfl rfl slices_S256x1024_o0_640_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 4 rfl rfl slices_S256x1024_o0_512_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 4 rfl rfl slices_S256x1024_o0_512_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 3 rfl rfl slices_S256x1024_o0_384_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 3 rfl rfl slices_S256x1024_o0_384_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 2 rfl rfl slices_S256x1024_o0_256_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 2 rfl rfl slices_S256x1024_o0_256_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 1 rfl rfl slices_S256x1024_o0_128_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 1 rfl rfl slices_S256x1024_o0_128_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyHigh (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) reduces_S256x128_S256 shapeCasts_S256_S256x1 broadcasts_S256x1_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 0 rfl rfl slices_S256x1024_o0_0_S256x128 (by decide) (k0_pay16 (View.ld x2 (Rect.unit ![0, 0, 0] ![1, 256, 128] inb_S1x256x128_S1x256x128_0_0_0))) _ (latentRow x1 x7 x9) hv hs hz x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  rcases List.mem_cons.mp hpc with rfl | hpc
  · clear hpc; exact (keyLow (M := 256) (W := 1024) (k0_pay13 (k0_pay8 (View.ld x1 (Rect.unit ![0, 0, 0] ![1, 256, 512] inb_S1x256x512_S1x256x512_0_0_0))) (k0_pay9 (View.ld x7 (Rect.unit ![0, 0] ![1, 512] inb_S1x512_S1x512_0_0))) (k0_pay10 (View.ld x1 (Rect.unit ![0, 0, 0] ![1, 256, 512] inb_S1x256x512_S1x256x512_0_0_0))) (View.ld x9 (Rect.unit ![0, 0] ![512, 1024] inb_S512x1024_S512x1024_0_0))) (k0_pay19 (View.ld x12 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at3 (A := 1) (B := 256) (C := 128) x2 0) (at2 (A := 256) (B := 128) x3) (at2 (A := 256) (B := 128) x4) (at2 (A := 1) (B := 256) x12 0) 0 rfl rfl slices_S256x1024_o0_0_S256x128 (by decide) (k0_pay16 (View.ld x2 (Rect.unit ![0, 0, 0] ![1, 256, 128] inb_S1x256x128_S1x256x128_0_0_0))) (latentRow x1 x7 x9) hv hs hw x).trans (place (fun r c => keyAt (latentRow x1 x7 x9 r) (at3 (A := 1) (B := 256) (C := 128) x2 0 r) (at2 (A := 1) (B := 256) x12 0) (at2 (A := 256) (B := 128) x3 r) (at2 (A := 256) (B := 128) x4 r) (at2 (A := 128) (B := 128) x5) c) _ _ _)
  nomatch hpc

theorem out_13 (c : Dev nD) (i : grid0.Coords)
    (arg2 : Memref sig .tc .vmem S1x256x768 .bf16) (harg2 : arg2.IsWhole) (arg3 : Memref sig .tc .vmem S1x256x512 .bf16) (harg3 : arg3.IsWhole) (arg4 :
    Memref sig .tc .vmem S1x256x128 .bf16) (harg4 : arg4.IsWhole) (arg5 : Memref sig .tc .vmem S256x128 .f32) (harg5 : arg5.IsWhole) (arg6 : Memref sig
    .tc .vmem S256x128 .f32) (harg6 : arg6.IsWhole) (arg7 : Memref sig .tc .vmem S128x128 .bf16) (harg7 : arg7.IsWhole) (arg8 : Memref sig .tc .vmem
    S1x768 .f32) (harg8 : arg8.IsWhole) (arg9 : Memref sig .tc .vmem S1x512 .f32) (harg9 : arg9.IsWhole) (arg10 : Memref sig .tc .vmem S768x2048 .bf16)
    (harg10 : arg10.IsWhole) (arg11 : Memref sig .tc .vmem S512x1024 .bf16) (harg11 : arg11.IsWhole) (arg12 : Memref sig .tc .vmem S512x1024 .bf16)
    (harg12 : arg12.IsWhole) (arg13 : Memref sig .tc .vmem S1x256 .f32) (harg13 : arg13.IsWhole) (arg14 : Memref sig .tc .vmem S1x256 .f32) (harg14 :
    arg14.IsWhole) (arg15 : Memref sig .tc .vmem S1x256x2048 .bf16) (harg15 : arg15.IsWhole) (arg16 : Memref sig .tc .vmem S1x256x2048 .bf16) (harg16 :
    arg16.IsWhole) (arg17 : Memref sig .tc .vmem S1x256x2048 .bf16) (harg17 : arg17.IsWhole)
    (x0 : Vec Ideal S1x256x768 .bf16) (x1 : Vec Ideal S1x256x512 .bf16) (x2 : Vec Ideal S1x256x128 .bf16) (x3 : Vec Ideal S256x128 .f32) (x4 : Vec Ideal
    S256x128 .f32) (x5 : Vec Ideal S128x128 .bf16) (x6 : Vec Ideal S1x768 .f32) (x7 : Vec Ideal S1x512 .f32) (x8 : Vec Ideal S768x2048 .bf16) (x9 : Vec
    Ideal S512x1024 .bf16) (x10 : Vec Ideal S512x1024 .bf16) (x11 : Vec Ideal S1x256 .f32) (x12 : Vec Ideal S1x256 .f32)
    (y : S1x256x2048.Idx) :
    out0_A_13 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y
      = queryAt (queryRow x0 x6 x8 (y 1).val) (at2 (A := 1) (B := 256) x11 0) (at2 (A := 256) (B := 128) x3 (y 1).val) (at2 (A := 256) (B := 128) x4 (y 1).val) (at2 (A := 128) (B := 128) x5) (y 2).val := by
  have hq := pay_query (View.ld x0 (Rect.unit ![0, 0, 0] ![1, 256, 768] inb_S1x256x768_S1x256x768_0_0_0)) (View.ld x6 (Rect.unit ![0, 0] ![1, 768] inb_S1x768_S1x768_0_0))
    (View.ld x8 (Rect.unit ![0, 0] ![768, 2048] inb_S768x2048_S768x2048_0_0)) (at3 (A := 1) (B := 256) (C := 768) x0 0) (at2 (A := 1) (B := 768) x6 0)
    (at2 (A := 768) (B := 2048) x8) (fun r k => whole3 x0 _ r k) (fun k => columns_whole x6 _ 0 k)
    (fun r k => whole2 x8 _ r k)
  have hc : ∀ (r : Fin 256) (e : Fin 128), k0_pay4 (View.ld x3 (Rect.unit ![0, 0] ![256, 128] inb_S256x128_S256x128_0_0)) (ix2 r e) = at2 (A := 256) (B := 128) x3 r.val e.val := fun r k =>
    (congrFun (shapeCast_self _ _) (ix2 r k)).trans (columns_whole x3 _ r k)
  have hs : ∀ (r : Fin 256) (e : Fin 128), k0_pay5 (View.ld x4 (Rect.unit ![0, 0] ![256, 128] inb_S256x128_S256x128_0_0)) (ix2 r e) = at2 (A := 256) (B := 128) x4 r.val e.val := fun r k =>
    (congrFun (shapeCast_self _ _) (ix2 r k)).trans (columns_whole x4 _ r k)
  have hu : ∀ k l : Fin 128, k0_pay6 (View.ld x5 (Rect.unit ![0, 0] ![128, 128] inb_S128x128_S128x128_0_0)) (ix2 k l) = at2 (A := 128) (B := 128) x5 k.val l.val := fun r k =>
    (congrFun (shapeCast_self _ _) (ix2 r k)).trans (whole2 x5 _ r k)
  have hw1 : ∀ e : Fin 128, k0_pay17 (View.ld x11 (Rect.unit ![0, 0] ![1, 128] inb_S1x256_S1x128_0_0)) (ix2 0 e) = at2 (A := 1) (B := 256) x11 0 e.val := fun k =>
    (congrFun (shapeCast_self _ _) (ix2 0 k)).trans (columns_whole x11 _ 0 k)
  have hw2 : ∀ e : Fin 128, k0_pay18 (View.ld x11 (Rect.unit ![0, 128] ![1, 128] inb_S1x256_S1x128_0_128)) (ix2 0 e) = at2 (A := 1) (B := 256) x11 0 (128 + e.val) := fun k =>
    (congrFun (shapeCast_self _ _) (ix2 0 k)).trans (columns x11 128 _ 0 k)
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
    x0 x1 x2 x3 x4 x5 x6 x7 x8 x9 x10 x11 x12)]
  refine View.canon_apply_of_pieces (fun y : S1x256x2048.Idx => queryAt (queryRow x0 x6 x8 (y 1).val) (at2 (A := 1) (B := 256) x11 0) (at2 (A := 256) (B := 128) x3 (y 1).val) (at2 (A := 256) (B := 128) x4 (y 1).val) (at2 (A := 128) (B := 128) x5) (y 2).val) _ ?_ y
    (cover0_A_13 c i arg2 harg2 arg3 harg3 arg4 harg4 arg5 harg5 arg6 harg6 arg7 harg7 arg8 harg8 arg9 harg9 arg10 harg10 arg11 harg11 arg12 harg12 arg13 harg13 arg14
    harg14 arg15 harg15 arg16 harg16 arg17 harg17
      x0 x1 x2 x3 x4 x5 x6 x7 x8 x9 x10 x11 x12 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  intro pc hpc x
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 7 rfl slices_S256x2048_o0_1792_S256x128 rfl slices_S256x2048_o0_1920_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 7 rfl slices_S256x2048_o0_1792_S256x128 rfl slices_S256x2048_o0_1920_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 6 rfl slices_S256x2048_o0_1536_S256x128 rfl slices_S256x2048_o0_1664_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 6 rfl slices_S256x2048_o0_1536_S256x128 rfl slices_S256x2048_o0_1664_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 5 rfl slices_S256x2048_o0_1280_S256x128 rfl slices_S256x2048_o0_1408_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 5 rfl slices_S256x2048_o0_1280_S256x128 rfl slices_S256x2048_o0_1408_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 4 rfl slices_S256x2048_o0_1024_S256x128 rfl slices_S256x2048_o0_1152_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 4 rfl slices_S256x2048_o0_1024_S256x128 rfl slices_S256x2048_o0_1152_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 3 rfl slices_S256x2048_o0_768_S256x128 rfl slices_S256x2048_o0_896_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 3 rfl slices_S256x2048_o0_768_S256x128 rfl slices_S256x2048_o0_896_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 2 rfl slices_S256x2048_o0_512_S256x128 rfl slices_S256x2048_o0_640_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 2 rfl slices_S256x2048_o0_512_S256x128 rfl slices_S256x2048_o0_640_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 1 rfl slices_S256x2048_o0_256_S256x128 rfl slices_S256x2048_o0_384_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 1 rfl slices_S256x2048_o0_256_S256x128 rfl slices_S256x2048_o0_384_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryHigh (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay18 (View.ld x11 (Rect.unit ![0, 128] ![1, 128] inb_S1x256_S1x128_0_128))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 0 rfl slices_S256x2048_o0_0_S256x128 rfl slices_S256x2048_o0_128_S256x128 (by decide) (k0_pay4 (View.ld x3 (Rect.unit ![0, 0] ![256, 128] inb_S256x128_S256x128_0_0))) (k0_pay5 (View.ld x4 (Rect.unit ![0, 0] ![256, 128] inb_S256x128_S256x128_0_0))) (k0_pay6 (View.ld x5 (Rect.unit ![0, 0] ![128, 128] inb_S128x128_S128x128_0_0))) (queryRow x0 x6 x8) hq hw2 hc hs hu x).trans (place (fun r c => queryAt (queryRow x0 x6 x8 r) (at2 (A := 1) (B := 256) x11 0) (at2 (A := 256) (B := 128) x3 r) (at2 (A := 256) (B := 128) x4 r) (at2 (A := 128) (B := 128) x5) c) _ _ _)
  rcases List.mem_cons.mp hpc with rfl | hpc
  · clear hpc; exact (queryLow (M := 256) (W := 2048) (k0_pay12 (k0_pay7 (View.ld x0 (Rect.unit ![0, 0, 0] ![1, 256, 768] inb_S1x256x768_S1x256x768_0_0_0)) (View.ld x6 (Rect.unit ![0, 0] ![1, 768] inb_S1x768_S1x768_0_0))) (View.ld x8 (Rect.unit ![0, 0] ![768, 2048] inb_S768x2048_S768x2048_0_0))) (k0_pay17 (View.ld x11 (Rect.unit ![0, 0] ![1, 128] inb_S1x256_S1x128_0_0))) reduces_S256x128_S256 shapeCasts_S256_S256x1 broadcasts_S256x1_S256x128 broadcasts_S1x128_S256x128 bitsLt_bf16_f32 shapeCasts_S256x128_S1x256x128 (at2 (A := 128) (B := 128) x5) (at2 (A := 256) (B := 128) x3) (at2 (A := 256) (B := 128) x4) (at2 (A := 1) (B := 256) x11 0) 0 rfl slices_S256x2048_o0_0_S256x128 rfl slices_S256x2048_o0_128_S256x128 (by decide) (queryRow x0 x6 x8) hq hw1 x).trans (place (fun r c => queryAt (queryRow x0 x6 x8 r) (at2 (A := 1) (B := 256) x11 0) (at2 (A := 256) (B := 128) x3 r) (at2 (A := 256) (B := 128) x4 r) (at2 (A := 128) (B := 128) x5) c) _ _ _)
  nomatch hpc

end Cert.Up

end
-- ==== Proof.UpFetched.lean ====
/-
  Hand-written, untrusted. The up-projections' input blocks as reads of the arrays the call is given, at natural coordinates: a grid
  point holds the batch `t / 17` and the block of rows `t % 17`.
-/
module

public import proofs.«01_k».proof.Proof.UpBlocks
public import Idealize.ShloMosaic.Lib.Pipeline.ValueKit

@[expose] public section

set_option maxRecDepth 16384

noncomputable section

namespace Cert.Up

open Cert.Kernel6Ideal Cert.Kernel6Ideal.Gen Cert.Attention Cert.Projection Idealize.ShloMosaic Idealize.ShloMosaic.TcCoe Idealize.SL.Sem

variable (m : (ℓ : Loc nD τ sig) → Buf (Elt Ideal) ℓ) (c : Dev nD)

/-- The windows' block indices at a grid point: batch, block of rows, block of columns. -/
theorem places : ∀ t : Fin cfg0.N, win0_0.index t = ![t.val / 17, t.val % 17, 2]
    ∧ win0_1.index t = ![t.val / 17, t.val % 17, 2]
    ∧ win0_2.index t = ![t.val / 17, t.val % 17, 18]
    ∧ win0_3.index t = ![t.val % 17, 0]
    ∧ win0_4.index t = ![t.val % 17, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val / 17, t.val % 17, 0]
    ∧ win0_14.index t = ![t.val / 17, t.val % 17, 0]
    ∧ win0_15.index t = ![t.val / 17, t.val % 17, 0] :=
  (by decide +kernel : ∀ t : Fin grid0.N, _)

theorem read0 (X : S2x4352x2560.Idx → EReal) (t : Fin cfg0.N) (y : ((cfg0.win 0).xblock (cfg0.grid.coords t)).Idx) :
    ((cfg0.win 0).blk t).view.read (Elt Ideal) X y = X ((win0_0.rect t).emb y) := rfl

theorem block0 (t : Fin cfg0.N) (r l : ℕ) (hr : r < 256) (hl : l < 768) :
    at3 (A := 1) (B := 256) (C := 768) (X0_0 m c t) 0 r l
      = at3 (A := 2) (B := 4352) (C := 2560) (V m c main_v3) (t.val / 17) (256 * (t.val % 17) + r) (1536 + l) := by
  rw [at3_of _ 0 r l (by omega) hr hl]
  unfold X0_0 Pipeline.Window.fill
  rw [dif_pos (moved0_0 t _)]
  refine (read0 (V m c main_v3) t _).trans (at3_eq (A := 2) (B := 4352) (C := 2560) (V m c main_v3) _ _ _ _
    ((win0_0.rect_emb_val t _ 0).trans ?_) ((win0_0.rect_emb_val t _ 1).trans ?_) ((win0_0.rect_emb_val t _ 2).trans ?_))
  · rw [show win0_0.index t 0 = t.val / 17 from congrFun (places t).1 0, show win0_0.size 0 = 1 from rfl, Nat.mul_one]
    rfl
  · rw [show win0_0.index t 1 = t.val % 17 from congrFun (places t).1 1, show win0_0.size 1 = 256 from rfl]
    exact congrArg (· + r) (Nat.mul_comm _ _)
  · rw [show win0_0.index t 2 = 2 from congrFun (places t).1 2, show win0_0.size 2 = 768 from rfl]
    rfl

theorem read1 (X : S2x4352x2560.Idx → EReal) (t : Fin cfg0.N) (y : S1x256x512.Idx) :
    ((cfg0.win 1).blk t).view.read (Elt Ideal) X y = X ((win0_1.rect t).emb y) := rfl

theorem block1 (t : Fin cfg0.N) (r l : ℕ) (hr : r < 256) (hl : l < 512) :
    at3 (A := 1) (B := 256) (C := 512) (iblk m c 1 t) 0 r l
      = at3 (A := 2) (B := 4352) (C := 2560) (V m c main_v3) (t.val / 17) (256 * (t.val % 17) + r) (1024 + l) := by
  rw [at3_of _ 0 r l (by omega) hr hl]
  refine (read1 (V m c main_v3) t (ValueIdx.ix3 0 ⟨r, hr⟩ ⟨l, hl⟩)).trans (at3_eq (A := 2) (B := 4352) (C := 2560) (V m c main_v3) _ _ _ _
    ((win0_1.rect_emb_val t _ 0).trans ?_) ((win0_1.rect_emb_val t _ 1).trans ?_) ((win0_1.rect_emb_val t _ 2).trans ?_))
  · rw [show win0_1.index t 0 = t.val / 17 from congrFun (places t).2.1 0, show win0_1.size 0 = 1 from rfl, Nat.mul_one]
    rfl
  · rw [show win0_1.index t 1 = t.val % 17 from congrFun (places t).2.1 1, show win0_1.size 1 = 256 from rfl]
    exact congrArg (· + r) (Nat.mul_comm _ _)
  · rw [show win0_1.index t 2 = 2 from congrFun (places t).2.1 2, show win0_1.size 2 = 512 from rfl]
    rfl

theorem read2 (X : S2x4352x2560.Idx → EReal) (t : Fin cfg0.N) (y : S1x256x128.Idx) :
    ((cfg0.win 2).blk t).view.read (Elt Ideal) X y = X ((win0_2.rect t).emb y) := rfl

theorem block2 (t : Fin cfg0.N) (r l : ℕ) (hr : r < 256) (hl : l < 128) :
    at3 (A := 1) (B := 256) (C := 128) (iblk m c 2 t) 0 r l
      = at3 (A := 2) (B := 4352) (C := 2560) (V m c main_v3) (t.val / 17) (256 * (t.val % 17) + r) (2304 + l) := by
  rw [at3_of _ 0 r l (by omega) hr hl]
  refine (read2 (V m c main_v3) t (ValueIdx.ix3 0 ⟨r, hr⟩ ⟨l, hl⟩)).trans (at3_eq (A := 2) (B := 4352) (C := 2560) (V m c main_v3) _ _ _ _
    ((win0_2.rect_emb_val t _ 0).trans ?_) ((win0_2.rect_emb_val t _ 1).trans ?_) ((win0_2.rect_emb_val t _ 2).trans ?_))
  · rw [show win0_2.index t 0 = t.val / 17 from congrFun (places t).2.2.1 0, show win0_2.size 0 = 1 from rfl, Nat.mul_one]
    rfl
  · rw [show win0_2.index t 1 = t.val % 17 from congrFun (places t).2.2.1 1, show win0_2.size 1 = 256 from rfl]
    exact congrArg (· + r) (Nat.mul_comm _ _)
  · rw [show win0_2.index t 2 = 18 from congrFun (places t).2.2.1 2, show win0_2.size 2 = 128 from rfl]
    rfl

theorem read3 (X : S4352x128.Idx → EReal) (t : Fin cfg0.N) (y : S256x128.Idx) :
    ((cfg0.win 3).blk t).view.read (Elt Ideal) X y = X ((win0_3.rect t).emb y) := rfl

theorem block3 (t : Fin cfg0.N) (r l : ℕ) (hr : r < 256) (hl : l < 128) :
    at2 (A := 256) (B := 128) (iblk m c 3 t) r l = at2 (A := 4352) (B := 128) (V m c main_v69) (256 * (t.val % 17) + r) l := by
  rw [at2_of _ r l hr hl]
  refine (read3 (V m c main_v69) t (ValueIdx.ix2 ⟨r, hr⟩ ⟨l, hl⟩)).trans (at2_eq (A := 4352) (B := 128) (V m c main_v69) _ _ _
    ((win0_3.rect_emb_val t _ 0).trans ?_) ((win0_3.rect_emb_val t _ 1).trans ?_))
  · rw [show win0_3.index t 0 = t.val % 17 from congrFun (places t).2.2.2.1 0, show win0_3.size 0 = 256 from rfl]
    exact congrArg (· + r) (Nat.mul_comm _ _)
  · rw [show win0_3.index t 1 = 0 from congrFun (places t).2.2.2.1 1]
    exact (congrArg (· + l) (Nat.zero_mul _)).trans (Nat.zero_add _)

theorem read4 (X : S4352x128.Idx → EReal) (t : Fin cfg0.N) (y : S256x128.Idx) :
    ((cfg0.win 4).blk t).view.read (Elt Ideal) X y = X ((win0_4.rect t).emb y) := rfl

theorem block4 (t : Fin cfg0.N) (r l : ℕ) (hr : r < 256) (hl : l < 128) :
    at2 (A := 256) (B := 128) (iblk m c 4 t) r l = at2 (A := 4352) (B := 128) (V m c main_v73) (256 * (t.val % 17) + r) l := by
  rw [at2_of _ r l hr hl]
  refine (read4 (V m c main_v73) t (ValueIdx.ix2 ⟨r, hr⟩ ⟨l, hl⟩)).trans (at2_eq (A := 4352) (B := 128) (V m c main_v73) _ _ _
    ((win0_4.rect_emb_val t _ 0).trans ?_) ((win0_4.rect_emb_val t _ 1).trans ?_))
  · rw [show win0_4.index t 0 = t.val % 17 from congrFun (places t).2.2.2.2.1 0, show win0_4.size 0 = 256 from rfl]
    exact congrArg (· + r) (Nat.mul_comm _ _)
  · rw [show win0_4.index t 1 = 0 from congrFun (places t).2.2.2.2.1 1]
    exact (congrArg (· + l) (Nat.zero_mul _)).trans (Nat.zero_add _)

theorem read5 (X : S128x128.Idx → EReal) (t : Fin cfg0.N) (y : S128x128.Idx) :
    ((cfg0.win 5).blk t).view.read (Elt Ideal) X y = X ((win0_5.rect t).emb y) := rfl

theorem block5 (t : Fin cfg0.N) (r l : ℕ) (hr : r < 128) (hl : l < 128) :
    at2 (A := 128) (B := 128) (iblk m c 5 t) r l = at2 (A := 128) (B := 128) (V m c main_v74) (r) l := by
  rw [at2_of _ r l hr hl]
  refine (read5 (V m c main_v74) t (ValueIdx.ix2 ⟨r, hr⟩ ⟨l, hl⟩)).trans (at2_eq (A := 128) (B := 128) (V m c main_v74) _ _ _
    ((win0_5.rect_emb_val t _ 0).trans ?_) ((win0_5.rect_emb_val t _ 1).trans ?_))
  · rw [show win0_5.index t 0 = 0 from congrFun (places t).2.2.2.2.2.1 0]
    exact (congrArg (· + r) (Nat.zero_mul _)).trans (Nat.zero_add _)
  · rw [show win0_5.index t 1 = 0 from congrFun (places t).2.2.2.2.2.1 1]
    exact (congrArg (· + l) (Nat.zero_mul _)).trans (Nat.zero_add _)

theorem read6 (X : S1x768.Idx → EReal) (t : Fin cfg0.N) (y : S1x768.Idx) :
    ((cfg0.win 6).blk t).view.read (Elt Ideal) X y = X ((win0_6.rect t).emb y) := rfl

theorem block6 (t : Fin cfg0.N) (r l : ℕ) (hr : r < 1) (hl : l < 768) :
    at2 (A := 1) (B := 768) (iblk m c 6 t) r l = at2 (A := 1) (B := 768) (V m c main_v77) (r) l := by
  rw [at2_of _ r l hr hl]
  refine (read6 (V m c main_v77) t (ValueIdx.ix2 ⟨r, hr⟩ ⟨l, hl⟩)).trans (at2_eq (A := 1) (B := 768) (V m c main_v77) _ _ _
    ((win0_6.rect_emb_val t _ 0).trans ?_) ((win0_6.rect_emb_val t _ 1).trans ?_))
  · rw [show win0_6.index t 0 = 0 from congrFun (places t).2.2.2.2.2.2.1 0]
    exact (congrArg (· + r) (Nat.zero_mul _)).trans (Nat.zero_add _)
  · rw [show win0_6.index t 1 = 0 from congrFun (places t).2.2.2.2.2.2.1 1]
    exact (congrArg (· + l) (Nat.zero_mul _)).trans (Nat.zero_add _)

theorem read7 (X : S1x512.Idx → EReal) (t : Fin cfg0.N) (y : S1x512.Idx) :
    ((cfg0.win 7).blk t).view.read (Elt Ideal) X y = X ((win0_7.rect t).emb y) := rfl

theorem block7 (t : Fin cfg0.N) (r l : ℕ) (hr : r < 1) (hl : l < 512) :
    at2 (A := 1) (B := 512) (iblk m c 7 t) r l = at2 (A := 1) (B := 512) (V m c main_v78) (r) l := by
  rw [at2_of _ r l hr hl]
  refine (read7 (V m c main_v78) t (ValueIdx.ix2 ⟨r, hr⟩ ⟨l, hl⟩)).trans (at2_eq (A := 1) (B := 512) (V m c main_v78) _ _ _
    ((win0_7.rect_emb_val t _ 0).trans ?_) ((win0_7.rect_emb_val t _ 1).trans ?_))
  · rw [show win0_7.index t 0 = 0 from congrFun (places t).2.2.2.2.2.2.2.1 0]
    exact (congrArg (· + r) (Nat.zero_mul _)).trans (Nat.zero_add _)
  · rw [show win0_7.index t 1 = 0 from congrFun (places t).2.2.2.2.2.2.2.1 1]
    exact (congrArg (· + l) (Nat.zero_mul _)).trans (Nat.zero_add _)

theorem read8 (X : S768x2048.Idx → EReal) (t : Fin cfg0.N) (y : S768x2048.Idx) :
    ((cfg0.win 8).blk t).view.read (Elt Ideal) X y = X ((win0_8.rect t).emb y) := rfl

theorem block8 (t : Fin cfg0.N) (r l : ℕ) (hr : r < 768) (hl : l < 2048) :
    at2 (A := 768) (B := 2048) (iblk m c 8 t) r l = at2 (A := 768) (B := 2048) (V m c main_v7) (r) l := by
  rw [at2_of _ r l hr hl]
  refine (read8 (V m c main_v7) t (ValueIdx.ix2 ⟨r, hr⟩ ⟨l, hl⟩)).trans (at2_eq (A := 768) (B := 2048) (V m c main_v7) _ _ _
    ((win0_8.rect_emb_val t _ 0).trans ?_) ((win0_8.rect_emb_val t _ 1).trans ?_))
  · rw [show win0_8.index t 0 = 0 from congrFun (places t).2.2.2.2.2.2.2.2.1 0]
    exact (congrArg (· + r) (Nat.zero_mul _)).trans (Nat.zero_add _)
  · rw [show win0_8.index t 1 = 0 from congrFun (places t).2.2.2.2.2.2.2.2.1 1]
    exact (congrArg (· + l) (Nat.zero_mul _)).trans (Nat.zero_add _)

theorem read9 (X : S512x1024.Idx → EReal) (t : Fin cfg0.N) (y : S512x1024.Idx) :
    ((cfg0.win 9).blk t).view.read (Elt Ideal) X y = X ((win0_9.rect t).emb y) := rfl

theorem block9 (t : Fin cfg0.N) (r l : ℕ) (hr : r < 512) (hl : l < 1024) :
    at2 (A := 512) (B := 1024) (iblk m c 9 t) r l = at2 (A := 512) (B := 1024) (V m c main_v11) (r) l := by
  rw [at2_of _ r l hr hl]
  refine (read9 (V m c main_v11) t (ValueIdx.ix2 ⟨r, hr⟩ ⟨l, hl⟩)).trans (at2_eq (A := 512) (B := 1024) (V m c main_v11) _ _ _
    ((win0_9.rect_emb_val t _ 0).trans ?_) ((win0_9.rect_emb_val t _ 1).trans ?_))
  · rw [show win0_9.index t 0 = 0 from congrFun (places t).2.2.2.2.2.2.2.2.2.1 0]
    exact (congrArg (· + r) (Nat.zero_mul _)).trans (Nat.zero_add _)
  · rw [show win0_9.index t 1 = 0 from congrFun (places t).2.2.2.2.2.2.2.2.2.1 1]
    exact (congrArg (· + l) (Nat.zero_mul _)).trans (Nat.zero_add _)

theorem read10 (X : S512x1024.Idx → EReal) (t : Fin cfg0.N) (y : S512x1024.Idx) :
    ((cfg0.win 10).blk t).view.read (Elt Ideal) X y = X ((win0_10.rect t).emb y) := rfl

theorem block10 (t : Fin cfg0.N) (r l : ℕ) (hr : r < 512) (hl : l < 1024) :
    at2 (A := 512) (B := 1024) (iblk m c 10 t) r l = at2 (A := 512) (B := 1024) (V m c main_v14) (r) l := by
  rw [at2_of _ r l hr hl]
  refine (read10 (V m c main_v14) t (ValueIdx.ix2 ⟨r, hr⟩ ⟨l, hl⟩)).trans (at2_eq (A := 512) (B := 1024) (V m c main_v14) _ _ _
    ((win0_10.rect_emb_val t _ 0).trans ?_) ((win0_10.rect_emb_val t _ 1).trans ?_))
  · rw [show win0_10.index t 0 = 0 from congrFun (places t).2.2.2.2.2.2.2.2.2.2.1 0]
    exact (congrArg (· + r) (Nat.zero_mul _)).trans (Nat.zero_add _)
  · rw [show win0_10.index t 1 = 0 from congrFun (places t).2.2.2.2.2.2.2.2.2.2.1 1]
    exact (congrArg (· + l) (Nat.zero_mul _)).trans (Nat.zero_add _)

theorem read11 (X : S1x256.Idx → EReal) (t : Fin cfg0.N) (y : S1x256.Idx) :
    ((cfg0.win 11).blk t).view.read (Elt Ideal) X y = X ((win0_11.rect t).emb y) := rfl

theorem block11 (t : Fin cfg0.N) (r l : ℕ) (hr : r < 1) (hl : l < 256) :
    at2 (A := 1) (B := 256) (iblk m c 11 t) r l = at2 (A := 1) (B := 256) (V m c main_v79) (r) l := by
  rw [at2_of _ r l hr hl]
  refine (read11 (V m c main_v79) t (ValueIdx.ix2 ⟨r, hr⟩ ⟨l, hl⟩)).trans (at2_eq (A := 1) (B := 256) (V m c main_v79) _ _ _
    ((win0_11.rect_emb_val t _ 0).trans ?_) ((win0_11.rect_emb_val t _ 1).trans ?_))
  · rw [show win0_11.index t 0 = 0 from congrFun (places t).2.2.2.2.2.2.2.2.2.2.2.1 0]
    exact (congrArg (· + r) (Nat.zero_mul _)).trans (Nat.zero_add _)
  · rw [show win0_11.index t 1 = 0 from congrFun (places t).2.2.2.2.2.2.2.2.2.2.2.1 1]
    exact (congrArg (· + l) (Nat.zero_mul _)).trans (Nat.zero_add _)

theorem read12 (X : S1x256.Idx → EReal) (t : Fin cfg0.N) (y : S1x256.Idx) :
    ((cfg0.win 12).blk t).view.read (Elt Ideal) X y = X ((win0_12.rect t).emb y) := rfl

theorem block12 (t : Fin cfg0.N) (r l : ℕ) (hr : r < 1) (hl : l < 256) :
    at2 (A := 1) (B := 256) (iblk m c 12 t) r l = at2 (A := 1) (B := 256) (V m c main_v80) (r) l := by
  rw [at2_of _ r l hr hl]
  refine (read12 (V m c main_v80) t (ValueIdx.ix2 ⟨r, hr⟩ ⟨l, hl⟩)).trans (at2_eq (A := 1) (B := 256) (V m c main_v80) _ _ _
    ((win0_12.rect_emb_val t _ 0).trans ?_) ((win0_12.rect_emb_val t _ 1).trans ?_))
  · rw [show win0_12.index t 0 = 0 from congrFun (places t).2.2.2.2.2.2.2.2.2.2.2.2.1 0]
    exact (congrArg (· + r) (Nat.zero_mul _)).trans (Nat.zero_add _)
  · rw [show win0_12.index t 1 = 0 from congrFun (places t).2.2.2.2.2.2.2.2.2.2.2.2.1 1]
    exact (congrArg (· + l) (Nat.zero_mul _)).trans (Nat.zero_add _)

end Cert.Up

end
-- ==== Proof.UpTurn.lean ====
/-
  Hand-written, untrusted. The rotation of a head's last 64 columns, as the reference states it and as the kernel computes it through its
  swap matrix: the two agree, a scale goes through it, and the kernel's queries and keys are the reference's.
-/
module

public import proofs.«01_k».proof.Proof.UpParts
public import proofs.«01_k».proof.Proof.LatentWhole

@[expose] public section

noncomputable section

namespace Cert.Up

open Idealize.ShloMosaic Cert.Projection Cert.Attention

/-- A vector's entry at a natural coordinate, zero outside. -/
def at1 {A : ℕ} (x : (⟨1, ![A]⟩ : Shape).Idx → EReal) (a : ℕ) : EReal := if h : a < A then x (ValueIdx.ix1 ⟨a, h⟩) else 0

theorem at1_eq {A : ℕ} (x : (⟨1, ![A]⟩ : Shape).Idx → EReal) (y : (⟨1, ![A]⟩ : Shape).Idx) (a : ℕ) (ha : (y 0).val = a) : x y = at1 x a := by
  subst ha
  have h0 : (y 0).val < A := (y 0).isLt
  unfold at1
  rw [dif_pos h0]
  exact congrArg x (ValueIdx.eq_ix1 y)

/-- The column a rotated column is taken with: 16 on or 16 back, within its 32. -/
def partner (e : ℕ) : ℕ := if e % 32 < 16 then e + 16 else e - 16

/-- The rotation of pairs of columns 16 apart. -/
def turned (x c s : ℕ → EReal) (e : ℕ) : EReal :=
  if e % 32 < 16 then x e * c e - x (e + 16) * s e else x e * c e + x (e - 16) * s e

/-- The swap matrix's entries. -/
def Swaps (u : ℕ → ℕ → EReal) : Prop :=
  ∀ k e, k < 128 → e < 128 → u k e = if e < 64 ∧ k = partner e then (if e % 32 < 16 then -1 else 1) else 0

theorem spin_turned (x c s : ℕ → EReal) (u : ℕ → ℕ → EReal) (hu : Swaps u) (e : ℕ) (he : e < 64) : spin x c s u e = turned x c s e := by
  have hp : partner e < 128 := by unfold partner; split <;> omega
  have hs : (∑ k : Fin 128, x k.val * u k.val e) = x (partner e) * u (partner e) e := by
    refine (Finset.sum_eq_single (⟨partner e, hp⟩ : Fin 128) (fun k _ hk => ?_) (fun h => absurd (Finset.mem_univ _) h))
    have hne : ¬(e < 64 ∧ k.val = partner e) := fun h => hk (Fin.ext h.2)
    rw [hu k.val e k.isLt (by omega), if_neg hne, mul_zero]
  unfold spin turned
  rw [hs, hu _ e hp (by omega), if_pos ⟨he, rfl⟩]
  unfold partner
  by_cases h : e % 32 < 16
  · rw [if_pos h, if_pos h, if_pos h, mul_neg, mul_one, neg_mul, sub_eq_add_neg]
  · rw [if_neg h, if_neg h, if_neg h, mul_one]

theorem spin_still (x c s : ℕ → EReal) (u : ℕ → ℕ → EReal) (e : ℕ) (hc : c e = 1) (hs : s e = 0) : spin x c s u e = x e := by
  unfold spin
  rw [hc, hs, mul_one, mul_zero, add_zero]

theorem turned_mul (y c s : ℕ → EReal) (t : EReal) (h0 : 0 ≤ t) (h1 : t ≠ ⊤) (e : ℕ) : turned (fun k => y k * t) c s e = turned y c s e * t := by
  unfold turned
  split
  · rw [sub_eq_add_neg, sub_eq_add_neg, EReal.right_distrib_of_nonneg_of_ne_top h0 h1, neg_mul, mul_right_comm, mul_right_comm (y (e + 16))]
  · rw [EReal.right_distrib_of_nonneg_of_ne_top h0 h1, mul_right_comm, mul_right_comm (y (e - 16))]

theorem turned_congr (x y c s c' s' : ℕ → EReal) (e : ℕ) (he : e < 64) (hx : ∀ k, k < 64 → x k = y k) (hc : c e = c' e) (hs : s e = s' e) :
    turned x c s e = turned y c' s' e := by
  unfold turned
  by_cases h : e % 32 < 16
  · rw [if_pos h, if_pos h, hx e he, hx (e + 16) (by omega), hc, hs]
  · rw [if_neg h, if_neg h, hx e he, hx (e - 16) (by omega), hc, hs]

theorem square_nonneg (x : EReal) : 0 ≤ x * x :=
  EReal.mul_nonneg_iff.mpr ((le_total 0 x).imp (fun h => ⟨h, h⟩) fun h => ⟨h, h⟩)

theorem count_eq : Ideal.ofBits .f32 0x43400000#32 = ((192 : ℝ) : EReal) := by
  simp [Ideal.ofBits, Ideal.ieee, -EReal.coe_mul]; norm_num

theorem small_pos : 0 < Ideal.ofBits .f32 0x358637BD#32 := by
  simp [Ideal.ofBits, Ideal.ieee, -EReal.coe_mul]

theorem scale_pos : 0 ≤ Ideal.ofBits .f32 0x3D93CD3A#32 ∧ Ideal.ofBits .f32 0x3D93CD3A#32 ≠ ⊤ := by
  simp [Ideal.ofBits, Ideal.ieee, -EReal.coe_mul]

/-- The root of a sum of squares is a number not below zero. -/
theorem root_real (s : EReal) (hs : 0 ≤ s) : 0 ≤ root 0x43400000#32 s ∧ root 0x43400000#32 s ≠ ⊤ := by
  have hd : 0 ≤ Ideal.div s (Ideal.ofBits .f32 0x43400000#32) := by
    rw [count_eq]
    unfold Ideal.div
    rw [if_neg (by norm_num)]
    refine EReal.mul_nonneg hs (EReal.inv_nonneg_of_nonneg (by norm_num))
  have hv : 0 < Ideal.div s (Ideal.ofBits .f32 0x43400000#32) + Ideal.ofBits .f32 0x358637BD#32 :=
    lt_of_lt_of_le small_pos (le_add_of_nonneg_left hd)
  unfold root
  generalize Ideal.div s (Ideal.ofBits .f32 0x43400000#32) + Ideal.ofBits .f32 0x358637BD#32 = v at hv
  induction v with
  | bot => exact absurd hv (by simp)
  | top => exact ⟨le_refl _, EReal.zero_ne_top⟩
  | coe r =>
    have hr : 0 < r := by exact_mod_cast hv
    have e : Ideal.rsqrt (r : EReal) = (((Real.sqrt r)⁻¹ : ℝ) : EReal) := by
      show (if r < 0 then (⊥ : EReal) else if r = 0 then ⊤ else ((Real.sqrt r)⁻¹ : ℝ)) = _
      rw [if_neg (not_lt.mpr hr.le), if_neg hr.ne']
    rw [e]
    exact ⟨by exact_mod_cast inv_nonneg.mpr (Real.sqrt_nonneg r), EReal.coe_ne_top _⟩

/-- Squares over a width of 256 whose last 64 columns are zero. -/
theorem squares (F : ℕ → EReal) (hz : ∀ d, 192 ≤ d → d < 256 → F d = 0) :
    (∑ k : Fin 128, F k.val * F k.val) + ∑ k : Fin 128, F (128 + k.val) * F (128 + k.val) = ∑ d : Fin 192, F d.val * F d.val :=
  (Fin.sum_univ_add (a := 128) (b := 128) fun d => F d.val * F d.val).symm.trans
    (Cert.Latent.sum_filled (fun d => F d * F d) fun d h1 h2 => by rw [hz d h1 h2, mul_zero])

/-- A head of the result at row `r`: its last 64 columns rotated over the latents' rows. -/
def laid (r : ℕ) (x c s : ℕ → EReal) (d : ℕ) : EReal :=
  if d < 128 then x d else if r < 4096 then turned (fun e => x (128 + e)) c s (d - 128) else x d

/-- A query head of the result, zeros beside it. -/
def queryHead (r : ℕ) (q w c s : ℕ → EReal) (d : ℕ) : EReal :=
  if d < 192 then laid r (normed 0x43400000#32 192 q w) c s d * Ideal.ofBits .f32 0x3D93CD3A#32 else 0

/-- A key head of the result, zeros beside it. -/
def keyHead (r : ℕ) (k w c s : ℕ → EReal) (d : ℕ) : EReal :=
  if d < 192 then laid r (normed 0x43400000#32 192 k w) c s d else 0

section
variable (r : ℕ) (w w' cs sn cs' sn' : ℕ → EReal) (u : ℕ → ℕ → EReal) (hu : Swaps u) (hw : ∀ d, d < 192 → w d = w' d)
  (hc : ∀ e, e < 128 → cs e = if r < 4096 ∧ e < 64 then cs' e else 1) (hs : ∀ e, e < 128 → sn e = if r < 4096 ∧ e < 64 then sn' e else 0)
include hu hw hc hs

/-- The kernel's query is the reference's. -/
theorem queryAt_eq (f q : ℕ → EReal) (c : ℕ) (hf : ∀ d, d < 192 → f (c / 256 * 256 + d) = q d)
    (hz : ∀ d, 192 ≤ d → d < 256 → f (c / 256 * 256 + d) = 0) : queryAt f w cs sn u c = queryHead r q w' cs' sn' (c % 256) := by
  have hroot : queryRoot f (c / 256 * 256) = root 0x43400000#32 (∑ d : Fin 192, q d.val * q d.val) * Ideal.ofBits .f32 0x3D93CD3A#32 := by
    unfold queryRoot
    refine congrArg (fun z => root 0x43400000#32 z * _) ?_
    rw [Finset.sum_add_distrib]
    refine Eq.trans ?_ ((squares (fun d => f (c / 256 * 256 + d)) hz).trans (Finset.sum_congr rfl fun d _ => by rw [hf d.val d.isLt]))
    simp only [Nat.add_assoc]
  have hm : ∀ d, d < 192 → f (c / 256 * 256 + d) * queryRoot f (c / 256 * 256) * w d
      = normed 0x43400000#32 192 q w' d * Ideal.ofBits .f32 0x3D93CD3A#32 := by
    intro d hd
    rw [hf d hd, hroot, hw d hd]
    unfold normed
    rw [← mul_assoc, mul_right_comm]
  have h256 : c % 256 < 256 := Nat.mod_lt _ (by omega)
  unfold queryAt queryHead laid
  by_cases h1 : c % 256 < 128
  · have e := hm (c % 256) (by omega)
    rw [show c / 256 * 256 + c % 256 = c by omega] at e
    rw [if_pos h1, if_pos (by omega), if_pos h1, e]
  · rw [if_neg h1]
    by_cases h2 : c % 256 < 192
    · rw [if_pos h2, if_neg h1]
      by_cases h3 : r < 4096
      · rw [if_pos h3, spin_turned _ _ _ u hu _ (by omega), ← turned_mul _ _ _ _ scale_pos.1 scale_pos.2]
        refine turned_congr _ _ _ _ _ _ _ (by omega) (fun k hk => ?_) ?_ ?_
        · show f (c / 256 * 256 + 128 + k) * _ * w (128 + k) = _
          rw [Nat.add_assoc, hm _ (by omega)]
        · rw [hc _ (by omega), if_pos ⟨h3, by omega⟩]
        · rw [hs _ (by omega), if_pos ⟨h3, by omega⟩]
      · rw [if_neg h3, spin_still _ _ _ u _ (by rw [hc _ (by omega), if_neg (by omega)]) (by rw [hs _ (by omega), if_neg (by omega)])]
        show f (c / 256 * 256 + 128 + (c % 256 - 128)) * _ * w (128 + (c % 256 - 128)) = _
        rw [Nat.add_assoc, show 128 + (c % 256 - 128) = c % 256 by omega, hm _ h2]
    · rw [if_neg h2, spin_still _ _ _ u _ (by rw [hc _ (by omega), if_neg (by omega)]) (by rw [hs _ (by omega), if_neg (by omega)])]
      show f (c / 256 * 256 + 128 + (c % 256 - 128)) * _ * w (128 + (c % 256 - 128)) = _
      rw [Nat.add_assoc, show 128 + (c % 256 - 128) = c % 256 by omega, hz _ (by omega) h256, zero_mul, zero_mul]

/-- The kernel's key is the reference's. -/
theorem keyAt_eq (g k rr : ℕ → EReal) (c : ℕ) (hg : ∀ d, d < 128 → g (c / 256 * 128 + d) = k d) (hk : ∀ d, d < 64 → rr d = k (128 + d))
    (hz : ∀ d, 64 ≤ d → d < 128 → rr d = 0) : keyAt g rr w cs sn u c = keyHead r k w' cs' sn' (c % 256) := by
  have hsq : (∑ d : Fin 128, g (c / 256 * 128 + d.val) * g (c / 256 * 128 + d.val) + ∑ d : Fin 128, rr d.val * rr d.val)
      = ∑ d : Fin 192, k d.val * k d.val := by
    refine Eq.trans ?_ ((squares (fun d => if d < 192 then k d else 0) fun d h _ => if_neg (by omega)).trans
      (Finset.sum_congr rfl fun d _ => by rw [if_pos d.isLt]))
    refine congrArg₂ (· + ·) (Finset.sum_congr rfl fun d _ => ?_) (Finset.sum_congr rfl fun d _ => ?_)
    · have := d.isLt
      rw [hg _ d.isLt, if_pos (by omega)]
    · have := d.isLt
      by_cases h : d.val < 64
      · rw [hk _ h, if_pos (by omega)]
      · rw [hz _ (by omega) d.isLt, if_neg (by omega)]
  have hroot : keyRoot g rr (c / 256 * 128) = root 0x43400000#32 (∑ d : Fin 192, k d.val * k d.val) := by
    unfold keyRoot
    rw [hsq]
  have hr : 0 ≤ keyRoot g rr (c / 256 * 128) ∧ keyRoot g rr (c / 256 * 128) ≠ ⊤ := by
    rw [hroot]
    exact root_real _ (Finset.sum_nonneg fun d _ => square_nonneg _)
  have hm : ∀ d, d < 64 → rr d * w (128 + d) * keyRoot g rr (c / 256 * 128) = normed 0x43400000#32 192 k w' (128 + d) := by
    intro d hd
    rw [hk d hd, hroot, hw _ (by omega)]
    unfold normed
    rw [mul_right_comm]
  have h256 : c % 256 < 256 := Nat.mod_lt _ (by omega)
  unfold keyAt keyHead laid
  by_cases h1 : c % 256 < 128
  · rw [if_pos h1, if_pos (by omega), if_pos h1, hg _ h1, hroot, hw _ (by omega)]
    rfl
  · rw [if_neg h1]
    by_cases h2 : c % 256 < 192
    · rw [if_pos h2, if_neg h1]
      by_cases h3 : r < 4096
      · rw [if_pos h3, spin_turned _ _ _ u hu _ (by omega), ← turned_mul _ _ _ _ hr.1 hr.2]
        refine turned_congr _ _ _ _ _ _ _ (by omega) (fun d hd => hm d hd) ?_ ?_
        · rw [hc _ (by omega), if_pos ⟨h3, by omega⟩]
        · rw [hs _ (by omega), if_pos ⟨h3, by omega⟩]
      · rw [if_neg h3, spin_still _ _ _ u _ (by rw [hc _ (by omega), if_neg (by omega)]) (by rw [hs _ (by omega), if_neg (by omega)])]
        refine (hm (c % 256 - 128) (by omega)).trans ?_
        rw [show 128 + (c % 256 - 128) = c % 256 by omega]
    · rw [if_neg h2, spin_still _ _ _ u _ (by rw [hc _ (by omega), if_neg (by omega)]) (by rw [hs _ (by omega), if_neg (by omega)])]
      show rr (c % 256 - 128) * w (128 + (c % 256 - 128)) * _ = 0
      rw [hz _ (by omega) (by omega), zero_mul, zero_mul]

end

end Cert.Up

end
-- ==== Proof.UpReads.lean ====
/-
  Hand-written, untrusted. The up-projections' reference at natural coordinates: the normed rows and their products with the weights, and
  the heads' norms.
-/
module

public import proofs.«01_k».proof.Proof.Gen.Reference6Ideal.Read
public import proofs.«01_k».proof.Proof.UpTurn
public import Idealize.ShloMosaic.Lib.IdealHost

@[expose] public section

set_option maxRecDepth 16384

noncomputable section

namespace Cert.Up

open Cert.Reference6Ideal Cert.Reference6Ideal.Read Cert.Attention Cert.Projection Idealize.ShloMosaic

/-- A head's row at a natural column, zero outside. -/
def line (t : FVec Ideal S2x4352x8x192 .f32) (b : Fin 2) (r : Fin 4352) (h : Fin 8) (d : ℕ) : EReal :=
  if hd : d < 192 then t (ValueIdx.ix4 b r h ⟨d, hd⟩) else 0

theorem line_of (t : FVec Ideal S2x4352x8x192 .f32) (b : Fin 2) (r : Fin 4352) (h : Fin 8) (d : Fin 192) :
    line t b r h d.val = t (ValueIdx.ix4 b r h d) := dif_pos d.isLt

variable (cq : FVec Ideal S2x4352x768 .f32) (ckv : FVec Ideal S2x4352x512 .f32) (kr : FVec Ideal S2x4352x64 .f32) (cqn : FVec Ideal S768 .f32)
  (ckvn : FVec Ideal S512 .f32) (uq : FVec Ideal S768x1536 .f32) (ukv : FVec Ideal S512x2048 .f32) (qn kn : FVec Ideal S192 .f32)

theorem normed_cq (i : S2x4352x768.Idx) :
    val_main_v15 (F := Ideal) cq cqn i = normed 0x44400000#32 768 (at3 (A := 2) (B := 4352) (C := 768) cq (i 0).val (i 1).val) (at1 (A := 768) cqn) (i 2).val := by
  have hsum : val_main_v4 (F := Ideal) cq (idx_main_v5 (idx_main_v11 i)) = ∑ k : Fin 768, at3 (A := 2) (B := 4352) (C := 768) cq (i 0).val (i 1).val k.val
      * at3 (A := 2) (B := 4352) (C := 768) cq (i 0).val (i 1).val k.val := by
    rw [val_main_v4_apply]
    refine (congrArg (· + _) Ideal.ofBits_zero_f32).trans ((zero_add _).trans (Finset.sum_congr rfl fun k _ => ?_))
    rw [val_main_v3_apply]
    exact congrArg₂ (· * ·) (at3_eq cq _ _ _ _ rfl rfl rfl) (at3_eq cq _ _ _ _ rfl rfl rfl)
  rw [val_main_v15_apply, val_main_v12_apply, val_main_v11_apply, val_main_v10_apply, val_main_v9_apply, val_main_v7_apply, val_main_v5_apply, hsum, val_main_v14_apply, val_main_v13_apply]
  exact congrArg₂ (· * ·) (congrArg (· * _) (at3_eq cq i _ _ _ rfl rfl rfl)) (at1_eq cqn _ _ rfl)

theorem normed_ckv (i : S2x4352x512.Idx) :
    val_main_v30 (F := Ideal) ckv ckvn i = normed 0x44000000#32 512 (at3 (A := 2) (B := 4352) (C := 512) ckv (i 0).val (i 1).val) (at1 (A := 512) ckvn) (i 2).val := by
  have hsum : val_main_v19 (F := Ideal) ckv (idx_main_v20 (idx_main_v26 i)) = ∑ k : Fin 512, at3 (A := 2) (B := 4352) (C := 512) ckv (i 0).val (i 1).val k.val
      * at3 (A := 2) (B := 4352) (C := 512) ckv (i 0).val (i 1).val k.val := by
    rw [val_main_v19_apply]
    refine (congrArg (· + _) Ideal.ofBits_zero_f32).trans ((zero_add _).trans (Finset.sum_congr rfl fun k _ => ?_))
    rw [val_main_v18_apply]
    exact congrArg₂ (· * ·) (at3_eq ckv _ _ _ _ rfl rfl rfl) (at3_eq ckv _ _ _ _ rfl rfl rfl)
  rw [val_main_v30_apply, val_main_v27_apply, val_main_v26_apply, val_main_v25_apply, val_main_v24_apply, val_main_v22_apply, val_main_v20_apply, hsum, val_main_v29_apply, val_main_v28_apply]
  exact congrArg₂ (· * ·) (congrArg (· * _) (at3_eq ckv i _ _ _ rfl rfl rfl)) (at1_eq ckvn _ _ rfl)

theorem query (i : S2x4352x1536.Idx) : val_main_v16 (F := Ideal) cq cqn uq i
    = proj 0x44400000#32 768 (at3 (A := 2) (B := 4352) (C := 768) cq (i 0).val (i 1).val) (at1 (A := 768) cqn) (at2 (A := 768) (B := 1536) uq) (i 2).val := by
  rw [val_main_v16_apply]
  refine Finset.sum_congr rfl fun k _ => congrArg₂ (· * ·) ?_ (at2_eq uq _ _ _ rfl rfl)
  exact normed_cq cq cqn _

theorem query_heads (b : Fin 2) (r : Fin 4352) (h : Fin 8) (d : Fin 192) : val_main_v17 (F := Ideal) cq cqn uq (ValueIdx.ix4 b r h d)
    = proj 0x44400000#32 768 (at3 (A := 2) (B := 4352) (C := 768) cq b.val r.val) (at1 (A := 768) cqn) (at2 (A := 768) (B := 1536) uq) (h.val * 192 + d.val) := by
  have h0 := b.isLt
  have h1 := r.isLt
  have h2 := h.isLt
  have h3 := d.isLt
  rw [val_main_v17_apply, query]
  have e0 : (idx_main_v17 (ValueIdx.ix4 b r h d) 0).val = b.val := by
    show (((b.val * 4352 + r.val) * 8 + h.val) * 192 + d.val) / 6684672 = b.val
    omega
  have e1 : (idx_main_v17 (ValueIdx.ix4 b r h d) 1).val = r.val := by
    show (((b.val * 4352 + r.val) * 8 + h.val) * 192 + d.val) / 1536 % 4352 = r.val
    omega
  have e2 : (idx_main_v17 (ValueIdx.ix4 b r h d) 2).val = h.val * 192 + d.val := by
    show (((b.val * 4352 + r.val) * 8 + h.val) * 192 + d.val) % 1536 = h.val * 192 + d.val
    omega
  rw [e0, e1, e2]

theorem latent (i : S2x4352x2048.Idx) : val_main_v31 (F := Ideal) ckv ckvn ukv i
    = proj 0x44000000#32 512 (at3 (A := 2) (B := 4352) (C := 512) ckv (i 0).val (i 1).val) (at1 (A := 512) ckvn) (at2 (A := 512) (B := 2048) ukv) (i 2).val := by
  rw [val_main_v31_apply]
  refine Finset.sum_congr rfl fun k _ => congrArg₂ (· * ·) ?_ (at2_eq ukv _ _ _ rfl rfl)
  exact normed_ckv ckv ckvn _

theorem latent_heads (b : Fin 2) (r : Fin 4352) (h : Fin 8) (d : Fin 256) : val_main_v32 (F := Ideal) ckv ckvn ukv (ValueIdx.ix4 b r h d)
    = proj 0x44000000#32 512 (at3 (A := 2) (B := 4352) (C := 512) ckv b.val r.val) (at1 (A := 512) ckvn) (at2 (A := 512) (B := 2048) ukv) (h.val * 256 + d.val) := by
  have h0 := b.isLt
  have h1 := r.isLt
  have h2 := h.isLt
  have h3 := d.isLt
  rw [val_main_v32_apply, latent]
  have e0 : (idx_main_v32 (ValueIdx.ix4 b r h d) 0).val = b.val := by
    show (((b.val * 4352 + r.val) * 8 + h.val) * 256 + d.val) / 8912896 = b.val
    omega
  have e1 : (idx_main_v32 (ValueIdx.ix4 b r h d) 1).val = r.val := by
    show (((b.val * 4352 + r.val) * 8 + h.val) * 256 + d.val) / 2048 % 4352 = r.val
    omega
  have e2 : (idx_main_v32 (ValueIdx.ix4 b r h d) 2).val = h.val * 256 + d.val := by
    show (((b.val * 4352 + r.val) * 8 + h.val) * 256 + d.val) % 2048 = h.val * 256 + d.val
    omega
  rw [e0, e1, e2]

/-- A key's row before its norm: the latent part of the head, then the columns all heads share. -/
def keyRow (b r h d : ℕ) : EReal :=
  if d < 128 then proj 0x44000000#32 512 (at3 (A := 2) (B := 4352) (C := 512) ckv b r) (at1 (A := 512) ckvn) (at2 (A := 512) (B := 2048) ukv) (h * 256 + d)
  else at3 (A := 2) (B := 4352) (C := 64) kr b r (d - 128)

theorem key_heads (b : Fin 2) (r : Fin 4352) (h : Fin 8) (d : Fin 192) :
    val_main_v50 (F := Ideal) ckv kr ckvn ukv (ValueIdx.ix4 b r h d) = keyRow ckv kr ckvn ukv b.val r.val h.val d.val := by
  have h3 := d.isLt
  unfold val_main_v50 keyRow
  by_cases hd : d.val < 128
  · rw [if_pos hd]
    refine (concatenate_pair_apply_left (t := S2x4352x8x192) (s₁ := S2x4352x8x128) (s₂ := S2x4352x8x64) _ _ _ _ (ValueIdx.ix4 b r h d) rfl
      (ValueIdx.ix4 b r h (⟨d.val, hd⟩ : Fin 128)) ?_).trans ?_
    · intro a; fin_cases a <;> rfl
    · rw [val_main_v33_apply]
      refine Eq.trans (congrArg (val_main_v32 (F := Ideal) ckv ckvn ukv) ?_) (latent_heads ckv ckvn ukv b r h ⟨d.val, by omega⟩)
      funext a; fin_cases a <;> rfl
  · rw [if_neg hd]
    refine (concatenate_pair_apply_right (t := S2x4352x8x192) (s₁ := S2x4352x8x128) (s₂ := S2x4352x8x64) _ _ _ _ (ValueIdx.ix4 b r h d) rfl rfl
      (ValueIdx.ix4 b r h (⟨d.val - 128, by omega⟩ : Fin 64)) ?_ ?_).trans ?_
    · intro a ha; fin_cases a <;> first | rfl | exact absurd rfl ha
    · show d.val - 128 + 128 = d.val; omega
    · rw [val_main_v36_apply, val_main_v35_apply]
      exact at3_eq kr _ _ _ _ rfl rfl rfl

theorem normed_query (b : Fin 2) (r : Fin 4352) (h : Fin 8) (d : Fin 192) : val_main_v49 (F := Ideal) cq cqn uq qn (ValueIdx.ix4 b r h d)
    = normed 0x43400000#32 192 (line (val_main_v17 (F := Ideal) cq cqn uq) b r h) (at1 (A := 192) qn) d.val := by
  have hsum : val_main_v38 (F := Ideal) cq cqn uq (idx_main_v39 (idx_main_v45 (ValueIdx.ix4 b r h d)))
      = ∑ k : Fin 192, line (val_main_v17 (F := Ideal) cq cqn uq) b r h k.val * line (val_main_v17 (F := Ideal) cq cqn uq) b r h k.val := by
    rw [val_main_v38_apply]
    refine (congrArg (· + _) Ideal.ofBits_zero_f32).trans ((zero_add _).trans (Finset.sum_congr rfl fun k _ => ?_))
    rw [val_main_v37_apply, line_of]
    have e : idx_main_v38 (idx_main_v39 (idx_main_v45 (ValueIdx.ix4 b r h d))) k = ValueIdx.ix4 b r h k := by
      funext a; fin_cases a <;> rfl
    rw [e]
    rfl
  rw [val_main_v49_apply, val_main_v46_apply, val_main_v45_apply, val_main_v44_apply, val_main_v43_apply, val_main_v41_apply, val_main_v39_apply, hsum, val_main_v48_apply, val_main_v47_apply]
  exact congrArg₂ (· * ·) (congrArg (· * _) (line_of _ b r h d).symm) (at1_eq qn _ _ rfl)

theorem normed_key (b : Fin 2) (r : Fin 4352) (h : Fin 8) (d : Fin 192) : val_main_v63 (F := Ideal) ckv kr ckvn ukv kn (ValueIdx.ix4 b r h d)
    = normed 0x43400000#32 192 (line (val_main_v50 (F := Ideal) ckv kr ckvn ukv) b r h) (at1 (A := 192) kn) d.val := by
  have hsum : val_main_v52 (F := Ideal) ckv kr ckvn ukv (idx_main_v53 (idx_main_v59 (ValueIdx.ix4 b r h d)))
      = ∑ k : Fin 192, line (val_main_v50 (F := Ideal) ckv kr ckvn ukv) b r h k.val * line (val_main_v50 (F := Ideal) ckv kr ckvn ukv) b r h k.val := by
    rw [val_main_v52_apply]
    refine (congrArg (· + _) Ideal.ofBits_zero_f32).trans ((zero_add _).trans (Finset.sum_congr rfl fun k _ => ?_))
    rw [val_main_v51_apply, line_of]
    have e : idx_main_v52 (idx_main_v53 (idx_main_v59 (ValueIdx.ix4 b r h d))) k = ValueIdx.ix4 b r h k := by
      funext a; fin_cases a <;> rfl
    rw [e]
    rfl
  rw [val_main_v63_apply, val_main_v60_apply, val_main_v59_apply, val_main_v58_apply, val_main_v57_apply, val_main_v55_apply, val_main_v53_apply, hsum, val_main_v62_apply, val_main_v61_apply]
  exact congrArg₂ (· * ·) (congrArg (· * _) (line_of _ b r h d).symm) (at1_eq kn _ _ rfl)

end Cert.Up

end
-- ==== Proof.UpGiven.lean ====
/-
  Hand-written, untrusted. The arrays the up-projections' call is given, as the host makes them of the arguments: the three inputs laid
  beside one another, the weights by heads, the swap matrix, the norms.
-/
module

public import proofs.«01_k».proof.Proof.Gen.Kernel6Ideal.Value
public import proofs.«01_k».proof.Proof.Attend
public import Idealize.ShloMosaic.Lib.Claim
public import Idealize.ShloMosaic.Lib.IdealHost

@[expose] public section

set_option maxRecDepth 16384

noncomputable section

namespace Cert.Up

open Cert.Kernel6Ideal Cert.Kernel6Ideal.Gen Cert.Attention Idealize.ShloMosaic Idealize.ShloMosaic.TcCoe Idealize.SL.Sem

variable (m : (ℓ : Loc nD τ sig) → Buf (Elt Ideal) ℓ) (c : Dev nD)

/-- One value everywhere. -/
def fill (s : Shape) (w : BitVec 32) : FVec Ideal s .f32 := fun _ => Ideal.ofBits .f32 w

/-- The three inputs beside one another, zeros before and after. -/
def joined (kv : FVec Ideal S2x4352x512 .f32) (q : FVec Ideal S2x4352x768 .f32) (r : FVec Ideal S2x4352x64 .f32) : FVec Ideal S2x4352x2560 .f32 :=
  concatenate S2x4352x2560 2 [⟨S2x4352x1024, fill S2x4352x1024 0x00000000#32⟩, ⟨S2x4352x512, kv⟩, ⟨S2x4352x768, q⟩, ⟨S2x4352x64, r⟩,
    ⟨S2x4352x192, fill S2x4352x192 0x00000000#32⟩] concatenates_S2x4352x1024_S2x4352x512_S2x4352x768_S2x4352x64_S2x4352x192_S2x4352x2560_d2

/-- The query weight by heads, each filled with zeros to a width of 256. -/
def widened (x : FVec Ideal S768x1536 .f32) : FVec Ideal S768x2048 .f32 :=
  shapeCast S768x2048 (pad S768x8x256 ![0, 0, 0] ![0, 0, 64] ![0, 0, 0] (shapeCast S768x8x192 x shapeCasts_S768x1536_S768x8x192)
    (sitofp (F := Ideal) .f32 (constantI S_ 32 0#32)) pads_S768x8x192_S768x8x256_000_000_0640 h_S_) shapeCasts_S768x8x256_S768x2048

/-- A norm's weight filled with zeros to a width of 256. -/
def lengthened (x : FVec Ideal S192 .f32) : FVec Ideal S1x256 .f32 :=
  shapeCast S1x256 (pad S256 ![0] ![64] ![0] x (sitofp (F := Ideal) .f32 (constantI S_ 32 0#32)) pads_S192_S256_0640 h_S_) shapeCasts_S256_S1x256

/-- Where the swap matrix is not zero, and where it is minus one, as the host computes it of a row and a column. -/
def placed (i j : BitVec 32) : BitVec 1 := IntOp.andi (IntOp.cmpi .slt j 64#32) (IntOp.cmpi .eq i (IntOp.xori j 16#32))
def negative (j : BitVec 32) : BitVec 1 := IntOp.cmpi .eq (IntOp.andi j 16#32) 0#32

/-- The swap matrix. -/
def swap : FVec Ideal S128x128 .f32 := fun y =>
  if placed (BitVec.ofNat 32 (y 0).val) (BitVec.ofNat 32 (y 1).val) = 1#1 then
    (if negative (BitVec.ofNat 32 (y 1).val) = 1#1 then Ideal.ofBits .f32 0xBF800000#32 else Ideal.ofBits .f32 0x3F800000#32)
  else Ideal.ofBits .f32 0x00000000#32

theorem given_p : V m c main_v3 = joined (m ((c : Thread nD τ).loc main_arg1)) (m ((c : Thread nD τ).loc main_arg0)) (m ((c : Thread nD τ).loc main_arg2)) := by
  entry_read
  rfl
theorem given_wq : V m c main_v7 = widened (m ((c : Thread nD τ).loc main_arg5)) := by
  entry_read
  rfl
theorem given_wk : V m c main_v11 = shapeCast S512x1024 (extractStridedSlice S512x8x128 ![0, 0, 0]
    (shapeCast S512x8x256 (m ((c : Thread nD τ).loc main_arg6)) shapeCasts_S512x2048_S512x8x256) slices_S512x8x256_S512x8x128_0_0_0)
    shapeCasts_S512x8x128_S512x1024 := by
  entry_read
  rfl
theorem given_wv : V m c main_v14 = shapeCast S512x1024 (extractStridedSlice S512x8x128 ![0, 0, 128]
    (shapeCast S512x8x256 (m ((c : Thread nD τ).loc main_arg6)) shapeCasts_S512x2048_S512x8x256) slices_S512x8x256_S512x8x128_0_0_128)
    shapeCasts_S512x8x128_S512x1024 := by
  entry_read
  rfl
theorem given_cqn : V m c main_v77 = shapeCast S1x768 (m ((c : Thread nD τ).loc main_arg3)) shapeCasts_S768_S1x768 := by
  entry_read
  rfl
theorem given_ckvn : V m c main_v78 = shapeCast S1x512 (m ((c : Thread nD τ).loc main_arg4)) shapeCasts_S512_S1x512 := by
  entry_read
  rfl
theorem given_qn : V m c main_v79 = lengthened (m ((c : Thread nD τ).loc main_arg7)) := by
  entry_read
  rfl
theorem given_kn : V m c main_v80 = lengthened (m ((c : Thread nD τ).loc main_arg8)) := by
  entry_read
  rfl
theorem given_swap : V m c main_v74 = swap := by
  entry_read
  rfl
end Cert.Up

end
-- ==== Proof.UpTables.lean ====
/-
  Hand-written, untrusted. The tables of cosines and sines the up-projections' call is given are made of the cosines and sines of the
  reference's own angles: each row's values twice, then each column's twice, one value beside and below.
-/
module

public import proofs.«01_k».proof.Proof.UpGiven
public import proofs.«01_k».proof.Proof.Gen.Reference6Ideal.Read

@[expose] public section

set_option maxRecDepth 16384

noncomputable section

namespace Cert.Up

open Cert.Kernel6Ideal Cert.Kernel6Ideal.Gen Cert.Attention Idealize.ShloMosaic Idealize.ShloMosaic.TcCoe Idealize.SL.Sem

variable (m : (ℓ : Loc nD τ sig) → Buf (Elt Ideal) ℓ) (c : Dev nD)

/-- The row's values twice, the column's twice. -/
def paired (r a : FVec Ideal S4096x16 .f32) : FVec Ideal S4096x64 .f32 :=
  concatenate S4096x64 1 [⟨S4096x16, r⟩, ⟨S4096x16, r⟩, ⟨S4096x16, a⟩, ⟨S4096x16, a⟩] concatenates_S4096x16_S4096x16_S4096x16_S4096x16_S4096x64_d1

/-- A table over 4352 rows and 128 columns, one value beside and below. -/
def table (w : BitVec 32) (x : FVec Ideal S4096x64 .f32) : FVec Ideal S4352x128 .f32 :=
  concatenate S4352x128 0 [⟨S4096x128, concatenate S4096x128 1 [⟨S4096x64, x⟩, ⟨S4096x64, fill S4096x64 w⟩] concatenates_S4096x64_S4096x64_S4096x128_d1⟩,
    ⟨S256x128, fill S256x128 w⟩] concatenates_S4096x128_S256x128_S4352x128_d0

set_option maxHeartbeats 4000000 in
theorem paired_cos : V m c main_v46 = paired (Cert.Reference6Ideal.Read.val_main_v78 (F := Ideal)) (Cert.Reference6Ideal.Read.val_main_v102 (F := Ideal)) := by
  entry_read
  rfl

set_option maxHeartbeats 1000000 in
theorem beside_cos : V m c main_v67 = concatenate S4096x128 1 [⟨S4096x64, V m c main_v46⟩, ⟨S4096x64, fill S4096x64 0x3F800000#32⟩]
    concatenates_S4096x64_S4096x64_S4096x128_d1 := by
  entry_read
  rfl

set_option maxHeartbeats 1000000 in
theorem below_cos : V m c main_v69 = concatenate S4352x128 0 [⟨S4096x128, V m c main_v67⟩, ⟨S256x128, fill S256x128 0x3F800000#32⟩]
    concatenates_S4096x128_S256x128_S4352x128_d0 := by
  entry_read
  rfl

theorem given_cos : V m c main_v69 = table 0x3F800000#32 (paired (Cert.Reference6Ideal.Read.val_main_v78 (F := Ideal))
    (Cert.Reference6Ideal.Read.val_main_v102 (F := Ideal))) := by
  rw [below_cos, beside_cos, paired_cos]
  rfl

set_option maxHeartbeats 4000000 in
theorem paired_sin : V m c main_v51 = paired (Cert.Reference6Ideal.Read.val_main_v80 (F := Ideal)) (Cert.Reference6Ideal.Read.val_main_v104 (F := Ideal)) := by
  entry_read
  rfl

set_option maxHeartbeats 1000000 in
theorem beside_sin : V m c main_v71 = concatenate S4096x128 1 [⟨S4096x64, V m c main_v51⟩, ⟨S4096x64, fill S4096x64 0x00000000#32⟩]
    concatenates_S4096x64_S4096x64_S4096x128_d1 := by
  entry_read
  rfl

set_option maxHeartbeats 1000000 in
theorem below_sin : V m c main_v73 = concatenate S4352x128 0 [⟨S4096x128, V m c main_v71⟩, ⟨S256x128, fill S256x128 0x00000000#32⟩]
    concatenates_S4096x128_S256x128_S4352x128_d0 := by
  entry_read
  rfl

theorem given_sin : V m c main_v73 = table 0x00000000#32 (paired (Cert.Reference6Ideal.Read.val_main_v80 (F := Ideal))
    (Cert.Reference6Ideal.Read.val_main_v104 (F := Ideal))) := by
  rw [below_sin, beside_sin, paired_sin]
  rfl

end Cert.Up

end
-- ==== Proof.UpLaid.lean ====
/-
  Hand-written, untrusted. The arrays the up-projections' call is given, at natural coordinates: where each input, weight and norm lies,
  what lies beside it, the entries of the swap matrix and of the tables.
-/
module

public import proofs.«01_k».proof.Proof.UpTables
public import proofs.«01_k».proof.Proof.UpTurn
public import Idealize.ShloMosaic.Lib.KernelVsHost

@[expose] public section

set_option maxRecDepth 16384

noncomputable section

namespace Cert.Up

open Cert.Kernel6Ideal Cert.Kernel6Ideal.Gen Cert.Attention Cert.Projection Idealize.ShloMosaic Idealize.ShloMosaic.TcCoe Idealize.SL.Sem

theorem at3_out {A B C : ℕ} (x : (⟨3, ![A, B, C]⟩ : Shape).Idx → EReal) (a b c : ℕ) (h : C ≤ c) : at3 x a b c = 0 :=
  dif_neg fun h' => absurd h'.2.2 (by omega)

section
variable (kv : FVec Ideal S2x4352x512 .f32) (q : FVec Ideal S2x4352x768 .f32) (kr : FVec Ideal S2x4352x64 .f32) (b i k : ℕ) (hb : b < 2) (hi : i < 4352)
include hb hi

theorem joined_kv (hk : k < 512) : at3 (A := 2) (B := 4352) (C := 2560) (joined kv q kr) b i (1024 + k) = at3 (A := 2) (B := 4352) (C := 512) kv b i k := by
  rw [at3_of _ b i _ hb hi (by omega), at3_of _ b i k hb hi hk]
  unfold joined
  refine concatenate_apply_piece (t := S2x4352x2560) 2 _ _ _ 1 (by simp) S2x4352x512 kv rfl rfl 1024 (by simp) (ValueIdx.ix3 ⟨b, hb⟩ ⟨i, hi⟩ ⟨k, hk⟩) ?_ rfl
  intro a ha; fin_cases a <;> first | rfl | exact absurd rfl ha

theorem joined_q (hk : k < 768) : at3 (A := 2) (B := 4352) (C := 2560) (joined kv q kr) b i (1536 + k) = at3 (A := 2) (B := 4352) (C := 768) q b i k := by
  rw [at3_of _ b i _ hb hi (by omega), at3_of _ b i k hb hi hk]
  unfold joined
  refine concatenate_apply_piece (t := S2x4352x2560) 2 _ _ _ 2 (by simp) S2x4352x768 q rfl rfl 1536 (by simp) (ValueIdx.ix3 ⟨b, hb⟩ ⟨i, hi⟩ ⟨k, hk⟩) ?_ rfl
  intro a ha; fin_cases a <;> first | rfl | exact absurd rfl ha

theorem joined_r (hk : k < 128) : at3 (A := 2) (B := 4352) (C := 2560) (joined kv q kr) b i (2304 + k) = at3 (A := 2) (B := 4352) (C := 64) kr b i k := by
  rw [at3_of _ b i _ hb hi (by omega)]
  unfold joined
  by_cases h : k < 64
  · rw [at3_of _ b i k hb hi h]
    refine concatenate_apply_piece (t := S2x4352x2560) 2 _ _ _ 3 (by simp) S2x4352x64 kr rfl rfl 2304 (by simp) (ValueIdx.ix3 ⟨b, hb⟩ ⟨i, hi⟩ ⟨k, h⟩) ?_ rfl
    intro a ha; fin_cases a <;> first | rfl | exact absurd rfl ha
  · rw [at3_out _ b i k (by omega)]
    refine (concatenate_apply_piece (t := S2x4352x2560) 2 _ _ _ 4 (by simp) S2x4352x192 (fill S2x4352x192 0x00000000#32) rfl rfl 2368 (by simp)
      (ValueIdx.ix3 ⟨b, hb⟩ ⟨i, hi⟩ ⟨k - 64, by omega⟩) ?_ ?_).trans Ideal.ofBits_zero_f32
    · intro a ha; fin_cases a <;> first | rfl | exact absurd rfl ha
    · show 2368 + (k - 64) = 2304 + k; omega

end

theorem filling (j : S_.Idx) : sitofp (F := Ideal) .f32 (constantI S_ 32 0#32) j = 0 := by
  show (((0#32 : BitVec 32).toInt : ℝ) : EReal) = 0
  simp

theorem widened_at (x : FVec Ideal S768x1536 .f32) (k h d : ℕ) (hk : k < 768) (hh : h < 8) (hd : d < 256) :
    at2 (A := 768) (B := 2048) (widened x) k (h * 256 + d) = if d < 192 then at2 (A := 768) (B := 1536) x k (h * 192 + d) else 0 := by
  rw [at2_of _ k _ hk (by omega)]
  unfold widened
  refine (shapeCast_apply _ _ _ (ValueIdx.ix3 (⟨k, hk⟩ : Fin 768) (⟨h, hh⟩ : Fin 8) (⟨d, hd⟩ : Fin 256)) ?_).trans ?_
  · rw [Shape.rowMajor_val_three, Shape.rowMajor_val_two]
    show (k * 8 + h) * 256 + d = k * 2048 + (h * 256 + d)
    omega
  · by_cases hl : d < 192
    · rw [if_pos hl, at2_of _ k _ hk (by omega)]
      refine (pad_apply_of_inside _ _ _ _ _ _ _ _ (ValueIdx.ix3 (⟨k, hk⟩ : Fin 768) (⟨h, hh⟩ : Fin 8) (⟨d, hl⟩ : Fin 192)) ?_).trans (shapeCast_apply _ _ _ _ ?_)
      · intro a
        fin_cases a
        · show k = 0 + k * 1; omega
        · show h = 0 + h * 1; omega
        · show d = 0 + d * 1; omega
      · rw [Shape.rowMajor_val_three, Shape.rowMajor_val_two]
        show k * 1536 + (h * 192 + d) = (k * 8 + h) * 192 + d
        omega
    · rw [if_neg hl]
      refine (pad_apply_of_not_inside _ _ _ _ _ _ _ _ 2 ?_).trans (filling _)
      show ¬(0 ≤ d ∧ (d - 0) % (0 + 1) = 0 ∧ (d - 0) / (0 + 1) < 192)
      omega

theorem lengthened_at (x : FVec Ideal S192 .f32) (d : ℕ) (hd : d < 256) : at2 (A := 1) (B := 256) (lengthened x) 0 d = at1 (A := 192) x d := by
  rw [at2_of _ 0 d (by omega) hd]
  unfold lengthened at1
  refine (shapeCast_apply _ _ _ (ValueIdx.ix1 (⟨d, hd⟩ : Fin 256)) ?_).trans ?_
  · rw [Shape.rowMajor_val_one, Shape.rowMajor_val_two]
    show d = 0 * 256 + d
    omega
  · by_cases hl : d < 192
    · rw [dif_pos hl]
      refine pad_apply_of_inside _ _ _ _ _ _ _ _ (ValueIdx.ix1 (⟨d, hl⟩ : Fin 192)) ?_
      intro a
      fin_cases a
      show d = 0 + d * 1; omega
    · rw [dif_neg hl]
      refine (pad_apply_of_not_inside _ _ _ _ _ _ _ _ 0 ?_).trans (filling _)
      show ¬(0 ≤ d ∧ (d - 0) % (0 + 1) = 0 ∧ (d - 0) / (0 + 1) < 192)
      omega

theorem row_at {N : ℕ} (x : FVec Ideal ⟨1, ![N]⟩ .f32) (h : (⟨1, ![N]⟩ : Shape).ShapeCasts ⟨2, ![1, N]⟩) (d : ℕ) (hd : d < N) :
    at2 (A := 1) (B := N) (shapeCast ⟨2, ![1, N]⟩ x h) 0 d = at1 x d := by
  rw [at2_of _ 0 d (by omega) hd]
  unfold at1
  rw [dif_pos hd]
  refine shapeCast_apply _ _ _ _ ?_
  rw [Shape.rowMajor_val_one, Shape.rowMajor_val_two]
  show d = 0 * N + d
  omega

theorem part_at (o : ℕ) (x : FVec Ideal S512x2048 .f32) (hs : S512x8x256.Slices ![0, 0, o] S512x8x128) (k h d : ℕ) (hk : k < 512) (hh : h < 8) (hd : d < 128)
    (ho : o + d < 256) :
    at2 (A := 512) (B := 1024) (shapeCast S512x1024 (extractStridedSlice S512x8x128 ![0, 0, o] (shapeCast S512x8x256 x shapeCasts_S512x2048_S512x8x256) hs)
      shapeCasts_S512x8x128_S512x1024) k (h * 128 + d) = at2 (A := 512) (B := 2048) x k (h * 256 + (o + d)) := by
  rw [at2_of _ k _ hk (by omega), at2_of _ k _ hk (by omega)]
  refine (shapeCast_apply _ _ _ (ValueIdx.ix3 (⟨k, hk⟩ : Fin 512) (⟨h, hh⟩ : Fin 8) (⟨d, hd⟩ : Fin 128)) ?_).trans (shapeCast_apply _ _ _ _ ?_)
  · rw [Shape.rowMajor_val_three, Shape.rowMajor_val_two]
    show (k * 8 + h) * 128 + d = k * 1024 + (h * 128 + d)
    omega
  · rw [Shape.rowMajor_val_three, Shape.rowMajor_val_two]
    show k * 2048 + (h * 256 + (o + d)) = ((0 + k) * 8 + (0 + h)) * 256 + (o + d)
    omega

theorem placed_eq : ∀ i j : Fin 128, placed (BitVec.ofNat 32 i.val) (BitVec.ofNat 32 j.val)
    = if j.val < 64 ∧ i.val = partner j.val then 1#1 else 0#1 := by decide +kernel

theorem negative_eq : ∀ j : Fin 128, negative (BitVec.ofNat 32 j.val) = if j.val % 32 < 16 then 1#1 else 0#1 := by decide +kernel

theorem minus_one : Ideal.ofBits .f32 0xBF800000#32 = -1 := by
  rw [show (-1 : EReal) = ((-1 : ℝ) : EReal) by rw [EReal.coe_neg]; rfl]
  simp [Ideal.ofBits, Ideal.ieee, -EReal.coe_mul, -EReal.coe_neg]
  norm_num

theorem swap_at : Swaps (at2 (A := 128) (B := 128) swap) := by
  intro k e hk he
  rw [at2_of _ k e hk he]
  unfold swap
  show (if placed (BitVec.ofNat 32 k) (BitVec.ofNat 32 e) = 1#1 then
    (if negative (BitVec.ofNat 32 e) = 1#1 then Ideal.ofBits .f32 0xBF800000#32 else Ideal.ofBits .f32 0x3F800000#32)
    else Ideal.ofBits .f32 0x00000000#32) = _
  rw [placed_eq ⟨k, hk⟩ ⟨e, he⟩, negative_eq ⟨e, he⟩, minus_one, Ideal.ofBits_one_f32, Ideal.ofBits_zero_f32]
  dsimp only
  split_ifs <;> first | rfl | (exfalso; simp_all)

/-- The row's value over the first 32 columns, the column's over the next, each twice. -/
def angled (r a : FVec Ideal S4096x16 .f32) (i e : ℕ) : EReal :=
  if e < 32 then at2 (A := 4096) (B := 16) r i (e % 16) else at2 (A := 4096) (B := 16) a i (e % 16)

theorem paired_at (r a : FVec Ideal S4096x16 .f32) (i : Fin 4096) (e : Fin 64) : paired r a (ValueIdx.ix2 i e) = angled r a i.val e.val := by
  have he := e.isLt
  unfold paired angled
  by_cases h1 : e.val < 32
  · rw [if_pos h1, at2_of _ i.val _ i.isLt (by omega)]
    by_cases h2 : e.val < 16
    · refine concatenate_apply_piece (t := S4096x64) 1 _ _ _ 0 (by simp) S4096x16 r rfl rfl 0 (by simp) (ValueIdx.ix2 i ⟨e.val % 16, by omega⟩) ?_ ?_
      · intro b hb; fin_cases b <;> first | rfl | exact absurd rfl hb
      · show 0 + e.val % 16 = e.val; omega
    · refine concatenate_apply_piece (t := S4096x64) 1 _ _ _ 1 (by simp) S4096x16 r rfl rfl 16 (by simp) (ValueIdx.ix2 i ⟨e.val % 16, by omega⟩) ?_ ?_
      · intro b hb; fin_cases b <;> first | rfl | exact absurd rfl hb
      · show 16 + e.val % 16 = e.val; omega
  · rw [if_neg h1, at2_of _ i.val _ i.isLt (by omega)]
    by_cases h2 : e.val < 48
    · refine concatenate_apply_piece (t := S4096x64) 1 _ _ _ 2 (by simp) S4096x16 a rfl rfl 32 (by simp) (ValueIdx.ix2 i ⟨e.val % 16, by omega⟩) ?_ ?_
      · intro b hb; fin_cases b <;> first | rfl | exact absurd rfl hb
      · show 32 + e.val % 16 = e.val; omega
    · refine concatenate_apply_piece (t := S4096x64) 1 _ _ _ 3 (by simp) S4096x16 a rfl rfl 48 (by simp) (ValueIdx.ix2 i ⟨e.val % 16, by omega⟩) ?_ ?_
      · intro b hb; fin_cases b <;> first | rfl | exact absurd rfl hb
      · show 48 + e.val % 16 = e.val; omega

theorem table_at (w : BitVec 32) (r a : FVec Ideal S4096x16 .f32) (i e : ℕ) (hi : i < 4352) (he : e < 128) :
    at2 (A := 4352) (B := 128) (table w (paired r a)) i e = if i < 4096 ∧ e < 64 then angled r a i e else Ideal.ofBits .f32 w := by
  rw [at2_of _ i e hi he]
  unfold table
  by_cases h1 : i < 4096
  · refine (concatenate_pair_apply_left (t := S4352x128) (s₁ := S4096x128) (s₂ := S256x128) _ _ _ _ _ rfl (ValueIdx.ix2 (⟨i, h1⟩ : Fin 4096) ⟨e, he⟩) ?_).trans ?_
    · intro b; fin_cases b <;> rfl
    · by_cases h2 : e < 64
      · rw [if_pos ⟨h1, h2⟩]
        refine (concatenate_pair_apply_left (t := S4096x128) (s₁ := S4096x64) (s₂ := S4096x64) _ _ _ _ _ rfl
          (ValueIdx.ix2 (⟨i, h1⟩ : Fin 4096) (⟨e, h2⟩ : Fin 64)) ?_).trans (paired_at r a ⟨i, h1⟩ ⟨e, h2⟩)
        intro b; fin_cases b <;> rfl
      · rw [if_neg (by omega)]
        refine (concatenate_pair_apply_right (t := S4096x128) (s₁ := S4096x64) (s₂ := S4096x64) _ _ _ _ _ rfl rfl
          (ValueIdx.ix2 (⟨i, h1⟩ : Fin 4096) (⟨e - 64, by omega⟩ : Fin 64)) ?_ ?_).trans rfl
        · intro b hb; fin_cases b <;> first | rfl | exact absurd rfl hb
        · show e - 64 + 64 = e; omega
  · rw [if_neg (by omega)]
    refine (concatenate_pair_apply_right (t := S4352x128) (s₁ := S4096x128) (s₂ := S256x128) _ _ _ _ _ rfl rfl
      (ValueIdx.ix2 (⟨i - 4096, by omega⟩ : Fin 256) ⟨e, he⟩) ?_ ?_).trans rfl
    · intro b hb
      match b with
      | 0 => exact absurd rfl hb
      | 1 => rfl
    · exact Nat.sub_add_cancel (Nat.le_of_not_lt h1)

end Cert.Up

end
-- ==== Proof.UpRope.lean ====
/-
  Hand-written, untrusted. The reference's rotation of the heads' last 64 columns and its layout of the heads in the result, each stated
  once of any array of heads and read at natural coordinates; then the three results of the up-projections' reference.
-/
module

public import proofs.«01_k».proof.Proof.UpReads
public import proofs.«01_k».proof.Proof.UpLaid

@[expose] public section

set_option maxRecDepth 16384

noncomputable section

namespace Cert.Up

open Cert.Reference6Ideal Cert.Reference6Ideal.Gen Cert.Reference6Ideal.Read Cert.Attention Cert.Projection Idealize.ShloMosaic

/-- A table of 16 columns beside every head of every batch. -/
def spread (c : FVec Ideal S4096x16 .f32) : FVec Ideal S2x4096x8x16 .f32 :=
  broadcastInDim S2x4096x8x16 ![0, 1, 2, 3] bcast_S1x4096x1x16_S2x4096x8x16_0_1_2_3
    (broadcastInDim S1x4096x1x16 ![1, 3] bcast_S4096x16_S1x4096x1x16_1_3 c)

theorem spread_at (c : FVec Ideal S4096x16 .f32) (b : Fin 2) (r : Fin 4096) (h : Fin 8) (e : Fin 16) :
    spread c (ValueIdx.ix4 b r h e) = at2 (A := 4096) (B := 16) c r.val e.val := by
  unfold spread
  refine Eq.trans (congrArg c (funext fun a => ?_)) (at2_of c _ _ r.isLt e.isLt).symm
  fin_cases a <;> rfl

/-- Thirty-two columns turned. -/
def turn (x : FVec Ideal S2x4096x8x32 .f32) (c s : FVec Ideal S4096x16 .f32) : FVec Ideal S2x4096x8x32 .f32 :=
  let x1 := extractStridedSlice S2x4096x8x16 ![0, 0, 0, 0] x slices_S2x4096x8x32_S2x4096x8x16_0_0_0_0
  let x2 := extractStridedSlice S2x4096x8x16 ![0, 0, 0, 16] x slices_S2x4096x8x32_S2x4096x8x16_0_0_0_16
  concatenate S2x4096x8x32 3 [⟨S2x4096x8x16, subf (mulf x1 (spread c)) (mulf x2 (spread s))⟩,
    ⟨S2x4096x8x16, addf (mulf x2 (spread c)) (mulf x1 (spread s))⟩] concatenates_S2x4096x8x16_S2x4096x8x16_S2x4096x8x32_d3

/-- A slice of a row of heads' columns. -/
theorem slice_at {n w : ℕ} (o : ℕ) (x : FVec Ideal ⟨4, ![2, 4096, 8, n]⟩ .f32) (hs : (⟨4, ![2, 4096, 8, n]⟩ : Shape).Slices ![0, 0, 0, o] ⟨4, ![2, 4096, 8, w]⟩)
    (b : Fin 2) (r : Fin 4096) (h : Fin 8) (e : Fin w) (k : Fin n) (hk : k.val = o + e.val) :
    extractStridedSlice ⟨4, ![2, 4096, 8, w]⟩ ![0, 0, 0, o] x hs (ValueIdx.ix4 b r h e) = x (ValueIdx.ix4 b r h k) := by
  refine congrArg x (funext fun a => Fin.ext ?_)
  fin_cases a
  · exact Nat.zero_add _
  · exact Nat.zero_add _
  · exact Nat.zero_add _
  · exact hk.symm

theorem turn_at (x : FVec Ideal S2x4096x8x32 .f32) (c s : FVec Ideal S4096x16 .f32) (b : Fin 2) (r : Fin 4096) (h : Fin 8) (f : ℕ → EReal)
    (hf : ∀ e : Fin 32, x (ValueIdx.ix4 b r h e) = f e.val) (e : Fin 32) :
    turn x c s (ValueIdx.ix4 b r h e) = turned f (fun e => at2 (A := 4096) (B := 16) c r.val (e % 16)) (fun e => at2 (A := 4096) (B := 16) s r.val (e % 16)) e.val := by
  have he := e.isLt
  unfold turn turned
  by_cases h1 : e.val < 16
  · rw [if_pos (by omega)]
    refine (concatenate_pair_apply_left (t := S2x4096x8x32) (s₁ := S2x4096x8x16) (s₂ := S2x4096x8x16) _ _ _ _ (ValueIdx.ix4 b r h e) rfl
      (ValueIdx.ix4 b r h (⟨e.val, h1⟩ : Fin 16)) ?_).trans ?_
    · intro a; fin_cases a <;> rfl
    · refine congrArg₂ (· - ·) (congrArg₂ (· * ·) ?_ ?_) (congrArg₂ (· * ·) ?_ ?_)
      · exact (slice_at 0 x slices_S2x4096x8x32_S2x4096x8x16_0_0_0_0 b r h _ e (Nat.zero_add _).symm).trans (hf e)
      · exact (spread_at _ _ _ _ _).trans (congrArg _ (Nat.mod_eq_of_lt h1).symm)
      · exact (slice_at 16 x slices_S2x4096x8x32_S2x4096x8x16_0_0_0_16 b r h _ (⟨e.val + 16, by omega⟩ : Fin 32) (Nat.add_comm _ _)).trans (hf _)
      · exact (spread_at _ _ _ _ _).trans (congrArg _ (Nat.mod_eq_of_lt h1).symm)
  · rw [if_neg (by omega)]
    have h2 : e.val % 16 = e.val - 16 := by omega
    refine (concatenate_pair_apply_right (t := S2x4096x8x32) (s₁ := S2x4096x8x16) (s₂ := S2x4096x8x16) _ _ _ _ (ValueIdx.ix4 b r h e) rfl rfl
      (ValueIdx.ix4 b r h (⟨e.val - 16, by omega⟩ : Fin 16)) ?_ ?_).trans ?_
    · intro a ha; fin_cases a <;> first | rfl | exact absurd rfl ha
    · show e.val - 16 + 16 = e.val; omega
    · refine congrArg₂ (· + ·) (congrArg₂ (· * ·) ?_ ?_) (congrArg₂ (· * ·) ?_ ?_)
      · exact (slice_at 16 x slices_S2x4096x8x32_S2x4096x8x16_0_0_0_16 b r h _ e (by show e.val = 16 + (e.val - 16); omega)).trans (hf e)
      · exact (spread_at _ _ _ _ _).trans (congrArg _ h2.symm)
      · exact (slice_at 0 x slices_S2x4096x8x32_S2x4096x8x16_0_0_0_0 b r h _ (⟨e.val - 16, by omega⟩ : Fin 32) (Nat.zero_add _).symm).trans (hf _)
      · exact (spread_at _ _ _ _ _).trans (congrArg _ h2.symm)

/-- The rotation of every head's last 64 columns in the first 4096 rows, the row's table over 32 of them and the column's over 32. -/
def rotated (x : FVec Ideal S2x4352x8x192 .f32) (cr sr ca sa : FVec Ideal S4096x16 .f32) : FVec Ideal S2x4352x8x192 .f32 :=
  let t := extractStridedSlice S2x4096x8x64 ![0, 0, 0, 128] x slices_S2x4352x8x192_S2x4096x8x64_0_0_0_128
  concatenate S2x4352x8x192 3 [⟨S2x4352x8x128, extractStridedSlice S2x4352x8x128 ![0, 0, 0, 0] x slices_S2x4352x8x192_S2x4352x8x128_0_0_0_0⟩,
    ⟨S2x4352x8x64, concatenate S2x4352x8x64 1 [⟨S2x4096x8x64, concatenate S2x4096x8x64 3
        [⟨S2x4096x8x32, turn (extractStridedSlice S2x4096x8x32 ![0, 0, 0, 0] t slices_S2x4096x8x64_S2x4096x8x32_0_0_0_0) cr sr⟩,
          ⟨S2x4096x8x32, turn (extractStridedSlice S2x4096x8x32 ![0, 0, 0, 32] t slices_S2x4096x8x64_S2x4096x8x32_0_0_0_32) ca sa⟩]
        concatenates_S2x4096x8x32_S2x4096x8x32_S2x4096x8x64_d3⟩,
      ⟨S2x256x8x64, extractStridedSlice S2x256x8x64 ![0, 4096, 0, 128] x slices_S2x4352x8x192_S2x256x8x64_0_4096_0_128⟩]
      concatenates_S2x4096x8x64_S2x256x8x64_S2x4352x8x64_d1⟩] concatenates_S2x4352x8x128_S2x4352x8x64_S2x4352x8x192_d3

theorem rotated_at (x : FVec Ideal S2x4352x8x192 .f32) (cr sr ca sa : FVec Ideal S4096x16 .f32) (b : Fin 2) (r : Fin 4352) (h : Fin 8) (d : Fin 192) :
    rotated x cr sr ca sa (ValueIdx.ix4 b r h d) = laid r.val (line x b r h) (angled cr ca r.val) (angled sr sa r.val) d.val := by
  have hd := d.isLt
  have hr := r.isLt
  unfold rotated laid
  by_cases h1 : d.val < 128
  · rw [if_pos h1, line_of]
    refine (concatenate_pair_apply_left (t := S2x4352x8x192) (s₁ := S2x4352x8x128) (s₂ := S2x4352x8x64) _ _ _ _ (ValueIdx.ix4 b r h d) rfl
      (ValueIdx.ix4 b r h (⟨d.val, h1⟩ : Fin 128)) ?_).trans ?_
    · intro a; fin_cases a <;> rfl
    · refine congrArg x (funext fun a => Fin.ext ?_)
      fin_cases a <;> exact Nat.zero_add _
  · rw [if_neg h1]
    refine (concatenate_pair_apply_right (t := S2x4352x8x192) (s₁ := S2x4352x8x128) (s₂ := S2x4352x8x64) _ _ _ _ (ValueIdx.ix4 b r h d) rfl rfl
      (ValueIdx.ix4 b r h (⟨d.val - 128, by omega⟩ : Fin 64)) ?_ ?_).trans ?_
    · intro a ha; fin_cases a <;> first | rfl | exact absurd rfl ha
    · show d.val - 128 + 128 = d.val; omega
    · by_cases h2 : r.val < 4096
      · rw [if_pos h2]
        refine (concatenate_pair_apply_left (t := S2x4352x8x64) (s₁ := S2x4096x8x64) (s₂ := S2x256x8x64) _ _ _ _
          (ValueIdx.ix4 b r h (⟨d.val - 128, by omega⟩ : Fin 64)) rfl
          (ValueIdx.ix4 b (⟨r.val, h2⟩ : Fin 4096) h (⟨d.val - 128, by omega⟩ : Fin 64)) ?_).trans ?_
        · intro a; fin_cases a <;> rfl
        · have htail : ∀ e : Fin 64, extractStridedSlice S2x4096x8x64 ![0, 0, 0, 128] x slices_S2x4352x8x192_S2x4096x8x64_0_0_0_128
              (ValueIdx.ix4 b (⟨r.val, h2⟩ : Fin 4096) h e) = line x b r h (128 + e.val) := by
            intro e
            have he := e.isLt
            unfold line
            rw [dif_pos (by omega)]
            refine congrArg x (funext fun a => Fin.ext ?_)
            fin_cases a
            · exact Nat.zero_add _
            · exact Nat.zero_add _
            · exact Nat.zero_add _
            · rfl
          by_cases h3 : d.val - 128 < 32
          · refine (concatenate_pair_apply_left (t := S2x4096x8x64) (s₁ := S2x4096x8x32) (s₂ := S2x4096x8x32) _ _ _ _
              (ValueIdx.ix4 b (⟨r.val, h2⟩ : Fin 4096) h (⟨d.val - 128, by omega⟩ : Fin 64)) rfl
              (ValueIdx.ix4 b (⟨r.val, h2⟩ : Fin 4096) h (⟨d.val - 128, h3⟩ : Fin 32)) ?_).trans ?_
            · intro a; fin_cases a <;> rfl
            · refine (turn_at _ cr sr b ⟨r.val, h2⟩ h (fun e => line x b r h (128 + e))
                (fun e => (slice_at 0 _ slices_S2x4096x8x64_S2x4096x8x32_0_0_0_0 b _ h e (⟨e.val, by omega⟩ : Fin 64) (Nat.zero_add _).symm).trans (htail _)) _).trans ?_
              unfold turned angled
              dsimp only
              rw [if_pos h3, if_pos h3]
          · refine (concatenate_pair_apply_right (t := S2x4096x8x64) (s₁ := S2x4096x8x32) (s₂ := S2x4096x8x32) _ _ _ _
              (ValueIdx.ix4 b (⟨r.val, h2⟩ : Fin 4096) h (⟨d.val - 128, by omega⟩ : Fin 64)) rfl rfl
              (ValueIdx.ix4 b (⟨r.val, h2⟩ : Fin 4096) h (⟨d.val - 128 - 32, by omega⟩ : Fin 32)) ?_ ?_).trans ?_
            · intro a ha; fin_cases a <;> first | rfl | exact absurd rfl ha
            · show d.val - 128 - 32 + 32 = d.val - 128; omega
            · refine (turn_at _ ca sa b ⟨r.val, h2⟩ h (fun e => line x b r h (128 + (32 + e)))
                (fun e => (slice_at 32 _ slices_S2x4096x8x64_S2x4096x8x32_0_0_0_32 b _ h e (⟨32 + e.val, by omega⟩ : Fin 64) rfl).trans (htail _)) _).trans ?_
              unfold turned angled
              dsimp only
              rw [if_neg h3, if_neg h3]
              have e1 : 32 + (d.val - 128 - 32) = d.val - 128 := by omega
              have e2 : (d.val - 128 - 32) % 16 = (d.val - 128) % 16 := by omega
              have e3 : 32 + (d.val - 128 - 32 + 16) = d.val - 128 + 16 := by omega
              by_cases h4 : (d.val - 128 - 32) % 32 < 16
              · have h5 : (d.val - 128) % 32 < 16 := by omega
                rw [if_pos h4, if_pos h5, e1, e2, e3]
              · have h5 : ¬(d.val - 128) % 32 < 16 := by omega
                have e4 : 32 + (d.val - 128 - 32 - 16) = d.val - 128 - 16 := by omega
                rw [if_neg h4, if_neg h5, e1, e2, e4]
      · rw [if_neg h2, line_of]
        refine (concatenate_pair_apply_right (t := S2x4352x8x64) (s₁ := S2x4096x8x64) (s₂ := S2x256x8x64) _ _ _ _
          (ValueIdx.ix4 b r h (⟨d.val - 128, by omega⟩ : Fin 64)) rfl rfl
          (ValueIdx.ix4 b (⟨r.val - 4096, by omega⟩ : Fin 256) h (⟨d.val - 128, by omega⟩ : Fin 64)) ?_ ?_).trans ?_
        · intro a ha
          match a with
          | 0 => rfl
          | 1 => exact absurd rfl ha
          | 2 => rfl
          | 3 => rfl
        · exact Nat.sub_add_cancel (Nat.le_of_not_lt h2)
        · refine congrArg x (funext fun a => Fin.ext ?_)
          fin_cases a
          · exact Nat.zero_add _
          · exact Nat.add_sub_cancel' (Nat.le_of_not_lt h2)
          · exact Nat.zero_add _
          · exact Nat.add_sub_cancel' (Nat.le_of_not_lt h1)

/-- Heads beside one another, each filled up to a width of 256. -/
theorem laid_at {w v : ℕ} (x : FVec Ideal ⟨4, ![2, 4352, 8, w]⟩ .f32) (y : FVec Ideal ⟨4, ![2, 4352, 8, v]⟩ .f32)
    (hc : Shape.Concatenates [(⟨4, ![2, 4352, 8, w]⟩ : Shape), ⟨4, ![2, 4352, 8, v]⟩] S2x4352x8x256 3) (g : S2x4352x2048.Idx) (hwv : w + v = 256) (z : EReal)
    (hx : ∀ d : Fin w, d.val = (g 2).val % 256 →
      x (ValueIdx.ix4 (g 0 : Fin 2) (g 1 : Fin 4352) (⟨(g 2).val / 256, by have h2 : (g 2).val < 2048 := (g 2).isLt; omega⟩ : Fin 8) d) = z)
    (hy : w ≤ (g 2).val % 256 → ∀ k, y k = z) :
    shapeCast S2x4352x2048 (concatenate S2x4352x8x256 3 [⟨⟨4, ![2, 4352, 8, w]⟩, x⟩, ⟨⟨4, ![2, 4352, 8, v]⟩, y⟩] hc) shapeCasts_S2x4352x8x256_S2x4352x2048 g = z := by
  have h2 : (g 2).val < 2048 := (g 2).isLt
  refine (shapeCast_apply _ _ _ (ValueIdx.ix4 (g 0 : Fin 2) (g 1 : Fin 4352) (⟨(g 2).val / 256, by omega⟩ : Fin 8) (⟨(g 2).val % 256, by omega⟩ : Fin 256)) ?_).trans ?_
  · rw [Shape.rowMajor_val_four, Shape.rowMajor_val_three]
    show (((g 0).val * 4352 + (g 1).val) * 8 + (g 2).val / 256) * 256 + (g 2).val % 256 = ((g 0).val * 4352 + (g 1).val) * 2048 + (g 2).val
    omega
  · by_cases h1 : (g 2).val % 256 < w
    · refine (concatenate_pair_apply_left (t := S2x4352x8x256) (s₁ := ⟨4, ![2, 4352, 8, w]⟩) (s₂ := ⟨4, ![2, 4352, 8, v]⟩) _ x y hc _ rfl
        (ValueIdx.ix4 (g 0 : Fin 2) (g 1 : Fin 4352) (⟨(g 2).val / 256, by omega⟩ : Fin 8) (⟨(g 2).val % 256, h1⟩ : Fin w)) ?_).trans (hx _ rfl)
      intro a; fin_cases a <;> rfl
    · refine (concatenate_pair_apply_right (t := S2x4352x8x256) (s₁ := ⟨4, ![2, 4352, 8, w]⟩) (s₂ := ⟨4, ![2, 4352, 8, v]⟩) _ x y hc _ rfl rfl
        (ValueIdx.ix4 (g 0 : Fin 2) (g 1 : Fin 4352) (⟨(g 2).val / 256, by omega⟩ : Fin 8) (⟨(g 2).val % 256 - w, by omega⟩ : Fin v)) ?_ ?_).trans (hy (Nat.le_of_not_lt h1) _)
      · intro a ha; fin_cases a <;> first | rfl | exact absurd rfl ha
      · exact Nat.sub_add_cancel (Nat.le_of_not_lt h1)

variable (cq : FVec Ideal S2x4352x768 .f32) (ckv : FVec Ideal S2x4352x512 .f32) (kr : FVec Ideal S2x4352x64 .f32) (cqn : FVec Ideal S768 .f32)
  (ckvn : FVec Ideal S512 .f32) (uq : FVec Ideal S768x1536 .f32) (ukv : FVec Ideal S512x2048 .f32) (qn kn : FVec Ideal S192 .f32)

theorem query_rotated : val_main_v123 (F := Ideal) cq cqn uq qn = rotated (val_main_v49 (F := Ideal) cq cqn uq qn) (val_main_v78 (F := Ideal))
    (val_main_v80 (F := Ideal)) (val_main_v102 (F := Ideal)) (val_main_v104 (F := Ideal)) := rfl

theorem key_rotated : val_main_v189 (F := Ideal) ckv kr ckvn ukv kn = rotated (val_main_v63 (F := Ideal) ckv kr ckvn ukv kn) (val_main_v78 (F := Ideal))
    (val_main_v80 (F := Ideal)) (val_main_v102 (F := Ideal)) (val_main_v104 (F := Ideal)) := rfl

/-- A norm at a column depends on its columns alone. -/
theorem normed_congr (n : BitVec 32) (K : ℕ) (x y w : ℕ → EReal) (h : ∀ d, d < K → x d = y d) (d : ℕ) (hd : d < K) : normed n K x w d = normed n K y w d := by
  unfold normed
  rw [h d hd, Finset.sum_congr rfl fun (l : Fin K) _ => congrArg₂ (· * ·) (h l.val l.isLt) (h l.val l.isLt)]

/-- A rotation depends on a head's 192 columns alone. -/
theorem laid_congr (r : ℕ) (x y c s : ℕ → EReal) (h : ∀ d, d < 192 → x d = y d) (d : ℕ) (hd : d < 192) : laid r x c s d = laid r y c s d := by
  unfold laid
  by_cases h1 : d < 128
  · rw [if_pos h1, if_pos h1, h d hd]
  · rw [if_neg h1, if_neg h1]
    by_cases h2 : r < 4096
    · rw [if_pos h2, if_pos h2]
      unfold turned
      dsimp only
      by_cases h3 : (d - 128) % 32 < 16
      · rw [if_pos h3, if_pos h3, h _ (by omega), h _ (by omega)]
      · rw [if_neg h3, if_neg h3, h _ (by omega), h _ (by omega)]
    · rw [if_neg h2, if_neg h2, h d hd]

end Cert.Up

end
-- ==== Proof.UpResults.lean ====
/-
  Hand-written, untrusted. The three results of the up-projections' reference at natural coordinates.
-/
module

public import proofs.«01_k».proof.Proof.UpRope

@[expose] public section

set_option maxRecDepth 16384

noncomputable section

namespace Cert.Up

open Cert.Reference6Ideal Cert.Reference6Ideal.Gen Cert.Reference6Ideal.Read Cert.Attention Cert.Projection Idealize.ShloMosaic

variable (cq : FVec Ideal S2x4352x768 .f32) (ckv : FVec Ideal S2x4352x512 .f32) (kr : FVec Ideal S2x4352x64 .f32) (cqn : FVec Ideal S768 .f32)
  (ckvn : FVec Ideal S512 .f32) (uq : FVec Ideal S768x1536 .f32) (ukv : FVec Ideal S512x2048 .f32) (qn kn : FVec Ideal S192 .f32)

theorem v129_eq (g : S2x4352x2048.Idx) : val_main_v129 (F := Ideal) cq cqn uq qn g = shapeCast S2x4352x2048 (concatenate S2x4352x8x256 3
    [⟨S2x4352x8x192, val_main_v125 (F := Ideal) cq cqn uq qn⟩, ⟨S2x4352x8x64, val_main_v126 (F := Ideal)⟩]
    concatenates_S2x4352x8x192_S2x4352x8x64_S2x4352x8x256_d3) shapeCasts_S2x4352x8x256_S2x4352x2048 g := by
  rw [val_main_v129_apply]; unfold val_main_v128 val_main_v127; rfl

theorem v193_eq (g : S2x4352x2048.Idx) : val_main_v193 (F := Ideal) ckv kr ckvn ukv kn g = shapeCast S2x4352x2048 (concatenate S2x4352x8x256 3
    [⟨S2x4352x8x192, val_main_v189 (F := Ideal) ckv kr ckvn ukv kn⟩, ⟨S2x4352x8x64, val_main_v190 (F := Ideal)⟩]
    concatenates_S2x4352x8x192_S2x4352x8x64_S2x4352x8x256_d3) shapeCasts_S2x4352x8x256_S2x4352x2048 g := by
  rw [val_main_v193_apply]; unfold val_main_v192 val_main_v191; rfl

theorem v197_eq (g : S2x4352x2048.Idx) : val_main_v197 (F := Ideal) ckv ckvn ukv g = shapeCast S2x4352x2048 (concatenate S2x4352x8x256 3
    [⟨S2x4352x8x128, val_main_v34 (F := Ideal) ckv ckvn ukv⟩, ⟨S2x4352x8x128, val_main_v194 (F := Ideal)⟩]
    concatenates_S2x4352x8x128_S2x4352x8x128_S2x4352x8x256_d3) shapeCasts_S2x4352x8x256_S2x4352x2048 g := by
  rw [val_main_v197_apply]; unfold val_main_v196 val_main_v195; rfl

theorem scaled_query (b : Fin 2) (r : Fin 4352) (h : Fin 8) (d : Fin 192) : val_main_v125 (F := Ideal) cq cqn uq qn (ValueIdx.ix4 b r h d)
    = val_main_v123 (F := Ideal) cq cqn uq qn (ValueIdx.ix4 b r h d) * Ideal.ofBits .f32 0x3D93CD3A#32 := by
  rw [val_main_v125_apply, val_main_v124_apply]; rfl

theorem query_head (b : Fin 2) (r : Fin 4352) (h : Fin 8) (d : Fin 192) : val_main_v123 (F := Ideal) cq cqn uq qn (ValueIdx.ix4 b r h d)
    = laid r.val (normed 0x43400000#32 192 (fun d => proj 0x44400000#32 768 (at3 (A := 2) (B := 4352) (C := 768) cq b.val r.val) (at1 (A := 768) cqn)
        (at2 (A := 768) (B := 1536) uq) (h.val * 192 + d)) (at1 (A := 192) qn))
      (angled (val_main_v78 (F := Ideal)) (val_main_v102 (F := Ideal)) r.val) (angled (val_main_v80 (F := Ideal)) (val_main_v104 (F := Ideal)) r.val) d.val := by
  rw [query_rotated, rotated_at]
  refine laid_congr _ _ _ _ _ (fun e he => ?_) _ d.isLt
  rw [line_of _ _ _ _ ⟨e, he⟩, normed_query]
  refine normed_congr _ _ _ _ _ (fun l hl => ?_) _ he
  rw [line_of _ _ _ _ ⟨l, hl⟩, query_heads]

theorem key_head (b : Fin 2) (r : Fin 4352) (h : Fin 8) (d : Fin 192) : val_main_v189 (F := Ideal) ckv kr ckvn ukv kn (ValueIdx.ix4 b r h d)
    = laid r.val (normed 0x43400000#32 192 (keyRow ckv kr ckvn ukv b.val r.val h.val) (at1 (A := 192) kn))
      (angled (val_main_v78 (F := Ideal)) (val_main_v102 (F := Ideal)) r.val) (angled (val_main_v80 (F := Ideal)) (val_main_v104 (F := Ideal)) r.val) d.val := by
  rw [key_rotated, rotated_at]
  refine laid_congr _ _ _ _ _ (fun e he => ?_) _ d.isLt
  rw [line_of _ _ _ _ ⟨e, he⟩, normed_key]
  refine normed_congr _ _ _ _ _ (fun l hl => ?_) _ he
  rw [line_of _ _ _ _ ⟨l, hl⟩, key_heads]

theorem v126_eq (k) : val_main_v126 (F := Ideal) k = 0 := by
  rw [val_main_v126_apply]; exact Ideal.ofBits_zero_f32

theorem v190_eq (k) : val_main_v190 (F := Ideal) k = 0 := by
  rw [val_main_v190_apply]; exact Ideal.ofBits_zero_f32

theorem v194_eq (k) : val_main_v194 (F := Ideal) k = 1 := by
  rw [val_main_v194_apply]; exact Ideal.ofBits_one_f32

theorem value_head (b : Fin 2) (r : Fin 4352) (h : Fin 8) (d : Fin 128) : val_main_v34 (F := Ideal) ckv ckvn ukv (ValueIdx.ix4 b r h d)
    = proj 0x44000000#32 512 (at3 (A := 2) (B := 4352) (C := 512) ckv b.val r.val) (at1 (A := 512) ckvn)
        (at2 (A := 512) (B := 2048) ukv) (h.val * 256 + (d.val + 128)) := by
  have hd := d.isLt
  rw [val_main_v34_apply]
  refine Eq.trans (congrArg (val_main_v32 (F := Ideal) ckv ckvn ukv) ?_) (latent_heads ckv ckvn ukv b r h ⟨d.val + 128, by omega⟩)
  funext a
  apply Fin.ext
  fin_cases a
  · rfl
  · rfl
  · rfl
  · exact Nat.add_comm _ _

theorem query_result (g : S2x4352x2048.Idx) : val_main_v129 (F := Ideal) cq cqn uq qn g
    = queryHead (g 1).val (fun d => proj 0x44400000#32 768 (at3 (A := 2) (B := 4352) (C := 768) cq (g 0).val (g 1).val) (at1 (A := 768) cqn)
        (at2 (A := 768) (B := 1536) uq) ((g 2).val / 256 * 192 + d)) (at1 (A := 192) qn)
      (angled (val_main_v78 (F := Ideal)) (val_main_v102 (F := Ideal)) (g 1).val) (angled (val_main_v80 (F := Ideal)) (val_main_v104 (F := Ideal)) (g 1).val)
      ((g 2).val % 256) := by
  unfold queryHead
  rw [v129_eq]
  refine laid_at (w := 192) (v := 64) _ _ concatenates_S2x4352x8x192_S2x4352x8x64_S2x4352x8x256_d3 g rfl _ (fun d hd => ?_) (fun h k => ?_)
  · have hl : (g 2).val % 256 < 192 := hd ▸ d.isLt
    rw [if_pos hl, ← hd]
    exact (scaled_query cq cqn uq qn _ _ _ d).trans (congrArg (· * _) (query_head cq cqn uq qn (g 0) (g 1) ⟨(g 2).val / 256, _⟩ d))
  · rw [if_neg (Nat.not_lt.mpr h), v126_eq]

theorem key_result (g : S2x4352x2048.Idx) : val_main_v193 (F := Ideal) ckv kr ckvn ukv kn g
    = keyHead (g 1).val (keyRow ckv kr ckvn ukv (g 0).val (g 1).val ((g 2).val / 256)) (at1 (A := 192) kn)
      (angled (val_main_v78 (F := Ideal)) (val_main_v102 (F := Ideal)) (g 1).val) (angled (val_main_v80 (F := Ideal)) (val_main_v104 (F := Ideal)) (g 1).val)
      ((g 2).val % 256) := by
  unfold keyHead
  rw [v193_eq]
  refine laid_at (w := 192) (v := 64) _ _ concatenates_S2x4352x8x192_S2x4352x8x64_S2x4352x8x256_d3 g rfl _ (fun d hd => ?_) (fun h k => ?_)
  · have hl : (g 2).val % 256 < 192 := hd ▸ d.isLt
    rw [if_pos hl, ← hd]
    exact key_head ckv kr ckvn ukv kn (g 0) (g 1) ⟨(g 2).val / 256, _⟩ d
  · rw [if_neg (Nat.not_lt.mpr h), v190_eq]

theorem value_result (g : S2x4352x2048.Idx) : val_main_v197 (F := Ideal) ckv ckvn ukv g
    = if (g 2).val % 256 < 128 then proj 0x44000000#32 512 (at3 (A := 2) (B := 4352) (C := 512) ckv (g 0).val (g 1).val) (at1 (A := 512) ckvn)
        (at2 (A := 512) (B := 2048) ukv) ((g 2).val / 256 * 256 + ((g 2).val % 256 + 128)) else 1 := by
  rw [v197_eq]
  refine laid_at (w := 128) (v := 128) _ _ concatenates_S2x4352x8x128_S2x4352x8x128_S2x4352x8x256_d3 g rfl _ (fun d hd => ?_) (fun h k => ?_)
  · have hl : (g 2).val % 256 < 128 := hd ▸ d.isLt
    rw [if_pos hl, ← hd]
    exact value_head ckv ckvn ukv (g 0) (g 1) ⟨(g 2).val / 256, _⟩ d
  · rw [if_neg (Nat.not_lt.mpr h), v194_eq]

end Cert.Up

end
-- ==== Proof.UpWhole.lean ====
/-
  Hand-written, untrusted. The up-projections' call, whole: each block's queries, keys and values are the arguments' at the block's batch and
  rows, and the call's three results are the reference's.
-/
module

public import proofs.«01_k».proof.Proof.Gen.Kernel6Ideal.Frame
public import proofs.«01_k».proof.Proof.UpFetched
public import proofs.«01_k».proof.Proof.UpResults

@[expose] public section

set_option maxRecDepth 16384

noncomputable section

namespace Cert.Up

open Cert.Kernel6Ideal Cert.Kernel6Ideal.Gen Cert.Attention Cert.Projection Idealize.ShloMosaic Idealize.ShloMosaic.TcCoe Idealize.SL.Sem

/-- A product of a normed row depends on the row, the norm's weight and the weight's column alone. -/
theorem proj_congr (n : BitVec 32) (K : ℕ) (x x' w w' : ℕ → EReal) (u u' : ℕ → ℕ → EReal) (j j' : ℕ) (hx : ∀ k, k < K → x k = x' k) (hw : ∀ k, k < K → w k = w' k)
    (hu : ∀ k, k < K → u k j = u' k j') : proj n K x w u j = proj n K x' w' u' j' := by
  unfold proj
  refine Finset.sum_congr rfl fun k _ => ?_
  rw [normed_congr n K x x' w hx _ k.isLt, hu _ k.isLt]
  unfold normed
  rw [hw _ k.isLt]

theorem proj_zero (n : BitVec 32) (K : ℕ) (x w : ℕ → EReal) (u : ℕ → ℕ → EReal) (j : ℕ) (hu : ∀ k, k < K → u k j = 0) : proj n K x w u j = 0 :=
  Finset.sum_eq_zero fun k _ => by rw [hu _ k.isLt, mul_zero]

/-- The results at natural coordinates. -/
def queryOf (cq : FVec Ideal S2x4352x768 .f32) (cqn : FVec Ideal S768 .f32) (uq : FVec Ideal S768x1536 .f32) (qn : FVec Ideal S192 .f32) (b r c : ℕ) : EReal :=
  queryHead r (fun d => proj 0x44400000#32 768 (at3 (A := 2) (B := 4352) (C := 768) cq b r) (at1 (A := 768) cqn) (at2 (A := 768) (B := 1536) uq) (c / 256 * 192 + d))
    (at1 (A := 192) qn) (angled (Cert.Reference6Ideal.Read.val_main_v78 (F := Ideal)) (Cert.Reference6Ideal.Read.val_main_v102 (F := Ideal)) r)
    (angled (Cert.Reference6Ideal.Read.val_main_v80 (F := Ideal)) (Cert.Reference6Ideal.Read.val_main_v104 (F := Ideal)) r) (c % 256)

def keyOf (ckv : FVec Ideal S2x4352x512 .f32) (kr : FVec Ideal S2x4352x64 .f32) (ckvn : FVec Ideal S512 .f32) (ukv : FVec Ideal S512x2048 .f32) (kn : FVec Ideal S192 .f32)
    (b r c : ℕ) : EReal :=
  keyHead r (keyRow ckv kr ckvn ukv b r (c / 256)) (at1 (A := 192) kn)
    (angled (Cert.Reference6Ideal.Read.val_main_v78 (F := Ideal)) (Cert.Reference6Ideal.Read.val_main_v102 (F := Ideal)) r)
    (angled (Cert.Reference6Ideal.Read.val_main_v80 (F := Ideal)) (Cert.Reference6Ideal.Read.val_main_v104 (F := Ideal)) r) (c % 256)

def valueOf (ckv : FVec Ideal S2x4352x512 .f32) (ckvn : FVec Ideal S512 .f32) (ukv : FVec Ideal S512x2048 .f32) (b r c : ℕ) : EReal :=
  if c % 256 < 128 then proj 0x44000000#32 512 (at3 (A := 2) (B := 4352) (C := 512) ckv b r) (at1 (A := 512) ckvn) (at2 (A := 512) (B := 2048) ukv)
    (c / 256 * 256 + (c % 256 + 128)) else 1

variable (m : (ℓ : Loc nD τ sig) → Buf (Elt Ideal) ℓ) (c : Dev nD)

theorem block_swaps (t : Fin cfg0.N) : Swaps (at2 (A := 128) (B := 128) (iblk m c 5 t)) := by
  intro k e hk he
  rw [block5 m c t k e hk he, given_swap]
  exact swap_at k e hk he

theorem block_cos (t : Fin cfg0.N) (r e : ℕ) (hr : r < 256) (he : e < 128) : at2 (A := 256) (B := 128) (iblk m c 3 t) r e
    = if 256 * (t.val % 17) + r < 4096 ∧ e < 64 then angled (Cert.Reference6Ideal.Read.val_main_v78 (F := Ideal))
      (Cert.Reference6Ideal.Read.val_main_v102 (F := Ideal)) (256 * (t.val % 17) + r) e else 1 := by
  rw [block3 m c t r e hr he, given_cos, table_at _ _ _ _ _ (by omega) he, Ideal.ofBits_one_f32]

theorem block_sin (t : Fin cfg0.N) (r e : ℕ) (hr : r < 256) (he : e < 128) : at2 (A := 256) (B := 128) (iblk m c 4 t) r e
    = if 256 * (t.val % 17) + r < 4096 ∧ e < 64 then angled (Cert.Reference6Ideal.Read.val_main_v80 (F := Ideal))
      (Cert.Reference6Ideal.Read.val_main_v104 (F := Ideal)) (256 * (t.val % 17) + r) e else 0 := by
  rw [block4 m c t r e hr he, given_sin, table_at _ _ _ _ _ (by omega) he, Ideal.ofBits_zero_f32]

theorem block_query (t : Fin cfg0.N) (r l : ℕ) (hr : r < 256) (hl : l < 2048) :
    queryAt (queryRow (X0_0 m c t) (iblk m c 6 t) (iblk m c 8 t) r) (at2 (A := 1) (B := 256) (iblk m c 11 t) 0) (at2 (A := 256) (B := 128) (iblk m c 3 t) r)
        (at2 (A := 256) (B := 128) (iblk m c 4 t) r) (at2 (A := 128) (B := 128) (iblk m c 5 t)) l
      = queryOf (m ((c : Thread nD τ).loc main_arg0)) (m ((c : Thread nD τ).loc main_arg3)) (m ((c : Thread nD τ).loc main_arg5))
          (m ((c : Thread nD τ).loc main_arg7)) (t.val / 17) (256 * (t.val % 17) + r) l := by
  have hN : cfg0.N = 34 := N_0
  have ht := t.isLt
  refine queryAt_eq (256 * (t.val % 17) + r) _ (at1 (A := 192) (m ((c : Thread nD τ).loc main_arg7))) _ _ _ _ _ (block_swaps m c t) (fun d hd => ?_)
    (fun e he => block_cos m c t r e hr he) (fun e he => block_sin m c t r e hr he) _ _ l (fun d hd => ?_) (fun d hd hd' => ?_)
  · rw [block11 m c t 0 d (by omega) (by omega), given_qn, lengthened_at _ d (by omega)]
  · refine proj_congr _ _ _ _ _ _ _ _ _ _ (fun k hk => ?_) (fun k hk => ?_) (fun k hk => ?_)
    · rw [block0 m c t r k hr hk, given_p, joined_q _ _ _ _ _ _ (by omega) (by omega) hk]
    · rw [block6 m c t 0 k (by omega) hk, given_cqn]
      exact row_at _ _ k hk
    · rw [block8 m c t k _ hk (by omega), given_wq, widened_at _ k _ d hk (by omega) (by omega), if_pos hd]
  · refine proj_zero _ _ _ _ _ _ fun k hk => ?_
    rw [block8 m c t k _ hk (by omega), given_wq, widened_at _ k _ d hk (by omega) (by omega), if_neg (by omega)]

theorem block_latent (t : Fin cfg0.N) (r k : ℕ) (hr : r < 256) (hk : k < 512) : at3 (A := 1) (B := 256) (C := 512) (iblk m c 1 t) 0 r k
    = at3 (A := 2) (B := 4352) (C := 512) (m ((c : Thread nD τ).loc main_arg1)) (t.val / 17) (256 * (t.val % 17) + r) k := by
  have hN : cfg0.N = 34 := N_0
  have ht := t.isLt
  rw [block1 m c t r k hr hk, given_p, joined_kv _ _ _ _ _ _ (by omega) (by omega) hk]

theorem block_norm (t : Fin cfg0.N) (k : ℕ) (hk : k < 512) : at2 (A := 1) (B := 512) (iblk m c 7 t) 0 k = at1 (A := 512) (m ((c : Thread nD τ).loc main_arg4)) k := by
  rw [block7 m c t 0 k (by omega) hk, given_ckvn]
  exact row_at _ _ k hk

theorem block_shared (t : Fin cfg0.N) (r k : ℕ) (hr : r < 256) (hk : k < 128) : at3 (A := 1) (B := 256) (C := 128) (iblk m c 2 t) 0 r k
    = at3 (A := 2) (B := 4352) (C := 64) (m ((c : Thread nD τ).loc main_arg2)) (t.val / 17) (256 * (t.val % 17) + r) k := by
  have hN : cfg0.N = 34 := N_0
  have ht := t.isLt
  rw [block2 m c t r k hr hk, given_p, joined_r _ _ _ _ _ _ (by omega) (by omega) hk]

theorem block_key (t : Fin cfg0.N) (r l : ℕ) (hr : r < 256) (hl : l < 2048) :
    keyAt (latentRow (iblk m c 1 t) (iblk m c 7 t) (iblk m c 9 t) r) (at3 (A := 1) (B := 256) (C := 128) (iblk m c 2 t) 0 r)
        (at2 (A := 1) (B := 256) (iblk m c 12 t) 0) (at2 (A := 256) (B := 128) (iblk m c 3 t) r) (at2 (A := 256) (B := 128) (iblk m c 4 t) r)
        (at2 (A := 128) (B := 128) (iblk m c 5 t)) l
      = keyOf (m ((c : Thread nD τ).loc main_arg1)) (m ((c : Thread nD τ).loc main_arg2)) (m ((c : Thread nD τ).loc main_arg4))
          (m ((c : Thread nD τ).loc main_arg6)) (m ((c : Thread nD τ).loc main_arg8)) (t.val / 17) (256 * (t.val % 17) + r) l := by
  have hN : cfg0.N = 34 := N_0
  have ht := t.isLt
  refine keyAt_eq (256 * (t.val % 17) + r) _ (at1 (A := 192) (m ((c : Thread nD τ).loc main_arg8))) _ _ _ _ _ (block_swaps m c t) (fun d hd => ?_)
    (fun e he => block_cos m c t r e hr he) (fun e he => block_sin m c t r e hr he) _ _ _ l (fun d hd => ?_) (fun d hd => ?_) (fun d hd hd' => ?_)
  · rw [block12 m c t 0 d (by omega) (by omega), given_kn, lengthened_at _ d (by omega)]
  · unfold keyRow
    rw [if_pos hd]
    refine proj_congr _ _ _ _ _ _ _ _ _ _ (fun k hk => block_latent m c t r k hr hk) (fun k hk => block_norm m c t k hk) (fun k hk => ?_)
    rw [block9 m c t k _ hk (by omega), given_wk]
    exact (part_at 0 _ _ k _ d hk (by omega) hd (by omega)).trans (by rw [Nat.zero_add])
  · unfold keyRow
    rw [if_neg (by omega), block_shared m c t r d hr (by omega), Nat.add_sub_cancel_left]
  · rw [block_shared m c t r d hr hd', at3_out _ _ _ _ hd]

theorem block_value (t : Fin cfg0.N) (r l : ℕ) (hr : r < 256) (hl : l < 2048) : valueAt (latentRow (iblk m c 1 t) (iblk m c 7 t) (iblk m c 10 t) r) l
    = valueOf (m ((c : Thread nD τ).loc main_arg1)) (m ((c : Thread nD τ).loc main_arg4)) (m ((c : Thread nD τ).loc main_arg6))
        (t.val / 17) (256 * (t.val % 17) + r) l := by
  unfold valueAt valueOf
  by_cases h : l % 256 < 128
  · rw [if_pos h, if_pos h]
    refine proj_congr _ _ _ _ _ _ _ _ _ _ (fun k hk => block_latent m c t r k hr hk) (fun k hk => block_norm m c t k hk) (fun k hk => ?_)
    rw [block10 m c t k _ hk (by omega), given_wv]
    exact (part_at 128 _ _ k _ _ hk (by omega) h (by omega)).trans (by rw [Nat.add_comm 128])
  · rw [if_neg h, if_neg h, Ideal.ofBits_one_bf16]

/-- The query output after a point's body. -/
theorem left_query (t : Fin cfg0.N) (y : S1x256x2048.Idx) : (outsAt0 m c t).1 y
    = queryOf (m ((c : Thread nD τ).loc main_arg0)) (m ((c : Thread nD τ).loc main_arg3)) (m ((c : Thread nD τ).loc main_arg5)) (m ((c : Thread nD τ).loc main_arg7)) (t.val / 17) (256 * (t.val % 17) + (y 1).val) (y 2).val := by
  unfold outsAt0
  dsimp only
  refine (out_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y).trans (?_)
  exact block_query m c t (y 1).val (y 2).val (y 1).isLt (y 2).isLt

/-- The call's query result, whole. -/
theorem whole_query : (dats m 0 c).arrAt 13 cfg0.N
    = fun y : S2x4352x2048.Idx => queryOf (m ((c : Thread nD τ).loc main_arg0)) (m ((c : Thread nD τ).loc main_arg3)) (m ((c : Thread nD τ).loc main_arg5)) (m ((c : Thread nD τ).loc main_arg7)) (y 0).val (y 1).val (y 2).val := by
  refine (dats m 0 c).arrAt_eq_of_covers 13 _ (by decide +kernel) fun t hf y => ?_
  have e0 : ((((cfg0.win 13).blk t).view.emb y 0 : Fin _) : ℕ) = t.val / 17 := by
    refine (win0_13.rect_emb_val t y 0).trans ?_
    have h0 : (y 0).val < 1 := (y 0).isLt
    rw [show win0_13.index t 0 = t.val / 17 from congrFun (places t).2.2.2.2.2.2.2.2.2.2.2.2.2.1 0, show win0_13.size 0 = 1 from rfl]; omega
  have e1 : ((((cfg0.win 13).blk t).view.emb y 1 : Fin _) : ℕ) = 256 * (t.val % 17) + (y 1).val := by
    refine (win0_13.rect_emb_val t y 1).trans ?_
    rw [show win0_13.index t 1 = t.val % 17 from congrFun (places t).2.2.2.2.2.2.2.2.2.2.2.2.2.1 1, show win0_13.size 1 = 256 from rfl, Nat.mul_comm]
  have e2 : ((((cfg0.win 13).blk t).view.emb y 2 : Fin _) : ℕ) = (y 2).val := by
    refine (win0_13.rect_emb_val t y 2).trans ?_
    rw [show win0_13.index t 2 = 0 from congrFun (places t).2.2.2.2.2.2.2.2.2.2.2.2.2.1 2, Nat.zero_mul, Nat.zero_add]
  show _ = queryOf _ _ _ _ (((cfg0.win 13).blk t).view.emb y 0).val (((cfg0.win 13).blk t).view.emb y 1).val (((cfg0.win 13).blk t).view.emb y 2).val
  rw [e0, e1, e2, cast_eq, after0_13]
  exact left_query m c t y

/-- The key output after a point's body. -/
theorem left_key (t : Fin cfg0.N) (y : S1x256x2048.Idx) : (outsAt0 m c t).2.1 y
    = keyOf (m ((c : Thread nD τ).loc main_arg1)) (m ((c : Thread nD τ).loc main_arg2)) (m ((c : Thread nD τ).loc main_arg4)) (m ((c : Thread nD τ).loc main_arg6)) (m ((c : Thread nD τ).loc main_arg8)) (t.val / 17) (256 * (t.val % 17) + (y 1).val) (y 2).val := by
  unfold outsAt0
  dsimp only
  refine (out_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y).trans (?_)
  exact block_key m c t (y 1).val (y 2).val (y 1).isLt (y 2).isLt

/-- The call's key result, whole. -/
theorem whole_key : (dats m 0 c).arrAt 14 cfg0.N
    = fun y : S2x4352x2048.Idx => keyOf (m ((c : Thread nD τ).loc main_arg1)) (m ((c : Thread nD τ).loc main_arg2)) (m ((c : Thread nD τ).loc main_arg4)) (m ((c : Thread nD τ).loc main_arg6)) (m ((c : Thread nD τ).loc main_arg8)) (y 0).val (y 1).val (y 2).val := by
  refine (dats m 0 c).arrAt_eq_of_covers 14 _ (by decide +kernel) fun t hf y => ?_
  have e0 : ((((cfg0.win 14).blk t).view.emb y 0 : Fin _) : ℕ) = t.val / 17 := by
    refine (win0_14.rect_emb_val t y 0).trans ?_
    have h0 : (y 0).val < 1 := (y 0).isLt
    rw [show win0_14.index t 0 = t.val / 17 from congrFun (places t).2.2.2.2.2.2.2.2.2.2.2.2.2.2.1 0, show win0_14.size 0 = 1 from rfl]; omega
  have e1 : ((((cfg0.win 14).blk t).view.emb y 1 : Fin _) : ℕ) = 256 * (t.val % 17) + (y 1).val := by
    refine (win0_14.rect_emb_val t y 1).trans ?_
    rw [show win0_14.index t 1 = t.val % 17 from congrFun (places t).2.2.2.2.2.2.2.2.2.2.2.2.2.2.1 1, show win0_14.size 1 = 256 from rfl, Nat.mul_comm]
  have e2 : ((((cfg0.win 14).blk t).view.emb y 2 : Fin _) : ℕ) = (y 2).val := by
    refine (win0_14.rect_emb_val t y 2).trans ?_
    rw [show win0_14.index t 2 = 0 from congrFun (places t).2.2.2.2.2.2.2.2.2.2.2.2.2.2.1 2, Nat.zero_mul, Nat.zero_add]
  show _ = keyOf _ _ _ _ _ (((cfg0.win 14).blk t).view.emb y 0).val (((cfg0.win 14).blk t).view.emb y 1).val (((cfg0.win 14).blk t).view.emb y 2).val
  rw [e0, e1, e2, cast_eq, after0_14]
  exact left_key m c t y

/-- The value output after a point's body. -/
theorem left_value (t : Fin cfg0.N) (y : S1x256x2048.Idx) : (outsAt0 m c t).2.2 y
    = valueOf (m ((c : Thread nD τ).loc main_arg1)) (m ((c : Thread nD τ).loc main_arg4)) (m ((c : Thread nD τ).loc main_arg6)) (t.val / 17) (256 * (t.val % 17) + (y 1).val) (y 2).val := by
  unfold outsAt0
  dsimp only
  refine (out_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y).trans (?_)
  exact block_value m c t (y 1).val (y 2).val (y 1).isLt (y 2).isLt

/-- The call's value result, whole. -/
theorem whole_value : (dats m 0 c).arrAt 15 cfg0.N
    = fun y : S2x4352x2048.Idx => valueOf (m ((c : Thread nD τ).loc main_arg1)) (m ((c : Thread nD τ).loc main_arg4)) (m ((c : Thread nD τ).loc main_arg6)) (y 0).val (y 1).val (y 2).val := by
  refine (dats m 0 c).arrAt_eq_of_covers 15 _ (by decide +kernel) fun t hf y => ?_
  have e0 : ((((cfg0.win 15).blk t).view.emb y 0 : Fin _) : ℕ) = t.val / 17 := by
    refine (win0_15.rect_emb_val t y 0).trans ?_
    have h0 : (y 0).val < 1 := (y 0).isLt
    rw [show win0_15.index t 0 = t.val / 17 from congrFun (places t).2.2.2.2.2.2.2.2.2.2.2.2.2.2.2 0, show win0_15.size 0 = 1 from rfl]; omega
  have e1 : ((((cfg0.win 15).blk t).view.emb y 1 : Fin _) : ℕ) = 256 * (t.val % 17) + (y 1).val := by
    refine (win0_15.rect_emb_val t y 1).trans ?_
    rw [show win0_15.index t 1 = t.val % 17 from congrFun (places t).2.2.2.2.2.2.2.2.2.2.2.2.2.2.2 1, show win0_15.size 1 = 256 from rfl, Nat.mul_comm]
  have e2 : ((((cfg0.win 15).blk t).view.emb y 2 : Fin _) : ℕ) = (y 2).val := by
    refine (win0_15.rect_emb_val t y 2).trans ?_
    rw [show win0_15.index t 2 = 0 from congrFun (places t).2.2.2.2.2.2.2.2.2.2.2.2.2.2.2 2, Nat.zero_mul, Nat.zero_add]
  show _ = valueOf _ _ _ (((cfg0.win 15).blk t).view.emb y 0).val (((cfg0.win 15).blk t).view.emb y 1).val (((cfg0.win 15).blk t).view.emb y 2).val
  rw [e0, e1, e2, cast_eq, after0_15]
  exact left_value m c t y

end Cert.Up

end
-- ==== Proof.PrepParts.lean ====
/-
  Hand-written, untrusted. What the grouped-query preparation computes of one head, named by natural coordinates: the head normed,
  rotated through the swap matrix and scaled; and that the kernel's arithmetic of one head computes it.
-/
module

public import proofs.«01_k».proof.Proof.UpParts

@[expose] public section

noncomputable section

namespace Cert.Prep

open Idealize.ShloMosaic Idealize.ShloMosaic.ValueIdx Cert.Projection Cert.Attention Cert.Up

variable {M : ℕ}

/-- The kernel's head at column `c` of its layout: normed, rotated, scaled by the word `v`. -/
def headAt (v : BitVec 32) (f w cs sn : ℕ → EReal) (u : ℕ → ℕ → EReal) (c : ℕ) : EReal :=
  spin (normed 0x43000000#32 128 (fun k => f (c / 128 * 128 + k)) w) cs sn u (c % 128) * Ideal.ofBits .f32 v

/-- A head of a block normed, rotated and scaled, as the kernel computes it. -/
def headMat (v : BitVec 32) (x cs sn : FVec Ideal ⟨2, ![M, 128]⟩ .f32) (w : FVec Ideal ⟨2, ![1, 128]⟩ .f32) (u : FVec Ideal ⟨2, ![128, 128]⟩ .bf16)
    (h : (⟨2, ![M, 128]⟩ : Shape).Reduces [1] ⟨1, ![M]⟩) (h1 : (⟨1, ![M]⟩ : Shape).ShapeCasts ⟨2, ![M, 1]⟩)
    (h2 : (⟨2, ![M, 1]⟩ : Shape).Broadcasts ⟨2, ![M, 128]⟩) (h3 : (⟨2, ![1, 128]⟩ : Shape).Broadcasts ⟨2, ![M, 128]⟩) (b : FTy.bf16.bits < FTy.f32.bits) :
    FVec Ideal ⟨2, ![M, 128]⟩ .bf16 :=
  truncf .bf16 (mulf (spinMat (mulf (mulf x (broadcastTo ⟨2, ![M, 128]⟩ (rootCol 0x43000000#32 (sumCol (mulf x x) h h1)) h2)) (broadcastTo ⟨2, ![M, 128]⟩ w h3))
    cs sn u b) (broadcast ⟨2, ![M, 128]⟩ (Scalar.ofBits .f32 v))) b

/-- The store of a head. -/
theorem headStore (v : BitVec 32) (P : FVec Ideal ⟨3, ![1, M, 128]⟩ .bf16) (cp : (⟨3, ![1, M, 128]⟩ : Shape).ShapeCasts ⟨2, ![M, 128]⟩)
    (C S : FVec Ideal ⟨2, ![M, 128]⟩ .f32) (w : FVec Ideal ⟨2, ![1, 128]⟩ .f32) (U : FVec Ideal ⟨2, ![128, 128]⟩ .bf16) (h) (h1) (h2) (h3) (b)
    (co : (⟨2, ![M, 128]⟩ : Shape).ShapeCasts ⟨3, ![1, M, 128]⟩) (f cs sn u : ℕ → ℕ → EReal) (wf : ℕ → EReal) (t : ℕ) {o : ℕ} (ot : o = t * 128)
    (hP : ∀ (r : Fin M) (k : Fin 128), P (ix3 0 r k) = f r.val (o + k.val)) (hw : ∀ e : Fin 128, w (ix2 0 e) = wf e.val)
    (hc : ∀ (r : Fin M) (e : Fin 128), C (ix2 r e) = cs r.val e.val) (hs : ∀ (r : Fin M) (e : Fin 128), S (ix2 r e) = sn r.val e.val)
    (hu : ∀ k l : Fin 128, U (ix2 k l) = u k.val l.val) (y : (⟨3, ![1, M, 128]⟩ : Shape).Idx) :
    shapeCast ⟨3, ![1, M, 128]⟩ (headMat v (extf .f32 (shapeCast ⟨2, ![M, 128]⟩ P cp) b) C S w U h h1 h2 h3 b) co y
      = headAt v (f (y 1).val) wf (cs (y 1).val) (sn (y 1).val) u (o + (y 2).val) := by
  obtain ⟨a, r, e, rfl⟩ : ∃ (a : Fin 1) (r : Fin M) (e : Fin 128), y = ix3 a r e := ⟨y 0, y 1, y 2, eq_ix3 y⟩
  rw [lift_block]
  show spinMat _ C S U b (ix2 r e) * Ideal.ofBits .f32 v = headAt v (f r.val) wf (cs r.val) (sn r.val) u (o + e.val)
  have he := e.isLt
  refine (congrArg (· * Ideal.ofBits .f32 v) (spinMat_apply _ C S U b r (normed 0x43000000#32 128 (fun k => f r.val (o + k)) wf) (cs r.val) (sn r.val) u
    (fun k => ?_) (hc r) (hs r) hu e)).trans ?_
  · exact normedMat_apply 0x43000000#32 (extf .f32 (shapeCast ⟨2, ![M, 128]⟩ P cp) b) w h h1 h2 h3 b (fun k => f r.val (o + k)) wf r
      (fun k => (drop_block P cp r k).trans (hP r k)) hw k
  unfold headAt
  rw [show (o + e.val) / 128 * 128 = o by omega, show (o + e.val) % 128 = e.val by omega]

/-- The store of a value head. -/
theorem valueStore (P : FVec Ideal ⟨3, ![1, M, 128]⟩ .bf16) (cp : (⟨3, ![1, M, 128]⟩ : Shape).ShapeCasts ⟨2, ![M, 128]⟩)
    (co : (⟨2, ![M, 128]⟩ : Shape).ShapeCasts ⟨3, ![1, M, 128]⟩) (f : ℕ → ℕ → EReal) (t : ℕ) {o o' : ℕ} (ot : o = t * 128) (ot' : o' = t * 256)
    (hP : ∀ (r : Fin M) (k : Fin 128), P (ix3 0 r k) = f r.val (o + k.val)) (y : (⟨3, ![1, M, 128]⟩ : Shape).Idx) :
    shapeCast ⟨3, ![1, M, 128]⟩ (shapeCast ⟨2, ![M, 128]⟩ P cp) co y = valueAt (f (y 1).val) (o' + (y 2).val) := by
  obtain ⟨a, r, e, rfl⟩ : ∃ (a : Fin 1) (r : Fin M) (e : Fin 128), y = ix3 a r e := ⟨y 0, y 1, y 2, eq_ix3 y⟩
  rw [lift_block, drop_block, hP]
  show _ = valueAt (f r.val) (o' + e.val)
  have he := e.isLt
  unfold valueAt
  rw [if_pos (by omega)]
  exact congrArg (f r.val) (by omega)

end Cert.Prep

end
-- ==== Proof.PrepBlocks.lean ====
/-
  Hand-written, untrusted. What the grouped-query preparation's body leaves in its three output blocks: at every place the head's query,
  key or value over the input blocks.
-/
module

public import proofs.«01_k».proof.Proof.Gen.Kernel7Ideal.Value
public import proofs.«01_k».proof.Proof.PrepParts

@[expose] public section

set_option maxRecDepth 16384

noncomputable section

namespace Cert.Prep

open Cert.Kernel7Ideal Cert.Kernel7Ideal.Gen Cert.Attention Cert.Projection Cert.Up Idealize.ShloMosaic Idealize.ShloMosaic.TcCoe Idealize.SL.Sem
open Idealize.ShloMosaic.ValueIdx (ix2 eq_ix2 eq_ix3)

/-- A run of columns of a block loaded, at a place. -/
theorem run3 {B C : ℕ} (x : FVec Ideal ⟨3, ![1, B, C]⟩ .bf16) (o : ℕ) (inb) (i : Fin B) (j : Fin 128) :
    View.ld (Val := Elt Ideal) (e' := .bf16) x (Rect.unit (s := ⟨3, ![1, B, C]⟩) ![0, 0, o] ![1, B, 128] inb) (ValueIdx.ix3 0 i j) = at3 x 0 i.val (o + j.val) := by
  refine at3_eq x _ _ _ _ ?_ ?_ ?_
  · rfl
  · show 0 + 1 * i.val = _; omega
  · show o + 1 * j.val = _; omega

/-- A whole matrix loaded, at a place. -/
theorem whole2 {B C : ℕ} (x : FVec Ideal ⟨2, ![B, C]⟩ .bf16) (inb) (i : Fin B) (j : Fin C) :
    View.ld (Val := Elt Ideal) (e' := .bf16) x (Rect.unit (s := ⟨2, ![B, C]⟩) ![0, 0] ![B, C] inb) (ix2 i j) = at2 x i.val j.val := by
  refine at2_eq x _ _ _ ?_ ?_
  · show 0 + 1 * i.val = _; omega
  · show 0 + 1 * j.val = _; omega

theorem columns_whole {B C : ℕ} (x : FVec Ideal ⟨2, ![B, C]⟩ .f32) (inb) (i : Fin B) (j : Fin C) :
    View.ld (Val := Elt Ideal) (e' := .f32) x (Rect.unit (s := ⟨2, ![B, C]⟩) ![0, 0] ![B, C] inb) (ix2 i j) = at2 x i.val j.val := by
  refine at2_eq x _ _ _ ?_ ?_
  · show 0 + 1 * i.val = _; omega
  · show 0 + 1 * j.val = _; omega

/-- The store of one head over the input blocks. -/
theorem head_x6 (x3 x4 : Vec Ideal S256x128 .f32) (x5 : Vec Ideal S128x128 .bf16) (x6 : Vec Ideal S1x128 .f32) (x0 : Vec Ideal S1x256x1024 .bf16) (t o : ℕ)
    (ot : o = t * 128) (inb) (y : S1x256x128.Idx) :
    shapeCast S1x256x128 (headMat (M := 256) 0x3DB504F3#32 (extf .f32 (shapeCast S256x128 (View.ld (Val := Elt Ideal) (e' := .bf16) x0
        (Rect.unit (s := S1x256x1024) ![0, 0, o] ![1, 256, 128] inb)) shapeCasts_S1x256x128_S256x128) bitsLt_bf16_f32)
      (k0_pay2 (View.ld x3 (Rect.unit ![0, 0] ![256, 128] inb_S256x128_S256x128_0_0))) (k0_pay3 (View.ld x4 (Rect.unit ![0, 0] ![256, 128] inb_S256x128_S256x128_0_0)))
      (k0_pay8 (View.ld x6 (Rect.unit ![0, 0] ![1, 128] inb_S1x128_S1x128_0_0))) (k0_pay4 (View.ld x5 (Rect.unit ![0, 0] ![128, 128] inb_S128x128_S128x128_0_0)))
      reduces_S256x128_S256 shapeCasts_S256_S256x1 broadcasts_S256x1_S256x128 broadcasts_S1x128_S256x128 bitsLt_bf16_f32) shapeCasts_S256x128_S1x256x128 y
      = headAt 0x3DB504F3#32 (at3 (A := 1) (B := 256) (C := 1024) x0 0 (0 + 1 * (y 1).val)) (at2 (A := 1) (B := 128) x6 0) (at2 (A := 256) (B := 128) x3 (0 + 1 * (y 1).val)) (at2 (A := 256) (B := 128) x4 (0 + 1 * (y 1).val)) (at2 (A := 128) (B := 128) x5) (o + 1 * (y 2).val) :=
  (headStore (M := 256) 0x3DB504F3#32 _ _ _ _ _ _ _ _ _ _ _ _ (at3 (A := 1) (B := 256) (C := 1024) x0 0) (at2 (A := 256) (B := 128) x3) (at2 (A := 256) (B := 128) x4)
    (at2 (A := 128) (B := 128) x5) (at2 (A := 1) (B := 128) x6 0) t ot (fun r k => run3 x0 o inb r k)
    (fun k => (congrFun (shapeCast_self _ _) (ix2 0 k)).trans (columns_whole x6 _ 0 k))
    (fun r k => (congrFun (shapeCast_self _ _) (ix2 r k)).trans (columns_whole x3 _ r k))
    (fun r k => (congrFun (shapeCast_self _ _) (ix2 r k)).trans (columns_whole x4 _ r k))
    (fun r k => (congrFun (shapeCast_self _ _) (ix2 r k)).trans (whole2 x5 _ r k)) y).trans
    (place (fun r c => headAt 0x3DB504F3#32 (at3 (A := 1) (B := 256) (C := 1024) x0 0 r) (at2 (A := 1) (B := 128) x6 0) (at2 (A := 256) (B := 128) x3 r) (at2 (A := 256) (B := 128) x4 r) (at2 (A := 128) (B := 128) x5) (c)) _ _ _)

/-- The store of one head over the input blocks. -/
theorem head_x7 (x3 x4 : Vec Ideal S256x128 .f32) (x5 : Vec Ideal S128x128 .bf16) (x7 : Vec Ideal S1x128 .f32) (x1 : Vec Ideal S1x256x256 .bf16) (t o : ℕ)
    (ot : o = t * 128) (inb) (y : S1x256x128.Idx) :
    shapeCast S1x256x128 (headMat (M := 256) 0x3F800000#32 (extf .f32 (shapeCast S256x128 (View.ld (Val := Elt Ideal) (e' := .bf16) x1
        (Rect.unit (s := S1x256x256) ![0, 0, o] ![1, 256, 128] inb)) shapeCasts_S1x256x128_S256x128) bitsLt_bf16_f32)
      (k0_pay2 (View.ld x3 (Rect.unit ![0, 0] ![256, 128] inb_S256x128_S256x128_0_0))) (k0_pay3 (View.ld x4 (Rect.unit ![0, 0] ![256, 128] inb_S256x128_S256x128_0_0)))
      (k0_pay8 (View.ld x7 (Rect.unit ![0, 0] ![1, 128] inb_S1x128_S1x128_0_0))) (k0_pay4 (View.ld x5 (Rect.unit ![0, 0] ![128, 128] inb_S128x128_S128x128_0_0)))
      reduces_S256x128_S256 shapeCasts_S256_S256x1 broadcasts_S256x1_S256x128 broadcasts_S1x128_S256x128 bitsLt_bf16_f32) shapeCasts_S256x128_S1x256x128 y
      = headAt 0x3F800000#32 (at3 (A := 1) (B := 256) (C := 256) x1 0 (0 + 1 * (y 1).val)) (at2 (A := 1) (B := 128) x7 0) (at2 (A := 256) (B := 128) x3 (0 + 1 * (y 1).val)) (at2 (A := 256) (B := 128) x4 (0 + 1 * (y 1).val)) (at2 (A := 128) (B := 128) x5) (o + 1 * (y 2).val) :=
  (headStore (M := 256) 0x3F800000#32 _ _ _ _ _ _ _ _ _ _ _ _ (at3 (A := 1) (B := 256) (C := 256) x1 0) (at2 (A := 256) (B := 128) x3) (at2 (A := 256) (B := 128) x4)
    (at2 (A := 128) (B := 128) x5) (at2 (A := 1) (B := 128) x7 0) t ot (fun r k => run3 x1 o inb r k)
    (fun k => (congrFun (shapeCast_self _ _) (ix2 0 k)).trans (columns_whole x7 _ 0 k))
    (fun r k => (congrFun (shapeCast_self _ _) (ix2 r k)).trans (columns_whole x3 _ r k))
    (fun r k => (congrFun (shapeCast_self _ _) (ix2 r k)).trans (columns_whole x4 _ r k))
    (fun r k => (congrFun (shapeCast_self _ _) (ix2 r k)).trans (whole2 x5 _ r k)) y).trans
    (place (fun r c => headAt 0x3F800000#32 (at3 (A := 1) (B := 256) (C := 256) x1 0 r) (at2 (A := 1) (B := 128) x7 0) (at2 (A := 256) (B := 128) x3 r) (at2 (A := 256) (B := 128) x4 r) (at2 (A := 128) (B := 128) x5) (c)) _ _ _)

theorem out_8 (c : Dev nD) (i : grid0.Coords) (arg2 : Memref sig .tc .vmem S1x256x1024 .bf16) (harg2 : arg2.IsWhole) (arg3 : Memref sig .tc .vmem S1x256x256 .bf16) (harg3 : arg3.IsWhole)
    (arg4 : Memref sig .tc .vmem S1x256x256 .bf16) (harg4 : arg4.IsWhole) (arg5 : Memref sig .tc .vmem S256x128 .f32) (harg5 : arg5.IsWhole)
    (arg6 : Memref sig .tc .vmem S256x128 .f32) (harg6 : arg6.IsWhole) (arg7 : Memref sig .tc .vmem S128x128 .bf16) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S1x256x1024 .bf16) (harg10 : arg10.IsWhole) (arg11 : Memref sig .tc .vmem S1x256x256 .bf16) (harg11 : arg11.IsWhole)
    (arg12 : Memref sig .tc .vmem S1x256x512 .bf16) (harg12 : arg12.IsWhole)
    (x0 : Vec Ideal S1x256x1024 .bf16) (x1 : Vec Ideal S1x256x256 .bf16) (x2 : Vec Ideal S1x256x256 .bf16) (x3 : Vec Ideal S256x128 .f32)
    (x4 : Vec Ideal S256x128 .f32) (x5 : Vec Ideal S128x128 .bf16) (x6 : Vec Ideal S1x128 .f32) (x7 : Vec Ideal S1x128 .f32) (y : S1x256x1024.Idx) :
    out0_A_8 c i arg2 harg2 arg3 harg3 arg4 harg4 arg5 harg5 arg6 harg6 arg7 harg7 arg8 harg8 arg9 harg9 arg10 harg10 arg11 harg11 arg12 harg12
      x0 x1 x2 x3 x4 x5 x6 x7 y
      = headAt 0x3DB504F3#32 (at3 (A := 1) (B := 256) (C := 1024) x0 0 (y 1).val) (at2 (A := 1) (B := 128) x6 0) (at2 (A := 256) (B := 128) x3 (y 1).val) (at2 (A := 256) (B := 128) x4 (y 1).val) (at2 (A := 128) (B := 128) x5) ((y 2).val) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12
      x0 x1 x2 x3 x4 x5 x6 x7)]
  refine View.canon_apply_of_pieces (fun y : S1x256x1024.Idx => headAt 0x3DB504F3#32 (at3 (A := 1) (B := 256) (C := 1024) x0 0 (y 1).val) (at2 (A := 1) (B := 128) x6 0) (at2 (A := 256) (B := 128) x3 (y 1).val) (at2 (A := 256) (B := 128) x4 (y 1).val) (at2 (A := 128) (B := 128) x5) ((y 2).val)) _ ?_ y
    (cover0_A_8 c i arg2 harg2 arg3 harg3 arg4 harg4 arg5 harg5 arg6 harg6 arg7 harg7 arg8 harg8 arg9 harg9 arg10 harg10 arg11 harg11 arg12 harg12
      x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread, harg9.read_unread]
  intro pc hpc x
  rcases List.mem_cons.mp hpc with rfl | hpc
  · clear hpc; exact head_x6 x3 x4 x5 x6 x0 7 896 rfl inb_S1x256x1024_S1x256x128_0_0_896 x
  rcases List.mem_cons.mp hpc with rfl | hpc
  · clear hpc; exact head_x6 x3 x4 x5 x6 x0 6 768 rfl inb_S1x256x1024_S1x256x128_0_0_768 x
  rcases List.mem_cons.mp hpc with rfl | hpc
  · clear hpc; exact head_x6 x3 x4 x5 x6 x0 5 640 rfl inb_S1x256x1024_S1x256x128_0_0_640 x
  rcases List.mem_cons.mp hpc with rfl | hpc
  · clear hpc; exact head_x6 x3 x4 x5 x6 x0 4 512 rfl inb_S1x256x1024_S1x256x128_0_0_512 x
  rcases List.mem_cons.mp hpc with rfl | hpc
  · clear hpc; exact head_x6 x3 x4 x5 x6 x0 3 384 rfl inb_S1x256x1024_S1x256x128_0_0_384 x
  rcases List.mem_cons.mp hpc with rfl | hpc
  · clear hpc; exact head_x6 x3 x4 x5 x6 x0 2 256 rfl inb_S1x256x1024_S1x256x128_0_0_256 x
  rcases List.mem_cons.mp hpc with rfl | hpc
  · clear hpc; exact head_x6 x3 x4 x5 x6 x0 1 128 rfl inb_S1x256x1024_S1x256x128_0_0_128 x
  rcases List.mem_cons.mp hpc with rfl | hpc
  · clear hpc; exact head_x6 x3 x4 x5 x6 x0 0 0 rfl inb_S1x256x1024_S1x256x128_0_0_0 x
  nomatch hpc

theorem out_9 (c : Dev nD) (i : grid0.Coords) (arg2 : Memref sig .tc .vmem S1x256x1024 .bf16) (harg2 : arg2.IsWhole) (arg3 : Memref sig .tc .vmem S1x256x256 .bf16) (harg3 : arg3.IsWhole)
    (arg4 : Memref sig .tc .vmem S1x256x256 .bf16) (harg4 : arg4.IsWhole) (arg5 : Memref sig .tc .vmem S256x128 .f32) (harg5 : arg5.IsWhole)
    (arg6 : Memref sig .tc .vmem S256x128 .f32) (harg6 : arg6.IsWhole) (arg7 : Memref sig .tc .vmem S128x128 .bf16) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S1x256x1024 .bf16) (harg10 : arg10.IsWhole) (arg11 : Memref sig .tc .vmem S1x256x256 .bf16) (harg11 : arg11.IsWhole)
    (arg12 : Memref sig .tc .vmem S1x256x512 .bf16) (harg12 : arg12.IsWhole)
    (x0 : Vec Ideal S1x256x1024 .bf16) (x1 : Vec Ideal S1x256x256 .bf16) (x2 : Vec Ideal S1x256x256 .bf16) (x3 : Vec Ideal S256x128 .f32)
    (x4 : Vec Ideal S256x128 .f32) (x5 : Vec Ideal S128x128 .bf16) (x6 : Vec Ideal S1x128 .f32) (x7 : Vec Ideal S1x128 .f32) (y : S1x256x256.Idx) :
    out0_A_9 c i arg2 harg2 arg3 harg3 arg4 harg4 arg5 harg5 arg6 harg6 arg7 harg7 arg8 harg8 arg9 harg9 arg10 harg10 arg11 harg11 arg12 harg12
      x0 x1 x2 x3 x4 x5 x6 x7 y
      = headAt 0x3F800000#32 (at3 (A := 1) (B := 256) (C := 256) x1 0 (y 1).val) (at2 (A := 1) (B := 128) x7 0) (at2 (A := 256) (B := 128) x3 (y 1).val) (at2 (A := 256) (B := 128) x4 (y 1).val) (at2 (A := 128) (B := 128) x5) ((y 2).val) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12
      x0 x1 x2 x3 x4 x5 x6 x7)]
  refine View.canon_apply_of_pieces (fun y : S1x256x256.Idx => headAt 0x3F800000#32 (at3 (A := 1) (B := 256) (C := 256) x1 0 (y 1).val) (at2 (A := 1) (B := 128) x7 0) (at2 (A := 256) (B := 128) x3 (y 1).val) (at2 (A := 256) (B := 128) x4 (y 1).val) (at2 (A := 128) (B := 128) x5) ((y 2).val)) _ ?_ y
    (cover0_A_9 c i arg2 harg2 arg3 harg3 arg4 harg4 arg5 harg5 arg6 harg6 arg7 harg7 arg8 harg8 arg9 harg9 arg10 harg10 arg11 harg11 arg12 harg12
      x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread, harg9.read_unread]
  intro pc hpc x
  rcases List.mem_cons.mp hpc with rfl | hpc
  · clear hpc; exact head_x7 x3 x4 x5 x7 x1 1 128 rfl inb_S1x256x256_S1x256x128_0_0_128 x
  rcases List.mem_cons.mp hpc with rfl | hpc
  · clear hpc; exact head_x7 x3 x4 x5 x7 x1 0 0 rfl inb_S1x256x256_S1x256x128_0_0_0 x
  nomatch hpc

theorem out_10 (c : Dev nD) (i : grid0.Coords) (arg2 : Memref sig .tc .vmem S1x256x1024 .bf16) (harg2 : arg2.IsWhole) (arg3 : Memref sig .tc .vmem S1x256x256 .bf16) (harg3 : arg3.IsWhole)
    (arg4 : Memref sig .tc .vmem S1x256x256 .bf16) (harg4 : arg4.IsWhole) (arg5 : Memref sig .tc .vmem S256x128 .f32) (harg5 : arg5.IsWhole)
    (arg6 : Memref sig .tc .vmem S256x128 .f32) (harg6 : arg6.IsWhole) (arg7 : Memref sig .tc .vmem S128x128 .bf16) (harg7 : arg7.IsWhole)
    (arg8 : Memref sig .tc .vmem S1x128 .f32) (harg8 : arg8.IsWhole) (arg9 : Memref sig .tc .vmem S1x128 .f32) (harg9 : arg9.IsWhole)
    (arg10 : Memref sig .tc .vmem S1x256x1024 .bf16) (harg10 : arg10.IsWhole) (arg11 : Memref sig .tc .vmem S1x256x256 .bf16) (harg11 : arg11.IsWhole)
    (arg12 : Memref sig .tc .vmem S1x256x512 .bf16) (harg12 : arg12.IsWhole)
    (x0 : Vec Ideal S1x256x1024 .bf16) (x1 : Vec Ideal S1x256x256 .bf16) (x2 : Vec Ideal S1x256x256 .bf16) (x3 : Vec Ideal S256x128 .f32)
    (x4 : Vec Ideal S256x128 .f32) (x5 : Vec Ideal S128x128 .bf16) (x6 : Vec Ideal S1x128 .f32) (x7 : Vec Ideal S1x128 .f32) (y : S1x256x512.Idx) :
    out0_A_10 c i arg2 harg2 arg3 harg3 arg4 harg4 arg5 harg5 arg6 harg6 arg7 harg7 arg8 harg8 arg9 harg9 arg10 harg10 arg11 harg11 arg12 harg12
      x0 x1 x2 x3 x4 x5 x6 x7 y
      = valueAt (at3 (A := 1) (B := 256) (C := 256) x2 0 (y 1).val) ((y 2).val) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12
      x0 x1 x2 x3 x4 x5 x6 x7)]
  refine View.canon_apply_of_pieces (fun y : S1x256x512.Idx => valueAt (at3 (A := 1) (B := 256) (C := 256) x2 0 (y 1).val) ((y 2).val)) _ ?_ y
    (cover0_A_10 c i arg2 harg2 arg3 harg3 arg4 harg4 arg5 harg5 arg6 harg6 arg7 harg7 arg8 harg8 arg9 harg9 arg10 harg10 arg11 harg11 arg12 harg12
      x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread, harg9.read_unread]
  intro pc hpc x
  rcases List.mem_cons.mp hpc with rfl | hpc
  · clear hpc; exact (valueHigh (M := 256) shapeCasts_S256x128_S1x256x128 1 rfl (at3 (A := 1) (B := 256) (C := 256) x2 0) x).trans (place (fun r c => valueAt (at3 (A := 1) (B := 256) (C := 256) x2 0 r) (c)) _ _ _)
  rcases List.mem_cons.mp hpc with rfl | hpc
  · clear hpc; exact (valueStore (M := 256) (View.ld x2 (Rect.unit ![0, 0, 128] ![1, 256, 128] inb_S1x256x256_S1x256x128_0_0_128)) shapeCasts_S1x256x128_S256x128 shapeCasts_S256x128_S1x256x128 (at3 (A := 1) (B := 256) (C := 256) x2 0) 1 rfl rfl (fun r k => run3 x2 128 _ r k) x).trans (place (fun r c => valueAt (at3 (A := 1) (B := 256) (C := 256) x2 0 r) (c)) _ _ _)
  rcases List.mem_cons.mp hpc with rfl | hpc
  · clear hpc; exact (valueHigh (M := 256) shapeCasts_S256x128_S1x256x128 0 rfl (at3 (A := 1) (B := 256) (C := 256) x2 0) x).trans (place (fun r c => valueAt (at3 (A := 1) (B := 256) (C := 256) x2 0 r) (c)) _ _ _)
  rcases List.mem_cons.mp hpc with rfl | hpc
  · clear hpc; exact (valueStore (M := 256) (View.ld x2 (Rect.unit ![0, 0, 0] ![1, 256, 128] inb_S1x256x256_S1x256x128_0_0_0)) shapeCasts_S1x256x128_S256x128 shapeCasts_S256x128_S1x256x128 (at3 (A := 1) (B := 256) (C := 256) x2 0) 0 rfl rfl (fun r k => run3 x2 0 _ r k) x).trans (place (fun r c => valueAt (at3 (A := 1) (B := 256) (C := 256) x2 0 r) (c)) _ _ _)
  nomatch hpc

end Cert.Prep

end
-- ==== Proof.PrepFetched.lean ====
/-
  Hand-written, untrusted. The grouped-query preparation's input blocks as reads of the arrays the call is given, at natural coordinates: a grid
  point holds the batch `t / 17` and the block of rows `t % 17`.
-/
module

public import proofs.«01_k».proof.Proof.PrepBlocks
public import Idealize.ShloMosaic.Lib.Pipeline.ValueKit

@[expose] public section

set_option maxRecDepth 16384

noncomputable section

namespace Cert.Prep

open Cert.Kernel7Ideal Cert.Kernel7Ideal.Gen Cert.Attention Cert.Projection Idealize.ShloMosaic Idealize.ShloMosaic.TcCoe Idealize.SL.Sem

variable (m : (ℓ : Loc nD τ sig) → Buf (Elt Ideal) ℓ) (c : Dev nD)

/-- The windows' block indices at a grid point: batch, block of rows, block of columns. -/
theorem places : ∀ t : Fin cfg0.N, win0_0.index t = ![t.val / 17, t.val % 17, 3]
    ∧ win0_1.index t = ![t.val / 17, t.val % 17, 20]
    ∧ win0_2.index t = ![t.val / 17, t.val % 17, 21]
    ∧ win0_3.index t = ![t.val % 17, 0]
    ∧ win0_4.index t = ![t.val % 17, 0]
    ∧ win0_5.index t = ![0, 0]
    ∧ win0_6.index t = ![0, 0]
    ∧ win0_7.index t = ![0, 0]
    ∧ win0_8.index t = ![t.val / 17, t.val % 17, 0]
    ∧ win0_9.index t = ![t.val / 17, t.val % 17, 0]
    ∧ win0_10.index t = ![t.val / 17, t.val % 17, 0] :=
  (by decide +kernel : ∀ t : Fin grid0.N, _)

theorem read0 (X : S2x4352x10752.Idx → EReal) (t : Fin cfg0.N) (y : ((cfg0.win 0).xblock (cfg0.grid.coords t)).Idx) :
    ((cfg0.win 0).blk t).view.read (Elt Ideal) X y = X ((win0_0.rect t).emb y) := rfl

theorem block0 (t : Fin cfg0.N) (r l : ℕ) (hr : r < 256) (hl : l < 1024) :
    at3 (A := 1) (B := 256) (C := 1024) (X0_0 m c t) 0 r l
      = at3 (A := 2) (B := 4352) (C := 10752) (V m c main_v0) (t.val / 17) (256 * (t.val % 17) + r) (3072 + l) := by
  rw [at3_of _ 0 r l (by omega) hr hl]
  unfold X0_0 Pipeline.Window.fill
  rw [dif_pos (moved0_0 t _)]
  refine (read0 (V m c main_v0) t _).trans (at3_eq (A := 2) (B := 4352) (C := 10752) (V m c main_v0) _ _ _ _
    ((win0_0.rect_emb_val t _ 0).trans ?_) ((win0_0.rect_emb_val t _ 1).trans ?_) ((win0_0.rect_emb_val t _ 2).trans ?_))
  · rw [show win0_0.index t 0 = t.val / 17 from congrFun (places t).1 0, show win0_0.size 0 = 1 from rfl, Nat.mul_one]
    rfl
  · rw [show win0_0.index t 1 = t.val % 17 from congrFun (places t).1 1, show win0_0.size 1 = 256 from rfl]
    exact congrArg (· + r) (Nat.mul_comm _ _)
  · rw [show win0_0.index t 2 = 3 from congrFun (places t).1 2, show win0_0.size 2 = 1024 from rfl]
    rfl

theorem read1 (X : S2x4352x10752.Idx → EReal) (t : Fin cfg0.N) (y : S1x256x256.Idx) :
    ((cfg0.win 1).blk t).view.read (Elt Ideal) X y = X ((win0_1.rect t).emb y) := rfl

theorem block1 (t : Fin cfg0.N) (r l : ℕ) (hr : r < 256) (hl : l < 256) :
    at3 (A := 1) (B := 256) (C := 256) (iblk m c 1 t) 0 r l
      = at3 (A := 2) (B := 4352) (C := 10752) (V m c main_v0) (t.val / 17) (256 * (t.val % 17) + r) (5120 + l) := by
  rw [at3_of _ 0 r l (by omega) hr hl]
  refine (read1 (V m c main_v0) t (ValueIdx.ix3 0 ⟨r, hr⟩ ⟨l, hl⟩)).trans (at3_eq (A := 2) (B := 4352) (C := 10752) (V m c main_v0) _ _ _ _
    ((win0_1.rect_emb_val t _ 0).trans ?_) ((win0_1.rect_emb_val t _ 1).trans ?_) ((win0_1.rect_emb_val t _ 2).trans ?_))
  · rw [show win0_1.index t 0 = t.val / 17 from congrFun (places t).2.1 0, show win0_1.size 0 = 1 from rfl, Nat.mul_one]
    rfl
  · rw [show win0_1.index t 1 = t.val % 17 from congrFun (places t).2.1 1, show win0_1.size 1 = 256 from rfl]
    exact congrArg (· + r) (Nat.mul_comm _ _)
  · rw [show win0_1.index t 2 = 20 from congrFun (places t).2.1 2, show win0_1.size 2 = 256 from rfl]
    rfl

theorem read2 (X : S2x4352x10752.Idx → EReal) (t : Fin cfg0.N) (y : S1x256x256.Idx) :
    ((cfg0.win 2).blk t).view.read (Elt Ideal) X y = X ((win0_2.rect t).emb y) := rfl

theorem block2 (t : Fin cfg0.N) (r l : ℕ) (hr : r < 256) (hl : l < 256) :
    at3 (A := 1) (B := 256) (C := 256) (iblk m c 2 t) 0 r l
      = at3 (A := 2) (B := 4352) (C := 10752) (V m c main_v0) (t.val / 17) (256 * (t.val % 17) + r) (5376 + l) := by
  rw [at3_of _ 0 r l (by omega) hr hl]
  refine (read2 (V m c main_v0) t (ValueIdx.ix3 0 ⟨r, hr⟩ ⟨l, hl⟩)).trans (at3_eq (A := 2) (B := 4352) (C := 10752) (V m c main_v0) _ _ _ _
    ((win0_2.rect_emb_val t _ 0).trans ?_) ((win0_2.rect_emb_val t _ 1).trans ?_) ((win0_2.rect_emb_val t _ 2).trans ?_))
  · rw [show win0_2.index t 0 = t.val / 17 from congrFun (places t).2.2.1 0, show win0_2.size 0 = 1 from rfl, Nat.mul_one]
    rfl
  · rw [show win0_2.index t 1 = t.val % 17 from congrFun (places t).2.2.1 1, show win0_2.size 1 = 256 from rfl]
    exact congrArg (· + r) (Nat.mul_comm _ _)
  · rw [show win0_2.index t 2 = 21 from congrFun (places t).2.2.1 2, show win0_2.size 2 = 256 from rfl]
    rfl

theorem read3 (X : S4352x128.Idx → EReal) (t : Fin cfg0.N) (y : S256x128.Idx) :
    ((cfg0.win 3).blk t).view.read (Elt Ideal) X y = X ((win0_3.rect t).emb y) := rfl

theorem block3 (t : Fin cfg0.N) (r l : ℕ) (hr : r < 256) (hl : l < 128) :
    at2 (A := 256) (B := 128) (iblk m c 3 t) r l = at2 (A := 4352) (B := 128) (V m c main_v44) (256 * (t.val % 17) + r) l := by
  rw [at2_of _ r l hr hl]
  refine (read3 (V m c main_v44) t (ValueIdx.ix2 ⟨r, hr⟩ ⟨l, hl⟩)).trans (at2_eq (A := 4352) (B := 128) (V m c main_v44) _ _ _
    ((win0_3.rect_emb_val t _ 0).trans ?_) ((win0_3.rect_emb_val t _ 1).trans ?_))
  · rw [show win0_3.index t 0 = t.val % 17 from congrFun (places t).2.2.2.1 0, show win0_3.size 0 = 256 from rfl]
    exact congrArg (· + r) (Nat.mul_comm _ _)
  · rw [show win0_3.index t 1 = 0 from congrFun (places t).2.2.2.1 1]
    exact (congrArg (· + l) (Nat.zero_mul _)).trans (Nat.zero_add _)

theorem read4 (X : S4352x128.Idx → EReal) (t : Fin cfg0.N) (y : S256x128.Idx) :
    ((cfg0.win 4).blk t).view.read (Elt Ideal) X y = X ((win0_4.rect t).emb y) := rfl

theorem block4 (t : Fin cfg0.N) (r l : ℕ) (hr : r < 256) (hl : l < 128) :
    at2 (A := 256) (B := 128) (iblk m c 4 t) r l = at2 (A := 4352) (B := 128) (V m c main_v46) (256 * (t.val % 17) + r) l := by
  rw [at2_of _ r l hr hl]
  refine (read4 (V m c main_v46) t (ValueIdx.ix2 ⟨r, hr⟩ ⟨l, hl⟩)).trans (at2_eq (A := 4352) (B := 128) (V m c main_v46) _ _ _
    ((win0_4.rect_emb_val t _ 0).trans ?_) ((win0_4.rect_emb_val t _ 1).trans ?_))
  · rw [show win0_4.index t 0 = t.val % 17 from congrFun (places t).2.2.2.2.1 0, show win0_4.size 0 = 256 from rfl]
    exact congrArg (· + r) (Nat.mul_comm _ _)
  · rw [show win0_4.index t 1 = 0 from congrFun (places t).2.2.2.2.1 1]
    exact (congrArg (· + l) (Nat.zero_mul _)).trans (Nat.zero_add _)

theorem read5 (X : S128x128.Idx → EReal) (t : Fin cfg0.N) (y : S128x128.Idx) :
    ((cfg0.win 5).blk t).view.read (Elt Ideal) X y = X ((win0_5.rect t).emb y) := rfl

theorem block5 (t : Fin cfg0.N) (r l : ℕ) (hr : r < 128) (hl : l < 128) :
    at2 (A := 128) (B := 128) (iblk m c 5 t) r l = at2 (A := 128) (B := 128) (V m c main_v47) (r) l := by
  rw [at2_of _ r l hr hl]
  refine (read5 (V m c main_v47) t (ValueIdx.ix2 ⟨r, hr⟩ ⟨l, hl⟩)).trans (at2_eq (A := 128) (B := 128) (V m c main_v47) _ _ _
    ((win0_5.rect_emb_val t _ 0).trans ?_) ((win0_5.rect_emb_val t _ 1).trans ?_))
  · rw [show win0_5.index t 0 = 0 from congrFun (places t).2.2.2.2.2.1 0]
    exact (congrArg (· + r) (Nat.zero_mul _)).trans (Nat.zero_add _)
  · rw [show win0_5.index t 1 = 0 from congrFun (places t).2.2.2.2.2.1 1]
    exact (congrArg (· + l) (Nat.zero_mul _)).trans (Nat.zero_add _)

theorem read6 (X : S1x128.Idx → EReal) (t : Fin cfg0.N) (y : S1x128.Idx) :
    ((cfg0.win 6).blk t).view.read (Elt Ideal) X y = X ((win0_6.rect t).emb y) := rfl

theorem block6 (t : Fin cfg0.N) (r l : ℕ) (hr : r < 1) (hl : l < 128) :
    at2 (A := 1) (B := 128) (iblk m c 6 t) r l = at2 (A := 1) (B := 128) (V m c main_v48) (r) l := by
  rw [at2_of _ r l hr hl]
  refine (read6 (V m c main_v48) t (ValueIdx.ix2 ⟨r, hr⟩ ⟨l, hl⟩)).trans (at2_eq (A := 1) (B := 128) (V m c main_v48) _ _ _
    ((win0_6.rect_emb_val t _ 0).trans ?_) ((win0_6.rect_emb_val t _ 1).trans ?_))
  · rw [show win0_6.index t 0 = 0 from congrFun (places t).2.2.2.2.2.2.1 0]
    exact (congrArg (· + r) (Nat.zero_mul _)).trans (Nat.zero_add _)
  · rw [show win0_6.index t 1 = 0 from congrFun (places t).2.2.2.2.2.2.1 1]
    exact (congrArg (· + l) (Nat.zero_mul _)).trans (Nat.zero_add _)

theorem read7 (X : S1x128.Idx → EReal) (t : Fin cfg0.N) (y : S1x128.Idx) :
    ((cfg0.win 7).blk t).view.read (Elt Ideal) X y = X ((win0_7.rect t).emb y) := rfl

theorem block7 (t : Fin cfg0.N) (r l : ℕ) (hr : r < 1) (hl : l < 128) :
    at2 (A := 1) (B := 128) (iblk m c 7 t) r l = at2 (A := 1) (B := 128) (V m c main_v49) (r) l := by
  rw [at2_of _ r l hr hl]
  refine (read7 (V m c main_v49) t (ValueIdx.ix2 ⟨r, hr⟩ ⟨l, hl⟩)).trans (at2_eq (A := 1) (B := 128) (V m c main_v49) _ _ _
    ((win0_7.rect_emb_val t _ 0).trans ?_) ((win0_7.rect_emb_val t _ 1).trans ?_))
  · rw [show win0_7.index t 0 = 0 from congrFun (places t).2.2.2.2.2.2.2.1 0]
    exact (congrArg (· + r) (Nat.zero_mul _)).trans (Nat.zero_add _)
  · rw [show win0_7.index t 1 = 0 from congrFun (places t).2.2.2.2.2.2.2.1 1]
    exact (congrArg (· + l) (Nat.zero_mul _)).trans (Nat.zero_add _)

end Cert.Prep

end
-- ==== Proof.PrepTurn.lean ====
/-
  Hand-written, untrusted. The rotation of a whole head of the grouped-query attention, as the reference states it and as the kernel computes it
  through its swap matrix: the two agree, and the kernel's head is the reference's.
-/
module

public import proofs.«01_k».proof.Proof.PrepParts
public import proofs.«01_k».proof.Proof.UpLaid

@[expose] public section

set_option maxRecDepth 16384

noncomputable section

namespace Cert.Prep

open Cert.Attention Cert.Projection Cert.Up Idealize.ShloMosaic

/-- The column a rotated column is taken with: 32 on or 32 back, within its 64. -/
def fellow (e : ℕ) : ℕ := if e % 64 < 32 then e + 32 else e - 32

/-- The rotation of pairs of columns 32 apart. -/
def wheel (x c s : ℕ → EReal) (e : ℕ) : EReal :=
  if e % 64 < 32 then x e * c e - x (e + 32) * s e else x e * c e + x (e - 32) * s e

/-- The swap matrix's entries. -/
def Exchanges (u : ℕ → ℕ → EReal) : Prop :=
  ∀ k e, k < 128 → e < 128 → u k e = if k = fellow e then (if e % 64 < 32 then -1 else 1) else 0

theorem spin_wheel (x c s : ℕ → EReal) (u : ℕ → ℕ → EReal) (hu : Exchanges u) (e : ℕ) (he : e < 128) : spin x c s u e = wheel x c s e := by
  have hp : fellow e < 128 := by unfold fellow; split <;> omega
  have hs : (∑ k : Fin 128, x k.val * u k.val e) = x (fellow e) * u (fellow e) e := by
    refine (Finset.sum_eq_single (⟨fellow e, hp⟩ : Fin 128) (fun k _ hk => ?_) (fun h => absurd (Finset.mem_univ _) h))
    rw [hu k.val e k.isLt he, if_neg fun h => hk (Fin.ext h), mul_zero]
  unfold spin wheel
  rw [hs, hu _ e hp he, if_pos rfl]
  unfold fellow
  by_cases h : e % 64 < 32
  · rw [if_pos h, if_pos h, if_pos h, mul_neg, mul_one, neg_mul, sub_eq_add_neg]
  · rw [if_neg h, if_neg h, if_neg h, mul_one]

theorem wheel_congr (x y c s c' s' : ℕ → EReal) (e : ℕ) (he : e < 128) (hx : ∀ k, k < 128 → x k = y k) (hc : c e = c' e) (hs : s e = s' e) :
    wheel x c s e = wheel y c' s' e := by
  unfold wheel
  by_cases h : e % 64 < 32
  · rw [if_pos h, if_pos h, hx e he, hx (e + 32) (by omega), hc, hs]
  · rw [if_neg h, if_neg h, hx e he, hx (e - 32) (by omega), hc, hs]

/-- A head of the result at row `r`: rotated over the latents' rows. -/
def wheeled (r : ℕ) (x c s : ℕ → EReal) (e : ℕ) : EReal := if r < 4096 then wheel x c s e else x e

theorem wheeled_congr (r : ℕ) (x y c s : ℕ → EReal) (h : ∀ d, d < 128 → x d = y d) (e : ℕ) (he : e < 128) : wheeled r x c s e = wheeled r y c s e := by
  unfold wheeled
  by_cases h2 : r < 4096
  · rw [if_pos h2, if_pos h2]
    exact wheel_congr _ _ _ _ _ _ e he h rfl rfl
  · rw [if_neg h2, if_neg h2, h e he]

/-- The kernel's head is the reference's. -/
theorem headAt_eq (v : BitVec 32) (r : ℕ) (f g w w' cs sn cs' sn' : ℕ → EReal) (u : ℕ → ℕ → EReal) (c : ℕ) (hu : Exchanges u) (hw : ∀ d, d < 128 → w d = w' d)
    (hc : ∀ e, e < 128 → cs e = if r < 4096 then cs' e else 1) (hs : ∀ e, e < 128 → sn e = if r < 4096 then sn' e else 0)
    (hf : ∀ d, d < 128 → f (c / 128 * 128 + d) = g d) :
    headAt v f w cs sn u c = wheeled r (normed 0x43000000#32 128 g w') cs' sn' (c % 128) * Ideal.ofBits .f32 v := by
  have hm : ∀ d, d < 128 → normed 0x43000000#32 128 (fun k => f (c / 128 * 128 + k)) w d = normed 0x43000000#32 128 g w' d := by
    intro d hd
    unfold normed
    dsimp only
    rw [hw d hd, hf d hd, Finset.sum_congr rfl fun (l : Fin 128) _ => congrArg₂ (· * ·) (hf l.val l.isLt) (hf l.val l.isLt)]
  have h128 : c % 128 < 128 := Nat.mod_lt _ (by omega)
  unfold headAt wheeled
  refine congrArg (· * _) ?_
  by_cases h : r < 4096
  · rw [if_pos h, spin_wheel _ _ _ u hu _ h128]
    exact wheel_congr _ _ _ _ _ _ _ h128 hm ((hc _ h128).trans (if_pos h)) ((hs _ h128).trans (if_pos h))
  · rw [if_neg h, spin_still _ _ _ u _ ((hc _ h128).trans (if_neg h)) ((hs _ h128).trans (if_neg h)), hm _ h128]

/-- Where the swap matrix is not zero, and where it is minus one, as the host computes it of a row and a column. -/
def placed (i j : BitVec 32) : BitVec 1 := IntOp.cmpi .eq i (IntOp.xori j 32#32)
def negative (j : BitVec 32) : BitVec 1 := IntOp.cmpi .eq (IntOp.andi j 32#32) 0#32

theorem placed_eq : ∀ i j : Fin 128, placed (BitVec.ofNat 32 i.val) (BitVec.ofNat 32 j.val) = if i.val = fellow j.val then 1#1 else 0#1 := by decide +kernel

theorem negative_eq : ∀ j : Fin 128, negative (BitVec.ofNat 32 j.val) = if j.val % 64 < 32 then 1#1 else 0#1 := by decide +kernel

/-- The swap matrix. -/
def swap : FVec Ideal ⟨2, ![128, 128]⟩ .f32 := fun y =>
  if placed (BitVec.ofNat 32 (y 0).val) (BitVec.ofNat 32 (y 1).val) = 1#1 then
    (if negative (BitVec.ofNat 32 (y 1).val) = 1#1 then Ideal.ofBits .f32 0xBF800000#32 else Ideal.ofBits .f32 0x3F800000#32)
  else Ideal.ofBits .f32 0x00000000#32

theorem swap_at : Exchanges (at2 (A := 128) (B := 128) swap) := by
  intro k e hk he
  rw [at2_of _ k e hk he]
  unfold swap
  show (if placed (BitVec.ofNat 32 k) (BitVec.ofNat 32 e) = 1#1 then
    (if negative (BitVec.ofNat 32 e) = 1#1 then Ideal.ofBits .f32 0xBF800000#32 else Ideal.ofBits .f32 0x3F800000#32)
    else Ideal.ofBits .f32 0x00000000#32) = _
  rw [placed_eq ⟨k, hk⟩ ⟨e, he⟩, negative_eq ⟨e, he⟩, minus_one, Ideal.ofBits_one_f32, Ideal.ofBits_zero_f32]
  dsimp only
  split_ifs <;> first | rfl | (exfalso; simp_all)

end Cert.Prep

end
-- ==== Proof.PrepGiven.lean ====
/-
  Hand-written, untrusted. The arrays the grouped-query preparation's call is given, as the host makes them of the arguments and at natural
  coordinates: the projections, the swap matrix, the norms, and the tables made of the cosines and sines of the reference's angles.
-/
module

public import proofs.«01_k».proof.Proof.Gen.Kernel7Ideal.Value
public import proofs.«01_k».proof.Proof.Gen.Reference7Ideal.Read
public import proofs.«01_k».proof.Proof.PrepTurn
public import Idealize.ShloMosaic.Lib.Claim
public import Idealize.ShloMosaic.Lib.IdealHost
public import Idealize.ShloMosaic.Lib.KernelVsHost

@[expose] public section

set_option maxRecDepth 16384

noncomputable section

namespace Cert.Prep

open Cert.Kernel7Ideal Cert.Kernel7Ideal.Gen Cert.Attention Cert.Projection Cert.Up Idealize.ShloMosaic Idealize.ShloMosaic.TcCoe Idealize.SL.Sem

variable (m : (ℓ : Loc nD τ sig) → Buf (Elt Ideal) ℓ) (c : Dev nD)

/-- The row's values twice, the column's twice. -/
def doubled (r a : FVec Ideal S4096x32 .f32) : FVec Ideal S4096x128 .f32 :=
  concatenate S4096x128 1 [⟨S4096x32, r⟩, ⟨S4096x32, r⟩, ⟨S4096x32, a⟩, ⟨S4096x32, a⟩] concatenates_S4096x32_S4096x32_S4096x32_S4096x32_S4096x128_d1

/-- A table over 4352 rows, one value below. -/
def scroll (w : BitVec 32) (x : FVec Ideal S4096x128 .f32) : FVec Ideal S4352x128 .f32 :=
  concatenate S4352x128 0 [⟨S4096x128, x⟩, ⟨S256x128, fill S256x128 w⟩] concatenates_S4096x128_S256x128_S4352x128_d0

theorem given_p : V m c main_v0 = (m ((c : Thread nD τ).loc main_arg0) : FVec Ideal S2x4352x10752 .f32) := by
  entry_read
  rfl
theorem given_qn : V m c main_v48 = shapeCast S1x128 (m ((c : Thread nD τ).loc main_arg1)) shapeCasts_S128_S1x128 := by
  entry_read
  rfl
theorem given_kn : V m c main_v49 = shapeCast S1x128 (m ((c : Thread nD τ).loc main_arg2)) shapeCasts_S128_S1x128 := by
  entry_read
  rfl
theorem given_swap : V m c main_v47 = swap := by
  entry_read
  rfl

set_option maxHeartbeats 4000000 in
theorem doubled_cos : V m c main_v26 = doubled (Cert.Reference7Ideal.Read.val_main_v51 (F := Ideal)) (Cert.Reference7Ideal.Read.val_main_v75 (F := Ideal)) := by
  entry_read
  rfl

set_option maxHeartbeats 1000000 in
theorem below_cos : V m c main_v44 = concatenate S4352x128 0 [⟨S4096x128, V m c main_v26⟩, ⟨S256x128, fill S256x128 0x3F800000#32⟩]
    concatenates_S4096x128_S256x128_S4352x128_d0 := by
  entry_read
  rfl

theorem given_cos : V m c main_v44 = scroll 0x3F800000#32 (doubled (Cert.Reference7Ideal.Read.val_main_v51 (F := Ideal)) (Cert.Reference7Ideal.Read.val_main_v75 (F := Ideal))) := by
  rw [below_cos, doubled_cos]
  rfl

set_option maxHeartbeats 4000000 in
theorem doubled_sin : V m c main_v31 = doubled (Cert.Reference7Ideal.Read.val_main_v53 (F := Ideal)) (Cert.Reference7Ideal.Read.val_main_v77 (F := Ideal)) := by
  entry_read
  rfl

set_option maxHeartbeats 1000000 in
theorem below_sin : V m c main_v46 = concatenate S4352x128 0 [⟨S4096x128, V m c main_v31⟩, ⟨S256x128, fill S256x128 0x00000000#32⟩]
    concatenates_S4096x128_S256x128_S4352x128_d0 := by
  entry_read
  rfl

theorem given_sin : V m c main_v46 = scroll 0x00000000#32 (doubled (Cert.Reference7Ideal.Read.val_main_v53 (F := Ideal)) (Cert.Reference7Ideal.Read.val_main_v77 (F := Ideal))) := by
  rw [below_sin, doubled_sin]
  rfl

/-- The row's value over the first 64 columns, the column's over the next, each twice. -/
def slanted (r a : FVec Ideal S4096x32 .f32) (i e : ℕ) : EReal :=
  if e < 64 then at2 (A := 4096) (B := 32) r i (e % 32) else at2 (A := 4096) (B := 32) a i (e % 32)

theorem doubled_at (r a : FVec Ideal S4096x32 .f32) (i : Fin 4096) (e : Fin 128) : doubled r a (ValueIdx.ix2 i e) = slanted r a i.val e.val := by
  have he := e.isLt
  unfold doubled slanted
  by_cases h1 : e.val < 64
  · rw [if_pos h1, at2_of _ i.val _ i.isLt (by omega)]
    by_cases h2 : e.val < 32
    · refine concatenate_apply_piece (t := S4096x128) 1 _ _ _ 0 (by simp) S4096x32 r rfl rfl 0 (by simp) (ValueIdx.ix2 i ⟨e.val % 32, by omega⟩) ?_ ?_
      · intro b hb; fin_cases b <;> first | rfl | exact absurd rfl hb
      · show 0 + e.val % 32 = e.val; omega
    · refine concatenate_apply_piece (t := S4096x128) 1 _ _ _ 1 (by simp) S4096x32 r rfl rfl 32 (by simp) (ValueIdx.ix2 i ⟨e.val % 32, by omega⟩) ?_ ?_
      · intro b hb; fin_cases b <;> first | rfl | exact absurd rfl hb
      · show 32 + e.val % 32 = e.val; omega
  · rw [if_neg h1, at2_of _ i.val _ i.isLt (by omega)]
    by_cases h2 : e.val < 96
    · refine concatenate_apply_piece (t := S4096x128) 1 _ _ _ 2 (by simp) S4096x32 a rfl rfl 64 (by simp) (ValueIdx.ix2 i ⟨e.val % 32, by omega⟩) ?_ ?_
      · intro b hb; fin_cases b <;> first | rfl | exact absurd rfl hb
      · show 64 + e.val % 32 = e.val; omega
    · refine concatenate_apply_piece (t := S4096x128) 1 _ _ _ 3 (by simp) S4096x32 a rfl rfl 96 (by simp) (ValueIdx.ix2 i ⟨e.val % 32, by omega⟩) ?_ ?_
      · intro b hb; fin_cases b <;> first | rfl | exact absurd rfl hb
      · show 96 + e.val % 32 = e.val; omega

theorem scroll_at (w : BitVec 32) (r a : FVec Ideal S4096x32 .f32) (i e : ℕ) (hi : i < 4352) (he : e < 128) :
    at2 (A := 4352) (B := 128) (scroll w (doubled r a)) i e = if i < 4096 then slanted r a i e else Ideal.ofBits .f32 w := by
  rw [at2_of _ i e hi he]
  unfold scroll
  by_cases h1 : i < 4096
  · rw [if_pos h1]
    refine (concatenate_pair_apply_left (t := S4352x128) (s₁ := S4096x128) (s₂ := S256x128) _ _ _ _ _ rfl (ValueIdx.ix2 (⟨i, h1⟩ : Fin 4096) ⟨e, he⟩) ?_).trans
      (doubled_at r a ⟨i, h1⟩ ⟨e, he⟩)
    intro b; fin_cases b <;> rfl
  · rw [if_neg h1]
    refine (concatenate_pair_apply_right (t := S4352x128) (s₁ := S4096x128) (s₂ := S256x128) _ _ _ _ _ rfl rfl
      (ValueIdx.ix2 (⟨i - 4096, by omega⟩ : Fin 256) ⟨e, he⟩) ?_ ?_).trans rfl
    · intro b hb
      match b with
      | 0 => exact absurd rfl hb
      | 1 => rfl
    · exact Nat.sub_add_cancel (Nat.le_of_not_lt h1)

end Cert.Prep

end
-- ==== Proof.PrepRope.lean ====
/-
  Hand-written, untrusted. The reference's rotation of whole heads, stated once of any number of heads and read at natural coordinates; then the
  three results of the grouped-query preparation's reference.
-/
module

public import proofs.«01_k».proof.Proof.PrepGiven
public import proofs.«01_k».proof.Proof.UpRope

@[expose] public section

set_option maxRecDepth 16384

noncomputable section

namespace Cert.Prep

open Cert.Reference7Ideal Cert.Reference7Ideal.Gen Cert.Reference7Ideal.Read Cert.Attention Cert.Projection Cert.Up Idealize.ShloMosaic

variable {H : ℕ}

/-- The heads' array over `n` rows and `w` columns. -/
abbrev Heads (n H w : ℕ) : Shape := ⟨4, ![2, n, H, w]⟩

/-- A head's row at a natural column, zero outside. -/
def row (t : FVec Ideal (Heads 4352 H 128) .f32) (b : Fin 2) (r : Fin 4352) (h : Fin H) (d : ℕ) : EReal :=
  if hd : d < 128 then t (ValueIdx.ix4 b r h ⟨d, hd⟩) else 0

theorem row_of (t : FVec Ideal (Heads 4352 H 128) .f32) (b : Fin 2) (r : Fin 4352) (h : Fin H) (d : Fin 128) :
    row t b r h d.val = t (ValueIdx.ix4 b r h d) := dif_pos d.isLt

/-- A table of 32 columns beside every head of every batch. -/
def beside (hb : S1x4096x1x32.BroadcastsInDim (Heads 4096 H 32) (![0, 1, 2, 3] : Fin 4 → Fin (Heads 4096 H 32).rank)) (c : FVec Ideal S4096x32 .f32) :
    FVec Ideal (Heads 4096 H 32) .f32 :=
  broadcastInDim (Heads 4096 H 32) ![0, 1, 2, 3] hb (broadcastInDim S1x4096x1x32 ![1, 3] bcast_S4096x32_S1x4096x1x32_1_3 c)

theorem beside_at (hb) (c : FVec Ideal S4096x32 .f32) (b : Fin 2) (r : Fin 4096) (h : Fin H) (e : Fin 32) :
    beside hb c (ValueIdx.ix4 b r h e) = at2 (A := 4096) (B := 32) c r.val e.val := by
  unfold beside
  refine Eq.trans (congrArg c (funext fun a => ?_)) (at2_of c _ _ r.isLt e.isLt).symm
  fin_cases a <;> rfl

/-- Sixty-four columns turned. -/
def rolled (hb : S1x4096x1x32.BroadcastsInDim (Heads 4096 H 32) (![0, 1, 2, 3] : Fin 4 → Fin (Heads 4096 H 32).rank))
    (s0 : (Heads 4096 H 64).Slices ![0, 0, 0, 0] (Heads 4096 H 32)) (s1 : (Heads 4096 H 64).Slices ![0, 0, 0, 32] (Heads 4096 H 32))
    (hc : Shape.Concatenates [Heads 4096 H 32, Heads 4096 H 32] (Heads 4096 H 64) 3) (x : FVec Ideal (Heads 4096 H 64) .f32) (c s : FVec Ideal S4096x32 .f32) :
    FVec Ideal (Heads 4096 H 64) .f32 :=
  let x1 := extractStridedSlice (Heads 4096 H 32) ![0, 0, 0, 0] x s0
  let x2 := extractStridedSlice (Heads 4096 H 32) ![0, 0, 0, 32] x s1
  concatenate (Heads 4096 H 64) 3 [⟨Heads 4096 H 32, subf (mulf x1 (beside hb c)) (mulf x2 (beside hb s))⟩,
    ⟨Heads 4096 H 32, addf (mulf x2 (beside hb c)) (mulf x1 (beside hb s))⟩] hc

/-- A slice of a row of heads' columns. -/
theorem part_of {n n' w w' : ℕ} (o : ℕ) (x : FVec Ideal (Heads n H w) .f32) (hs : (Heads n H w).Slices ![0, 0, 0, o] (Heads n' H w'))
    (b : Fin 2) (r' : Fin n') (r : Fin n) (hr : r.val = r'.val) (h : Fin H) (e : Fin w') (k : Fin w) (hk : k.val = o + e.val) :
    extractStridedSlice (Heads n' H w') ![0, 0, 0, o] x hs (ValueIdx.ix4 b r' h e) = x (ValueIdx.ix4 b r h k) := by
  refine congrArg x (funext fun a => Fin.ext ?_)
  fin_cases a
  · exact Nat.zero_add _
  · exact (Nat.zero_add _).trans hr.symm
  · exact Nat.zero_add _
  · exact hk.symm

theorem rolled_at (hb) (s0) (s1) (hc) (x : FVec Ideal (Heads 4096 H 64) .f32) (c s : FVec Ideal S4096x32 .f32) (b : Fin 2) (r : Fin 4096) (h : Fin H) (f : ℕ → EReal)
    (hf : ∀ e : Fin 64, x (ValueIdx.ix4 b r h e) = f e.val) (e : Fin 64) :
    rolled hb s0 s1 hc x c s (ValueIdx.ix4 b r h e)
      = wheel f (fun e => at2 (A := 4096) (B := 32) c r.val (e % 32)) (fun e => at2 (A := 4096) (B := 32) s r.val (e % 32)) e.val := by
  have he := e.isLt
  unfold rolled wheel
  by_cases h1 : e.val < 32
  · rw [if_pos (by omega)]
    refine (concatenate_pair_apply_left (t := Heads 4096 H 64) (s₁ := Heads 4096 H 32) (s₂ := Heads 4096 H 32) _ _ _ _ (ValueIdx.ix4 b r h e) rfl
      (ValueIdx.ix4 b r h (⟨e.val, h1⟩ : Fin 32)) ?_).trans ?_
    · intro a; fin_cases a <;> rfl
    · refine congrArg₂ (· - ·) (congrArg₂ (· * ·) ?_ ?_) (congrArg₂ (· * ·) ?_ ?_)
      · exact (part_of 0 x s0 b r r rfl h _ e (Nat.zero_add _).symm).trans (hf e)
      · exact (beside_at hb _ _ _ _ _).trans (congrArg _ (Nat.mod_eq_of_lt h1).symm)
      · exact (part_of 32 x s1 b r r rfl h _ (⟨e.val + 32, by omega⟩ : Fin 64) (Nat.add_comm _ _)).trans (hf _)
      · exact (beside_at hb _ _ _ _ _).trans (congrArg _ (Nat.mod_eq_of_lt h1).symm)
  · rw [if_neg (by omega)]
    have h2 : e.val % 32 = e.val - 32 := by omega
    refine (concatenate_pair_apply_right (t := Heads 4096 H 64) (s₁ := Heads 4096 H 32) (s₂ := Heads 4096 H 32) _ _ _ _ (ValueIdx.ix4 b r h e) rfl rfl
      (ValueIdx.ix4 b r h (⟨e.val - 32, by omega⟩ : Fin 32)) ?_ ?_).trans ?_
    · intro a ha; fin_cases a <;> first | rfl | exact absurd rfl ha
    · show e.val - 32 + 32 = e.val; omega
    · refine congrArg₂ (· + ·) (congrArg₂ (· * ·) ?_ ?_) (congrArg₂ (· * ·) ?_ ?_)
      · exact (part_of 32 x s1 b r r rfl h _ e (by show e.val = 32 + (e.val - 32); omega)).trans (hf e)
      · exact (beside_at hb _ _ _ _ _).trans (congrArg _ h2.symm)
      · exact (part_of 0 x s0 b r r rfl h _ (⟨e.val - 32, by omega⟩ : Fin 64) (Nat.zero_add _).symm).trans (hf _)
      · exact (beside_at hb _ _ _ _ _).trans (congrArg _ h2.symm)

section
variable (hb : S1x4096x1x32.BroadcastsInDim (Heads 4096 H 32) (![0, 1, 2, 3] : Fin 4 → Fin (Heads 4096 H 32).rank))
    (s0 : (Heads 4096 H 64).Slices ![0, 0, 0, 0] (Heads 4096 H 32)) (s1 : (Heads 4096 H 64).Slices ![0, 0, 0, 32] (Heads 4096 H 32))
    (hc : Shape.Concatenates [Heads 4096 H 32, Heads 4096 H 32] (Heads 4096 H 64) 3)
    (p : (Heads 4352 H 128).Slices ![0, 0, 0, 0] (Heads 4096 H 128)) (p0 : (Heads 4096 H 128).Slices ![0, 0, 0, 0] (Heads 4096 H 64))
    (p1 : (Heads 4096 H 128).Slices ![0, 0, 0, 64] (Heads 4096 H 64)) (p' : (Heads 4352 H 128).Slices ![0, 4096, 0, 0] (Heads 256 H 128))
    (hd : Shape.Concatenates [Heads 4096 H 64, Heads 4096 H 64] (Heads 4096 H 128) 3)
    (hr : Shape.Concatenates [Heads 4096 H 128, Heads 256 H 128] (Heads 4352 H 128) 1)

/-- The rotation of every head in the first 4096 rows, the row's table over 64 columns and the column's over 64. -/
def carried (x : FVec Ideal (Heads 4352 H 128) .f32) (cr sr ca sa : FVec Ideal S4096x32 .f32) : FVec Ideal (Heads 4352 H 128) .f32 :=
  let t := extractStridedSlice (Heads 4096 H 128) ![0, 0, 0, 0] x p
  concatenate (Heads 4352 H 128) 1 [⟨Heads 4096 H 128, concatenate (Heads 4096 H 128) 3
        [⟨Heads 4096 H 64, rolled hb s0 s1 hc (extractStridedSlice (Heads 4096 H 64) ![0, 0, 0, 0] t p0) cr sr⟩,
          ⟨Heads 4096 H 64, rolled hb s0 s1 hc (extractStridedSlice (Heads 4096 H 64) ![0, 0, 0, 64] t p1) ca sa⟩] hd⟩,
    ⟨Heads 256 H 128, extractStridedSlice (Heads 256 H 128) ![0, 4096, 0, 0] x p'⟩] hr

theorem carried_at (x : FVec Ideal (Heads 4352 H 128) .f32) (cr sr ca sa : FVec Ideal S4096x32 .f32) (b : Fin 2) (r : Fin 4352) (h : Fin H) (d : Fin 128) :
    carried hb s0 s1 hc p p0 p1 p' hd hr x cr sr ca sa (ValueIdx.ix4 b r h d)
      = wheeled r.val (row x b r h) (slanted cr ca r.val) (slanted sr sa r.val) d.val := by
  have hd' := d.isLt
  have hr' := r.isLt
  unfold carried wheeled
  by_cases h2 : r.val < 4096
  · rw [if_pos h2]
    refine (concatenate_pair_apply_left (t := Heads 4352 H 128) (s₁ := Heads 4096 H 128) (s₂ := Heads 256 H 128) _ _ _ _ (ValueIdx.ix4 b r h d) rfl
      (ValueIdx.ix4 b (⟨r.val, h2⟩ : Fin 4096) h d) ?_).trans ?_
    · intro a; fin_cases a <;> rfl
    · have hrow : ∀ e : Fin 128, extractStridedSlice (Heads 4096 H 128) ![0, 0, 0, 0] x p (ValueIdx.ix4 b (⟨r.val, h2⟩ : Fin 4096) h e) = row x b r h e.val :=
        fun e => (part_of 0 x p b _ r rfl h e e (Nat.zero_add _).symm).trans (row_of x b r h e).symm
      by_cases h3 : d.val < 64
      · refine (concatenate_pair_apply_left (t := Heads 4096 H 128) (s₁ := Heads 4096 H 64) (s₂ := Heads 4096 H 64) _ _ _ _
          (ValueIdx.ix4 b (⟨r.val, h2⟩ : Fin 4096) h d) rfl (ValueIdx.ix4 b (⟨r.val, h2⟩ : Fin 4096) h (⟨d.val, h3⟩ : Fin 64)) ?_).trans ?_
        · intro a; fin_cases a <;> rfl
        · refine (rolled_at hb s0 s1 hc _ cr sr b ⟨r.val, h2⟩ h (row x b r h)
            (fun e => (part_of 0 _ p0 b _ _ rfl h e (⟨e.val, by omega⟩ : Fin 128) (Nat.zero_add _).symm).trans (hrow _)) _).trans ?_
          unfold wheel slanted
          dsimp only
          rw [if_pos h3, if_pos h3]
      · refine (concatenate_pair_apply_right (t := Heads 4096 H 128) (s₁ := Heads 4096 H 64) (s₂ := Heads 4096 H 64) _ _ _ _
          (ValueIdx.ix4 b (⟨r.val, h2⟩ : Fin 4096) h d) rfl rfl (ValueIdx.ix4 b (⟨r.val, h2⟩ : Fin 4096) h (⟨d.val - 64, by omega⟩ : Fin 64)) ?_ ?_).trans ?_
        · intro a ha; fin_cases a <;> first | rfl | exact absurd rfl ha
        · show d.val - 64 + 64 = d.val; omega
        · refine (rolled_at hb s0 s1 hc _ ca sa b ⟨r.val, h2⟩ h (fun e => row x b r h (64 + e))
            (fun e => (part_of 64 _ p1 b _ _ rfl h e (⟨64 + e.val, by omega⟩ : Fin 128) rfl).trans (hrow _)) _).trans ?_
          unfold wheel slanted
          dsimp only
          rw [if_neg h3, if_neg h3]
          have e1 : 64 + (d.val - 64) = d.val := by omega
          have e2 : (d.val - 64) % 32 = d.val % 32 := by omega
          have e3 : 64 + (d.val - 64 + 32) = d.val + 32 := by omega
          by_cases h4 : (d.val - 64) % 64 < 32
          · have h5 : d.val % 64 < 32 := by omega
            rw [if_pos h4, if_pos h5, e1, e2, e3]
          · have h5 : ¬d.val % 64 < 32 := by omega
            have e4 : 64 + (d.val - 64 - 32) = d.val - 32 := by omega
            rw [if_neg h4, if_neg h5, e1, e2, e4]
  · rw [if_neg h2, row_of]
    refine (concatenate_pair_apply_right (t := Heads 4352 H 128) (s₁ := Heads 4096 H 128) (s₂ := Heads 256 H 128) _ _ _ _ (ValueIdx.ix4 b r h d) rfl rfl
      (ValueIdx.ix4 b (⟨r.val - 4096, by omega⟩ : Fin 256) h d) ?_ ?_).trans ?_
    · intro a ha
      match a with
      | 0 => rfl
      | 1 => exact absurd rfl ha
      | 2 => rfl
      | 3 => rfl
    · exact Nat.sub_add_cancel (Nat.le_of_not_lt h2)
    · refine congrArg x (funext fun a => Fin.ext ?_)
      fin_cases a
      · exact Nat.zero_add _
      · exact Nat.add_sub_cancel' (Nat.le_of_not_lt h2)
      · exact Nat.zero_add _
      · exact Nat.zero_add _

end

variable (p3 : FVec Ideal S2x4352x10752 .f32) (qn kn : FVec Ideal S128 .f32)

theorem query_carried : val_main_v94 (F := Ideal) p3 qn = carried (H := 8) bcast_S1x4096x1x32_S2x4096x8x32_0_1_2_3
    slices_S2x4096x8x64_S2x4096x8x32_0_0_0_0 slices_S2x4096x8x64_S2x4096x8x32_0_0_0_32 concatenates_S2x4096x8x32_S2x4096x8x32_S2x4096x8x64_d3
    slices_S2x4352x8x128_S2x4096x8x128_0_0_0_0 slices_S2x4096x8x128_S2x4096x8x64_0_0_0_0 slices_S2x4096x8x128_S2x4096x8x64_0_0_0_64
    slices_S2x4352x8x128_S2x256x8x128_0_4096_0_0 concatenates_S2x4096x8x64_S2x4096x8x64_S2x4096x8x128_d3 concatenates_S2x4096x8x128_S2x256x8x128_S2x4352x8x128_d1
    (val_main_v17 (F := Ideal) p3 qn) (val_main_v51 (F := Ideal)) (val_main_v53 (F := Ideal)) (val_main_v75 (F := Ideal)) (val_main_v77 (F := Ideal)) := rfl

theorem key_carried : val_main_v156 (F := Ideal) p3 kn = carried (H := 2) bcast_S1x4096x1x32_S2x4096x2x32_0_1_2_3
    slices_S2x4096x2x64_S2x4096x2x32_0_0_0_0 slices_S2x4096x2x64_S2x4096x2x32_0_0_0_32 concatenates_S2x4096x2x32_S2x4096x2x32_S2x4096x2x64_d3
    slices_S2x4352x2x128_S2x4096x2x128_0_0_0_0 slices_S2x4096x2x128_S2x4096x2x64_0_0_0_0 slices_S2x4096x2x128_S2x4096x2x64_0_0_0_64
    slices_S2x4352x2x128_S2x256x2x128_0_4096_0_0 concatenates_S2x4096x2x64_S2x4096x2x64_S2x4096x2x128_d3 concatenates_S2x4096x2x128_S2x256x2x128_S2x4352x2x128_d1
    (val_main_v32 (F := Ideal) p3 kn) (val_main_v51 (F := Ideal)) (val_main_v53 (F := Ideal)) (val_main_v75 (F := Ideal)) (val_main_v77 (F := Ideal)) := rfl

theorem query_heads (b : Fin 2) (r : Fin 4352) (h : Fin 8) (d : Fin 128) : val_main_v4 (F := Ideal) p3 (ValueIdx.ix4 b r h d)
    = at3 (A := 2) (B := 4352) (C := 10752) p3 b.val r.val (3072 + (h.val * 128 + d.val)) := by
  have h0 := b.isLt
  have h1 := r.isLt
  have h2 := h.isLt
  have h3 := d.isLt
  rw [val_main_v4_apply, val_main_v3_apply]
  refine at3_eq p3 _ _ _ _ ?_ ?_ ?_
  · show (((b.val * 4352 + r.val) * 8 + h.val) * 128 + d.val) / 4456448 = b.val
    omega
  · show (((b.val * 4352 + r.val) * 8 + h.val) * 128 + d.val) / 1024 % 4352 = r.val
    omega
  · show 3072 + (((b.val * 4352 + r.val) * 8 + h.val) * 128 + d.val) % 1024 = 3072 + (h.val * 128 + d.val)
    omega

theorem key_heads (b : Fin 2) (r : Fin 4352) (h : Fin 2) (d : Fin 128) : val_main_v19 (F := Ideal) p3 (ValueIdx.ix4 b r h d)
    = at3 (A := 2) (B := 4352) (C := 10752) p3 b.val r.val (5120 + (h.val * 128 + d.val)) := by
  have h0 := b.isLt
  have h1 := r.isLt
  have h2 := h.isLt
  have h3 := d.isLt
  rw [val_main_v19_apply, val_main_v18_apply]
  refine at3_eq p3 _ _ _ _ ?_ ?_ ?_
  · show (((b.val * 4352 + r.val) * 2 + h.val) * 128 + d.val) / 1114112 = b.val
    omega
  · show (((b.val * 4352 + r.val) * 2 + h.val) * 128 + d.val) / 256 % 4352 = r.val
    omega
  · show 5120 + (((b.val * 4352 + r.val) * 2 + h.val) * 128 + d.val) % 256 = 5120 + (h.val * 128 + d.val)
    omega

theorem value_heads (b : Fin 2) (r : Fin 4352) (h : Fin 2) (d : Fin 128) : val_main_v34 (F := Ideal) p3 (ValueIdx.ix4 b r h d)
    = at3 (A := 2) (B := 4352) (C := 10752) p3 b.val r.val (5376 + (h.val * 128 + d.val)) := by
  have h0 := b.isLt
  have h1 := r.isLt
  have h2 := h.isLt
  have h3 := d.isLt
  rw [val_main_v34_apply, val_main_v33_apply]
  refine at3_eq p3 _ _ _ _ ?_ ?_ ?_
  · show (((b.val * 4352 + r.val) * 2 + h.val) * 128 + d.val) / 1114112 = b.val
    omega
  · show (((b.val * 4352 + r.val) * 2 + h.val) * 128 + d.val) / 256 % 4352 = r.val
    omega
  · show 5376 + (((b.val * 4352 + r.val) * 2 + h.val) * 128 + d.val) % 256 = 5376 + (h.val * 128 + d.val)
    omega

theorem normed_query (b : Fin 2) (r : Fin 4352) (h : Fin 8) (d : Fin 128) : val_main_v17 (F := Ideal) p3 qn (ValueIdx.ix4 b r h d)
    = normed 0x43000000#32 128 (row (H := 8) (val_main_v4 (F := Ideal) p3) b r h) (at1 (A := 128) qn) d.val := by
  have hsum : val_main_v6 (F := Ideal) p3 (idx_main_v7 (idx_main_v13 (ValueIdx.ix4 b r h d)))
      = ∑ k : Fin 128, row (H := 8) (val_main_v4 (F := Ideal) p3) b r h k.val * row (H := 8) (val_main_v4 (F := Ideal) p3) b r h k.val := by
    rw [val_main_v6_apply]
    refine (congrArg (· + _) Ideal.ofBits_zero_f32).trans ((zero_add _).trans (Finset.sum_congr rfl fun k _ => ?_))
    rw [val_main_v5_apply, row_of]
    have e : idx_main_v6 (idx_main_v7 (idx_main_v13 (ValueIdx.ix4 b r h d))) k = ValueIdx.ix4 b r h k := by
      funext a; fin_cases a <;> rfl
    rw [e]
    rfl
  rw [val_main_v17_apply, val_main_v14_apply, val_main_v13_apply, val_main_v12_apply, val_main_v11_apply, val_main_v9_apply, val_main_v7_apply, hsum, val_main_v16_apply, val_main_v15_apply]
  exact congrArg₂ (· * ·) (congrArg (· * _) (row_of (H := 8) _ b r h d).symm) (at1_eq qn _ _ rfl)

theorem normed_key (b : Fin 2) (r : Fin 4352) (h : Fin 2) (d : Fin 128) : val_main_v32 (F := Ideal) p3 kn (ValueIdx.ix4 b r h d)
    = normed 0x43000000#32 128 (row (H := 2) (val_main_v19 (F := Ideal) p3) b r h) (at1 (A := 128) kn) d.val := by
  have hsum : val_main_v21 (F := Ideal) p3 (idx_main_v22 (idx_main_v28 (ValueIdx.ix4 b r h d)))
      = ∑ k : Fin 128, row (H := 2) (val_main_v19 (F := Ideal) p3) b r h k.val * row (H := 2) (val_main_v19 (F := Ideal) p3) b r h k.val := by
    rw [val_main_v21_apply]
    refine (congrArg (· + _) Ideal.ofBits_zero_f32).trans ((zero_add _).trans (Finset.sum_congr rfl fun k _ => ?_))
    rw [val_main_v20_apply, row_of]
    have e : idx_main_v21 (idx_main_v22 (idx_main_v28 (ValueIdx.ix4 b r h d))) k = ValueIdx.ix4 b r h k := by
      funext a; fin_cases a <;> rfl
    rw [e]
    rfl
  rw [val_main_v32_apply, val_main_v29_apply, val_main_v28_apply, val_main_v27_apply, val_main_v26_apply, val_main_v24_apply, val_main_v22_apply, hsum, val_main_v31_apply, val_main_v30_apply]
  exact congrArg₂ (· * ·) (congrArg (· * _) (row_of (H := 2) _ b r h d).symm) (at1_eq kn _ _ rfl)

theorem query_head (b : Fin 2) (r : Fin 4352) (h : Fin 8) (d : Fin 128) : val_main_v94 (F := Ideal) p3 qn (ValueIdx.ix4 b r h d)
    = wheeled r.val (normed 0x43000000#32 128 (fun d => at3 (A := 2) (B := 4352) (C := 10752) p3 b.val r.val (3072 + (h.val * 128 + d))) (at1 (A := 128) qn))
      (slanted (val_main_v51 (F := Ideal)) (val_main_v75 (F := Ideal)) r.val) (slanted (val_main_v53 (F := Ideal)) (val_main_v77 (F := Ideal)) r.val) d.val := by
  rw [query_carried]
  refine (carried_at (H := 8) _ _ _ _ _ _ _ _ _ _ _ _ _ _ _ b r h d).trans (wheeled_congr _ _ _ _ _ (fun e he => ?_) _ d.isLt)
  refine (row_of (H := 8) _ b r h ⟨e, he⟩).trans ((normed_query p3 qn b r h ⟨e, he⟩).trans (normed_congr _ _ _ _ _ (fun l hl => ?_) _ he))
  exact (row_of (H := 8) _ b r h ⟨l, hl⟩).trans (query_heads p3 b r h ⟨l, hl⟩)

theorem key_head (b : Fin 2) (r : Fin 4352) (h : Fin 2) (d : Fin 128) : val_main_v156 (F := Ideal) p3 kn (ValueIdx.ix4 b r h d)
    = wheeled r.val (normed 0x43000000#32 128 (fun d => at3 (A := 2) (B := 4352) (C := 10752) p3 b.val r.val (5120 + (h.val * 128 + d))) (at1 (A := 128) kn))
      (slanted (val_main_v51 (F := Ideal)) (val_main_v75 (F := Ideal)) r.val) (slanted (val_main_v53 (F := Ideal)) (val_main_v77 (F := Ideal)) r.val) d.val := by
  rw [key_carried]
  refine (carried_at (H := 2) _ _ _ _ _ _ _ _ _ _ _ _ _ _ _ b r h d).trans (wheeled_congr _ _ _ _ _ (fun e he => ?_) _ d.isLt)
  refine (row_of (H := 2) _ b r h ⟨e, he⟩).trans ((normed_key p3 kn b r h ⟨e, he⟩).trans (normed_congr _ _ _ _ _ (fun l hl => ?_) _ he))
  exact (row_of (H := 2) _ b r h ⟨l, hl⟩).trans (key_heads p3 b r h ⟨l, hl⟩)

end Cert.Prep

end
-- ==== Proof.PrepResults.lean ====
/-
  Hand-written, untrusted. The three results of the grouped-query preparation's reference at natural coordinates.
-/
module

public import proofs.«01_k».proof.Proof.PrepRope

@[expose] public section

set_option maxRecDepth 16384

noncomputable section

namespace Cert.Prep

open Cert.Reference7Ideal Cert.Reference7Ideal.Gen Cert.Reference7Ideal.Read Cert.Attention Cert.Projection Cert.Up Idealize.ShloMosaic

/-- The results at natural coordinates. -/
def queryOf (p3 : FVec Ideal S2x4352x10752 .f32) (qn : FVec Ideal S128 .f32) (b r c : ℕ) : EReal :=
  wheeled r (normed 0x43000000#32 128 (fun d => at3 (A := 2) (B := 4352) (C := 10752) p3 b r (3072 + (c / 128 * 128 + d))) (at1 (A := 128) qn))
    (slanted (val_main_v51 (F := Ideal)) (val_main_v75 (F := Ideal)) r) (slanted (val_main_v53 (F := Ideal)) (val_main_v77 (F := Ideal)) r) (c % 128) * Ideal.ofBits .f32 0x3DB504F3#32

def keyOf (p3 : FVec Ideal S2x4352x10752 .f32) (kn : FVec Ideal S128 .f32) (b r c : ℕ) : EReal :=
  wheeled r (normed 0x43000000#32 128 (fun d => at3 (A := 2) (B := 4352) (C := 10752) p3 b r (5120 + (c / 128 * 128 + d))) (at1 (A := 128) kn))
    (slanted (val_main_v51 (F := Ideal)) (val_main_v75 (F := Ideal)) r) (slanted (val_main_v53 (F := Ideal)) (val_main_v77 (F := Ideal)) r) (c % 128)

def valueOf (p3 : FVec Ideal S2x4352x10752 .f32) (b r c : ℕ) : EReal :=
  if c % 256 < 128 then at3 (A := 2) (B := 4352) (C := 10752) p3 b r (5376 + (c / 256 * 128 + c % 256)) else 1

variable (p3 : FVec Ideal S2x4352x10752 .f32) (qn kn : FVec Ideal S128 .f32)

/-- The heads beside one another. -/
theorem gathered_at {H D W : ℕ} (hW : W = H * D) (x : FVec Ideal (Heads 4352 H D) .f32) (hs : (Heads 4352 H D).ShapeCasts ⟨3, ![2, 4352, W]⟩)
    (b : Fin 2) (r : Fin 4352) (c : Fin W) (h : Fin H) (d : Fin D) (hc : c.val = h.val * D + d.val) :
    shapeCast ⟨3, ![2, 4352, W]⟩ x hs (ValueIdx.ix3 b r c) = x (ValueIdx.ix4 b r h d) := by
  refine shapeCast_apply _ _ _ _ ?_
  rw [Shape.rowMajor_val_four, Shape.rowMajor_val_three]
  show ((b.val * 4352 + r.val) * H + h.val) * D + d.val = (b.val * 4352 + r.val) * W + c.val
  rw [hc, hW]
  ring

theorem scaled_query (b : Fin 2) (r : Fin 4352) (h : Fin 8) (d : Fin 128) : val_main_v96 (F := Ideal) p3 qn (ValueIdx.ix4 b r h d)
    = val_main_v94 (F := Ideal) p3 qn (ValueIdx.ix4 b r h d) * Ideal.ofBits .f32 0x3DB504F3#32 := by
  rw [val_main_v96_apply, val_main_v95_apply]; rfl

theorem query_spot (b : Fin 2) (r : Fin 4352) (c : Fin 1024) : val_main_v97 (F := Ideal) p3 qn (ValueIdx.ix3 b r c) = queryOf p3 qn b.val r.val c.val := by
  have hc := c.isLt
  unfold val_main_v97
  refine (gathered_at (H := 8) (D := 128) (W := 1024) rfl _ _ b r c ⟨c.val / 128, by omega⟩ ⟨c.val % 128, by omega⟩ (by show c.val = c.val / 128 * 128 + c.val % 128; omega)).trans ?_
  exact (scaled_query p3 qn _ _ _ _).trans (congrArg (· * _) (query_head p3 qn _ _ _ _))

theorem key_spot (b : Fin 2) (r : Fin 4352) (c : Fin 256) : val_main_v157 (F := Ideal) p3 kn (ValueIdx.ix3 b r c) = keyOf p3 kn b.val r.val c.val := by
  have hc := c.isLt
  unfold val_main_v157
  refine (gathered_at (H := 2) (D := 128) (W := 256) rfl _ _ b r c ⟨c.val / 128, by omega⟩ ⟨c.val % 128, by omega⟩ (by show c.val = c.val / 128 * 128 + c.val % 128; omega)).trans ?_
  exact key_head p3 kn _ _ _ _

theorem query_result (g : S2x4352x1024.Idx) : val_main_v98 (F := Ideal) p3 qn g = queryOf p3 qn (g 0).val (g 1).val (g 2).val := by
  obtain ⟨b, r, c, rfl⟩ : ∃ (b : Fin 2) (r : Fin 4352) (c : Fin 1024), g = ValueIdx.ix3 b r c := ⟨g 0, g 1, g 2, ValueIdx.eq_ix3 g⟩
  rw [val_main_v98_apply]
  exact query_spot p3 qn b r c

theorem key_result (g : S2x4352x256.Idx) : val_main_v158 (F := Ideal) p3 kn g = keyOf p3 kn (g 0).val (g 1).val (g 2).val := by
  obtain ⟨b, r, c, rfl⟩ : ∃ (b : Fin 2) (r : Fin 4352) (c : Fin 256), g = ValueIdx.ix3 b r c := ⟨g 0, g 1, g 2, ValueIdx.eq_ix3 g⟩
  rw [val_main_v158_apply]
  exact key_spot p3 kn b r c

theorem ones (k) : val_main_v35 (F := Ideal) k = 1 := by
  rw [val_main_v35_apply]; exact Ideal.ofBits_one_f32

theorem value_laid (b : Fin 2) (r : Fin 4352) (h : Fin 2) (d : Fin 256) : val_main_v36 (F := Ideal) p3 (ValueIdx.ix4 b r h d)
    = if d.val < 128 then at3 (A := 2) (B := 4352) (C := 10752) p3 b.val r.val (5376 + (h.val * 128 + d.val)) else 1 := by
  have hd := d.isLt
  unfold val_main_v36
  by_cases h1 : d.val < 128
  · rw [if_pos h1]
    refine (concatenate_pair_apply_left (t := S2x4352x2x256) (s₁ := S2x4352x2x128) (s₂ := S2x4352x2x128) _ _ _ _ (ValueIdx.ix4 b r h d) rfl
      (ValueIdx.ix4 b r h (⟨d.val, h1⟩ : Fin 128)) ?_).trans (value_heads p3 b r h ⟨d.val, h1⟩)
    intro a; fin_cases a <;> rfl
  · rw [if_neg h1]
    refine (concatenate_pair_apply_right (t := S2x4352x2x256) (s₁ := S2x4352x2x128) (s₂ := S2x4352x2x128) _ _ _ _ (ValueIdx.ix4 b r h d) rfl rfl
      (ValueIdx.ix4 b r h (⟨d.val - 128, by omega⟩ : Fin 128)) ?_ ?_).trans (ones _)
    · intro a ha; fin_cases a <;> first | rfl | exact absurd rfl ha
    · exact Nat.sub_add_cancel (Nat.le_of_not_lt h1)

theorem value_spot (b : Fin 2) (r : Fin 4352) (c : Fin 512) : val_main_v159 (F := Ideal) p3 (ValueIdx.ix3 b r c) = valueOf p3 b.val r.val c.val := by
  have hc := c.isLt
  unfold val_main_v159
  refine (gathered_at (H := 2) (D := 256) (W := 512) rfl _ _ b r c ⟨c.val / 256, by omega⟩ ⟨c.val % 256, by omega⟩ (by show c.val = c.val / 256 * 256 + c.val % 256; omega)).trans ?_
  exact value_laid p3 _ _ _ _

theorem value_result (g : S2x4352x512.Idx) : val_main_v160 (F := Ideal) p3 g = valueOf p3 (g 0).val (g 1).val (g 2).val := by
  obtain ⟨b, r, c, rfl⟩ : ∃ (b : Fin 2) (r : Fin 4352) (c : Fin 512), g = ValueIdx.ix3 b r c := ⟨g 0, g 1, g 2, ValueIdx.eq_ix3 g⟩
  rw [val_main_v160_apply]
  exact value_spot p3 b r c

end Cert.Prep

end
-- ==== Proof.PrepWhole.lean ====
/-
  Hand-written, untrusted. The grouped-query preparation's call, whole: each block's queries, keys and values are the arguments' at the block's
  batch and rows, and the call's three results are the reference's.
-/
module

public import proofs.«01_k».proof.Proof.Gen.Kernel7Ideal.Frame
public import proofs.«01_k».proof.Proof.PrepFetched
public import proofs.«01_k».proof.Proof.PrepResults

@[expose] public section

set_option maxRecDepth 16384

noncomputable section

namespace Cert.Prep

open Cert.Kernel7Ideal Cert.Kernel7Ideal.Gen Cert.Attention Cert.Projection Cert.Up Idealize.ShloMosaic Idealize.ShloMosaic.TcCoe Idealize.SL.Sem

variable (m : (ℓ : Loc nD τ sig) → Buf (Elt Ideal) ℓ) (c : Dev nD)

theorem block_exchanges (t : Fin cfg0.N) : Exchanges (at2 (A := 128) (B := 128) (iblk m c 5 t)) := by
  intro k e hk he
  rw [block5 m c t k e hk he, given_swap]
  exact swap_at k e hk he

theorem block_cos (t : Fin cfg0.N) (r e : ℕ) (hr : r < 256) (he : e < 128) : at2 (A := 256) (B := 128) (iblk m c 3 t) r e
    = if 256 * (t.val % 17) + r < 4096 then slanted (Cert.Reference7Ideal.Read.val_main_v51 (F := Ideal)) (Cert.Reference7Ideal.Read.val_main_v75 (F := Ideal)) (256 * (t.val % 17) + r) e else 1 := by
  rw [block3 m c t r e hr he, given_cos, scroll_at _ _ _ _ _ (by omega) he, Ideal.ofBits_one_f32]

theorem block_sin (t : Fin cfg0.N) (r e : ℕ) (hr : r < 256) (he : e < 128) : at2 (A := 256) (B := 128) (iblk m c 4 t) r e
    = if 256 * (t.val % 17) + r < 4096 then slanted (Cert.Reference7Ideal.Read.val_main_v53 (F := Ideal)) (Cert.Reference7Ideal.Read.val_main_v77 (F := Ideal)) (256 * (t.val % 17) + r) e else 0 := by
  rw [block4 m c t r e hr he, given_sin, scroll_at _ _ _ _ _ (by omega) he, Ideal.ofBits_zero_f32]

theorem block_query (t : Fin cfg0.N) (r l : ℕ) (hr : r < 256) (hl : l < 1024) :
    headAt 0x3DB504F3#32 (at3 (A := 1) (B := 256) (C := 1024) (X0_0 m c t) 0 r) (at2 (A := 1) (B := 128) (iblk m c 6 t) 0) (at2 (A := 256) (B := 128) (iblk m c 3 t) r)
        (at2 (A := 256) (B := 128) (iblk m c 4 t) r) (at2 (A := 128) (B := 128) (iblk m c 5 t)) l
      = queryOf (m ((c : Thread nD τ).loc main_arg0)) (m ((c : Thread nD τ).loc main_arg1)) (t.val / 17) (256 * (t.val % 17) + r) l := by
  refine headAt_eq 0x3DB504F3#32 (256 * (t.val % 17) + r) _ _ _ (at1 (A := 128) (m ((c : Thread nD τ).loc main_arg1))) _ _ _ _ _ l (block_exchanges m c t) (fun d hd => ?_)
    (fun e he => block_cos m c t r e hr he) (fun e he => block_sin m c t r e hr he) (fun d hd => ?_)
  · rw [block6 m c t 0 d (by omega) hd, given_qn]
    exact row_at _ _ d hd
  · rw [block0 m c t r _ hr (by omega), given_p]

theorem block_key (t : Fin cfg0.N) (r l : ℕ) (hr : r < 256) (hl : l < 256) :
    headAt 0x3F800000#32 (at3 (A := 1) (B := 256) (C := 256) (iblk m c 1 t) 0 r) (at2 (A := 1) (B := 128) (iblk m c 7 t) 0) (at2 (A := 256) (B := 128) (iblk m c 3 t) r)
        (at2 (A := 256) (B := 128) (iblk m c 4 t) r) (at2 (A := 128) (B := 128) (iblk m c 5 t)) l
      = keyOf (m ((c : Thread nD τ).loc main_arg0)) (m ((c : Thread nD τ).loc main_arg2)) (t.val / 17) (256 * (t.val % 17) + r) l := by
  refine (headAt_eq 0x3F800000#32 (256 * (t.val % 17) + r) _ _ _ (at1 (A := 128) (m ((c : Thread nD τ).loc main_arg2))) _ _ _ _ _ l (block_exchanges m c t) (fun d hd => ?_)
    (fun e he => block_cos m c t r e hr he) (fun e he => block_sin m c t r e hr he) (fun d hd => ?_)).trans
    ((congrArg (_ * ·) Ideal.ofBits_one_f32).trans (mul_one _))
  · rw [block7 m c t 0 d (by omega) hd, given_kn]
    exact row_at _ _ d hd
  · rw [block1 m c t r _ hr (by omega), given_p]

theorem block_value (t : Fin cfg0.N) (r l : ℕ) (hr : r < 256) (hl : l < 512) : valueAt (at3 (A := 1) (B := 256) (C := 256) (iblk m c 2 t) 0 r) l
    = valueOf (m ((c : Thread nD τ).loc main_arg0)) (t.val / 17) (256 * (t.val % 17) + r) l := by
  unfold valueAt valueOf
  by_cases h : l % 256 < 128
  · rw [if_pos h, if_pos h, block2 m c t r _ hr (by omega), given_p]
  · rw [if_neg h, if_neg h, Ideal.ofBits_one_bf16]

/-- The query output after a point's body. -/
theorem left_query (t : Fin cfg0.N) (y : S1x256x1024.Idx) : (outsAt0 m c t).1 y
    = queryOf (m ((c : Thread nD τ).loc main_arg0)) (m ((c : Thread nD τ).loc main_arg1)) (t.val / 17) (256 * (t.val % 17) + (y 1).val) (y 2).val := by
  unfold outsAt0
  dsimp only
  refine (out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (X0_0 m c t) (iblk m c 1 t) (iblk m c 2 t) (iblk m c 3 t) (iblk m c 4 t) (iblk m c 5 t) (iblk m c 6 t) (iblk m c 7 t) y).trans (?_)
  exact block_query m c t (y 1).val (y 2).val (y 1).isLt (y 2).isLt

/-- The call's query result, whole. -/
theorem whole_query : (dats m 0 c).arrAt 8 cfg0.N
    = fun y : S2x4352x1024.Idx => queryOf (m ((c : Thread nD τ).loc main_arg0)) (m ((c : Thread nD τ).loc main_arg1)) (y 0).val (y 1).val (y 2).val := by
  refine (dats m 0 c).arrAt_eq_of_covers 8 _ (by decide +kernel) fun t hf y => ?_
  have e0 : ((((cfg0.win 8).blk t).view.emb y 0 : Fin _) : ℕ) = t.val / 17 := by
    refine (win0_8.rect_emb_val t y 0).trans ?_
    have h0 : (y 0).val < 1 := (y 0).isLt
    rw [show win0_8.index t 0 = t.val / 17 from congrFun (places t).2.2.2.2.2.2.2.2.1 0, show win0_8.size 0 = 1 from rfl]; omega
  have e1 : ((((cfg0.win 8).blk t).view.emb y 1 : Fin _) : ℕ) = 256 * (t.val % 17) + (y 1).val := by
    refine (win0_8.rect_emb_val t y 1).trans ?_
    rw [show win0_8.index t 1 = t.val % 17 from congrFun (places t).2.2.2.2.2.2.2.2.1 1, show win0_8.size 1 = 256 from rfl, Nat.mul_comm]
  have e2 : ((((cfg0.win 8).blk t).view.emb y 2 : Fin _) : ℕ) = (y 2).val := by
    refine (win0_8.rect_emb_val t y 2).trans ?_
    rw [show win0_8.index t 2 = 0 from congrFun (places t).2.2.2.2.2.2.2.2.1 2, Nat.zero_mul, Nat.zero_add]
  show _ = queryOf _ _ (((cfg0.win 8).blk t).view.emb y 0).val (((cfg0.win 8).blk t).view.emb y 1).val (((cfg0.win 8).blk t).view.emb y 2).val
  rw [e0, e1, e2, cast_eq, after0_8]
  exact left_query m c t y

/-- The key output after a point's body. -/
theorem left_key (t : Fin cfg0.N) (y : S1x256x256.Idx) : (outsAt0 m c t).2.1 y
    = keyOf (m ((c : Thread nD τ).loc main_arg0)) (m ((c : Thread nD τ).loc main_arg2)) (t.val / 17) (256 * (t.val % 17) + (y 1).val) (y 2).val := by
  unfold outsAt0
  dsimp only
  refine (out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (X0_0 m c t) (iblk m c 1 t) (iblk m c 2 t) (iblk m c 3 t) (iblk m c 4 t) (iblk m c 5 t) (iblk m c 6 t) (iblk m c 7 t) y).trans (?_)
  exact block_key m c t (y 1).val (y 2).val (y 1).isLt (y 2).isLt

/-- The call's key result, whole. -/
theorem whole_key : (dats m 0 c).arrAt 9 cfg0.N
    = fun y : S2x4352x256.Idx => keyOf (m ((c : Thread nD τ).loc main_arg0)) (m ((c : Thread nD τ).loc main_arg2)) (y 0).val (y 1).val (y 2).val := by
  refine (dats m 0 c).arrAt_eq_of_covers 9 _ (by decide +kernel) fun t hf y => ?_
  have e0 : ((((cfg0.win 9).blk t).view.emb y 0 : Fin _) : ℕ) = t.val / 17 := by
    refine (win0_9.rect_emb_val t y 0).trans ?_
    have h0 : (y 0).val < 1 := (y 0).isLt
    rw [show win0_9.index t 0 = t.val / 17 from congrFun (places t).2.2.2.2.2.2.2.2.2.1 0, show win0_9.size 0 = 1 from rfl]; omega
  have e1 : ((((cfg0.win 9).blk t).view.emb y 1 : Fin _) : ℕ) = 256 * (t.val % 17) + (y 1).val := by
    refine (win0_9.rect_emb_val t y 1).trans ?_
    rw [show win0_9.index t 1 = t.val % 17 from congrFun (places t).2.2.2.2.2.2.2.2.2.1 1, show win0_9.size 1 = 256 from rfl, Nat.mul_comm]
  have e2 : ((((cfg0.win 9).blk t).view.emb y 2 : Fin _) : ℕ) = (y 2).val := by
    refine (win0_9.rect_emb_val t y 2).trans ?_
    rw [show win0_9.index t 2 = 0 from congrFun (places t).2.2.2.2.2.2.2.2.2.1 2, Nat.zero_mul, Nat.zero_add]
  show _ = keyOf _ _ (((cfg0.win 9).blk t).view.emb y 0).val (((cfg0.win 9).blk t).view.emb y 1).val (((cfg0.win 9).blk t).view.emb y 2).val
  rw [e0, e1, e2, cast_eq, after0_9]
  exact left_key m c t y

/-- The value output after a point's body. -/
theorem left_value (t : Fin cfg0.N) (y : S1x256x512.Idx) : (outsAt0 m c t).2.2 y
    = valueOf (m ((c : Thread nD τ).loc main_arg0)) (t.val / 17) (256 * (t.val % 17) + (y 1).val) (y 2).val := by
  unfold outsAt0
  dsimp only
  refine (out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (X0_0 m c t) (iblk m c 1 t) (iblk m c 2 t) (iblk m c 3 t) (iblk m c 4 t) (iblk m c 5 t) (iblk m c 6 t) (iblk m c 7 t) y).trans (?_)
  exact block_value m c t (y 1).val (y 2).val (y 1).isLt (y 2).isLt

/-- The call's value result, whole. -/
theorem whole_value : (dats m 0 c).arrAt 10 cfg0.N
    = fun y : S2x4352x512.Idx => valueOf (m ((c : Thread nD τ).loc main_arg0)) (y 0).val (y 1).val (y 2).val := by
  refine (dats m 0 c).arrAt_eq_of_covers 10 _ (by decide +kernel) fun t hf y => ?_
  have e0 : ((((cfg0.win 10).blk t).view.emb y 0 : Fin _) : ℕ) = t.val / 17 := by
    refine (win0_10.rect_emb_val t y 0).trans ?_
    have h0 : (y 0).val < 1 := (y 0).isLt
    rw [show win0_10.index t 0 = t.val / 17 from congrFun (places t).2.2.2.2.2.2.2.2.2.2 0, show win0_10.size 0 = 1 from rfl]; omega
  have e1 : ((((cfg0.win 10).blk t).view.emb y 1 : Fin _) : ℕ) = 256 * (t.val % 17) + (y 1).val := by
    refine (win0_10.rect_emb_val t y 1).trans ?_
    rw [show win0_10.index t 1 = t.val % 17 from congrFun (places t).2.2.2.2.2.2.2.2.2.2 1, show win0_10.size 1 = 256 from rfl, Nat.mul_comm]
  have e2 : ((((cfg0.win 10).blk t).view.emb y 2 : Fin _) : ℕ) = (y 2).val := by
    refine (win0_10.rect_emb_val t y 2).trans ?_
    rw [show win0_10.index t 2 = 0 from congrFun (places t).2.2.2.2.2.2.2.2.2.2 2, Nat.zero_mul, Nat.zero_add]
  show _ = valueOf _ (((cfg0.win 10).blk t).view.emb y 0).val (((cfg0.win 10).blk t).view.emb y 1).val (((cfg0.win 10).blk t).view.emb y 2).val
  rw [e0, e1, e2, cast_eq, after0_10]
  exact left_value m c t y

end Cert.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Finite
public import proofs.«01_k».proof.Proof.LatentEqual
public import proofs.«01_k».proof.Proof.ReadAbc
public import proofs.«01_k».proof.Proof.ReadOut
public import proofs.«01_k».proof.Proof.ProjD
public import proofs.«01_k».proof.Proof.UpWhole
public import proofs.«01_k».proof.Proof.PrepWhole
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.KernelIdeal.Gen Cert.ReferenceIdeal.Gen

/-- The attention's reference runs, keeps its arguments and uses no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals and for finite queries and keys, the attention call computes what the reference does. -/
theorem attention_algebraic :
    Cert.algebraic_KernelIdeal_ReferenceIdeal_pre_scores_finite (hPre_scores_finite := Cert.Attention.finite_facts) := by
  intro m g m' g' hpre hm
  have hF := Cert.Attention.finite_facts
  refine ⟨fun c => fun y : Cert.KernelIdeal.S2x4352x1024.Idx => Cert.Attention.groupedAll (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (y 0).val (y 1).val (y 2).val, ?_, ?_⟩
  · exact (θ_run Cert.KernelIdeal.defs _ _).mono (fun r h c => ⟨(h c).1.trans (Cert.Attention.whole m c), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    obtain ⟨h0, h1, h2, h3⟩ := hm c
    obtain ⟨p0, p1⟩ := hpre c
    rw [Cert.ReferenceIdeal.Read.val_main_v57_eq, h0, h1, h2, h3]
    exact Cert.Attention.reference_whole _ _ _ _ (Cert.Attention.queries_isReal _ _ _ _ p0) (Cert.Attention.keys_isReal _ _ _ _ p1)

/-- The reference of the first input projection runs, keeps its arguments and uses no counter. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference of the output projection runs, keeps its arguments and uses no counter. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference of the second input projection runs, keeps its arguments and uses no counter. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- Over the extended reals the first input projection computes what its reference does. -/
theorem abc_algebraic : Cert.algebraic_Kernel2Ideal_Reference2Ideal := by
  intro m g m' g' _ hm
  refine ⟨fun c => fun y : Cert.Kernel2Ideal.S8704x10752.Idx => Cert.Projection.ABC.product (m ((c.tc : Thread _ _).loc Cert.Kernel2Ideal.main_arg0))
      (m ((c.tc : Thread _ _).loc Cert.Kernel2Ideal.main_arg1)) (y 0).val (Cert.Projection.ABC.column (y 1).val), ?_, ?_⟩
  · exact (θ_run Cert.Kernel2Ideal.defs _ _).mono (fun r h c => ⟨(h c).1.trans (Cert.Projection.ABC.whole m c), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    obtain ⟨h0, h1⟩ := hm c
    rw [Cert.Reference2Ideal.Read.val_main_v20_eq, h0, h1]
    exact Cert.Projection.ABC.reference_whole _ _

/-- Over the extended reals the output projection computes what its reference does. -/
theorem out_algebraic : Cert.algebraic_Kernel3Ideal_Reference3Ideal := by
  intro m g m' g' _ hm
  refine ⟨fun c => fun y : Cert.Kernel3Ideal.S2x4096x4096.Idx => Cert.Projection.Out.result (m ((c.tc : Thread _ _).loc Cert.Kernel3Ideal.main_arg0))
      (m ((c.tc : Thread _ _).loc Cert.Kernel3Ideal.main_arg1)) (m ((c.tc : Thread _ _).loc Cert.Kernel3Ideal.main_arg2))
      (m ((c.tc : Thread _ _).loc Cert.Kernel3Ideal.main_arg3)) (m ((c.tc : Thread _ _).loc Cert.Kernel3Ideal.main_arg4))
      (m ((c.tc : Thread _ _).loc Cert.Kernel3Ideal.main_arg5)) (m ((c.tc : Thread _ _).loc Cert.Kernel3Ideal.main_arg6))
      (y 0).val (y 1).val (y 2).val, ?_, ?_⟩
  · exact (θ_run Cert.Kernel3Ideal.defs _ _).mono (fun r h c => ⟨(h c).1.trans (Cert.Projection.Out.whole m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    obtain ⟨h0, h1, h2, h3, h4, h5, h6⟩ := hm c
    rw [h0, h1, h2, h3, h4, h5, h6]
    exact (Cert.Reference3Ideal.Read.val_main_v9_eq _ _ _ _ _ _ _).trans (Cert.Projection.Out.reference_whole _ _ _ _ _ _ _)

/-- Over the extended reals the second input projection computes what its reference does. -/
theorem latent_algebraic : Cert.algebraic_Kernel4Ideal_Reference4Ideal := by
  intro m g m' g' _ hm
  refine ⟨fun c => fun y : Cert.Kernel4Ideal.S8704x2560.Idx => Cert.Projection.D.product (m ((c.tc : Thread _ _).loc Cert.Kernel4Ideal.main_arg0))
      (m ((c.tc : Thread _ _).loc Cert.Kernel4Ideal.main_arg1)) (y 0).val (y 1).val, ?_, ?_⟩
  · exact (θ_run Cert.Kernel4Ideal.defs _ _).mono (fun r h c => ⟨(h c).1.trans (Cert.Projection.D.whole m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    obtain ⟨h0, h1⟩ := hm c
    rw [h0, h1]
    exact (Cert.Reference4Ideal.Read.val_main_v2_eq _ _).trans (Cert.Projection.D.reference_whole _ _)

/-- The latent attention's reference runs, keeps its arguments and uses no counter. -/
theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- Over the extended reals and for finite queries and keys, the latent attention call computes what its reference does. -/
theorem latent_attention_algebraic :
    Cert.algebraic_Kernel5Ideal_Reference5Ideal_pre_latent_scores_finite (hPre_latent_scores_finite := Cert.Latent.finite_facts) := by
  intro m g m' g' hpre hm
  have hF := Cert.Latent.finite_facts
  refine ⟨fun c => fun y : Cert.Kernel5Ideal.S2x4352x1024.Idx => Cert.Latent.separateAll (m ((c.tc : Thread _ _).loc Cert.Kernel5Ideal.main_arg0))
      (m ((c.tc : Thread _ _).loc Cert.Kernel5Ideal.main_arg1)) (m ((c.tc : Thread _ _).loc Cert.Kernel5Ideal.main_arg2))
      (m ((c.tc : Thread _ _).loc Cert.Kernel5Ideal.main_arg3)) (y 0).val (y 1).val (y 2).val, ?_, ?_⟩
  · exact (θ_run Cert.Kernel5Ideal.defs _ _).mono (fun r h c => ⟨(h c).1.trans (Cert.Latent.whole m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    obtain ⟨h0, h1, h2, h3⟩ := hm c
    obtain ⟨p0, p1⟩ := hpre c
    rw [Cert.Reference5Ideal.Read.val_main_v57_eq, h0, h1, h2, h3]
    exact Cert.Latent.reference_whole _ _ _ _ (Cert.Latent.queries_isReal _ _ _ _ p0) (Cert.Latent.keys_isReal _ _ _ _ p1)

/-- The up-projections' reference runs, keeps its arguments and uses no counter. -/
theorem reference6_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

/-- Over the extended reals the up-projections' call computes the queries, the keys and the values its reference does. -/
theorem up_algebraic : Cert.algebraic_Kernel6Ideal_Reference6Ideal := by
  intro m g m' g' _ hm
  refine ⟨fun c => fun y : Cert.Kernel6Ideal.S2x4352x2048.Idx => Cert.Up.queryOf (m ((c.tc : Thread _ _).loc Cert.Kernel6Ideal.main_arg0))
        (m ((c.tc : Thread _ _).loc Cert.Kernel6Ideal.main_arg3))
        (m ((c.tc : Thread _ _).loc Cert.Kernel6Ideal.main_arg5))
        (m ((c.tc : Thread _ _).loc Cert.Kernel6Ideal.main_arg7))
        (y 0).val (y 1).val (y 2).val,
    fun c => fun y : Cert.Kernel6Ideal.S2x4352x2048.Idx => Cert.Up.keyOf (m ((c.tc : Thread _ _).loc Cert.Kernel6Ideal.main_arg1))
        (m ((c.tc : Thread _ _).loc Cert.Kernel6Ideal.main_arg2))
        (m ((c.tc : Thread _ _).loc Cert.Kernel6Ideal.main_arg4))
        (m ((c.tc : Thread _ _).loc Cert.Kernel6Ideal.main_arg6))
        (m ((c.tc : Thread _ _).loc Cert.Kernel6Ideal.main_arg8))
        (y 0).val (y 1).val (y 2).val,
    fun c => fun y : Cert.Kernel6Ideal.S2x4352x2048.Idx => Cert.Up.valueOf (m ((c.tc : Thread _ _).loc Cert.Kernel6Ideal.main_arg1))
        (m ((c.tc : Thread _ _).loc Cert.Kernel6Ideal.main_arg4))
        (m ((c.tc : Thread _ _).loc Cert.Kernel6Ideal.main_arg6))
        (y 0).val (y 1).val (y 2).val, ?_, ?_⟩
  · exact (θ_run Cert.Kernel6Ideal.defs _ _).mono (fun r h c => ⟨(h c).1.trans (Cert.Up.whole_query m c), (h c).2.1.trans (Cert.Up.whole_key m c),
      (h c).2.2.1.trans (Cert.Up.whole_value m c), (h c).2.2.2⟩) (Cert.Kernel6Ideal.Value.run_blocks m g)
  · refine (θ_run Cert.Reference6Ideal.defs _ _).mono (fun r h c => ⟨(h c).1.trans ?_, (h c).2.1.trans ?_, (h c).2.2.1.trans ?_, (h c).2.2.2⟩)
      (Cert.Reference6Ideal.Value.run m' g')
    all_goals obtain ⟨h0, h1, h2, h3, h4, h5, h6, h7, h8⟩ := hm c
    · rw [Cert.Reference6Ideal.Read.val_main_v129_eq]
      show Cert.Reference6Ideal.Read.val_main_v129 (F := Ideal) (m' ((c.tc : Thread _ _).loc Cert.Reference6Ideal.main_arg0)) (m' ((c.tc : Thread _ _).loc Cert.Reference6Ideal.main_arg3)) (m' ((c.tc : Thread _ _).loc Cert.Reference6Ideal.main_arg5)) (m' ((c.tc : Thread _ _).loc Cert.Reference6Ideal.main_arg7)) = _
      rw [h0, h3, h5, h7]
      exact funext fun y => Cert.Up.query_result _ _ _ _ y
    · rw [Cert.Reference6Ideal.Read.val_main_v193_eq]
      show Cert.Reference6Ideal.Read.val_main_v193 (F := Ideal) (m' ((c.tc : Thread _ _).loc Cert.Reference6Ideal.main_arg1)) (m' ((c.tc : Thread _ _).loc Cert.Reference6Ideal.main_arg2)) (m' ((c.tc : Thread _ _).loc Cert.Reference6Ideal.main_arg4)) (m' ((c.tc : Thread _ _).loc Cert.Reference6Ideal.main_arg6)) (m' ((c.tc : Thread _ _).loc Cert.Reference6Ideal.main_arg8)) = _
      rw [h1, h2, h4, h6, h8]
      exact funext fun y => Cert.Up.key_result _ _ _ _ _ y
    · rw [Cert.Reference6Ideal.Read.val_main_v197_eq]
      show Cert.Reference6Ideal.Read.val_main_v197 (F := Ideal) (m' ((c.tc : Thread _ _).loc Cert.Reference6Ideal.main_arg1)) (m' ((c.tc : Thread _ _).loc Cert.Reference6Ideal.main_arg4)) (m' ((c.tc : Thread _ _).loc Cert.Reference6Ideal.main_arg6)) = _
      rw [h1, h4, h6]
      exact funext fun y => Cert.Up.value_result _ _ _ y

/-- The grouped-query preparation's reference runs, keeps its arguments and uses no counter. -/
theorem reference7_frame : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- Over the extended reals the grouped-query preparation's call computes the queries, the keys and the values its reference does. -/
theorem prep_algebraic : Cert.algebraic_Kernel7Ideal_Reference7Ideal := by
  intro m g m' g' _ hm
  refine ⟨fun c => fun y : Cert.Kernel7Ideal.S2x4352x1024.Idx => Cert.Prep.queryOf (m ((c.tc : Thread _ _).loc Cert.Kernel7Ideal.main_arg0))
      (m ((c.tc : Thread _ _).loc Cert.Kernel7Ideal.main_arg1)) (y 0).val (y 1).val (y 2).val,
    fun c => fun y : Cert.Kernel7Ideal.S2x4352x256.Idx => Cert.Prep.keyOf (m ((c.tc : Thread _ _).loc Cert.Kernel7Ideal.main_arg0))
      (m ((c.tc : Thread _ _).loc Cert.Kernel7Ideal.main_arg2)) (y 0).val (y 1).val (y 2).val,
    fun c => fun y : Cert.Kernel7Ideal.S2x4352x512.Idx => Cert.Prep.valueOf (m ((c.tc : Thread _ _).loc Cert.Kernel7Ideal.main_arg0))
      (y 0).val (y 1).val (y 2).val, ?_, ?_⟩
  · exact (θ_run Cert.Kernel7Ideal.defs _ _).mono (fun r h c => ⟨(h c).1.trans (Cert.Prep.whole_query m c), (h c).2.1.trans (Cert.Prep.whole_key m c),
      (h c).2.2.1.trans (Cert.Prep.whole_value m c), (h c).2.2.2⟩) (Cert.Kernel7Ideal.Value.run_blocks m g)
  · refine (θ_run Cert.Reference7Ideal.defs _ _).mono (fun r h c => ⟨(h c).1.trans ?_, (h c).2.1.trans ?_, (h c).2.2.1.trans ?_, (h c).2.2.2⟩)
      (Cert.Reference7Ideal.Value.run m' g')
    all_goals obtain ⟨h0, h1, h2⟩ := hm c
    · rw [Cert.Reference7Ideal.Read.val_main_v98_eq]
      show Cert.Reference7Ideal.Read.val_main_v98 (F := Ideal) (m' ((c.tc : Thread _ _).loc Cert.Reference7Ideal.main_arg0))
        (m' ((c.tc : Thread _ _).loc Cert.Reference7Ideal.main_arg1)) = _
      rw [h0, h1]
      exact funext fun y => Cert.Prep.query_result _ _ y
    · rw [Cert.Reference7Ideal.Read.val_main_v158_eq]
      show Cert.Reference7Ideal.Read.val_main_v158 (F := Ideal) (m' ((c.tc : Thread _ _).loc Cert.Reference7Ideal.main_arg0))
        (m' ((c.tc : Thread _ _).loc Cert.Reference7Ideal.main_arg2)) = _
      rw [h0, h2]
      exact funext fun y => Cert.Prep.key_result _ _ y
    · rw [Cert.Reference7Ideal.Read.val_main_v160_eq]
      show Cert.Reference7Ideal.Read.val_main_v160 (F := Ideal) (m' ((c.tc : Thread _ _).loc Cert.Reference7Ideal.main_arg0)) = _
      rw [h0]
      exact funext fun y => Cert.Prep.value_result _ y

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Attention.finite_facts, Cert.Latent.finite_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    trivial, attention_algebraic, trivial, abc_algebraic, trivial, out_algebraic, trivial, latent_algebraic,
    trivial, latent_attention_algebraic, trivial, up_algebraic, trivial, prep_algebraic⟩

end Cert.Proof

end
